-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptRefIdeal (m : (ℓ : Loc Cert.ConvPromptRefIdeal.nD Cert.ConvPromptRefIdeal.τ Cert.ConvPromptRefIdeal.sig) → Buf (Elt Ideal) ℓ) : Prop :=
  True

def Pre_PeerDense (m : (ℓ : Loc Cert.PeerDense.nD Cert.PeerDense.τ Cert.PeerDense.sig) → Buf (Elt Bits) ℓ) : Prop :=
  True

def Pre_PeerDenseIdeal (m : (ℓ : Loc Cert.PeerDenseIdeal.nD Cert.PeerDenseIdeal.τ Cert.PeerDenseIdeal.sig) → Buf (Elt Ideal) ℓ) : Prop :=
  True

def Pre_PeerDenseRefIdeal (m : (ℓ : Loc Cert.PeerDenseRefIdeal.nD Cert.PeerDenseRefIdeal.τ Cert.PeerDenseRefIdeal.sig) → Buf (Elt Ideal) ℓ) : Prop :=
  True

def Pre_PeerSelect (m : (ℓ : Loc Cert.PeerSelect.nD Cert.PeerSelect.τ Cert.PeerSelect.sig) → Buf (Elt Bits) ℓ) : Prop :=
  True

def Pre_PeerSelectIdeal (m : (ℓ : Loc Cert.PeerSelectIdeal.nD Cert.PeerSelectIdeal.τ Cert.PeerSelectIdeal.sig) → Buf (Elt Ideal) ℓ) : Prop :=
  True

def Pre_PeerSelectRefIdeal (m : (ℓ : Loc Cert.PeerSelectRefIdeal.nD Cert.PeerSelectRefIdeal.τ Cert.PeerSelectRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3)
      ∧ r.2.mem ((c.tc : Thread Cert.ConvIn.nD Cert.ConvIn.τ).loc Cert.ConvIn.main_arg4) = m ((c.tc : Thread Cert.ConvIn.nD Cert.ConvIn.τ).loc Cert.ConvIn.main_arg4))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3)
      ∧ r.2.mem ((c.tc : Thread Cert.ConvInRefIdeal.nD Cert.ConvInRefIdeal.τ).loc Cert.ConvInRefIdeal.main_arg4) = m ((c.tc : Thread Cert.ConvInRefIdeal.nD Cert.ConvInRefIdeal.τ).loc Cert.ConvInRefIdeal.main_arg4))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1)
      ∧ r.2.mem ((c.tc : Thread Cert.ConvPrompt.nD Cert.ConvPrompt.τ).loc Cert.ConvPrompt.main_arg2) = m ((c.tc : Thread Cert.ConvPrompt.nD Cert.ConvPrompt.τ).loc Cert.ConvPrompt.main_arg2)
      ∧ r.2.mem ((c.tc : Thread Cert.ConvPrompt.nD Cert.ConvPrompt.τ).loc Cert.ConvPrompt.main_arg3) = m ((c.tc : Thread Cert.ConvPrompt.nD Cert.ConvPrompt.τ).loc Cert.ConvPrompt.main_arg3)
      ∧ r.2.mem ((c.tc : Thread Cert.ConvPrompt.nD Cert.ConvPrompt.τ).loc Cert.ConvPrompt.main_arg4) = m ((c.tc : Thread Cert.ConvPrompt.nD Cert.ConvPrompt.τ).loc Cert.ConvPrompt.main_arg4)
      ∧ r.2.mem ((c.tc : Thread Cert.ConvPrompt.nD Cert.ConvPrompt.τ).loc Cert.ConvPrompt.main_arg5) = m ((c.tc : Thread Cert.ConvPrompt.nD Cert.ConvPrompt.τ).loc Cert.ConvPrompt.main_arg5)
      ∧ r.2.mem ((c.tc : Thread Cert.ConvPrompt.nD Cert.ConvPrompt.τ).loc Cert.ConvPrompt.main_arg6) = m ((c.tc : Thread Cert.ConvPrompt.nD Cert.ConvPrompt.τ).loc Cert.ConvPrompt.main_arg6)
      ∧ r.2.mem ((c.tc : Thread Cert.ConvPrompt.nD Cert.ConvPrompt.τ).loc Cert.ConvPrompt.main_arg7) = m ((c.tc : Thread Cert.ConvPrompt.nD Cert.ConvPrompt.τ).loc Cert.ConvPrompt.main_arg7)
      ∧ r.2.mem ((c.tc : Thread Cert.ConvPrompt.nD Cert.ConvPrompt.τ).loc Cert.ConvPrompt.main_arg8) = m ((c.tc : Thread Cert.ConvPrompt.nD Cert.ConvPrompt.τ).loc Cert.ConvPrompt.main_arg8))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
      ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2)
      ∧ r.2.mem ((c.tc : Thread Cert.ConvPromptIdeal.nD Cert.ConvPromptIdeal.τ).loc Cert.ConvPromptIdeal.main_arg3) = m ((c.tc : Thread Cert.ConvPromptIdeal.nD Cert.ConvPromptIdeal.τ).loc Cert.ConvPromptIdeal.main_arg3)
      ∧ r.2.mem ((c.tc : Thread Cert.ConvPromptIdeal.nD Cert.ConvPromptIdeal.τ).loc Cert.ConvPromptIdeal.main_arg4) = m ((c.tc : Thread Cert.ConvPromptIdeal.nD Cert.ConvPromptIdeal.τ).loc Cert.ConvPromptIdeal.main_arg4)
      ∧ r.2.mem ((c.tc : Thread Cert.ConvPromptIdeal.nD Cert.ConvPromptIdeal.τ).loc Cert.ConvPromptIdeal.main_arg5) = m ((c.tc : Thread Cert.ConvPromptIdeal.nD Cert.ConvPromptIdeal.τ).loc Cert.ConvPromptIdeal.main_arg5)
      ∧ r.2.mem ((c.tc : Thread Cert.ConvPromptIdeal.nD Cert.ConvPromptIdeal.τ).loc Cert.ConvPromptIdeal.main_arg6) = m ((c.tc : Thread Cert.ConvPromptIdeal.nD Cert.ConvPromptIdeal.τ).loc Cert.ConvPromptIdeal.main_arg6)
      ∧ r.2.mem ((c.tc : Thread Cert.ConvPromptIdeal.nD Cert.ConvPromptIdeal.τ).loc Cert.ConvPromptIdeal.main_arg7) = m ((c.tc : Thread Cert.ConvPromptIdeal.nD Cert.ConvPromptIdeal.τ).loc Cert.ConvPromptIdeal.main_arg7)
      ∧ r.2.mem ((c.tc : Thread Cert.ConvPromptIdeal.nD Cert.ConvPromptIdeal.τ).loc Cert.ConvPromptIdeal.main_arg8) = m ((c.tc : Thread Cert.ConvPromptIdeal.nD Cert.ConvPromptIdeal.τ).loc Cert.ConvPromptIdeal.main_arg8))
      ∧ r.2.sem = fun _ => 0)

def quiescent_ConvPromptRefIdeal [hConvPromptRefIdeal : Cert.ConvPromptRefIdeal.Facts] : Prop :=
  ∀ (m : (ℓ : Loc Cert.ConvPromptRefIdeal.nD Cert.ConvPromptRefIdeal.τ Cert.ConvPromptRefIdeal.sig) → Buf (Elt Ideal) ℓ) (g : Dev Cert.ConvPromptRefIdeal.nD → PrngReg), Pre_ConvPromptRefIdeal m →
    θ_run (Cert.ConvPromptRefIdeal.defs (F := Ideal)) (onTc (τ := Cert.ConvPromptRefIdeal.τ) (Cert.ConvPromptRefIdeal.main (F := Ideal))) ⟨m, fun _ => 0, g⟩ (fun r => (∀ c : Dev Cert.ConvPromptRefIdeal.nD,
      r.2.mem ((c.tc : Thread Cert.ConvPromptRefIdeal.nD Cert.ConvPromptRefIdeal.τ).loc Cert.ConvPromptRefIdeal.main_arg0) = m ((c.tc : Thread Cert.ConvPromptRefIdeal.nD Cert.ConvPromptRefIdeal.τ).loc Cert.ConvPromptRefIdeal.main_arg0)
      ∧ r.2.mem ((c.tc : Thread Cert.ConvPromptRefIdeal.nD Cert.ConvPromptRefIdeal.τ).loc Cert.ConvPromptRefIdeal.main_arg1) = m ((c.tc : Thread Cert.ConvPromptRefIdeal.nD Cert.ConvPromptRefIdeal.τ).loc Cert.ConvPromptRefIdeal.main_arg1)
      ∧ r.2.mem ((c.tc : Thread Cert.ConvPromptRefIdeal.nD Cert.ConvPromptRefIdeal.τ).loc Cert.ConvPromptRefIdeal.main_arg2) = m ((c.tc : Thread Cert.ConvPromptRefIdeal.nD Cert.ConvPromptRefIdeal.τ).loc Cert.ConvPromptRefIdeal.main_arg2)
      ∧ r.2.mem ((c.tc : Thread Cert.ConvPromptRefIdeal.nD Cert.ConvPromptRefIdeal.τ).loc Cert.ConvPromptRefIdeal.main_arg3) = m ((c.tc : Thread Cert.ConvPromptRefIdeal.nD Cert.ConvPromptRefIdeal.τ).loc Cert.ConvPromptRefIdeal.main_arg3)
      ∧ r.2.mem ((c.tc : Thread Cert.ConvPromptRefIdeal.nD Cert.ConvPromptRefIdeal.τ).loc Cert.ConvPromptRefIdeal.main_arg4) = m ((c.tc : Thread Cert.ConvPromptRefIdeal.nD Cert.ConvPromptRefIdeal.τ).loc Cert.ConvPromptRefIdeal.main_arg4)
      ∧ r.2.mem ((c.tc : Thread Cert.ConvPromptRefIdeal.nD Cert.ConvPromptRefIdeal.τ).loc Cert.ConvPromptRefIdeal.main_arg5) = m ((c.tc : Thread Cert.ConvPromptRefIdeal.nD Cert.ConvPromptRefIdeal.τ).loc Cert.ConvPromptRefIdeal.main_arg5)
      ∧ r.2.mem ((c.tc : Thread Cert.ConvPromptRefIdeal.nD Cert.ConvPromptRefIdeal.τ).loc Cert.ConvPromptRefIdeal.main_arg6) = m ((c.tc : Thread Cert.ConvPromptRefIdeal.nD Cert.ConvPromptRefIdeal.τ).loc Cert.ConvPromptRefIdeal.main_arg6)
      ∧ r.2.mem ((c.tc : Thread Cert.ConvPromptRefIdeal.nD Cert.ConvPromptRefIdeal.τ).loc Cert.ConvPromptRefIdeal.main_arg7) = m ((c.tc : Thread Cert.ConvPromptRefIdeal.nD Cert.ConvPromptRefIdeal.τ).loc Cert.ConvPromptRefIdeal.main_arg7)
      ∧ r.2.mem ((c.tc : Thread Cert.ConvPromptRefIdeal.nD Cert.ConvPromptRefIdeal.τ).loc Cert.ConvPromptRefIdeal.main_arg8) = m ((c.tc : Thread Cert.ConvPromptRefIdeal.nD Cert.ConvPromptRefIdeal.τ).loc Cert.ConvPromptRefIdeal.main_arg8))
      ∧ r.2.sem = fun _ => 0)

def quiescent_PeerDense [hPeerDense : Cert.PeerDense.Facts] : Prop :=
  ∀ (m : (ℓ : Loc Cert.PeerDense.nD Cert.PeerDense.τ Cert.PeerDense.sig) → Buf (Elt Bits) ℓ) (g : Dev Cert.PeerDense.nD → PrngReg), Pre_PeerDense m →
    θ_run (Cert.PeerDense.defs (F := Bits)) (onTc (τ := Cert.PeerDense.τ) (Cert.PeerDense.main (F := Bits))) ⟨m, fun _ => 0, g⟩ (fun r => (∀ c : Dev Cert.PeerDense.nD,
      r.2.mem ((c.tc : Thread Cert.PeerDense.nD Cert.PeerDense.τ).loc Cert.PeerDense.main_arg0) = m ((c.tc : Thread Cert.PeerDense.nD Cert.PeerDense.τ).loc Cert.PeerDense.main_arg0)
      ∧ r.2.mem ((c.tc : Thread Cert.PeerDense.nD Cert.PeerDense.τ).loc Cert.PeerDense.main_arg1) = m ((c.tc : Thread Cert.PeerDense.nD Cert.PeerDense.τ).loc Cert.PeerDense.main_arg1)
      ∧ r.2.mem ((c.tc : Thread Cert.PeerDense.nD Cert.PeerDense.τ).loc Cert.PeerDense.main_arg2) = m ((c.tc : Thread Cert.PeerDense.nD Cert.PeerDense.τ).loc Cert.PeerDense.main_arg2)
      ∧ r.2.mem ((c.tc : Thread Cert.PeerDense.nD Cert.PeerDense.τ).loc Cert.PeerDense.main_arg3) = m ((c.tc : Thread Cert.PeerDense.nD Cert.PeerDense.τ).loc Cert.PeerDense.main_arg3)
      ∧ r.2.mem ((c.tc : Thread Cert.PeerDense.nD Cert.PeerDense.τ).loc Cert.PeerDense.main_arg4) = m ((c.tc : Thread Cert.PeerDense.nD Cert.PeerDense.τ).loc Cert.PeerDense.main_arg4)
      ∧ r.2.mem ((c.tc : Thread Cert.PeerDense.nD Cert.PeerDense.τ).loc Cert.PeerDense.main_arg5) = m ((c.tc : Thread Cert.PeerDense.nD Cert.PeerDense.τ).loc Cert.PeerDense.main_arg5)
      ∧ r.2.mem ((c.tc : Thread Cert.PeerDense.nD Cert.PeerDense.τ).loc Cert.PeerDense.main_arg6) = m ((c.tc : Thread Cert.PeerDense.nD Cert.PeerDense.τ).loc Cert.PeerDense.main_arg6)
      ∧ r.2.mem ((c.tc : Thread Cert.PeerDense.nD Cert.PeerDense.τ).loc Cert.PeerDense.main_arg7) = m ((c.tc : Thread Cert.PeerDense.nD Cert.PeerDense.τ).loc Cert.PeerDense.main_arg7)
      ∧ r.2.mem ((c.tc : Thread Cert.PeerDense.nD Cert.PeerDense.τ).loc Cert.PeerDense.main_arg8) = m ((c.tc : Thread Cert.PeerDense.nD Cert.PeerDense.τ).loc Cert.PeerDense.main_arg8))
      ∧ r.2.sem = fun _ => 0)

def quiescent_PeerDenseIdeal [hPeerDenseIdeal : Cert.PeerDenseIdeal.Facts] : Prop :=
  ∀ (m : (ℓ : Loc Cert.PeerDenseIdeal.nD Cert.PeerDenseIdeal.τ Cert.PeerDenseIdeal.sig) → Buf (Elt Ideal) ℓ) (g : Dev Cert.PeerDenseIdeal.nD → PrngReg), Pre_PeerDenseIdeal m →
    θ_run (Cert.PeerDenseIdeal.defs (F := Ideal)) (onTc (τ := Cert.PeerDenseIdeal.τ) (Cert.PeerDenseIdeal.main (F := Ideal))) ⟨m, fun _ => 0, g⟩ (fun r => (∀ c : Dev Cert.PeerDenseIdeal.nD,
      r.2.mem ((c.tc : Thread Cert.PeerDenseIdeal.nD Cert.PeerDenseIdeal.τ).loc Cert.PeerDenseIdeal.main_arg0) = m ((c.tc : Thread Cert.PeerDenseIdeal.nD Cert.PeerDenseIdeal.τ).loc Cert.PeerDenseIdeal.main_arg0)
      ∧ r.2.mem ((c.tc : Thread Cert.PeerDenseIdeal.nD Cert.PeerDenseIdeal.τ).loc Cert.PeerDenseIdeal.main_arg1) = m ((c.tc : Thread Cert.PeerDenseIdeal.nD Cert.PeerDenseIdeal.τ).loc Cert.PeerDenseIdeal.main_arg1)
      ∧ r.2.mem ((c.tc : Thread Cert.PeerDenseIdeal.nD Cert.PeerDenseIdeal.τ).loc Cert.PeerDenseIdeal.main_arg2) = m ((c.tc : Thread Cert.PeerDenseIdeal.nD Cert.PeerDenseIdeal.τ).loc Cert.PeerDenseIdeal.main_arg2)
      ∧ r.2.mem ((c.tc : Thread Cert.PeerDenseIdeal.nD Cert.PeerDenseIdeal.τ).loc Cert.PeerDenseIdeal.main_arg3) = m ((c.tc : Thread Cert.PeerDenseIdeal.nD Cert.PeerDenseIdeal.τ).loc Cert.PeerDenseIdeal.main_arg3)
      ∧ r.2.mem ((c.tc : Thread Cert.PeerDenseIdeal.nD Cert.PeerDenseIdeal.τ).loc Cert.PeerDenseIdeal.main_arg4) = m ((c.tc : Thread Cert.PeerDenseIdeal.nD Cert.PeerDenseIdeal.τ).loc Cert.PeerDenseIdeal.main_arg4)
      ∧ r.2.mem ((c.tc : Thread Cert.PeerDenseIdeal.nD Cert.PeerDenseIdeal.τ).loc Cert.PeerDenseIdeal.main_arg5) = m ((c.tc : Thread Cert.PeerDenseIdeal.nD Cert.PeerDenseIdeal.τ).loc Cert.PeerDenseIdeal.main_arg5)
      ∧ r.2.mem ((c.tc : Thread Cert.PeerDenseIdeal.nD Cert.PeerDenseIdeal.τ).loc Cert.PeerDenseIdeal.main_arg6) = m ((c.tc : Thread Cert.PeerDenseIdeal.nD Cert.PeerDenseIdeal.τ).loc Cert.PeerDenseIdeal.main_arg6)
      ∧ r.2.mem ((c.tc : Thread Cert.PeerDenseIdeal.nD Cert.PeerDenseIdeal.τ).loc Cert.PeerDenseIdeal.main_arg7) = m ((c.tc : Thread Cert.PeerDenseIdeal.nD Cert.PeerDenseIdeal.τ).loc Cert.PeerDenseIdeal.main_arg7)
      ∧ r.2.mem ((c.tc : Thread Cert.PeerDenseIdeal.nD Cert.PeerDenseIdeal.τ).loc Cert.PeerDenseIdeal.main_arg8) = m ((c.tc : Thread Cert.PeerDenseIdeal.nD Cert.PeerDenseIdeal.τ).loc Cert.PeerDenseIdeal.main_arg8))
      ∧ r.2.sem = fun _ => 0)

def quiescent_PeerDenseRefIdeal [hPeerDenseRefIdeal : Cert.PeerDenseRefIdeal.Facts] : Prop :=
  ∀ (m : (ℓ : Loc Cert.PeerDenseRefIdeal.nD Cert.PeerDenseRefIdeal.τ Cert.PeerDenseRefIdeal.sig) → Buf (Elt Ideal) ℓ) (g : Dev Cert.PeerDenseRefIdeal.nD → PrngReg), Pre_PeerDenseRefIdeal m →
    θ_run (Cert.PeerDenseRefIdeal.defs (F := Ideal)) (onTc (τ := Cert.PeerDenseRefIdeal.τ) (Cert.PeerDenseRefIdeal.main (F := Ideal))) ⟨m, fun _ => 0, g⟩ (fun r => (∀ c : Dev Cert.PeerDenseRefIdeal.nD,
      r.2.mem ((c.tc : Thread Cert.PeerDenseRefIdeal.nD Cert.PeerDenseRefIdeal.τ).loc Cert.PeerDenseRefIdeal.main_arg0) = m ((c.tc : Thread Cert.PeerDenseRefIdeal.nD Cert.PeerDenseRefIdeal.τ).loc Cert.PeerDenseRefIdeal.main_arg0)
      ∧ r.2.mem ((c.tc : Thread Cert.PeerDenseRefIdeal.nD Cert.PeerDenseRefIdeal.τ).loc Cert.PeerDenseRefIdeal.main_arg1) = m ((c.tc : Thread Cert.PeerDenseRefIdeal.nD Cert.PeerDenseRefIdeal.τ).loc Cert.PeerDenseRefIdeal.main_arg1)
      ∧ r.2.mem ((c.tc : Thread Cert.PeerDenseRefIdeal.nD Cert.PeerDenseRefIdeal.τ).loc Cert.PeerDenseRefIdeal.main_arg2) = m ((c.tc : Thread Cert.PeerDenseRefIdeal.nD Cert.PeerDenseRefIdeal.τ).loc Cert.PeerDenseRefIdeal.main_arg2)
      ∧ r.2.mem ((c.tc : Thread Cert.PeerDenseRefIdeal.nD Cert.PeerDenseRefIdeal.τ).loc Cert.PeerDenseRefIdeal.main_arg3) = m ((c.tc : Thread Cert.PeerDenseRefIdeal.nD Cert.PeerDenseRefIdeal.τ).loc Cert.PeerDenseRefIdeal.main_arg3)
      ∧ r.2.mem ((c.tc : Thread Cert.PeerDenseRefIdeal.nD Cert.PeerDenseRefIdeal.τ).loc Cert.PeerDenseRefIdeal.main_arg4) = m ((c.tc : Thread Cert.PeerDenseRefIdeal.nD Cert.PeerDenseRefIdeal.τ).loc Cert.PeerDenseRefIdeal.main_arg4)
      ∧ r.2.mem ((c.tc : Thread Cert.PeerDenseRefIdeal.nD Cert.PeerDenseRefIdeal.τ).loc Cert.PeerDenseRefIdeal.main_arg5) = m ((c.tc : Thread Cert.PeerDenseRefIdeal.nD Cert.PeerDenseRefIdeal.τ).loc Cert.PeerDenseRefIdeal.main_arg5)
      ∧ r.2.mem ((c.tc : Thread Cert.PeerDenseRefIdeal.nD Cert.PeerDenseRefIdeal.τ).loc Cert.PeerDenseRefIdeal.main_arg6) = m ((c.tc : Thread Cert.PeerDenseRefIdeal.nD Cert.PeerDenseRefIdeal.τ).loc Cert.PeerDenseRefIdeal.main_arg6)
      ∧ r.2.mem ((c.tc : Thread Cert.PeerDenseRefIdeal.nD Cert.PeerDenseRefIdeal.τ).loc Cert.PeerDenseRefIdeal.main_arg7) = m ((c.tc : Thread Cert.PeerDenseRefIdeal.nD Cert.PeerDenseRefIdeal.τ).loc Cert.PeerDenseRefIdeal.main_arg7)
      ∧ r.2.mem ((c.tc : Thread Cert.PeerDenseRefIdeal.nD Cert.PeerDenseRefIdeal.τ).loc Cert.PeerDenseRefIdeal.main_arg8) = m ((c.tc : Thread Cert.PeerDenseRefIdeal.nD Cert.PeerDenseRefIdeal.τ).loc Cert.PeerDenseRefIdeal.main_arg8))
      ∧ r.2.sem = fun _ => 0)

def quiescent_PeerSelect [hPeerSelect : Cert.PeerSelect.Facts] : Prop :=
  ∀ (m : (ℓ : Loc Cert.PeerSelect.nD Cert.PeerSelect.τ Cert.PeerSelect.sig) → Buf (Elt Bits) ℓ) (g : Dev Cert.PeerSelect.nD → PrngReg), Pre_PeerSelect m →
    θ_run (Cert.PeerSelect.defs (F := Bits)) (onTc (τ := Cert.PeerSelect.τ) (Cert.PeerSelect.main (F := Bits))) ⟨m, fun _ => 0, g⟩ (fun r => (∀ c : Dev Cert.PeerSelect.nD,
      r.2.mem ((c.tc : Thread Cert.PeerSelect.nD Cert.PeerSelect.τ).loc Cert.PeerSelect.main_arg0) = m ((c.tc : Thread Cert.PeerSelect.nD Cert.PeerSelect.τ).loc Cert.PeerSelect.main_arg0)
      ∧ r.2.mem ((c.tc : Thread Cert.PeerSelect.nD Cert.PeerSelect.τ).loc Cert.PeerSelect.main_arg1) = m ((c.tc : Thread Cert.PeerSelect.nD Cert.PeerSelect.τ).loc Cert.PeerSelect.main_arg1)
      ∧ r.2.mem ((c.tc : Thread Cert.PeerSelect.nD Cert.PeerSelect.τ).loc Cert.PeerSelect.main_arg2) = m ((c.tc : Thread Cert.PeerSelect.nD Cert.PeerSelect.τ).loc Cert.PeerSelect.main_arg2)
      ∧ r.2.mem ((c.tc : Thread Cert.PeerSelect.nD Cert.PeerSelect.τ).loc Cert.PeerSelect.main_arg3) = m ((c.tc : Thread Cert.PeerSelect.nD Cert.PeerSelect.τ).loc Cert.PeerSelect.main_arg3)
      ∧ r.2.mem ((c.tc : Thread Cert.PeerSelect.nD Cert.PeerSelect.τ).loc Cert.PeerSelect.main_arg4) = m ((c.tc : Thread Cert.PeerSelect.nD Cert.PeerSelect.τ).loc Cert.PeerSelect.main_arg4))
      ∧ r.2.sem = fun _ => 0)

def quiescent_PeerSelectIdeal [hPeerSelectIdeal : Cert.PeerSelectIdeal.Facts] : Prop :=
  ∀ (m : (ℓ : Loc Cert.PeerSelectIdeal.nD Cert.PeerSelectIdeal.τ Cert.PeerSelectIdeal.sig) → Buf (Elt Ideal) ℓ) (g : Dev Cert.PeerSelectIdeal.nD → PrngReg), Pre_PeerSelectIdeal m →
    θ_run (Cert.PeerSelectIdeal.defs (F := Ideal)) (onTc (τ := Cert.PeerSelectIdeal.τ) (Cert.PeerSelectIdeal.main (F := Ideal))) ⟨m, fun _ => 0, g⟩ (fun r => (∀ c : Dev Cert.PeerSelectIdeal.nD,
      r.2.mem ((c.tc : Thread Cert.PeerSelectIdeal.nD Cert.PeerSelectIdeal.τ).loc Cert.PeerSelectIdeal.main_arg0) = m ((c.tc : Thread Cert.PeerSelectIdeal.nD Cert.PeerSelectIdeal.τ).loc Cert.PeerSelectIdeal.main_arg0)
      ∧ r.2.mem ((c.tc : Thread Cert.PeerSelectIdeal.nD Cert.PeerSelectIdeal.τ).loc Cert.PeerSelectIdeal.main_arg1) = m ((c.tc : Thread Cert.PeerSelectIdeal.nD Cert.PeerSelectIdeal.τ).loc Cert.PeerSelectIdeal.main_arg1)
      ∧ r.2.mem ((c.tc : Thread Cert.PeerSelectIdeal.nD Cert.PeerSelectIdeal.τ).loc Cert.PeerSelectIdeal.main_arg2) = m ((c.tc : Thread Cert.PeerSelectIdeal.nD Cert.PeerSelectIdeal.τ).loc Cert.PeerSelectIdeal.main_arg2)
      ∧ r.2.mem ((c.tc : Thread Cert.PeerSelectIdeal.nD Cert.PeerSelectIdeal.τ).loc Cert.PeerSelectIdeal.main_arg3) = m ((c.tc : Thread Cert.PeerSelectIdeal.nD Cert.PeerSelectIdeal.τ).loc Cert.PeerSelectIdeal.main_arg3)
      ∧ r.2.mem ((c.tc : Thread Cert.PeerSelectIdeal.nD Cert.PeerSelectIdeal.τ).loc Cert.PeerSelectIdeal.main_arg4) = m ((c.tc : Thread Cert.PeerSelectIdeal.nD Cert.PeerSelectIdeal.τ).loc Cert.PeerSelectIdeal.main_arg4))
      ∧ r.2.sem = fun _ => 0)

def quiescent_PeerSelectRefIdeal [hPeerSelectRefIdeal : Cert.PeerSelectRefIdeal.Facts] : Prop :=
  ∀ (m : (ℓ : Loc Cert.PeerSelectRefIdeal.nD Cert.PeerSelectRefIdeal.τ Cert.PeerSelectRefIdeal.sig) → Buf (Elt Ideal) ℓ) (g : Dev Cert.PeerSelectRefIdeal.nD → PrngReg), Pre_PeerSelectRefIdeal m →
    θ_run (Cert.PeerSelectRefIdeal.defs (F := Ideal)) (onTc (τ := Cert.PeerSelectRefIdeal.τ) (Cert.PeerSelectRefIdeal.main (F := Ideal))) ⟨m, fun _ => 0, g⟩ (fun r => (∀ c : Dev Cert.PeerSelectRefIdeal.nD,
      r.2.mem ((c.tc : Thread Cert.PeerSelectRefIdeal.nD Cert.PeerSelectRefIdeal.τ).loc Cert.PeerSelectRefIdeal.main_arg0) = m ((c.tc : Thread Cert.PeerSelectRefIdeal.nD Cert.PeerSelectRefIdeal.τ).loc Cert.PeerSelectRefIdeal.main_arg0)
      ∧ r.2.mem ((c.tc : Thread Cert.PeerSelectRefIdeal.nD Cert.PeerSelectRefIdeal.τ).loc Cert.PeerSelectRefIdeal.main_arg1) = m ((c.tc : Thread Cert.PeerSelectRefIdeal.nD Cert.PeerSelectRefIdeal.τ).loc Cert.PeerSelectRefIdeal.main_arg1)
      ∧ r.2.mem ((c.tc : Thread Cert.PeerSelectRefIdeal.nD Cert.PeerSelectRefIdeal.τ).loc Cert.PeerSelectRefIdeal.main_arg2) = m ((c.tc : Thread Cert.PeerSelectRefIdeal.nD Cert.PeerSelectRefIdeal.τ).loc Cert.PeerSelectRefIdeal.main_arg2)
      ∧ r.2.mem ((c.tc : Thread Cert.PeerSelectRefIdeal.nD Cert.PeerSelectRefIdeal.τ).loc Cert.PeerSelectRefIdeal.main_arg3) = m ((c.tc : Thread Cert.PeerSelectRefIdeal.nD Cert.PeerSelectRefIdeal.τ).loc Cert.PeerSelectRefIdeal.main_arg3)
      ∧ r.2.mem ((c.tc : Thread Cert.PeerSelectRefIdeal.nD Cert.PeerSelectRefIdeal.τ).loc Cert.PeerSelectRefIdeal.main_arg4) = m ((c.tc : Thread Cert.PeerSelectRefIdeal.nD Cert.PeerSelectRefIdeal.τ).loc Cert.PeerSelectRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)
      ∧ m' ((c.tc : Thread Cert.ConvInRefIdeal.nD Cert.ConvInRefIdeal.τ).loc Cert.ConvInRefIdeal.main_arg4) = m ((c.tc : Thread Cert.ConvInIdeal.nD Cert.ConvInIdeal.τ).loc Cert.ConvInIdeal.main_arg4)) →
    ∃ (v0 : (c : Dev Cert.ConvInIdeal.nD) → Buf (Elt Ideal) ((c.tc : Thread Cert.ConvInIdeal.nD Cert.ConvInIdeal.τ).loc Cert.ConvInIdeal.main_v3)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v3) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
          ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v36) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3)
          ∧ r.2.mem ((c.tc : Thread Cert.ConvInRefIdeal.nD Cert.ConvInRefIdeal.τ).loc Cert.ConvInRefIdeal.main_arg4) = m' ((c.tc : Thread Cert.ConvInRefIdeal.nD Cert.ConvInRefIdeal.τ).loc Cert.ConvInRefIdeal.main_arg4))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v2) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v26) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v3_0)) (v1 : (c : Dev Cert.KvProjIdeal.nD) → Buf (Elt Ideal) ((c.tc : Thread Cert.KvProjIdeal.nD Cert.KvProjIdeal.τ).loc Cert.KvProjIdeal.main_v3_1)) (v2 : (c : Dev Cert.KvProjIdeal.nD) → Buf (Elt Ideal) ((c.tc : Thread Cert.KvProjIdeal.nD Cert.KvProjIdeal.τ).loc Cert.KvProjIdeal.main_v3_2)) (v3 : (c : Dev Cert.KvProjIdeal.nD) → Buf (Elt Ideal) ((c.tc : Thread Cert.KvProjIdeal.nD Cert.KvProjIdeal.τ).loc Cert.KvProjIdeal.main_v3_3)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v3_0) = v0 c
          ∧ r.2.mem ((c.tc : Thread Cert.KvProjIdeal.nD Cert.KvProjIdeal.τ).loc Cert.KvProjIdeal.main_v3_1) = v1 c
          ∧ r.2.mem ((c.tc : Thread Cert.KvProjIdeal.nD Cert.KvProjIdeal.τ).loc Cert.KvProjIdeal.main_v3_2) = v2 c
          ∧ r.2.mem ((c.tc : Thread Cert.KvProjIdeal.nD Cert.KvProjIdeal.τ).loc Cert.KvProjIdeal.main_v3_3) = v3 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v13) = v0 c
          ∧ r.2.mem ((c.tc : Thread Cert.KvProjRefIdeal.nD Cert.KvProjRefIdeal.τ).loc Cert.KvProjRefIdeal.main_v14) = v1 c
          ∧ r.2.mem ((c.tc : Thread Cert.KvProjRefIdeal.nD Cert.KvProjRefIdeal.τ).loc Cert.KvProjRefIdeal.main_v15) = v2 c
          ∧ r.2.mem ((c.tc : Thread Cert.KvProjRefIdeal.nD Cert.KvProjRefIdeal.τ).loc Cert.KvProjRefIdeal.main_v16) = v3 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ConvPrompt_ConvPromptIdeal : Prop :=
  True

def algebraic_ConvPromptIdeal_ConvPromptRefIdeal [hConvPromptIdeal : Cert.ConvPromptIdeal.Facts] [hConvPromptRefIdeal : Cert.ConvPromptRefIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptRefIdeal.nD Cert.ConvPromptRefIdeal.τ Cert.ConvPromptRefIdeal.sig) → Buf (Elt Ideal) ℓ) (g' : Dev Cert.ConvPromptRefIdeal.nD → PrngReg), Pre_ConvPromptIdeal m →
    (∀ c : Dev Cert.ConvPromptIdeal.nD,
      m' ((c.tc : Thread Cert.ConvPromptRefIdeal.nD Cert.ConvPromptRefIdeal.τ).loc Cert.ConvPromptRefIdeal.main_arg0) = m ((c.tc : Thread Cert.ConvPromptIdeal.nD Cert.ConvPromptIdeal.τ).loc Cert.ConvPromptIdeal.main_arg0)
      ∧ m' ((c.tc : Thread Cert.ConvPromptRefIdeal.nD Cert.ConvPromptRefIdeal.τ).loc Cert.ConvPromptRefIdeal.main_arg1) = m ((c.tc : Thread Cert.ConvPromptIdeal.nD Cert.ConvPromptIdeal.τ).loc Cert.ConvPromptIdeal.main_arg1)
      ∧ m' ((c.tc : Thread Cert.ConvPromptRefIdeal.nD Cert.ConvPromptRefIdeal.τ).loc Cert.ConvPromptRefIdeal.main_arg2) = m ((c.tc : Thread Cert.ConvPromptIdeal.nD Cert.ConvPromptIdeal.τ).loc Cert.ConvPromptIdeal.main_arg2)
      ∧ m' ((c.tc : Thread Cert.ConvPromptRefIdeal.nD Cert.ConvPromptRefIdeal.τ).loc Cert.ConvPromptRefIdeal.main_arg3) = m ((c.tc : Thread Cert.ConvPromptIdeal.nD Cert.ConvPromptIdeal.τ).loc Cert.ConvPromptIdeal.main_arg3)
      ∧ m' ((c.tc : Thread Cert.ConvPromptRefIdeal.nD Cert.ConvPromptRefIdeal.τ).loc Cert.ConvPromptRefIdeal.main_arg4) = m ((c.tc : Thread Cert.ConvPromptIdeal.nD Cert.ConvPromptIdeal.τ).loc Cert.ConvPromptIdeal.main_arg4)
      ∧ m' ((c.tc : Thread Cert.ConvPromptRefIdeal.nD Cert.ConvPromptRefIdeal.τ).loc Cert.ConvPromptRefIdeal.main_arg5) = m ((c.tc : Thread Cert.ConvPromptIdeal.nD Cert.ConvPromptIdeal.τ).loc Cert.ConvPromptIdeal.main_arg5)
      ∧ m' ((c.tc : Thread Cert.ConvPromptRefIdeal.nD Cert.ConvPromptRefIdeal.τ).loc Cert.ConvPromptRefIdeal.main_arg6) = m ((c.tc : Thread Cert.ConvPromptIdeal.nD Cert.ConvPromptIdeal.τ).loc Cert.ConvPromptIdeal.main_arg6)
      ∧ m' ((c.tc : Thread Cert.ConvPromptRefIdeal.nD Cert.ConvPromptRefIdeal.τ).loc Cert.ConvPromptRefIdeal.main_arg7) = m ((c.tc : Thread Cert.ConvPromptIdeal.nD Cert.ConvPromptIdeal.τ).loc Cert.ConvPromptIdeal.main_arg7)
      ∧ m' ((c.tc : Thread Cert.ConvPromptRefIdeal.nD Cert.ConvPromptRefIdeal.τ).loc Cert.ConvPromptRefIdeal.main_arg8) = m ((c.tc : Thread Cert.ConvPromptIdeal.nD Cert.ConvPromptIdeal.τ).loc Cert.ConvPromptIdeal.main_arg8)) →
    ∃ (v0 : (c : Dev Cert.ConvPromptIdeal.nD) → Buf (Elt Ideal) ((c.tc : Thread Cert.ConvPromptIdeal.nD Cert.ConvPromptIdeal.τ).loc Cert.ConvPromptIdeal.main_v7)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v7) = v0 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
          ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2)
          ∧ r.2.mem ((c.tc : Thread Cert.ConvPromptIdeal.nD Cert.ConvPromptIdeal.τ).loc Cert.ConvPromptIdeal.main_arg3) = m ((c.tc : Thread Cert.ConvPromptIdeal.nD Cert.ConvPromptIdeal.τ).loc Cert.ConvPromptIdeal.main_arg3)
          ∧ r.2.mem ((c.tc : Thread Cert.ConvPromptIdeal.nD Cert.ConvPromptIdeal.τ).loc Cert.ConvPromptIdeal.main_arg4) = m ((c.tc : Thread Cert.ConvPromptIdeal.nD Cert.ConvPromptIdeal.τ).loc Cert.ConvPromptIdeal.main_arg4)
          ∧ r.2.mem ((c.tc : Thread Cert.ConvPromptIdeal.nD Cert.ConvPromptIdeal.τ).loc Cert.ConvPromptIdeal.main_arg5) = m ((c.tc : Thread Cert.ConvPromptIdeal.nD Cert.ConvPromptIdeal.τ).loc Cert.ConvPromptIdeal.main_arg5)
          ∧ r.2.mem ((c.tc : Thread Cert.ConvPromptIdeal.nD Cert.ConvPromptIdeal.τ).loc Cert.ConvPromptIdeal.main_arg6) = m ((c.tc : Thread Cert.ConvPromptIdeal.nD Cert.ConvPromptIdeal.τ).loc Cert.ConvPromptIdeal.main_arg6)
          ∧ r.2.mem ((c.tc : Thread Cert.ConvPromptIdeal.nD Cert.ConvPromptIdeal.τ).loc Cert.ConvPromptIdeal.main_arg7) = m ((c.tc : Thread Cert.ConvPromptIdeal.nD Cert.ConvPromptIdeal.τ).loc Cert.ConvPromptIdeal.main_arg7)
          ∧ r.2.mem ((c.tc : Thread Cert.ConvPromptIdeal.nD Cert.ConvPromptIdeal.τ).loc Cert.ConvPromptIdeal.main_arg8) = m ((c.tc : Thread Cert.ConvPromptIdeal.nD Cert.ConvPromptIdeal.τ).loc Cert.ConvPromptIdeal.main_arg8))
      ∧ θ_run (Cert.ConvPromptRefIdeal.defs (F := Ideal)) (onTc (τ := Cert.ConvPromptRefIdeal.τ) (Cert.ConvPromptRefIdeal.main (F := Ideal))) ⟨m', fun _ => 0, g'⟩ (fun r => ∀ c : Dev Cert.ConvPromptRefIdeal.nD,
          r.2.mem ((c.tc : Thread Cert.ConvPromptRefIdeal.nD Cert.ConvPromptRefIdeal.τ).loc Cert.ConvPromptRefIdeal.main_v257) = v0 c
          ∧ r.2.mem ((c.tc : Thread Cert.ConvPromptRefIdeal.nD Cert.ConvPromptRefIdeal.τ).loc Cert.ConvPromptRefIdeal.main_arg0) = m' ((c.tc : Thread Cert.ConvPromptRefIdeal.nD Cert.ConvPromptRefIdeal.τ).loc Cert.ConvPromptRefIdeal.main_arg0)
          ∧ r.2.mem ((c.tc : Thread Cert.ConvPromptRefIdeal.nD Cert.ConvPromptRefIdeal.τ).loc Cert.ConvPromptRefIdeal.main_arg1) = m' ((c.tc : Thread Cert.ConvPromptRefIdeal.nD Cert.ConvPromptRefIdeal.τ).loc Cert.ConvPromptRefIdeal.main_arg1)
          ∧ r.2.mem ((c.tc : Thread Cert.ConvPromptRefIdeal.nD Cert.ConvPromptRefIdeal.τ).loc Cert.ConvPromptRefIdeal.main_arg2) = m' ((c.tc : Thread Cert.ConvPromptRefIdeal.nD Cert.ConvPromptRefIdeal.τ).loc Cert.ConvPromptRefIdeal.main_arg2)
          ∧ r.2.mem ((c.tc : Thread Cert.ConvPromptRefIdeal.nD Cert.ConvPromptRefIdeal.τ).loc Cert.ConvPromptRefIdeal.main_arg3) = m' ((c.tc : Thread Cert.ConvPromptRefIdeal.nD Cert.ConvPromptRefIdeal.τ).loc Cert.ConvPromptRefIdeal.main_arg3)
          ∧ r.2.mem ((c.tc : Thread Cert.ConvPromptRefIdeal.nD Cert.ConvPromptRefIdeal.τ).loc Cert.ConvPromptRefIdeal.main_arg4) = m' ((c.tc : Thread Cert.ConvPromptRefIdeal.nD Cert.ConvPromptRefIdeal.τ).loc Cert.ConvPromptRefIdeal.main_arg4)
          ∧ r.2.mem ((c.tc : Thread Cert.ConvPromptRefIdeal.nD Cert.ConvPromptRefIdeal.τ).loc Cert.ConvPromptRefIdeal.main_arg5) = m' ((c.tc : Thread Cert.ConvPromptRefIdeal.nD Cert.ConvPromptRefIdeal.τ).loc Cert.ConvPromptRefIdeal.main_arg5)
          ∧ r.2.mem ((c.tc : Thread Cert.ConvPromptRefIdeal.nD Cert.ConvPromptRefIdeal.τ).loc Cert.ConvPromptRefIdeal.main_arg6) = m' ((c.tc : Thread Cert.ConvPromptRefIdeal.nD Cert.ConvPromptRefIdeal.τ).loc Cert.ConvPromptRefIdeal.main_arg6)
          ∧ r.2.mem ((c.tc : Thread Cert.ConvPromptRefIdeal.nD Cert.ConvPromptRefIdeal.τ).loc Cert.ConvPromptRefIdeal.main_arg7) = m' ((c.tc : Thread Cert.ConvPromptRefIdeal.nD Cert.ConvPromptRefIdeal.τ).loc Cert.ConvPromptRefIdeal.main_arg7)
          ∧ r.2.mem ((c.tc : Thread Cert.ConvPromptRefIdeal.nD Cert.ConvPromptRefIdeal.τ).loc Cert.ConvPromptRefIdeal.main_arg8) = m' ((c.tc : Thread Cert.ConvPromptRefIdeal.nD Cert.ConvPromptRefIdeal.τ).loc Cert.ConvPromptRefIdeal.main_arg8))

def preserves_PeerDense_PeerDenseIdeal : Prop :=
  True

def algebraic_PeerDenseIdeal_PeerDenseRefIdeal [hPeerDenseIdeal : Cert.PeerDenseIdeal.Facts] [hPeerDenseRefIdeal : Cert.PeerDenseRefIdeal.Facts] : Prop :=
  ∀ (m : (ℓ : Loc Cert.PeerDenseIdeal.nD Cert.PeerDenseIdeal.τ Cert.PeerDenseIdeal.sig) → Buf (Elt Ideal) ℓ) (g : Dev Cert.PeerDenseIdeal.nD → PrngReg)
    (m' : (ℓ : Loc Cert.PeerDenseRefIdeal.nD Cert.PeerDenseRefIdeal.τ Cert.PeerDenseRefIdeal.sig) → Buf (Elt Ideal) ℓ) (g' : Dev Cert.PeerDenseRefIdeal.nD → PrngReg), Pre_PeerDenseIdeal m →
    (∀ c : Dev Cert.PeerDenseIdeal.nD,
      m' ((c.tc : Thread Cert.PeerDenseRefIdeal.nD Cert.PeerDenseRefIdeal.τ).loc Cert.PeerDenseRefIdeal.main_arg0) = m ((c.tc : Thread Cert.PeerDenseIdeal.nD Cert.PeerDenseIdeal.τ).loc Cert.PeerDenseIdeal.main_arg0)
      ∧ m' ((c.tc : Thread Cert.PeerDenseRefIdeal.nD Cert.PeerDenseRefIdeal.τ).loc Cert.PeerDenseRefIdeal.main_arg1) = m ((c.tc : Thread Cert.PeerDenseIdeal.nD Cert.PeerDenseIdeal.τ).loc Cert.PeerDenseIdeal.main_arg1)
      ∧ m' ((c.tc : Thread Cert.PeerDenseRefIdeal.nD Cert.PeerDenseRefIdeal.τ).loc Cert.PeerDenseRefIdeal.main_arg2) = m ((c.tc : Thread Cert.PeerDenseIdeal.nD Cert.PeerDenseIdeal.τ).loc Cert.PeerDenseIdeal.main_arg2)
      ∧ m' ((c.tc : Thread Cert.PeerDenseRefIdeal.nD Cert.PeerDenseRefIdeal.τ).loc Cert.PeerDenseRefIdeal.main_arg3) = m ((c.tc : Thread Cert.PeerDenseIdeal.nD Cert.PeerDenseIdeal.τ).loc Cert.PeerDenseIdeal.main_arg3)
      ∧ m' ((c.tc : Thread Cert.PeerDenseRefIdeal.nD Cert.PeerDenseRefIdeal.τ).loc Cert.PeerDenseRefIdeal.main_arg4) = m ((c.tc : Thread Cert.PeerDenseIdeal.nD Cert.PeerDenseIdeal.τ).loc Cert.PeerDenseIdeal.main_arg4)
      ∧ m' ((c.tc : Thread Cert.PeerDenseRefIdeal.nD Cert.PeerDenseRefIdeal.τ).loc Cert.PeerDenseRefIdeal.main_arg5) = m ((c.tc : Thread Cert.PeerDenseIdeal.nD Cert.PeerDenseIdeal.τ).loc Cert.PeerDenseIdeal.main_arg5)
      ∧ m' ((c.tc : Thread Cert.PeerDenseRefIdeal.nD Cert.PeerDenseRefIdeal.τ).loc Cert.PeerDenseRefIdeal.main_arg6) = m ((c.tc : Thread Cert.PeerDenseIdeal.nD Cert.PeerDenseIdeal.τ).loc Cert.PeerDenseIdeal.main_arg6)
      ∧ m' ((c.tc : Thread Cert.PeerDenseRefIdeal.nD Cert.PeerDenseRefIdeal.τ).loc Cert.PeerDenseRefIdeal.main_arg7) = m ((c.tc : Thread Cert.PeerDenseIdeal.nD Cert.PeerDenseIdeal.τ).loc Cert.PeerDenseIdeal.main_arg7)
      ∧ m' ((c.tc : Thread Cert.PeerDenseRefIdeal.nD Cert.PeerDenseRefIdeal.τ).loc Cert.PeerDenseRefIdeal.main_arg8) = m ((c.tc : Thread Cert.PeerDenseIdeal.nD Cert.PeerDenseIdeal.τ).loc Cert.PeerDenseIdeal.main_arg8)) →
    ∃ (v0 : (c : Dev Cert.PeerDenseIdeal.nD) → Buf (Elt Ideal) ((c.tc : Thread Cert.PeerDenseIdeal.nD Cert.PeerDenseIdeal.τ).loc Cert.PeerDenseIdeal.main_v3)),
      θ_run (Cert.PeerDenseIdeal.defs (F := Ideal)) (onTc (τ := Cert.PeerDenseIdeal.τ) (Cert.PeerDenseIdeal.main (F := Ideal))) ⟨m, fun _ => 0, g⟩ (fun r => ∀ c : Dev Cert.PeerDenseIdeal.nD,
          r.2.mem ((c.tc : Thread Cert.PeerDenseIdeal.nD Cert.PeerDenseIdeal.τ).loc Cert.PeerDenseIdeal.main_v3) = v0 c
          ∧ r.2.mem ((c.tc : Thread Cert.PeerDenseIdeal.nD Cert.PeerDenseIdeal.τ).loc Cert.PeerDenseIdeal.main_arg0) = m ((c.tc : Thread Cert.PeerDenseIdeal.nD Cert.PeerDenseIdeal.τ).loc Cert.PeerDenseIdeal.main_arg0)
          ∧ r.2.mem ((c.tc : Thread Cert.PeerDenseIdeal.nD Cert.PeerDenseIdeal.τ).loc Cert.PeerDenseIdeal.main_arg1) = m ((c.tc : Thread Cert.PeerDenseIdeal.nD Cert.PeerDenseIdeal.τ).loc Cert.PeerDenseIdeal.main_arg1)
          ∧ r.2.mem ((c.tc : Thread Cert.PeerDenseIdeal.nD Cert.PeerDenseIdeal.τ).loc Cert.PeerDenseIdeal.main_arg2) = m ((c.tc : Thread Cert.PeerDenseIdeal.nD Cert.PeerDenseIdeal.τ).loc Cert.PeerDenseIdeal.main_arg2)
          ∧ r.2.mem ((c.tc : Thread Cert.PeerDenseIdeal.nD Cert.PeerDenseIdeal.τ).loc Cert.PeerDenseIdeal.main_arg3) = m ((c.tc : Thread Cert.PeerDenseIdeal.nD Cert.PeerDenseIdeal.τ).loc Cert.PeerDenseIdeal.main_arg3)
          ∧ r.2.mem ((c.tc : Thread Cert.PeerDenseIdeal.nD Cert.PeerDenseIdeal.τ).loc Cert.PeerDenseIdeal.main_arg4) = m ((c.tc : Thread Cert.PeerDenseIdeal.nD Cert.PeerDenseIdeal.τ).loc Cert.PeerDenseIdeal.main_arg4)
          ∧ r.2.mem ((c.tc : Thread Cert.PeerDenseIdeal.nD Cert.PeerDenseIdeal.τ).loc Cert.PeerDenseIdeal.main_arg5) = m ((c.tc : Thread Cert.PeerDenseIdeal.nD Cert.PeerDenseIdeal.τ).loc Cert.PeerDenseIdeal.main_arg5)
          ∧ r.2.mem ((c.tc : Thread Cert.PeerDenseIdeal.nD Cert.PeerDenseIdeal.τ).loc Cert.PeerDenseIdeal.main_arg6) = m ((c.tc : Thread Cert.PeerDenseIdeal.nD Cert.PeerDenseIdeal.τ).loc Cert.PeerDenseIdeal.main_arg6)
          ∧ r.2.mem ((c.tc : Thread Cert.PeerDenseIdeal.nD Cert.PeerDenseIdeal.τ).loc Cert.PeerDenseIdeal.main_arg7) = m ((c.tc : Thread Cert.PeerDenseIdeal.nD Cert.PeerDenseIdeal.τ).loc Cert.PeerDenseIdeal.main_arg7)
          ∧ r.2.mem ((c.tc : Thread Cert.PeerDenseIdeal.nD Cert.PeerDenseIdeal.τ).loc Cert.PeerDenseIdeal.main_arg8) = m ((c.tc : Thread Cert.PeerDenseIdeal.nD Cert.PeerDenseIdeal.τ).loc Cert.PeerDenseIdeal.main_arg8))
      ∧ θ_run (Cert.PeerDenseRefIdeal.defs (F := Ideal)) (onTc (τ := Cert.PeerDenseRefIdeal.τ) (Cert.PeerDenseRefIdeal.main (F := Ideal))) ⟨m', fun _ => 0, g'⟩ (fun r => ∀ c : Dev Cert.PeerDenseRefIdeal.nD,
          r.2.mem ((c.tc : Thread Cert.PeerDenseRefIdeal.nD Cert.PeerDenseRefIdeal.τ).loc Cert.PeerDenseRefIdeal.main_v39) = v0 c
          ∧ r.2.mem ((c.tc : Thread Cert.PeerDenseRefIdeal.nD Cert.PeerDenseRefIdeal.τ).loc Cert.PeerDenseRefIdeal.main_arg0) = m' ((c.tc : Thread Cert.PeerDenseRefIdeal.nD Cert.PeerDenseRefIdeal.τ).loc Cert.PeerDenseRefIdeal.main_arg0)
          ∧ r.2.mem ((c.tc : Thread Cert.PeerDenseRefIdeal.nD Cert.PeerDenseRefIdeal.τ).loc Cert.PeerDenseRefIdeal.main_arg1) = m' ((c.tc : Thread Cert.PeerDenseRefIdeal.nD Cert.PeerDenseRefIdeal.τ).loc Cert.PeerDenseRefIdeal.main_arg1)
          ∧ r.2.mem ((c.tc : Thread Cert.PeerDenseRefIdeal.nD Cert.PeerDenseRefIdeal.τ).loc Cert.PeerDenseRefIdeal.main_arg2) = m' ((c.tc : Thread Cert.PeerDenseRefIdeal.nD Cert.PeerDenseRefIdeal.τ).loc Cert.PeerDenseRefIdeal.main_arg2)
          ∧ r.2.mem ((c.tc : Thread Cert.PeerDenseRefIdeal.nD Cert.PeerDenseRefIdeal.τ).loc Cert.PeerDenseRefIdeal.main_arg3) = m' ((c.tc : Thread Cert.PeerDenseRefIdeal.nD Cert.PeerDenseRefIdeal.τ).loc Cert.PeerDenseRefIdeal.main_arg3)
          ∧ r.2.mem ((c.tc : Thread Cert.PeerDenseRefIdeal.nD Cert.PeerDenseRefIdeal.τ).loc Cert.PeerDenseRefIdeal.main_arg4) = m' ((c.tc : Thread Cert.PeerDenseRefIdeal.nD Cert.PeerDenseRefIdeal.τ).loc Cert.PeerDenseRefIdeal.main_arg4)
          ∧ r.2.mem ((c.tc : Thread Cert.PeerDenseRefIdeal.nD Cert.PeerDenseRefIdeal.τ).loc Cert.PeerDenseRefIdeal.main_arg5) = m' ((c.tc : Thread Cert.PeerDenseRefIdeal.nD Cert.PeerDenseRefIdeal.τ).loc Cert.PeerDenseRefIdeal.main_arg5)
          ∧ r.2.mem ((c.tc : Thread Cert.PeerDenseRefIdeal.nD Cert.PeerDenseRefIdeal.τ).loc Cert.PeerDenseRefIdeal.main_arg6) = m' ((c.tc : Thread Cert.PeerDenseRefIdeal.nD Cert.PeerDenseRefIdeal.τ).loc Cert.PeerDenseRefIdeal.main_arg6)
          ∧ r.2.mem ((c.tc : Thread Cert.PeerDenseRefIdeal.nD Cert.PeerDenseRefIdeal.τ).loc Cert.PeerDenseRefIdeal.main_arg7) = m' ((c.tc : Thread Cert.PeerDenseRefIdeal.nD Cert.PeerDenseRefIdeal.τ).loc Cert.PeerDenseRefIdeal.main_arg7)
          ∧ r.2.mem ((c.tc : Thread Cert.PeerDenseRefIdeal.nD Cert.PeerDenseRefIdeal.τ).loc Cert.PeerDenseRefIdeal.main_arg8) = m' ((c.tc : Thread Cert.PeerDenseRefIdeal.nD Cert.PeerDenseRefIdeal.τ).loc Cert.PeerDenseRefIdeal.main_arg8))

def preserves_PeerSelect_PeerSelectIdeal : Prop :=
  True

def algebraic_PeerSelectIdeal_PeerSelectRefIdeal [hPeerSelectIdeal : Cert.PeerSelectIdeal.Facts] [hPeerSelectRefIdeal : Cert.PeerSelectRefIdeal.Facts] : Prop :=
  ∀ (m : (ℓ : Loc Cert.PeerSelectIdeal.nD Cert.PeerSelectIdeal.τ Cert.PeerSelectIdeal.sig) → Buf (Elt Ideal) ℓ) (g : Dev Cert.PeerSelectIdeal.nD → PrngReg)
    (m' : (ℓ : Loc Cert.PeerSelectRefIdeal.nD Cert.PeerSelectRefIdeal.τ Cert.PeerSelectRefIdeal.sig) → Buf (Elt Ideal) ℓ) (g' : Dev Cert.PeerSelectRefIdeal.nD → PrngReg), Pre_PeerSelectIdeal m →
    (∀ c : Dev Cert.PeerSelectIdeal.nD,
      m' ((c.tc : Thread Cert.PeerSelectRefIdeal.nD Cert.PeerSelectRefIdeal.τ).loc Cert.PeerSelectRefIdeal.main_arg0) = m ((c.tc : Thread Cert.PeerSelectIdeal.nD Cert.PeerSelectIdeal.τ).loc Cert.PeerSelectIdeal.main_arg0)
      ∧ m' ((c.tc : Thread Cert.PeerSelectRefIdeal.nD Cert.PeerSelectRefIdeal.τ).loc Cert.PeerSelectRefIdeal.main_arg1) = m ((c.tc : Thread Cert.PeerSelectIdeal.nD Cert.PeerSelectIdeal.τ).loc Cert.PeerSelectIdeal.main_arg1)
      ∧ m' ((c.tc : Thread Cert.PeerSelectRefIdeal.nD Cert.PeerSelectRefIdeal.τ).loc Cert.PeerSelectRefIdeal.main_arg2) = m ((c.tc : Thread Cert.PeerSelectIdeal.nD Cert.PeerSelectIdeal.τ).loc Cert.PeerSelectIdeal.main_arg2)
      ∧ m' ((c.tc : Thread Cert.PeerSelectRefIdeal.nD Cert.PeerSelectRefIdeal.τ).loc Cert.PeerSelectRefIdeal.main_arg3) = m ((c.tc : Thread Cert.PeerSelectIdeal.nD Cert.PeerSelectIdeal.τ).loc Cert.PeerSelectIdeal.main_arg3)
      ∧ m' ((c.tc : Thread Cert.PeerSelectRefIdeal.nD Cert.PeerSelectRefIdeal.τ).loc Cert.PeerSelectRefIdeal.main_arg4) = m ((c.tc : Thread Cert.PeerSelectIdeal.nD Cert.PeerSelectIdeal.τ).loc Cert.PeerSelectIdeal.main_arg4)) →
    ∃ (v0 : (c : Dev Cert.PeerSelectIdeal.nD) → Buf (Elt Ideal) ((c.tc : Thread Cert.PeerSelectIdeal.nD Cert.PeerSelectIdeal.τ).loc Cert.PeerSelectIdeal.main_v5_0)) (v1 : (c : Dev Cert.PeerSelectIdeal.nD) → Buf (Elt Ideal) ((c.tc : Thread Cert.PeerSelectIdeal.nD Cert.PeerSelectIdeal.τ).loc Cert.PeerSelectIdeal.main_v5_1)) (v2 : (c : Dev Cert.PeerSelectIdeal.nD) → Buf (Elt Ideal) ((c.tc : Thread Cert.PeerSelectIdeal.nD Cert.PeerSelectIdeal.τ).loc Cert.PeerSelectIdeal.main_v5_4)),
      θ_run (Cert.PeerSelectIdeal.defs (F := Ideal)) (onTc (τ := Cert.PeerSelectIdeal.τ) (Cert.PeerSelectIdeal.main (F := Ideal))) ⟨m, fun _ => 0, g⟩ (fun r => ∀ c : Dev Cert.PeerSelectIdeal.nD,
          r.2.mem ((c.tc : Thread Cert.PeerSelectIdeal.nD Cert.PeerSelectIdeal.τ).loc Cert.PeerSelectIdeal.main_v5_0) = v0 c
          ∧ r.2.mem ((c.tc : Thread Cert.PeerSelectIdeal.nD Cert.PeerSelectIdeal.τ).loc Cert.PeerSelectIdeal.main_v5_1) = v1 c
          ∧ r.2.mem ((c.tc : Thread Cert.PeerSelectIdeal.nD Cert.PeerSelectIdeal.τ).loc Cert.PeerSelectIdeal.main_v5_4) = v2 c
          ∧ r.2.mem ((c.tc : Thread Cert.PeerSelectIdeal.nD Cert.PeerSelectIdeal.τ).loc Cert.PeerSelectIdeal.main_arg0) = m ((c.tc : Thread Cert.PeerSelectIdeal.nD Cert.PeerSelectIdeal.τ).loc Cert.PeerSelectIdeal.main_arg0)
          ∧ r.2.mem ((c.tc : Thread Cert.PeerSelectIdeal.nD Cert.PeerSelectIdeal.τ).loc Cert.PeerSelectIdeal.main_arg1) = m ((c.tc : Thread Cert.PeerSelectIdeal.nD Cert.PeerSelectIdeal.τ).loc Cert.PeerSelectIdeal.main_arg1)
          ∧ r.2.mem ((c.tc : Thread Cert.PeerSelectIdeal.nD Cert.PeerSelectIdeal.τ).loc Cert.PeerSelectIdeal.main_arg2) = m ((c.tc : Thread Cert.PeerSelectIdeal.nD Cert.PeerSelectIdeal.τ).loc Cert.PeerSelectIdeal.main_arg2)
          ∧ r.2.mem ((c.tc : Thread Cert.PeerSelectIdeal.nD Cert.PeerSelectIdeal.τ).loc Cert.PeerSelectIdeal.main_arg3) = m ((c.tc : Thread Cert.PeerSelectIdeal.nD Cert.PeerSelectIdeal.τ).loc Cert.PeerSelectIdeal.main_arg3)
          ∧ r.2.mem ((c.tc : Thread Cert.PeerSelectIdeal.nD Cert.PeerSelectIdeal.τ).loc Cert.PeerSelectIdeal.main_arg4) = m ((c.tc : Thread Cert.PeerSelectIdeal.nD Cert.PeerSelectIdeal.τ).loc Cert.PeerSelectIdeal.main_arg4))
      ∧ θ_run (Cert.PeerSelectRefIdeal.defs (F := Ideal)) (onTc (τ := Cert.PeerSelectRefIdeal.τ) (Cert.PeerSelectRefIdeal.main (F := Ideal))) ⟨m', fun _ => 0, g'⟩ (fun r => ∀ c : Dev Cert.PeerSelectRefIdeal.nD,
          r.2.mem ((c.tc : Thread Cert.PeerSelectRefIdeal.nD Cert.PeerSelectRefIdeal.τ).loc Cert.PeerSelectRefIdeal.main_v135) = v0 c
          ∧ r.2.mem ((c.tc : Thread Cert.PeerSelectRefIdeal.nD Cert.PeerSelectRefIdeal.τ).loc Cert.PeerSelectRefIdeal.main_v124) = v1 c
          ∧ r.2.mem ((c.tc : Thread Cert.PeerSelectRefIdeal.nD Cert.PeerSelectRefIdeal.τ).loc Cert.PeerSelectRefIdeal.main_v134) = v2 c
          ∧ r.2.mem ((c.tc : Thread Cert.PeerSelectRefIdeal.nD Cert.PeerSelectRefIdeal.τ).loc Cert.PeerSelectRefIdeal.main_arg0) = m' ((c.tc : Thread Cert.PeerSelectRefIdeal.nD Cert.PeerSelectRefIdeal.τ).loc Cert.PeerSelectRefIdeal.main_arg0)
          ∧ r.2.mem ((c.tc : Thread Cert.PeerSelectRefIdeal.nD Cert.PeerSelectRefIdeal.τ).loc Cert.PeerSelectRefIdeal.main_arg1) = m' ((c.tc : Thread Cert.PeerSelectRefIdeal.nD Cert.PeerSelectRefIdeal.τ).loc Cert.PeerSelectRefIdeal.main_arg1)
          ∧ r.2.mem ((c.tc : Thread Cert.PeerSelectRefIdeal.nD Cert.PeerSelectRefIdeal.τ).loc Cert.PeerSelectRefIdeal.main_arg2) = m' ((c.tc : Thread Cert.PeerSelectRefIdeal.nD Cert.PeerSelectRefIdeal.τ).loc Cert.PeerSelectRefIdeal.main_arg2)
          ∧ r.2.mem ((c.tc : Thread Cert.PeerSelectRefIdeal.nD Cert.PeerSelectRefIdeal.τ).loc Cert.PeerSelectRefIdeal.main_arg3) = m' ((c.tc : Thread Cert.PeerSelectRefIdeal.nD Cert.PeerSelectRefIdeal.τ).loc Cert.PeerSelectRefIdeal.main_arg3)
          ∧ r.2.mem ((c.tc : Thread Cert.PeerSelectRefIdeal.nD Cert.PeerSelectRefIdeal.τ).loc Cert.PeerSelectRefIdeal.main_arg4) = m' ((c.tc : Thread Cert.PeerSelectRefIdeal.nD Cert.PeerSelectRefIdeal.τ).loc Cert.PeerSelectRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hKernel : Cert.Kernel.Facts) (hKernelIdeal : Cert.KernelIdeal.Facts) (hReferenceIdeal : Cert.ReferenceIdeal.Facts) (hConvIn : Cert.ConvIn.Facts) (hConvInIdeal : Cert.ConvInIdeal.Facts) (hConvInRefIdeal : Cert.ConvInRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hOutProj : Cert.OutProj.Facts) (hOutProjIdeal : Cert.OutProjIdeal.Facts) (hOutProjRefIdeal : Cert.OutProjRefIdeal.Facts) (hConvPrompt : Cert.ConvPrompt.Facts) (hConvPromptIdeal : Cert.ConvPromptIdeal.Facts) (hConvPromptRefIdeal : Cert.ConvPromptRefIdeal.Facts) (hPeerDense : Cert.PeerDense.Facts) (hPeerDenseIdeal : Cert.PeerDenseIdeal.Facts) (hPeerDenseRefIdeal : Cert.PeerDenseRefIdeal.Facts) (hPeerSelect : Cert.PeerSelect.Facts) (hPeerSelectIdeal : Cert.PeerSelectIdeal.Facts) (hPeerSelectRefIdeal : Cert.PeerSelectRefIdeal.Facts) (hAda : Cert.Ada.Facts) (hAdaIdeal : Cert.AdaIdeal.Facts) (hAdaRefIdeal : Cert.AdaRefIdeal.Facts) (hFinalNorm : Cert.FinalNorm.Facts) (hFinalNormIdeal : Cert.FinalNormIdeal.Facts) (hFinalNormRefIdeal : Cert.FinalNormRefIdeal.Facts),
    quiescent_Kernel (hKernel := hKernel)
    ∧ quiescent_KernelIdeal (hKernelIdeal := hKernelIdeal)
    ∧ quiescent_ReferenceIdeal (hReferenceIdeal := hReferenceIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvPrompt (hConvPrompt := hConvPrompt)
    ∧ quiescent_ConvPromptIdeal (hConvPromptIdeal := hConvPromptIdeal)
    ∧ quiescent_ConvPromptRefIdeal (hConvPromptRefIdeal := hConvPromptRefIdeal)
    ∧ quiescent_PeerDense (hPeerDense := hPeerDense)
    ∧ quiescent_PeerDenseIdeal (hPeerDenseIdeal := hPeerDenseIdeal)
    ∧ quiescent_PeerDenseRefIdeal (hPeerDenseRefIdeal := hPeerDenseRefIdeal)
    ∧ quiescent_PeerSelect (hPeerSelect := hPeerSelect)
    ∧ quiescent_PeerSelectIdeal (hPeerSelectIdeal := hPeerSelectIdeal)
    ∧ quiescent_PeerSelectRefIdeal (hPeerSelectRefIdeal := hPeerSelectRefIdeal)
    ∧ quiescent_Ada (hAda := hAda)
    ∧ quiescent_AdaIdeal (hAdaIdeal := hAdaIdeal)
    ∧ quiescent_AdaRefIdeal (hAdaRefIdeal := hAdaRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Kernel_KernelIdeal
    ∧ algebraic_KernelIdeal_ReferenceIdeal (hKernelIdeal := hKernelIdeal) (hReferenceIdeal := hReferenceIdeal)
    ∧ preserves_ConvIn_ConvInIdeal
    ∧ algebraic_ConvInIdeal_ConvInRefIdeal (hConvInIdeal := hConvInIdeal) (hConvInRefIdeal := hConvInRefIdeal)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
    ∧ preserves_OutProj_OutProjIdeal
    ∧ algebraic_OutProjIdeal_OutProjRefIdeal (hOutProjIdeal := hOutProjIdeal) (hOutProjRefIdeal := hOutProjRefIdeal)
    ∧ preserves_ConvPrompt_ConvPromptIdeal
    ∧ algebraic_ConvPromptIdeal_ConvPromptRefIdeal (hConvPromptIdeal := hConvPromptIdeal) (hConvPromptRefIdeal := hConvPromptRefIdeal)
    ∧ preserves_PeerDense_PeerDenseIdeal
    ∧ algebraic_PeerDenseIdeal_PeerDenseRefIdeal (hPeerDenseIdeal := hPeerDenseIdeal) (hPeerDenseRefIdeal := hPeerDenseRefIdeal)
    ∧ preserves_PeerSelect_PeerSelectIdeal
    ∧ algebraic_PeerSelectIdeal_PeerSelectRefIdeal (hPeerSelectIdeal := hPeerSelectIdeal) (hPeerSelectRefIdeal := hPeerSelectRefIdeal)
    ∧ preserves_Ada_AdaIdeal
    ∧ algebraic_AdaIdeal_AdaRefIdeal (hAdaIdeal := hAdaIdeal) (hAdaRefIdeal := hAdaRefIdeal)
    ∧ preserves_FinalNorm_FinalNormIdeal
    ∧ algebraic_FinalNormIdeal_FinalNormRefIdeal (hFinalNormIdeal := hFinalNormIdeal) (hFinalNormRefIdeal := hFinalNormRefIdeal)
-- ==== Kernel.lean ====
abbrev S16384x1024 : Shape := ⟨2, ![16384, 1024]⟩
abbrev S16 : Shape := ⟨1, ![16]⟩
abbrev S4x4096x1024 : Shape := ⟨3, ![4, 4096, 1024]⟩
abbrev S1x256x128 : Shape := ⟨3, ![1, 256, 128]⟩
abbrev S1x4096x128 : Shape := ⟨3, ![1, 4096, 128]⟩
abbrev S2x256x128 : Shape := ⟨3, ![2, 256, 128]⟩
abbrev S256x128 : Shape := ⟨2, ![256, 128]⟩
abbrev S256x256 : Shape := ⟨2, ![256, 256]⟩
abbrev S1 : Shape := ⟨1, ![1]⟩

abbrev nBuf : Space → Nat
  | .hbm => 8
  | .vmem => 10
  | .smem => 1
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16, .f32⟩
  | .hbm, ⟨4, _⟩ => ⟨S4x4096x1024, .f32⟩
  | .hbm, ⟨5, _⟩ => ⟨S4x4096x1024, .bf16⟩
  | .hbm, ⟨6, _⟩ => ⟨S4x4096x1024, .bf16⟩
  | .hbm, ⟨7, _⟩ => ⟨S4x4096x1024, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .f32⟩
  | .local _ .vmem, ⟨7, _⟩ => ⟨S1x256x128, .f32⟩
  | .local _ .vmem, ⟨8, _⟩ => ⟨S2x256x128, .f32⟩
  | .local _ .vmem, ⟨9, _⟩ => ⟨S2x256x128, .f32⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 16], ![false, false, false]⟩

def k0_off1 (i : grid0.Coords) (c0_i32_7 : BitVec 32) : Fin 1 → Nat :=
  let c2_i32 : BitVec 32 := 2#32
  let arg1 : BitVec 32 := BitVec.ofNat 32 (i 1).val
  let v30 : BitVec 32 := Scalar.muli c2_i32 arg1
  let v31 : BitVec 32 := Scalar.addi v30 c0_i32_7
  let v32 : Index := Scalar.indexCast v31
  ![v32.toNat]
@[reducible] def k0_t1_loop (i : grid0.Coords) : Scf.Loop 32 :=
  let c0_i32_18 : BitVec 32 := 0#32
  let arg2 : BitVec 32 := BitVec.ofNat 32 (i 2).val
  let c1_i32_17 : BitVec 32 := 1#32
  let v46 : BitVec 32 := Scalar.addi arg2 c1_i32_17
  let v47 : BitVec 32 := Scalar.subi v46 c0_i32_18
  let c1_i32_20 : BitVec 32 := 1#32
  let v49 : BitVec 32 := Scalar.divsi v47 c1_i32_20
  let v50 : BitVec 32 := Scalar.muli v49 c1_i32_20
  let v51 : BitVec 32 := Scalar.addi c0_i32_18 v50
  let c1_i32_21 : BitVec 32 := 1#32
  ⟨c0_i32_18, v51, c1_i32_21⟩
def k0_mult1 (i : grid0.Coords) (k0_t1 : Fin (k0_t1_loop i).trips) : BitVec 32 :=
  let arg2 : BitVec 32 := BitVec.ofNat 32 (i 2).val
  let c0_i32_18 : BitVec 32 := 0#32
  let c1_i32_21 : BitVec 32 := 1#32
  let arg10 : BitVec 32 := Scf.iv c0_i32_18 c1_i32_21 k0_t1
  let v64 : BitVec 32 := Scalar.subi arg2 arg10
  let c256_i32 : BitVec 32 := 256#32
  let v65 : BitVec 32 := Scalar.muli v64 c256_i32
  v65
def k0_off2 (i : grid0.Coords) (k0_t1 : Fin (k0_t1_loop i).trips) : Fin 3 → Nat :=
  let c0_32 : Index := 0#32
  let arg2 : BitVec 32 := BitVec.ofNat 32 (i 2).val
  let c0_i32_18 : BitVec 32 := 0#32
  let c1_i32_21 : BitVec 32 := 1#32
  let arg10 : BitVec 32 := Scf.iv c0_i32_18 c1_i32_21 k0_t1
  let v64 : BitVec 32 := Scalar.subi arg2 arg10
  let c256_i32 : BitVec 32 := 256#32
  let v65 : BitVec 32 := Scalar.muli v64 c256_i32
  let v66 : BitVec 32 := v65
  let v67 : Index := Scalar.indexCast v66
  let c0_33 : Index := 0#32
  ![0, v67.toNat, 0]
@[reducible] def k0_t2_loop (i : grid0.Coords) : Scf.Loop 32 :=
  let c0_i32_18 : BitVec 32 := 0#32
  let arg2 : BitVec 32 := BitVec.ofNat 32 (i 2).val
  let c1_i32_17 : BitVec 32 := 1#32
  let v46 : BitVec 32 := Scalar.addi arg2 c1_i32_17
  let v47 : BitVec 32 := Scalar.subi v46 c0_i32_18
  let c1_i32_20 : BitVec 32 := 1#32
  let v49 : BitVec 32 := Scalar.divsi v47 c1_i32_20
  let v50 : BitVec 32 := Scalar.muli v49 c1_i32_20
  let v51 : BitVec 32 := Scalar.addi c0_i32_18 v50
  let v48 : BitVec 32 := Scalar.addi c0_i32_18 v47
  let c1_i32_22 : BitVec 32 := 1#32
  ⟨v51, v48, c1_i32_22⟩
def k0_mult2 (i : grid0.Coords) (k0_t2 : Fin (k0_t2_loop i).trips) : BitVec 32 :=
  let arg2 : BitVec 32 := BitVec.ofNat 32 (i 2).val
  let c0_i32_18 : BitVec 32 := 0#32
  let c1_i32_17 : BitVec 32 := 1#32
  let v46 : BitVec 32 := Scalar.addi arg2 c1_i32_17
  let v47 : BitVec 32 := Scalar.subi v46 c0_i32_18
  let c1_i32_20 : BitVec 32 := 1#32
  let v49 : BitVec 32 := Scalar.divsi v47 c1_i32_20
  let v50 : BitVec 32 := Scalar.muli v49 c1_i32_20
  let v51 : BitVec 32 := Scalar.addi c0_i32_18 v50
  let c1_i32_22 : BitVec 32 := 1#32
  let arg10 : BitVec 32 := Scf.iv v51 c1_i32_22 k0_t2
  let v64 : BitVec 32 := Scalar.subi arg2 arg10
  let c256_i32 : BitVec 32 := 256#32
  let v65 : BitVec 32 := Scalar.muli v64 c256_i32
  v65
def k0_off3 (i : grid0.Coords) (k0_t2 : Fin (k0_t2_loop i).trips) : Fin 3 → Nat :=
  let c0_32 : Index := 0#32
  let arg2 : BitVec 32 := BitVec.ofNat 32 (i 2).val
  let c0_i32_18 : BitVec 32 := 0#32
  let c1_i32_17 : BitVec 32 := 1#32
  let v46 : BitVec 32 := Scalar.addi arg2 c1_i32_17
  let v47 : BitVec 32 := Scalar.subi v46 c0_i32_18
  let c1_i32_20 : BitVec 32 := 1#32
  let v49 : BitVec 32 := Scalar.divsi v47 c1_i32_20
  let v50 : BitVec 32 := Scalar.muli v49 c1_i32_20
  let v51 : BitVec 32 := Scalar.addi c0_i32_18 v50
  let c1_i32_22 : BitVec 32 := 1#32
  let arg10 : BitVec 32 := Scf.iv v51 c1_i32_22 k0_t2
  let v64 : BitVec 32 := Scalar.subi arg2 arg10
  let c256_i32 : BitVec 32 := 256#32
  let v65 : BitVec 32 := Scalar.muli v64 c256_i32
  let v66 : BitVec 32 := v65
  let v67 : Index := Scalar.indexCast v66
  let c0_33 : Index := 0#32
  ![0, v67.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x1024 : Shape := ⟨2, ![16384, 1024]⟩
abbrev S16 : Shape := ⟨1, ![16]⟩
abbrev S4x4096x16x64 : Shape := ⟨4, ![4, 4096, 16, 64]⟩
abbrev S4x16x4096x4096 : Shape := ⟨4, ![4, 16, 4096, 4096]⟩
abbrev S1x16x1x1 : Shape := ⟨4, ![1, 16, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x16x64x4096 : Shape := ⟨4, ![4, 16, 64, 4096]⟩
abbrev S4x4096x1024 : Shape := ⟨3, ![4, 4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16, .f32⟩
  | .hbm, ⟨4, _⟩ => ⟨S4x4096x16x64, .f32⟩
  | .hbm, ⟨5, _⟩ => ⟨S16384x1024, .f32⟩
  | .hbm, ⟨6, _⟩ => ⟨S4x4096x16x64, .f32⟩
  | .hbm, ⟨7, _⟩ => ⟨S16384x1024, .f32⟩
  | .hbm, ⟨8, _⟩ => ⟨S4x4096x16x64, .f32⟩
  | .hbm, ⟨9, _⟩ => ⟨S4x16x4096x4096, .f32⟩
  | .hbm, ⟨10, _⟩ => ⟨S1x16x1x1, .f32⟩
  | .hbm, ⟨11, _⟩ => ⟨S4x16x4096x4096, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x16x4096x4096, .f32⟩
  | .hbm, ⟨20, _⟩ => ⟨S4x16x4096x4096, .f32⟩
  | .hbm, ⟨21, _⟩ => ⟨S_, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S4x16x4096x4096, .f32⟩
  | .hbm, ⟨26, _⟩ => ⟨S4x16x4096x4096, .i1⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S_, .f32⟩
  | .hbm, ⟨37, _⟩ => ⟨S_, .f32⟩
  | .hbm, ⟨38, _⟩ => ⟨S4x16x4096x4096, .i1⟩
  | .hbm, ⟨39, _⟩ => ⟨S4x16x4096x4096, .f32⟩
  | .hbm, ⟨40, _⟩ => ⟨S4x16x4096x4096, .f32⟩
  | .hbm, ⟨41, _⟩ => ⟨S_, .f32⟩
  | .hbm, ⟨42, _⟩ => ⟨S_, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S_, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .i1⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S4x16x4096x4096, .f32⟩
  | .hbm, ⟨60, _⟩ => ⟨S4x16x4096x4096, .f32⟩
  | .hbm, ⟨61, _⟩ => ⟨S4x16x4096x4096, .f32⟩
  | .hbm, ⟨62, _⟩ => ⟨S_, .f32⟩
  | .hbm, ⟨63, _⟩ => ⟨S_, .f32⟩
  | .hbm, ⟨64, _⟩ => ⟨S4x16x4096x4096, .i1⟩
  | .hbm, ⟨65, _⟩ => ⟨S4x16x4096x4096, .f32⟩
  | .hbm, ⟨66, _⟩ => ⟨S4x16x4096x4096, .f32⟩
  | .hbm, ⟨67, _⟩ => ⟨S4x16x4096x4096, .f32⟩
  | .hbm, ⟨68, _⟩ => ⟨S4x16x64x4096, .f32⟩
  | .hbm, ⟨69, _⟩ => ⟨S4x4096x16x64, .f32⟩
  | .hbm, ⟨70, _⟩ => ⟨S4x4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== ConvIn.lean ====
abbrev S16384x1024 : Shape := ⟨2, ![16384, 1024]⟩
abbrev S1024 : Shape := ⟨1, ![1024]⟩
abbrev S24x1x1024 : Shape := ⟨3, ![24, 1, 1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S24x1x1024, .f32⟩
  | .hbm, ⟨3, _⟩ => ⟨S1024x2048, .f32⟩
  | .hbm, ⟨4, _⟩ => ⟨S2048, .f32⟩
  | .hbm, ⟨5, _⟩ => ⟨S1024x2048, .bf16⟩
  | .hbm, ⟨6, _⟩ => ⟨S1x1024, .f32⟩
  | .hbm, ⟨7, _⟩ => ⟨S1x2048, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvInRefIdeal.lean ====
abbrev S16384x1024 : Shape := ⟨2, ![16384, 1024]⟩
abbrev S1024 : Shape := ⟨1, ![1024]⟩
abbrev S24x1x1024 : Shape := ⟨3, ![24, 1, 1024]⟩
abbrev S1024x2048 : Shape := ⟨2, ![1024, 2048]⟩
abbrev S2048 : Shape := ⟨1, ![2048]⟩
abbrev S4x6x1024 : Shape := ⟨3, ![4, 6, 1024]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S1x1x2048 : Shape := ⟨3, ![1, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S24x1x1024, .f32⟩
  | .hbm, ⟨3, _⟩ => ⟨S1024x2048, .f32⟩
  | .hbm, ⟨4, _⟩ => ⟨S2048, .f32⟩
  | .hbm, ⟨5, _⟩ => ⟨S4x6x1024, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== QProj.lean ====
abbrev S16384x1024 : Shape := ⟨2, ![16384, 1024]⟩
abbrev S1024 : Shape := ⟨1, ![1024]⟩
abbrev S24x1x1024 : Shape := ⟨3, ![24, 1, 1024]⟩
abbrev S1024x1024 : Shape := ⟨2, ![1024, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S24x1x1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QProjRefIdeal.lean ====
abbrev S16384x1024 : Shape := ⟨2, ![16384, 1024]⟩
abbrev S1024 : Shape := ⟨1, ![1024]⟩
abbrev S24x1x1024 : Shape := ⟨3, ![24, 1, 1024]⟩
abbrev S1024x1024 : Shape := ⟨2, ![1024, 1024]⟩
abbrev S4x6x1024 : Shape := ⟨3, ![4, 6, 1024]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S24x1x1024, .f32⟩
  | .hbm, ⟨3, _⟩ => ⟨S1024x1024, .f32⟩
  | .hbm, ⟨4, _⟩ => ⟨S4x6x1024, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== KvProj.lean ====
abbrev S16384x1024 : Shape := ⟨2, ![16384, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvProjRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S24x1x1024 : Shape := ⟨3, ![24, 1, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S24x1x1024, .f32⟩
  | .hbm, ⟨4, _⟩ => ⟨S1024x1024, .bf16⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S16384x1024 : Shape := ⟨2, ![16384, 1024]⟩
abbrev S1024x1024 : Shape := ⟨2, ![1024, 1024]⟩
abbrev S24x1x1024 : Shape := ⟨3, ![24, 1, 1024]⟩
abbrev S4x6x1024 : Shape := ⟨3, ![4, 6, 1024]⟩
abbrev S4x1x1024 : Shape := ⟨3, ![4, 1, 1024]⟩
abbrev S4x4096x1024 : Shape := ⟨3, ![4, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S24x1x1024, .f32⟩
  | .hbm, ⟨4, _⟩ => ⟨S4x6x1024, .f32⟩
  | .hbm, ⟨5, _⟩ => ⟨S4x1x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ConvPrompt.lean ====
abbrev S16384x1024 : Shape := ⟨2, ![16384, 1024]⟩
abbrev S31x1024 : Shape := ⟨2, ![31, 1024]⟩
abbrev S1024 : Shape := ⟨1, ![1024]⟩
abbrev S1024x1024 : Shape := ⟨2, ![1024, 1024]⟩
abbrev S24x1x1024 : Shape := ⟨3, ![24, 1, 1024]⟩
abbrev S_ : Shape := ⟨0, ![]⟩
abbrev S32x1024 : Shape := ⟨2, ![32, 1024]⟩
abbrev S1x1024 : Shape := ⟨2, ![1, 1024]⟩
abbrev S4x4096x1024 : Shape := ⟨3, ![4, 4096, 1024]⟩
abbrev S1x256x1024 : Shape := ⟨3, ![1, 256, 1024]⟩
abbrev S1x32x1024 : Shape := ⟨3, ![1, 32, 1024]⟩
abbrev S256x1024 : Shape := ⟨2, ![256, 1024]⟩
abbrev S1x1x1024 : Shape := ⟨3, ![1, 1, 1024]⟩
abbrev S288x1024 : Shape := ⟨2, ![288, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S24x1x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S4x4096x1024, .f32⟩
  | .hbm, ⟨18, _⟩ => ⟨S16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S288x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvPromptRefIdeal.lean ====
abbrev S16384x1024 : Shape := ⟨2, ![16384, 1024]⟩
abbrev S31x1024 : Shape := ⟨2, ![31, 1024]⟩
abbrev S1024 : Shape := ⟨1, ![1024]⟩
abbrev S1024x1024 : Shape := ⟨2, ![1024, 1024]⟩
abbrev S24x1x1024 : Shape := ⟨3, ![24, 1, 1024]⟩
abbrev S4x6x1024 : Shape := ⟨3, ![4, 6, 1024]⟩
abbrev S4x1x1024 : Shape := ⟨3, ![4, 1, 1024]⟩
abbrev S4x4096x1024 : Shape := ⟨3, ![4, 4096, 1024]⟩
abbrev S_ : Shape := ⟨0, ![]⟩
abbrev S4x30x1024 : Shape := ⟨3, ![4, 30, 1024]⟩
abbrev S4x4126x1024 : Shape := ⟨3, ![4, 4126, 1024]⟩
abbrev S1x1024 : Shape := ⟨2, ![1, 1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 282
  | .vmem => 0
  | .smem => 0
  | _ => 0

abbrev hbmTy0_0 (i : Nat) : BufTy := match i % 128 with
  | 0 => ⟨S16384x1024, .f32⟩
  | 1 => ⟨S16384x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S24x1x1024, .f32⟩
  | 9 => ⟨S4x6x1024, .f32⟩
  | 10 => ⟨S4x1x1024, .f32⟩
  | 11 => ⟨S4x4096x1024, .f32⟩
  | 12 => ⟨S_, .f32⟩
  | 13 => ⟨S4x30x1024, .f32⟩
  | 14 => ⟨S4x4126x1024, .f32⟩
  | 15 => ⟨S4x4096x1024, .f32⟩
  | 16 => ⟨S1x1024, .f32⟩
  | 17 => ⟨S1024, .f32⟩
  | 18 => ⟨S1x1x1024, .f32⟩
  | 19 => ⟨S4x4096x1024, .f32⟩
  | 20 => ⟨S4x4096x1024, .f32⟩
  | 21 => ⟨S_, .f32⟩
  | 22 => ⟨S4x4096x1024, .f32⟩
  | 23 => ⟨S4x4096x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S1x1024, .f32⟩
  | 117 => ⟨S1024, .f32⟩
  | 118 => ⟨S1x1x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S1x1024, .f32⟩
  | 124 => ⟨S1024, .f32⟩
  | 125 => ⟨S1x1x1024, .f32⟩
  | 126 => ⟨S4x4096x1024, .f32⟩
  | 127 => ⟨S4x4096x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S1x1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S1x1024, .f32⟩
  | 10 => ⟨S1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S1x1024, .f32⟩
  | 17 => ⟨S1024, .f32⟩
  | 18 => ⟨S1x1x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x1024, .f32⟩
  | 45 => ⟨S1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1024, .f32⟩
  | 59 => ⟨S1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S1x1024, .f32⟩
  | 101 => ⟨S1024, .f32⟩
  | 102 => ⟨S1x1x1024, .f32⟩
  | 103 => ⟨S4x4096x1024, .f32⟩
  | 104 => ⟨S4x4096x1024, .f32⟩
  | 105 => ⟨S4x4096x1024, .f32⟩
  | 106 => ⟨S1x1x1024, .f32⟩
  | 107 => ⟨S4x4096x1024, .f32⟩
  | 108 => ⟨S4x4096x1024, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x1024, .f32⟩
  | 116 => ⟨S4x4096x1024, .f32⟩
  | 117 => ⟨S4x4096x1024, .f32⟩
  | 118 => ⟨S_, .f32⟩
  | 119 => ⟨S4x4096, .f32⟩
  | 120 => ⟨S4x4096x1, .f32⟩
  | 121 => ⟨S_, .f32⟩
  | 122 => ⟨S4x4096x1, .f32⟩
  | 123 => ⟨S4x4096x1, .f32⟩
  | 124 => ⟨S_, .f32⟩
  | 125 => ⟨S4x4096x1, .f32⟩
  | 126 => ⟨S4x4096x1, .f32⟩
  | 127 => ⟨S4x4096x1, .f32⟩
  | _ => ⟨S16384x1024, .f32⟩

abbrev hbmTy0_2 (i : Nat) : BufTy := match i % 128 with
  | 0 => ⟨S4x4096x1024, .f32⟩
  | 1 => ⟨S4x4096x1024, .f32⟩
  | 2 => ⟨S1x1x1024, .f32⟩
  | 3 => ⟨S4x4096x1024, .f32⟩
  | 4 => ⟨S4x4096x1024, .f32⟩
  | 5 => ⟨S1x1x1024, .f32⟩
  | 6 => ⟨S4x4096x1024, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_cst_1 : Ref sig .tc := ⟨.hbm, 237, rfl⟩
abbrev main_v226 : Ref sig .tc := ⟨.hbm, 238, rfl⟩
abbrev main_v227 : Ref sig .tc := ⟨.hbm, 239, rfl⟩
abbrev main_cst_2 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_cst_3 : Ref sig .tc := ⟨.hbm, 246, rfl⟩
abbrev main_v233 : Ref sig .tc := ⟨.hbm, 247, rfl⟩
abbrev main_v234 : Ref sig .tc := ⟨.hbm, 248, rfl⟩
abbrev main_cst_4 : Ref sig .tc := ⟨.hbm, 249, rfl⟩
abbrev main_v235 : Ref sig .tc := ⟨.hbm, 250, rfl⟩
abbrev main_v236 : Ref sig .tc := ⟨.hbm, 251, rfl⟩
abbrev main_cst_5 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_call0_v0 : Ref sig .tc := ⟨.hbm, 264, rfl⟩
abbrev main_call0_v1 : Ref sig .tc := ⟨.hbm, 265, rfl⟩
abbrev main_call0_cst : Ref sig .tc := ⟨.hbm, 266, rfl⟩
abbrev main_call0_v2 : Ref sig .tc := ⟨.hbm, 267, rfl⟩
abbrev main_call0_v3 : Ref sig .tc := ⟨.hbm, 268, rfl⟩
abbrev main_call0_cst_0 : Ref sig .tc := ⟨.hbm, 269, rfl⟩
abbrev main_call0_v4 : Ref sig .tc := ⟨.hbm, 270, rfl⟩
abbrev main_call0_v5 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩

abbrev nD : Nat := 1
abbrev τ : Topo := Topo.v7x

variable {F : FTy → Type} [FloatOps F]
-- ==== PeerDense.lean ====
abbrev S16384x1024 : Shape := ⟨2, ![16384, 1024]⟩
abbrev S8x128x16384 : Shape := ⟨3, ![8, 128, 16384]⟩
abbrev S24x1x1024 : Shape := ⟨3, ![24, 1, 1024]⟩
abbrev S1024x16384 : Shape := ⟨2, ![1024, 16384]⟩
abbrev S512x1024 : Shape := ⟨2, ![512, 1024]⟩
abbrev S1024x1024 : Shape := ⟨2, ![1024, 1024]⟩
abbrev S8x8x512 : Shape := ⟨3, ![8, 8, 512]⟩
abbrev S8x128x512 : Shape := ⟨3, ![8, 128, 512]⟩
abbrev S1x1x1024 : Shape := ⟨3, ![1, 1, 1024]⟩
abbrev S1024x512 : Shape := ⟨2, ![1024, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S1x1024 : Shape := ⟨2, ![1, 1024]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S24x1x1024, .f32⟩
  | .hbm, ⟨9, _⟩ => ⟨S16384x1024, .bf16⟩
  | .hbm, ⟨10, _⟩ => ⟨S1024x16384, .f32⟩
  | .hbm, ⟨11, _⟩ => ⟨S1024x16384, .bf16⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x8x512, .f32⟩
  | .local _ .vmem, ⟨7, _⟩ => ⟨S8x8x512, .f32⟩
  | .local _ .vmem, ⟨8, _⟩ => ⟨S8x8x512, .f32⟩
  | .local _ .vmem, ⟨9, _⟩ => ⟨S8x8x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S1024x512, .f32⟩
  | .local _ .vmem, ⟨21, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v1136 : BitVec 1 := Scalar.cmpi .eq arg1 c15_i32
  let v1137 : BitVec 32 := Scalar.extui v1136
  let c0_i32_887 : BitVec 32 := 0#32
  let v1138 : BitVec 1 := Scalar.cmpi .ne v1137 c0_i32_887
  v1138

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PeerDenseRefIdeal.lean ====
abbrev S16384x1024 : Shape := ⟨2, ![16384, 1024]⟩
abbrev S8x128x16384 : Shape := ⟨3, ![8, 128, 16384]⟩
abbrev S24x1x1024 : Shape := ⟨3, ![24, 1, 1024]⟩
abbrev S4x6x1024 : Shape := ⟨3, ![4, 6, 1024]⟩
abbrev S4x1x1024 : Shape := ⟨3, ![4, 1, 1024]⟩
abbrev S1024x16384 : Shape := ⟨2, ![1024, 16384]⟩
abbrev S16384x16384 : Shape := ⟨2, ![16384, 16384]⟩
abbrev S_ : Shape := ⟨0, ![]⟩
abbrev S8x128x1x16384 : Shape := ⟨4, ![8, 128, 1, 16384]⟩
abbrev S8x1x128x16384 : Shape := ⟨4, ![8, 1, 128, 16384]⟩
abbrev S8x128x128x16384 : Shape := ⟨4, ![8, 128, 128, 16384]⟩
abbrev S128x128x16384 : Shape := ⟨3, ![128, 128, 16384]⟩
abbrev S4x4096x1024 : Shape := ⟨3, ![4, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x1024, .f32⟩
  | .hbm, ⟨8, _⟩ => ⟨S24x1x1024, .f32⟩
  | .hbm, ⟨9, _⟩ => ⟨S4x6x1024, .f32⟩
  | .hbm, ⟨10, _⟩ => ⟨S4x1x1024, .f32⟩
  | .hbm, ⟨11, _⟩ => ⟨S16384x1024, .f32⟩
  | .hbm, ⟨12, _⟩ => ⟨S1024x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S_, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S8x128x1x16384, .f32⟩
  | .hbm, ⟨32, _⟩ => ⟨S8x1x128x16384, .f32⟩
  | .hbm, ⟨33, _⟩ => ⟨S8x128x128x16384, .f32⟩
  | .hbm, ⟨34, _⟩ => ⟨S8x128x128x16384, .f32⟩
  | .hbm, ⟨35, _⟩ => ⟨S8x128x128x16384, .i1⟩
  | .hbm, ⟨36, _⟩ => ⟨S8x128x1x16384, .f32⟩
  | .hbm, ⟨37, _⟩ => ⟨S8x1x128x16384, .f32⟩
  | .hbm, ⟨38, _⟩ => ⟨S8x128x128x16384, .f32⟩
  | .hbm, ⟨39, _⟩ => ⟨S8x128x128x16384, .f32⟩
  | .hbm, ⟨40, _⟩ => ⟨S8x128x128x16384, .f32⟩
  | .hbm, ⟨41, _⟩ => ⟨S_, .f32⟩
  | .hbm, ⟨42, _⟩ => ⟨S_, .f32⟩
  | .hbm, ⟨43, _⟩ => ⟨S8x128x128x16384, .f32⟩
  | .hbm, ⟨44, _⟩ => ⟨S8x128x128x16384, .f32⟩
  | .hbm, ⟨45, _⟩ => ⟨S_, .f32⟩
  | .hbm, ⟨46, _⟩ => ⟨S128x128x16384, .f32⟩
  | .hbm, ⟨47, _⟩ => ⟨S16384x16384, .f32⟩
  | .hbm, ⟨48, _⟩ => ⟨S16384x16384, .f32⟩
  | .hbm, ⟨49, _⟩ => ⟨S16384x16384, .f32⟩
  | .hbm, ⟨50, _⟩ => ⟨S16384x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== PeerSelect.lean ====
abbrev S16384x1024 : Shape := ⟨2, ![16384, 1024]⟩
abbrev S1024 : Shape := ⟨1, ![1024]⟩
abbrev S24x1x1024 : Shape := ⟨3, ![24, 1, 1024]⟩
abbrev S1024x2048 : Shape := ⟨2, ![1024, 2048]⟩
abbrev S8x2x128x128 : Shape := ⟨4, ![8, 2, 128, 128]⟩
abbrev S16x128x128 : Shape := ⟨3, ![16, 128, 128]⟩
abbrev S2048x1024 : Shape := ⟨2, ![2048, 1024]⟩
abbrev S1x1024 : Shape := ⟨2, ![1, 1024]⟩
abbrev S8x128x16384 : Shape := ⟨3, ![8, 128, 16384]⟩
abbrev S256x1024 : Shape := ⟨2, ![256, 1024]⟩
abbrev S1x1x1024 : Shape := ⟨3, ![1, 1, 1024]⟩
abbrev S8x128x256 : Shape := ⟨3, ![8, 128, 256]⟩
abbrev S16x128x256 : Shape := ⟨3, ![16, 128, 256]⟩
abbrev S16x128 : Shape := ⟨2, ![16, 128]⟩
abbrev S256 : Shape := ⟨1, ![256]⟩
abbrev S256x1 : Shape := ⟨2, ![256, 1]⟩
abbrev S2048x256 : Shape := ⟨2, ![2048, 256]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩
abbrev S128 : Shape := ⟨1, ![128]⟩
abbrev S1x128 : Shape := ⟨2, ![1, 128]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S24x1x1024, .f32⟩
  | .hbm, ⟨3, _⟩ => ⟨S1024x2048, .f32⟩
  | .hbm, ⟨4, _⟩ => ⟨S8x2x128x128, .f32⟩
  | .hbm, ⟨5, _⟩ => ⟨S16x128x128, .f32⟩
  | .hbm, ⟨6, _⟩ => ⟨S16x128x128, .bf16⟩
  | .hbm, ⟨7, _⟩ => ⟨S2048x1024, .f32⟩
  | .hbm, ⟨8, _⟩ => ⟨S2048x1024, .bf16⟩
  | .hbm, ⟨9, _⟩ => ⟨S1x1024, .f32⟩
  | .hbm, ⟨10, _⟩ => ⟨S16384x1024, .bf16⟩
  | .hbm, ⟨11, _⟩ => ⟨S8x128x16384, .f32⟩
  | .hbm, ⟨12, _⟩ => ⟨S8x128x16384, .f32⟩
  | .hbm, ⟨13, _⟩ => ⟨S8x128x16384, .f32⟩
  | .hbm, ⟨14, _⟩ => ⟨S8x128x16384, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2048x1024, .bf16⟩
  | .local _ .vmem, ⟨8, _⟩ => ⟨S16x128x128, .bf16⟩
  | .local _ .vmem, ⟨9, _⟩ => ⟨S256x1024, .bf16⟩
  | .local _ .vmem, ⟨10, _⟩ => ⟨S256x1024, .bf16⟩
  | .local _ .vmem, ⟨11, _⟩ => ⟨S8x128x256, .f32⟩
  | .local _ .vmem, ⟨12, _⟩ => ⟨S8x128x256, .f32⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x128x256, .f32⟩
  | .local _ .vmem, ⟨18, _⟩ => ⟨S8x128x256, .f32⟩
  | .local _ .vmem, ⟨19, _⟩ => ⟨S16x128x256, .f32⟩
  | .local _ .vmem, ⟨20, _⟩ => ⟨S16x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v143 : BitVec 32 := Scalar.addi c0_i32 c8_i32
  let c1_i32 : BitVec 32 := 1#32
  ⟨c0_i32, v143, c1_i32⟩
def k0_off1 (k0_t1 : Fin k0_t1_loop.trips) : Fin 3 → Nat :=
  let c2_i32 : BitVec 32 := 2#32
  let c0_i32 : BitVec 32 := 0#32
  let c1_i32 : BitVec 32 := 1#32
  let arg14 : BitVec 32 := Scf.iv c0_i32 c1_i32 k0_t1
  let v144 : BitVec 32 := Scalar.muli c2_i32 arg14
  let v145 : Index := Scalar.indexCast v144
  let c0_115 : Index := 0#32
  let c0_116 : Index := 0#32
  ![v145.toNat, 0, 0]
def k0_off2 (k0_t1 : Fin k0_t1_loop.trips) : Fin 3 → Nat :=
  let c2_i32_117 : BitVec 32 := 2#32
  let c0_i32 : BitVec 32 := 0#32
  let c1_i32 : BitVec 32 := 1#32
  let arg14 : BitVec 32 := Scf.iv c0_i32 c1_i32 k0_t1
  let v148 : BitVec 32 := Scalar.muli c2_i32_117 arg14
  let c1_i32_118 : BitVec 32 := 1#32
  let v149 : BitVec 32 := Scalar.addi v148 c1_i32_118
  let v150 : Index := Scalar.indexCast v149
  let c0_119 : Index := 0#32
  let c0_120 : Index := 0#32
  ![v150.toNat, 0, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v1983 : Index := Scalar.indexCast arg14
  let c0_556 : Index := 0#32
  let c0_557 : Index := 0#32
  ![v1983.toNat, 0, 0]
def k0_off4 (k0_t1 : Fin k0_t1_loop.trips) : Fin 3 → Nat :=
  let c2_i32_564 : BitVec 32 := 2#32
  let c0_i32 : BitVec 32 := 0#32
  let c1_i32 : BitVec 32 := 1#32
  let arg14 : BitVec 32 := Scf.iv c0_i32 c1_i32 k0_t1
  let v1999 : BitVec 32 := Scalar.muli c2_i32_564 arg14
  let v2000 : Index := Scalar.indexCast v1999
  let c0_565 : Index := 0#32
  let c128 : Index := 128#32
  ![v2000.toNat, 0, 128]
def k0_off5 (k0_t1 : Fin k0_t1_loop.trips) : Fin 3 → Nat :=
  let c2_i32_566 : BitVec 32 := 2#32
  let c0_i32 : BitVec 32 := 0#32
  let c1_i32 : BitVec 32 := 1#32
  let arg14 : BitVec 32 := Scf.iv c0_i32 c1_i32 k0_t1
  let v2003 : BitVec 32 := Scalar.muli c2_i32_566 arg14
  let c1_i32_567 : BitVec 32 := 1#32
  let v2004 : BitVec 32 := Scalar.addi v2003 c1_i32_567
  let v2005 : Index := Scalar.indexCast v2004
  let c0_568 : Index := 0#32
  let c128_569 : Index := 128#32
  ![v2005.toNat, 0, 128]
def k0_off6 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3838 : Index := Scalar.indexCast arg14
  let c0_1005 : Index := 0#32
  let c128_1006 : Index := 128#32
  ![v3838.toNat, 0, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PeerSelectRefIdeal.lean ====
abbrev S16384x1024 : Shape := ⟨2, ![16384, 1024]⟩
abbrev S1024 : Shape := ⟨1, ![1024]⟩
abbrev S24x1x1024 : Shape := ⟨3, ![24, 1, 1024]⟩
abbrev S1024x2048 : Shape := ⟨2, ![1024, 2048]⟩
abbrev S8x2x128x128 : Shape := ⟨4, ![8, 2, 128, 128]⟩
abbrev S4x6x1024 : Shape := ⟨3, ![4, 6, 1024]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S8x1x128x16384 : Shape := ⟨4, ![8, 1, 128, 16384]⟩
abbrev S8x128x16384 : Shape := ⟨3, ![8, 128, 16384]⟩
abbrev S8x16384 : Shape := ⟨2, ![8, 16384]⟩
abbrev S8x1x16384 : Shape := ⟨3, ![8, 1, 16384]⟩

abbrev nBuf : Space → Nat
  | .hbm => 243
  | .vmem => 0
  | .smem => 0
  | _ => 0

abbrev hbmTy0_0 (i : Nat) : BufTy := match i % 128 with
  | 0 => ⟨S16384x1024, .f32⟩
  | 1 => ⟨S1024, .f32⟩
  | 2 => ⟨S24x1x1024, .f32⟩
  | 3 => ⟨S1024x2048, .f32⟩
  | 4 => ⟨S8x2x128x128, .f32⟩
  | 5 => ⟨S4x6x1024, .f32⟩
  | 6 => ⟨S4x1x1024, .f32⟩
  | 7 => ⟨S4x1x1024, .f32⟩
  | 8 => ⟨S4x4096x1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S16384x1024, .f32⟩
  | 33 => ⟨S16384x2048, .f32⟩
  | 34 => ⟨S16384x8x2x128, .f32⟩
  | 35 => ⟨S8x2x128x16384, .f32⟩
  | 36 => ⟨S8x1x128x16384, .f32⟩
  | 37 => ⟨S8x128x16384, .f32⟩
  | 38 => ⟨S_, .f32⟩
  | 39 => ⟨S8x128x16384, .f32⟩
  | 40 => ⟨S_, .f32⟩
  | 41 => ⟨S8x16384, .f32⟩
  | 42 => ⟨S8x1x16384, .f32⟩
  | 43 => ⟨S8x128x16384, .f32⟩
  | 44 => ⟨S8x128x16384, .i1⟩
  | 45 => ⟨S_, .f32⟩
  | 46 => ⟨S8x128x16384, .f32⟩
  | 47 => ⟨S8x128x16384, .f32⟩
  | 48 => ⟨S_, .f32⟩
  | 49 => ⟨S_, .f32⟩
  | 50 => ⟨S8x128x16384, .f32⟩
  | 51 => ⟨S8x128x16384, .f32⟩
  | 52 => ⟨S_, .f32⟩
  | 53 => ⟨S8x16384, .f32⟩
  | 54 => ⟨S8x1x16384, .f32⟩
  | 55 => ⟨S8x128x16384, .f32⟩
  | 56 => ⟨S8x128x16384, .i1⟩
  | 57 => ⟨S_, .f32⟩
  | 58 => ⟨S8x128x16384, .f32⟩
  | 59 => ⟨S8x128x16384, .f32⟩
  | 60 => ⟨S_, .f32⟩
  | 61 => ⟨S_, .f32⟩
  | 62 => ⟨S8x128x16384, .f32⟩
  | 63 => ⟨S8x128x16384, .f32⟩
  | 64 => ⟨S_, .f32⟩
  | 65 => ⟨S8x16384, .f32⟩
  | 66 => ⟨S8x1x16384, .f32⟩
  | 67 => ⟨S8x128x16384, .f32⟩
  | 68 => ⟨S8x128x16384, .i1⟩
  | 69 => ⟨S_, .f32⟩
  | 70 => ⟨S8x128x16384, .f32⟩
  | 71 => ⟨S8x128x16384, .f32⟩
  | 72 => ⟨S_, .f32⟩
  | 73 => ⟨S_, .f32⟩
  | 74 => ⟨S8x128x16384, .f32⟩
  | 75 => ⟨S8x128x16384, .f32⟩
  | 76 => ⟨S_, .f32⟩
  | 77 => ⟨S8x16384, .f32⟩
  | 78 => ⟨S8x1x16384, .f32⟩
  | 79 => ⟨S8x128x16384, .f32⟩
  | 80 => ⟨S8x128x16384, .i1⟩
  | 81 => ⟨S_, .f32⟩
  | 82 => ⟨S8x128x16384, .f32⟩
  | 83 => ⟨S8x128x16384, .f32⟩
  | 84 => ⟨S_, .f32⟩
  | 85 => ⟨S_, .f32⟩
  | 86 => ⟨S8x128x16384, .f32⟩
  | 87 => ⟨S8x128x16384, .f32⟩
  | 88 => ⟨S_, .f32⟩
  | 89 => ⟨S8x16384, .f32⟩
  | 90 => ⟨S8x1x16384, .f32⟩
  | 91 => ⟨S8x128x16384, .f32⟩
  | 92 => ⟨S8x128x16384, .i1⟩
  | 93 => ⟨S_, .f32⟩
  | 94 => ⟨S8x128x16384, .f32⟩
  | 95 => ⟨S8x128x16384, .f32⟩
  | 96 => ⟨S_, .f32⟩
  | 97 => ⟨S_, .f32⟩
  | 98 => ⟨S8x128x16384, .f32⟩
  | 99 => ⟨S8x128x16384, .f32⟩
  | 100 => ⟨S_, .f32⟩
  | 101 => ⟨S8x16384, .f32⟩
  | 102 => ⟨S8x1x16384, .f32⟩
  | 103 => ⟨S8x128x16384, .f32⟩
  | 104 => ⟨S8x128x16384, .i1⟩
  | 105 => ⟨S_, .f32⟩
  | 106 => ⟨S8x128x16384, .f32⟩
  | 107 => ⟨S8x128x16384, .f32⟩
  | 108 => ⟨S_, .f32⟩
  | 109 => ⟨S_, .f32⟩
  | 110 => ⟨S8x128x16384, .f32⟩
  | 111 => ⟨S8x128x16384, .f32⟩
  | 112 => ⟨S_, .f32⟩
  | 113 => ⟨S8x16384, .f32⟩
  | 114 => ⟨S8x1x16384, .f32⟩
  | 115 => ⟨S8x128x16384, .f32⟩
  | 116 => ⟨S8x128x16384, .i1⟩
  | 117 => ⟨S_, .f32⟩
  | 118 => ⟨S8x128x16384, .f32⟩
  | 119 => ⟨S8x128x16384, .f32⟩
  | 120 => ⟨S_, .f32⟩
  | 121 => ⟨S_, .f32⟩
  | 122 => ⟨S8x128x16384, .f32⟩
  | 123 => ⟨S8x128x16384, .f32⟩
  | 124 => ⟨S_, .f32⟩
  | 125 => ⟨S8x16384, .f32⟩
  | 126 => ⟨S8x1x16384, .f32⟩
  | 127 => ⟨S8x128x16384, .f32⟩
  | _ => ⟨S16384x1024, .f32⟩

abbrev hbmTy0_1 (i : Nat) : BufTy := match i % 128 with
  | 0 => ⟨S8x128x16384, .i1⟩
  | 1 => ⟨S_, .f32⟩
  | 2 => ⟨S8x128x16384, .f32⟩
  | 3 => ⟨S8x128x16384, .f32⟩
  | 4 => ⟨S_, .f32⟩
  | 5 => ⟨S_, .f32⟩
  | 6 => ⟨S8x128x16384, .f32⟩
  | 7 => ⟨S8x128x16384, .f32⟩
  | 8 => ⟨S_, .f32⟩
  | 9 => ⟨S8x16384, .f32⟩
  | 10 => ⟨S8x1x16384, .f32⟩
  | 11 => ⟨S8x128x16384, .f32⟩
  | 12 => ⟨S8x128x16384, .i1⟩
  | 13 => ⟨S_, .f32⟩
  | 14 => ⟨S8x128x16384, .f32⟩
  | 15 => ⟨S8x128x16384, .f32⟩
  | 16 => ⟨S_, .f32⟩
  | 17 => ⟨S_, .f32⟩
  | 18 => ⟨S8x128x16384, .f32⟩
  | 19 => ⟨S8x128x16384, .f32⟩
  | 20 => ⟨S_, .f32⟩
  | 21 => ⟨S8x16384, .f32⟩
  | 22 => ⟨S8x1x16384, .f32⟩
  | 23 => ⟨S8x128x16384, .f32⟩
  | 24 => ⟨S8x128x16384, .i1⟩
  | 25 => ⟨S_, .f32⟩
  | 26 => ⟨S8x128x16384, .f32⟩
  | 27 => ⟨S8x128x16384, .f32⟩
  | 28 => ⟨S_, .f32⟩
  | 29 => ⟨S_, .f32⟩
  | 30 => ⟨S8x128x16384, .f32⟩
  | 31 => ⟨S8x128x16384, .f32⟩
  | 32 => ⟨S_, .f32⟩
  | 33 => ⟨S8x16384, .f32⟩
  | 34 => ⟨S8x1x16384, .f32⟩
  | 35 => ⟨S8x128x16384, .f32⟩
  | 36 => ⟨S8x128x16384, .i1⟩
  | 37 => ⟨S_, .f32⟩
  | 38 => ⟨S8x128x16384, .f32⟩
  | 39 => ⟨S8x128x16384, .f32⟩
  | 40 => ⟨S_, .f32⟩
  | 41 => ⟨S_, .f32⟩
  | 42 => ⟨S8x128x16384, .f32⟩
  | 43 => ⟨S8x128x16384, .f32⟩
  | 44 => ⟨S_, .f32⟩
  | 45 => ⟨S8x16384, .f32⟩
  | 46 => ⟨S8x1x16384, .f32⟩
  | 47 => ⟨S8x128x16384, .f32⟩
  | 48 => ⟨S8x128x16384, .i1⟩
  | 49 => ⟨S_, .f32⟩
  | 50 => ⟨S8x128x16384, .f32⟩
  | 51 => ⟨S8x128x16384, .f32⟩
  | 52 => ⟨S_, .f32⟩
  | 53 => ⟨S_, .f32⟩
  | 54 => ⟨S8x128x16384, .f32⟩
  | 55 => ⟨S8x128x16384, .f32⟩
  | 56 => ⟨S_, .f32⟩
  | 57 => ⟨S8x16384, .f32⟩
  | 58 => ⟨S8x1x16384, .f32⟩
  | 59 => ⟨S8x128x16384, .f32⟩
  | 60 => ⟨S8x128x16384, .i1⟩
  | 61 => ⟨S_, .f32⟩
  | 62 => ⟨S8x128x16384, .f32⟩
  | 63 => ⟨S8x128x16384, .f32⟩
  | 64 => ⟨S_, .f32⟩
  | 65 => ⟨S_, .f32⟩
  | 66 => ⟨S8x128x16384, .f32⟩
  | 67 => ⟨S8x128x16384, .f32⟩
  | 68 => ⟨S_, .f32⟩
  | 69 => ⟨S8x16384, .f32⟩
  | 70 => ⟨S8x1x16384, .f32⟩
  | 71 => ⟨S8x128x16384, .f32⟩
  | 72 => ⟨S8x128x16384, .i1⟩
  | 73 => ⟨S_, .f32⟩
  | 74 => ⟨S8x128x16384, .f32⟩
  | 75 => ⟨S8x128x16384, .f32⟩
  | 76 => ⟨S_, .f32⟩
  | 77 => ⟨S_, .f32⟩
  | 78 => ⟨S8x128x16384, .f32⟩
  | 79 => ⟨S8x128x16384, .f32⟩
  | 80 => ⟨S_, .f32⟩
  | 81 => ⟨S8x16384, .f32⟩
  | 82 => ⟨S8x1x16384, .f32⟩
  | 83 => ⟨S8x128x16384, .f32⟩
  | 84 => ⟨S8x128x16384, .i1⟩
  | 85 => ⟨S_, .f32⟩
  | 86 => ⟨S8x128x16384, .f32⟩
  | 87 => ⟨S8x128x16384, .f32⟩
  | 88 => ⟨S_, .f32⟩
  | 89 => ⟨S_, .f32⟩
  | 90 => ⟨S8x128x16384, .f32⟩
  | 91 => ⟨S8x128x16384, .f32⟩
  | 92 => ⟨S_, .f32⟩
  | 93 => ⟨S8x16384, .f32⟩
  | 94 => ⟨S8x1x16384, .f32⟩
  | 95 => ⟨S8x128x16384, .f32⟩
  | 96 => ⟨S8x128x16384, .i1⟩
  | 97 => ⟨S_, .f32⟩
  | 98 => ⟨S8x128x16384, .f32⟩
  | 99 => ⟨S8x128x16384, .f32⟩
  | 100 => ⟨S_, .f32⟩
  | 101 => ⟨S_, .f32⟩
  | 102 => ⟨S8x128x16384, .f32⟩
  | 103 => ⟨S8x128x16384, .f32⟩
  | 104 => ⟨S8x1x128x16384, .f32⟩
  | 105 => ⟨S8x128x16384, .f32⟩
  | 106 => ⟨S8x1x128x16384, .f32⟩
  | 107 => ⟨S8x128x16384, .f32⟩
  | 108 => ⟨S_, .f32⟩
  | 109 => ⟨S8x16384, .f32⟩
  | 110 => ⟨S8x1x16384, .f32⟩
  | 111 => ⟨S8x128x16384, .f32⟩
  | 112 => ⟨S8x128x16384, .f32⟩
  | 113 => ⟨S8x128x16384, .f32⟩
  | 114 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_call0_v0 : Ref sig .tc := ⟨.hbm, 46, rfl⟩
abbrev main_v34 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_call2_v0 : Ref sig .tc := ⟨.hbm, 58, rfl⟩
abbrev main_v40 : Ref sig .tc := ⟨.hbm, 59, rfl⟩
abbrev main_cst_9 : Ref sig .tc := ⟨.hbm, 60, rfl⟩
abbrev main_call3_v0 : Ref sig .tc := ⟨.hbm, 61, rfl⟩
abbrev main_call3_v1 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_call4_v0 : Ref sig .tc := ⟨.hbm, 70, rfl⟩
abbrev main_v46 : Ref sig .tc := ⟨.hbm, 71, rfl⟩
abbrev main_cst_12 : Ref sig .tc := ⟨.hbm, 72, rfl⟩
abbrev main_call5_v0 : Ref sig .tc := ⟨.hbm, 73, rfl⟩
abbrev main_call5_v1 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_call6_v0 : Ref sig .tc := ⟨.hbm, 82, rfl⟩
abbrev main_v52 : Ref sig .tc := ⟨.hbm, 83, rfl⟩
abbrev main_cst_15 : Ref sig .tc := ⟨.hbm, 84, rfl⟩
abbrev main_call7_v0 : Ref sig .tc := ⟨.hbm, 85, rfl⟩
abbrev main_call7_v1 : Ref sig .tc := ⟨.hbm, 86, rfl⟩
abbrev main_v53 : Ref sig .tc := ⟨.hbm, 87, rfl⟩
abbrev main_cst_16 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_17 : Ref sig .tc := ⟨.hbm, 93, rfl⟩
abbrev main_call8_v0 : Ref sig .tc := ⟨.hbm, 94, rfl⟩
abbrev main_v58 : Ref sig .tc := ⟨.hbm, 95, rfl⟩
abbrev main_cst_18 : Ref sig .tc := ⟨.hbm, 96, rfl⟩
abbrev main_call9_v0 : Ref sig .tc := ⟨.hbm, 97, rfl⟩
abbrev main_call9_v1 : Ref sig .tc := ⟨.hbm, 98, rfl⟩
abbrev main_v59 : Ref sig .tc := ⟨.hbm, 99, rfl⟩
abbrev main_cst_19 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_20 : Ref sig .tc := ⟨.hbm, 105, rfl⟩
abbrev main_call10_v0 : Ref sig .tc := ⟨.hbm, 106, rfl⟩
abbrev main_v64 : Ref sig .tc := ⟨.hbm, 107, rfl⟩
abbrev main_cst_21 : Ref sig .tc := ⟨.hbm, 108, rfl⟩
abbrev main_call11_v0 : Ref sig .tc := ⟨.hbm, 109, rfl⟩
abbrev main_call11_v1 : Ref sig .tc := ⟨.hbm, 110, rfl⟩
abbrev main_v65 : Ref sig .tc := ⟨.hbm, 111, rfl⟩
abbrev main_cst_22 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_23 : Ref sig .tc := ⟨.hbm, 117, rfl⟩
abbrev main_call12_v0 : Ref sig .tc := ⟨.hbm, 118, rfl⟩
abbrev main_v70 : Ref sig .tc := ⟨.hbm, 119, rfl⟩
abbrev main_cst_24 : Ref sig .tc := ⟨.hbm, 120, rfl⟩
abbrev main_call13_v0 : Ref sig .tc := ⟨.hbm, 121, rfl⟩
abbrev main_call13_v1 : Ref sig .tc := ⟨.hbm, 122, rfl⟩
abbrev main_v71 : Ref sig .tc := ⟨.hbm, 123, rfl⟩
abbrev main_cst_25 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_26 : Ref sig .tc := ⟨.hbm, 129, rfl⟩
abbrev main_call14_v0 : Ref sig .tc := ⟨.hbm, 130, rfl⟩
abbrev main_v76 : Ref sig .tc := ⟨.hbm, 131, rfl⟩
abbrev main_cst_27 : Ref sig .tc := ⟨.hbm, 132, rfl⟩
abbrev main_call15_v0 : Ref sig .tc := ⟨.hbm, 133, rfl⟩
abbrev main_call15_v1 : Ref sig .tc := ⟨.hbm, 134, rfl⟩
abbrev main_v77 : Ref sig .tc := ⟨.hbm, 135, rfl⟩
abbrev main_cst_28 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_29 : Ref sig .tc := ⟨.hbm, 141, rfl⟩
abbrev main_call16_v0 : Ref sig .tc := ⟨.hbm, 142, rfl⟩
abbrev main_v82 : Ref sig .tc := ⟨.hbm, 143, rfl⟩
abbrev main_cst_30 : Ref sig .tc := ⟨.hbm, 144, rfl⟩
abbrev main_call17_v0 : Ref sig .tc := ⟨.hbm, 145, rfl⟩
abbrev main_call17_v1 : Ref sig .tc := ⟨.hbm, 146, rfl⟩
abbrev main_v83 : Ref sig .tc := ⟨.hbm, 147, rfl⟩
abbrev main_cst_31 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_call18_v0 : Ref sig .tc := ⟨.hbm, 154, rfl⟩
abbrev main_v88 : Ref sig .tc := ⟨.hbm, 155, rfl⟩
abbrev main_cst_33 : Ref sig .tc := ⟨.hbm, 156, rfl⟩
abbrev main_call19_v0 : Ref sig .tc := ⟨.hbm, 157, rfl⟩
abbrev main_call19_v1 : Ref sig .tc := ⟨.hbm, 158, rfl⟩
abbrev main_v89 : Ref sig .tc := ⟨.hbm, 159, rfl⟩
abbrev main_cst_34 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_35 : Ref sig .tc := ⟨.hbm, 165, rfl⟩
abbrev main_call20_v0 : Ref sig .tc := ⟨.hbm, 166, rfl⟩
abbrev main_v94 : Ref sig .tc := ⟨.hbm, 167, rfl⟩
abbrev main_cst_36 : Ref sig .tc := ⟨.hbm, 168, rfl⟩
abbrev main_call21_v0 : Ref sig .tc := ⟨.hbm, 169, rfl⟩
abbrev main_call21_v1 : Ref sig .tc := ⟨.hbm, 170, rfl⟩
abbrev main_v95 : Ref sig .tc := ⟨.hbm, 171, rfl⟩
abbrev main_cst_37 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_cst_38 : Ref sig .tc := ⟨.hbm, 177, rfl⟩
abbrev main_call22_v0 : Ref sig .tc := ⟨.hbm, 178, rfl⟩
abbrev main_v100 : Ref sig .tc := ⟨.hbm, 179, rfl⟩
abbrev main_cst_39 : Ref sig .tc := ⟨.hbm, 180, rfl⟩
abbrev main_call23_v0 : Ref sig .tc := ⟨.hbm, 181, rfl⟩
abbrev main_call23_v1 : Ref sig .tc := ⟨.hbm, 182, rfl⟩
abbrev main_v101 : Ref sig .tc := ⟨.hbm, 183, rfl⟩
abbrev main_cst_40 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_41 : Ref sig .tc := ⟨.hbm, 189, rfl⟩
abbrev main_call24_v0 : Ref sig .tc := ⟨.hbm, 190, rfl⟩
abbrev main_v106 : Ref sig .tc := ⟨.hbm, 191, rfl⟩
abbrev main_cst_42 : Ref sig .tc := ⟨.hbm, 192, rfl⟩
abbrev main_call25_v0 : Ref sig .tc := ⟨.hbm, 193, rfl⟩
abbrev main_call25_v1 : Ref sig .tc := ⟨.hbm, 194, rfl⟩
abbrev main_v107 : Ref sig .tc := ⟨.hbm, 195, rfl⟩
abbrev main_cst_43 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_44 : Ref sig .tc := ⟨.hbm, 201, rfl⟩
abbrev main_call26_v0 : Ref sig .tc := ⟨.hbm, 202, rfl⟩
abbrev main_v112 : Ref sig .tc := ⟨.hbm, 203, rfl⟩
abbrev main_cst_45 : Ref sig .tc := ⟨.hbm, 204, rfl⟩
abbrev main_call27_v0 : Ref sig .tc := ⟨.hbm, 205, rfl⟩
abbrev main_call27_v1 : Ref sig .tc := ⟨.hbm, 206, rfl⟩
abbrev main_v113 : Ref sig .tc := ⟨.hbm, 207, rfl⟩
abbrev main_cst_46 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_cst_47 : Ref sig .tc := ⟨.hbm, 213, rfl⟩
abbrev main_call28_v0 : Ref sig .tc := ⟨.hbm, 214, rfl⟩
abbrev main_v118 : Ref sig .tc := ⟨.hbm, 215, rfl⟩
abbrev main_cst_48 : Ref sig .tc := ⟨.hbm, 216, rfl⟩
abbrev main_call29_v0 : Ref sig .tc := ⟨.hbm, 217, rfl⟩
abbrev main_call29_v1 : Ref sig .tc := ⟨.hbm, 218, rfl⟩
abbrev main_v119 : Ref sig .tc := ⟨.hbm, 219, rfl⟩
abbrev main_cst_49 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_cst_50 : Ref sig .tc := ⟨.hbm, 225, rfl⟩
abbrev main_call30_v0 : Ref sig .tc := ⟨.hbm, 226, rfl⟩
abbrev main_v124 : Ref sig .tc := ⟨.hbm, 227, rfl⟩
abbrev main_cst_51 : Ref sig .tc := ⟨.hbm, 228, rfl⟩
abbrev main_call31_v0 : Ref sig .tc := ⟨.hbm, 229, rfl⟩
abbrev main_call31_v1 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_cst_52 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩

abbrev nD : Nat := 1
abbrev τ : Topo := Topo.v7x

variable {F : FTy → Type} [FloatOps F]
-- ==== Ada.lean ====
abbrev S136x1024 : Shape := ⟨2, ![136, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x136x6144 : Shape := ⟨3, ![4, 136, 6144]⟩
abbrev S1x1024x1024 : Shape := ⟨3, ![1, 1024, 1024]⟩
abbrev S1x1x1024 : Shape := ⟨3, ![1, 1, 1024]⟩
abbrev S1x136x1024 : Shape := ⟨3, ![1, 136, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x136x6144, .f32⟩
  | .local _ .vmem, ⟨0, _⟩ => ⟨S136x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x136x1024, .f32⟩
  | .local _ .vmem, ⟨6, _⟩ => ⟨S1x136x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S136x1024 : Shape := ⟨2, ![136, 1024]⟩
abbrev S4x1024x6144 : Shape := ⟨3, ![4, 1024, 6144]⟩
abbrev S4x6144 : Shape := ⟨2, ![4, 6144]⟩
abbrev S_ : Shape := ⟨0, ![]⟩
abbrev S4x6144x136 : Shape := ⟨3, ![4, 6144, 136]⟩
abbrev S4x136x6144 : Shape := ⟨3, ![4, 136, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S4x1024x6144, .f32⟩
  | .hbm, ⟨2, _⟩ => ⟨S4x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S4x6144x136, .f32⟩
  | .hbm, ⟨13, _⟩ => ⟨S4x136x6144, .f32⟩
  | .hbm, ⟨14, _⟩ => ⟨S4x1x6144, .f32⟩
  | .hbm, ⟨15, _⟩ => ⟨S4x136x6144, .f32⟩
  | .hbm, ⟨16, _⟩ => ⟨S4x136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FinalNorm.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.AttnMath.lean ====
/-
  The mathematics of stick-breaking attention for one query, over the extended reals: the log of the stick's rest
  after a key (`logRest`), the weight a query gives a key (`weight`), the same weight as the reference spells it
  (a running sum from the right minus its own term), and one block of 256 keys as the kernel adds it.
-/
module

public import Idealize.ShloMosaic.PureOps.Ideal
public import Mathlib.Algebra.BigOperators.Fin
public import Mathlib.Algebra.BigOperators.Intervals

@[expose] public section

noncomputable section

namespace Cert.Attn

open Idealize.ShloMosaic
open scoped BigOperators

/-- `log (1 + e^z)`, spelt without overflow: `max z 0 + log (1 + e^(-|z|))`. -/
def softplus (z : EReal) : EReal := max z 0 + Ideal.log1p (Ideal.exp (0 - max z (-z)))

/-- The log of what is left of the stick after a key with logit `z`: `log (1 - sigmoid z)`. -/
def logRest (z : EReal) : EReal := 0 - softplus z

theorem coe_max' (x y : ℝ) : ((max x y : ℝ) : EReal) = max (x : EReal) (y : EReal) :=
  EReal.coe_strictMono.monotone.map_max

/-- `softplus` of a real is real, and `z - softplus z = -softplus (-z)`. -/
theorem softplus_coe (r : ℝ) :
    softplus (r : EReal) = ((max r 0 + Real.log (1 + Real.exp (-|r|)) : ℝ) : EReal) := by
  have h1 : max (r : EReal) (-(r : EReal)) = ((|r| : ℝ) : EReal) := by
    rw [← EReal.coe_neg, ← coe_max']; rfl
  have h2 : (0 : EReal) - ((|r| : ℝ) : EReal) = ((-|r| : ℝ) : EReal) := by
    rw [zero_sub, EReal.coe_neg]
  have h3 : (1 : EReal) + ((Real.exp (-|r|) : ℝ) : EReal) = ((1 + Real.exp (-|r|) : ℝ) : EReal) := by
    rw [EReal.coe_add, EReal.coe_one]
  have hp : 0 < 1 + Real.exp (-|r|) := by positivity
  unfold softplus
  rw [h1, h2, Ideal.exp_coe, Ideal.log1p, h3, Ideal.log_coe, if_neg (not_le.2 hp), EReal.coe_add, coe_max', EReal.coe_zero]

theorem softplus_top : softplus ⊤ = ⊤ := by
  unfold softplus
  have h : Ideal.log1p (Ideal.exp (0 - max (⊤ : EReal) (-⊤))) = 0 := by
    have : (0 : EReal) - max (⊤ : EReal) (-⊤) = ⊥ := by simp
    rw [this, Ideal.exp_bot, Ideal.log1p, add_zero, ← EReal.coe_one, Ideal.log_coe]
    simp
  rw [h]; simp

theorem softplus_bot : softplus ⊥ = 0 := by
  unfold softplus
  have h : Ideal.log1p (Ideal.exp (0 - max (⊥ : EReal) (-⊥))) = 0 := by
    have : (0 : EReal) - max (⊥ : EReal) (-⊥) = ⊥ := by simp
    rw [this, Ideal.exp_bot, Ideal.log1p, add_zero, ← EReal.coe_one, Ideal.log_coe]
    simp
  rw [h]; simp

theorem softplus_nonneg_coe (r : ℝ) : 0 ≤ max r 0 + Real.log (1 + Real.exp (-|r|)) :=
  add_nonneg (le_max_right _ _) (Real.log_nonneg (by have := Real.exp_pos (-|r|); linarith))

/-- The rest's log is never `+∞`. -/
theorem logRest_ne_top (z : EReal) : logRest z ≠ ⊤ := by
  unfold logRest
  induction z with
  | bot => rw [softplus_bot]; simp
  | top => rw [softplus_top]; simp
  | coe r => rw [softplus_coe, zero_sub, ← EReal.coe_neg]; exact EReal.coe_ne_top _

/-- The exponent as the kernel adds it, `(z + log rest) + after`, is the reference's,
`log sigmoid z + ((log rest + after) - log rest)`, at the infinities too. -/
theorem exponent_eq (z A : EReal) :
    (z + logRest z) + A = -softplus (-z) + ((logRest z + A) - logRest z) := by
  unfold logRest
  induction z with
  | bot =>
    rw [softplus_bot, EReal.neg_bot, softplus_top, EReal.neg_top, EReal.bot_add, EReal.bot_add, EReal.bot_add]
  | top =>
    rw [softplus_top, EReal.neg_top, softplus_bot, neg_zero, zero_sub, EReal.neg_top, EReal.add_bot, EReal.bot_add,
      EReal.bot_sub, zero_add]
  | coe r =>
    rw [← EReal.coe_neg, softplus_coe, softplus_coe, zero_sub, ← EReal.coe_neg, ← EReal.coe_neg, ← EReal.coe_add]
    have hr : r + -(max r 0 + Real.log (1 + Real.exp (-|r|)))
        = -(max (-r) 0 + Real.log (1 + Real.exp (-|(-r)|))) := by
      rw [abs_neg]
      rcases le_total r 0 with h | h
      · rw [max_eq_right h, max_eq_left (by linarith)]; ring
      · rw [max_eq_left h, max_eq_right (by linarith)]; ring
    rw [hr]
    congr 1
    generalize -(max r 0 + Real.log (1 + Real.exp (-|r|))) = l
    induction A with
    | bot => simp
    | top => rw [EReal.coe_add_top, EReal.top_sub_coe]
    | coe a =>
      rw [← EReal.coe_add, ← EReal.coe_sub]; congr 1; ring

/-! ## One query's weights -/

/-- The log rest of key `s` as query `t` counts it: nothing from `t` on (strictly causal). -/
def lr (z : ℕ → EReal) (t s : ℕ) : EReal := if s < t then logRest (z s) else 0

/-- The weight of key `s` for query `t`: `z` logs its share, the keys after it (up to `N`) what they leave. -/
def weight (z : ℕ → EReal) (N t s : ℕ) : EReal :=
  if s < t then Ideal.exp ((z s + logRest (z s)) + ∑ j ∈ Finset.Ico (s + 1) N, lr z t j) else 0

theorem lr_ne_top (z : ℕ → EReal) (t s : ℕ) : lr z t s ≠ ⊤ := by
  unfold lr; split
  · exact logRest_ne_top _
  · exact EReal.zero_ne_top

/-- Keys from `t` on leave everything: the sum's upper end does not matter past `t`. -/
theorem sum_lr_upper (z : ℕ → EReal) {t N M : ℕ} (a : ℕ) (hN : t ≤ N) (hM : N ≤ M) :
    ∑ j ∈ Finset.Ico a M, lr z t j = ∑ j ∈ Finset.Ico a N, lr z t j := by
  symm
  apply Finset.sum_subset
  · intro j; simp only [Finset.mem_Ico]; omega
  · intro j _ hj
    rw [Finset.mem_Ico] at hj
    unfold lr
    rw [if_neg]
    rename_i h; rw [Finset.mem_Ico] at h; omega

theorem weight_upper (z : ℕ → EReal) {t N M : ℕ} (s : ℕ) (hN : t ≤ N) (hM : N ≤ M) : weight z M t s = weight z N t s := by
  unfold weight; rw [sum_lr_upper z _ hN hM]

theorem weight_of_le (z : ℕ → EReal) (N : ℕ) {t s : ℕ} (h : t ≤ s) : weight z N t s = 0 := if_neg (by omega)

/-- The reference's weight: the running sum from key `s` to the end, minus key `s`'s own term. -/
theorem weight_ref (z : ℕ → EReal) {N t s : ℕ} (hs : s < N) :
    weight z N t s = if s < t then Ideal.exp (-softplus (-z s) + ((∑ j ∈ Finset.Ico s N, lr z t j) - lr z t s)) else 0 := by
  unfold weight
  split
  · rename_i h
    have e : lr z t s = logRest (z s) := if_pos h
    rw [exponent_eq, Finset.sum_eq_sum_Ico_succ_bot hs, e]
  · rfl

/-! ## One block of keys -/

/-- A value split in a rounded part and the rest, where rounding changes nothing: the rest is `h - h`, which is `0`
for a real and `-∞` for `-∞`; the parts add up to the value either way. -/
theorem add_sub_self_of_ne_top {h : EReal} (hh : h ≠ ⊤) : h + (h - h) = h := by
  induction h with
  | bot => simp
  | top => exact absurd rfl hh
  | coe r => rw [← EReal.coe_sub, sub_self]; simp

/-- The two halves' sums add up to the values' sum. -/
theorem sum_halves {n : ℕ} (h : Fin n → EReal) (hh : ∀ s, h s ≠ ⊤) : ∑ s, h s + ∑ s, (h s - h s) = ∑ s, h s := by
  rw [← Finset.sum_add_distrib]
  exact Finset.sum_congr rfl fun s _ => add_sub_self_of_ne_top (hh s)

/-- … and so under a mask. -/
theorem sum_halves_ite {n : ℕ} (h : Fin n → EReal) (hh : ∀ s, h s ≠ ⊤) (p : Fin n → Prop) [DecidablePred p] :
    (∑ s, if p s then h s else 0) + (∑ s, if p s then h s - h s else 0) = ∑ s, if p s then h s else 0 := by
  rw [← Finset.sum_add_distrib]
  refine Finset.sum_congr rfl fun s _ => ?_
  split
  · exact add_sub_self_of_ne_top (hh s)
  · exact add_zero 0

/-- A block's sum as a stretch of the whole. -/
theorem sum_block (f : ℕ → EReal) (B n : ℕ) : ∑ s : Fin n, f (B + s.val) = ∑ j ∈ Finset.Ico B (B + n), f j := by
  rw [Fin.sum_univ_eq_sum_range (fun s => f (B + s)) n, Finset.sum_Ico_eq_sum_range]
  simp

/-- The part of a block after its key `s`. -/
theorem sum_block_after (f : ℕ → EReal) (B n s : ℕ) (hs : s < n) :
    (∑ x : Fin n, if s < x.val then f (B + x.val) else 0) = ∑ j ∈ Finset.Ico (B + s + 1) (B + n), f j := by
  have h : ∀ x : Fin n, (if s < x.val then f (B + x.val) else 0) = (fun j => if B + s < j then f j else 0) (B + x.val) := by
    intro x; dsimp only; congr 1; exact propext ⟨by omega, by omega⟩
  rw [Finset.sum_congr rfl fun x _ => h x, sum_block (fun j => if B + s < j then f j else 0), ← Finset.sum_filter]
  congr 1
  ext j; simp only [Finset.mem_filter, Finset.mem_Ico]; omega

/-- Two neighbouring stretches. -/
theorem sum_stretch (f : ℕ → EReal) {a b c : ℕ} (h1 : a ≤ b) (h2 : b ≤ c) :
    ∑ j ∈ Finset.Ico a b, f j + ∑ j ∈ Finset.Ico b c, f j = ∑ j ∈ Finset.Ico a c, f j :=
  Finset.sum_Ico_consecutive f h1 h2

end Cert.Attn

end
-- ==== Proof.AttnPay.lean ====
/-
  What one trip of the attention kernel's loop over key blocks computes, read at an index, over the extended reals.
  Trip `n` of query block `qi` reads key block `qi - n`: keys `B + s`, `B = (qi - n) * 256`, `s < 256`.
-/
module

public import proofs.«01_k».proof.Proof.Gen.KernelIdeal.Value
public import proofs.«01_k».proof.Proof.AttnMath
public import Idealize.ShloMosaic.Lib.Pointwise
public import Idealize.ShloMosaic.Lib.WordCmp

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise Cert.Attn

/-- The loop makes `qi + 1` trips. -/
theorem trips_t1 (i : grid0.Coords) : (k0_t1_loop i).trips = (i 2).val + 1 := by
  have h : ∀ q : Fin 16, Scf.trips (0#32)
      (Scalar.addi 0#32 (Scalar.muli (Scalar.divsi (Scalar.subi (Scalar.addi (BitVec.ofNat 32 q.val) 1#32) 0#32) 1#32) 1#32)) 1#32
      = q.val + 1 := by decide +kernel
  exact h (i 2)

/-- The remainder loop makes none. -/
theorem trips_t2 (i : grid0.Coords) : (k0_t2_loop i).trips = 0 := by
  have h : ∀ q : Fin 16, Scf.trips
      (Scalar.addi 0#32 (Scalar.muli (Scalar.divsi (Scalar.subi (Scalar.addi (BitVec.ofNat 32 q.val) 1#32) 0#32) 1#32) 1#32))
      (Scalar.addi 0#32 (Scalar.subi (Scalar.addi (BitVec.ofNat 32 q.val) 1#32) 0#32)) 1#32
      = 0 := by decide +kernel
  exact h (i 2)

/-- Trip `n` loads keys and values from row `(qi - n) * 256` on. -/
theorem off2_eq (i : grid0.Coords) (n : Fin (k0_t1_loop i).trips) :
    k0_off2 i n = ![0, ((i 2).val - n.val) * 256, 0] := by
  have h : ∀ (q : Fin 16) (k : Fin 16), k.val ≤ q.val → (Scalar.indexCast (Scalar.muli
      (Scalar.subi (BitVec.ofNat 32 q.val) (Scf.iv 0#32 1#32 k.val)) 256#32)).toNat = (q.val - k.val) * 256 := by decide +kernel
  have hn := n.isLt
  have hq : (i 2).val < 16 := (i 2).isLt
  have := trips_t1 i
  unfold k0_off2
  rw [← h (i 2) ⟨n.val, by omega⟩ (by show n.val ≤ (i 2).val; omega)]

/-- A small number's word read as a signed number. -/
theorem toInt_small (n : ℕ) (h : n < 1000) : (BitVec.ofNat 32 n).toInt = n := by
  have e : (BitVec.ofNat 32 n).toNat = n := by
    rw [BitVec.toNat_ofNat]
    exact Nat.mod_eq_of_lt (by norm_num; omega)
  rw [BitVec.toInt_eq_toNat_of_lt (by rw [e]; norm_num; omega), e]

/-- The causal mask of trip `n`: key `B + s` lies before query `256 qi + r`. -/
theorem mask_apply (i : grid0.Coords) (n : Fin (k0_t1_loop i).trips) (r s : Fin 256) :
    k0_pay10 i (BitVec.ofNat 32 (i 2).val) k0_pay41 0#32 1#32 n (ix2 r s)
      = if ((i 2).val - n.val) * 256 + s.val < (i 2).val * 256 + r.val then 1#1 else 0#1 := by
  have h : ∀ (q : Fin 16) (k : Fin 16), k.val ≤ q.val → (Scalar.muli
      (Scalar.subi (Scalar.subi (BitVec.ofNat 32 q.val) (Scf.iv 0#32 1#32 k.val)) (BitVec.ofNat 32 q.val)) 256#32).toInt
        = -(k.val * 256 : Int) := by decide +kernel
  have hn := n.isLt
  have hq : (i 2).val < 16 := (i 2).isLt
  have ht := trips_t1 i
  have h1 := h (i 2) ⟨n.val, by omega⟩ (by show n.val ≤ (i 2).val; omega)
  have h2 : (IntOp.subi (BitVec.ofNat 32 r.val) (BitVec.ofNat 32 s.val)).toInt = (r.val : Int) - s.val := by
    have hr := r.isLt
    have hs := s.isLt
    show (BitVec.ofNat 32 r.val - BitVec.ofNat 32 s.val).toInt = _
    rw [BitVec.toInt_sub, toInt_small r.val (by omega), toInt_small s.val (by omega),
      Int.bmod_eq_of_le (by norm_num; omega) (by norm_num; omega)]
  pointwise [k0_pay10, k0_pay41]
  rw [WordCmp.cmpi_sgt_eq]
  rw [h1, h2]
  have e : (decide (-(((⟨n.val, by omega⟩ : Fin 16).val : Int) * 256) < (r.val : Int) - s.val))
      = decide (((i 2).val - n.val) * 256 + s.val < (i 2).val * 256 + r.val) := by
    congr 1
    apply propext
    show (-((n.val : Int) * 256) < (r.val : Int) - s.val) ↔ _
    omega
  rw [e]
  split
  · rename_i hh; rw [decide_eq_true hh]; rfl
  · rename_i hh; rw [decide_eq_false hh]; rfl

theorem select_mask {α : Type} (p : Prop) [Decidable p] (a b : α) :
    Scalar.select (if p then 1#1 else 0#1) a b = if p then a else b := by
  split <;> rfl

/-- The suffix matrix's test: row `x` counts for column `s` when `x > s`. -/
theorem suffix_test (x s : Fin 256) :
    IntOp.cmpi CmpIPredicate.sgt (BitVec.ofNat 32 x.val) (BitVec.ofNat 32 s.val) = if s.val < x.val then 1#1 else 0#1 := by
  rw [WordCmp.cmpi_sgt_ofNat (by have := x.isLt; omega) (by have := s.isLt; omega)]
  split
  · rename_i hh; rw [decide_eq_true hh]; rfl
  · rename_i hh; rw [decide_eq_false hh]; rfl

theorem suffix_test_nat (x : Fin 256) (m : ℕ) (hm : m < 256) :
    IntOp.cmpi CmpIPredicate.sgt (BitVec.ofNat 32 x.val) (BitVec.ofNat 32 m) = if m < x.val then 1#1 else 0#1 :=
  suffix_test x ⟨m, hm⟩

theorem logRest_eq (z : EReal) :
    0 - (max z 0 + Ideal.log1p (Ideal.exp (0 - FloatOps.absf (F := Ideal) (φ := .f32) z))) = logRest z := rfl

/-- A query row's logits: its (masked) lanes against a key's, plus the head's bias. -/
def zq (qm : FVec Ideal S256x128 .bf16) (bias : EReal) (X : ℕ → Fin 128 → EReal) (r : Fin 256) (j : ℕ) : EReal :=
  ∑ x, qm (ix2 r x) * X j x + bias

/-- The first key of trip `n`'s block. -/
abbrev kB (i : grid0.Coords) (n : Fin (k0_t1_loop i).trips) : ℕ := ((i 2).val - n.val) * 256
/-- The end of the query block. -/
abbrev qN (i : grid0.Coords) : ℕ := ((i 2).val + 1) * 256
/-- Row `r`'s query. -/
abbrev qT (i : grid0.Coords) (r : Fin 256) : ℕ := (i 2).val * 256 + r.val

theorem kB_le (i : grid0.Coords) (n : Fin (k0_t1_loop i).trips) : kB i n + 256 ≤ qN i := by
  have hn := n.isLt
  have := trips_t1 i
  unfold kB qN
  omega

/-- Adding a block's log rests, split in halves, to the later blocks' sum gives the sum from the block on. -/
theorem carry_step (z : ℕ → EReal) (t B N : ℕ) (hN : B + 256 ≤ N) (c : EReal)
    (hc : c = ∑ j ∈ Finset.Ico (B + 256) N, lr z t j) :
    c + ∑ x : Fin 256, lr z t (B + x.val) + ∑ x : Fin 256, (lr z t (B + x.val) - lr z t (B + x.val))
      = ∑ j ∈ Finset.Ico B N, lr z t j := by
  rw [add_assoc, sum_halves (fun x : Fin 256 => lr z t (B + x.val)) (fun s => lr_ne_top _ _ _), sum_block, hc, add_comm,
    sum_stretch _ (by omega) hN]

/-- The kernel's exponent of key `B + s`, masked, is the key's weight. -/
theorem weight_step (z : ℕ → EReal) (t B N : ℕ) (hN : B + 256 ≤ N) (c : EReal) (s : Fin 256)
    (hc : c = ∑ j ∈ Finset.Ico (B + 256) N, lr z t j) :
    (if B + s.val < t then Ideal.exp (z (B + s.val) + lr z t (B + s.val)
        + ((∑ x : Fin 256, if s.val < x.val then lr z t (B + x.val) else 0)
          + ∑ x : Fin 256, if s.val < x.val then lr z t (B + x.val) - lr z t (B + x.val) else 0) + c) else 0)
      = weight z N t (B + s.val) := by
  unfold weight
  split
  · rename_i h
    have e : lr z t (B + s.val) = logRest (z (B + s.val)) := if_pos h
    have hs := s.isLt
    rw [sum_halves_ite (fun x : Fin 256 => lr z t (B + x.val)) (fun s => lr_ne_top _ _ _) (fun x => s.val < x.val),
      sum_block_after _ B 256 s.val s.isLt, e, hc, add_assoc _ _ (∑ j ∈ Finset.Ico (B + 256) N, lr z t j),
      sum_stretch _ (by omega) hN]
  · rfl

section Head0

variable (i : grid0.Coords) (n : Fin (k0_t1_loop i).trips) (v21 : FVec Ideal S256x128 .bf16) (v33 : Elt Ideal .f32)
  (v68 v71 : Vec Ideal S1x256x128 .bf16) (v80 v115 : Vec Ideal S1x256x128 .f32) (X Y : ℕ → Fin 128 → EReal)

theorem z_apply (hK : ∀ s l, v68 (ix3 0 s l) = X (kB i n + s.val) l) (r s : Fin 256) :
    k0_pay11 v21 v33 v68 (ix2 r s) = zq v21 v33 X r (kB i n + s.val) := by
  pointwise [k0_pay11, k0_pay8]
  unfold zq
  simp only [hK]

theorem lr_apply (hK : ∀ s l, v68 (ix3 0 s l) = X (kB i n + s.val) l) (r s : Fin 256) :
    k0_pay13 i (BitVec.ofNat 32 (i 2).val) k0_pay41 v21 v33 0#32 1#32 n v68 (ix2 r s)
      = lr (zq v21 v33 X r) (qT i r) (kB i n + s.val) := by
  pointwise [k0_pay13]
  rw [mask_apply, select_mask, z_apply i n v21 v33 v68 X hK, logRest_eq]
  rfl

theorem hi_apply (hK : ∀ s l, v68 (ix3 0 s l) = X (kB i n + s.val) l) (r s : Fin 256) :
    k0_pay14 i (BitVec.ofNat 32 (i 2).val) k0_pay41 v21 v33 0#32 1#32 n v68 (ix2 r s)
      = lr (zq v21 v33 X r) (qT i r) (kB i n + s.val) := by
  rw [← lr_apply i n v21 v33 v68 X hK r s]
  pointwise [k0_pay14]

theorem lo_apply (hK : ∀ s l, v68 (ix3 0 s l) = X (kB i n + s.val) l) (r s : Fin 256) :
    k0_pay15 i (BitVec.ofNat 32 (i 2).val) k0_pay41 v21 v33 0#32 1#32 n v68 (ix2 r s)
      = lr (zq v21 v33 X r) (qT i r) (kB i n + s.val) - lr (zq v21 v33 X r) (qT i r) (kB i n + s.val) := by
  rw [← lr_apply i n v21 v33 v68 X hK r s]
  pointwise [k0_pay15, k0_pay14]

/-- The first head's carry after the trip. -/
theorem carry0_apply (hK : ∀ s l, v68 (ix3 0 s l) = X (kB i n + s.val) l) (r : Fin 256) (l : Fin 128)
    (hc : ∀ l, v80 (ix3 0 r l) = ∑ j ∈ Finset.Ico (kB i n + 256) (qN i), lr (zq v21 v33 X r) (qT i r) j) :
    k0_pay17 k0_pay43 (k0_pay12 v80) (k0_pay14 i (BitVec.ofNat 32 (i 2).val) k0_pay41 v21 v33 0#32 1#32 n v68)
        (k0_pay15 i (BitVec.ofNat 32 (i 2).val) k0_pay41 v21 v33 0#32 1#32 n v68) (ix3 0 r l)
      = ∑ j ∈ Finset.Ico (kB i n) (qN i), lr (zq v21 v33 X r) (qT i r) j := by
  pointwise [k0_pay17, k0_pay43, k0_pay12]
  simp only [hi_apply i n v21 v33 v68 X hK, lo_apply i n v21 v33 v68 X hK]
  exact carry_step _ _ _ _ (kB_le i n) _ (hc l)

/-- The first head's accumulator after the trip: what it held plus the block's weighted values. -/
theorem acc0_apply (hK : ∀ s l, v68 (ix3 0 s l) = X (kB i n + s.val) l)
    (hV : ∀ s l, v71 (ix3 0 s l) = Y (kB i n + s.val) l) (r : Fin 256) (l : Fin 128)
    (hc : ∀ l, v80 (ix3 0 r l) = ∑ j ∈ Finset.Ico (kB i n + 256) (qN i), lr (zq v21 v33 X r) (qT i r) j) :
    k0_pay18 (k0_pay9 v71) (k0_pay10 i (BitVec.ofNat 32 (i 2).val) k0_pay41 0#32 1#32 n)
        (k0_pay16 i (BitVec.ofNat 32 (i 2).val) k0_pay41 k0_pay42 v21 v33 0#32 1#32 n v68 v80)
        (FloatOps.ofBits FTy.f32 0#32) v115 (ix3 0 r l)
      = v115 (ix3 0 r l) + ∑ s : Fin 256, weight (zq v21 v33 X r) (qN i) (qT i r) (kB i n + s.val) * Y (kB i n + s.val) l := by
  pointwise [k0_pay18, k0_pay9]
  congr 1
  refine Finset.sum_congr rfl fun s _ => ?_
  rw [hV, ← weight_step _ _ _ _ (kB_le i n) _ s (hc 0)]
  congr 1
  rw [mask_apply, select_mask]
  pointwise [k0_pay16, k0_pay42, k0_pay12]
  simp only [hi_apply i n v21 v33 v68 X hK, lo_apply i n v21 v33 v68 X hK, lr_apply i n v21 v33 v68 X hK,
    z_apply i n v21 v33 v68 X hK, suffix_test, select_mask, hc, dite_eq_ite, ite_self]
  rw [ite_mul, zero_mul]

end Head0

/-- A sum over 256 terms as the sums over its halves. -/
theorem sum_256 (f : Fin 256 → EReal) :
    ∑ s, f s = ∑ x : Fin 128, f ⟨x.val, by omega⟩ + ∑ x : Fin 128, f ⟨128 + x.val, by omega⟩ :=
  Fin.sum_univ_add (a := 128) (b := 128) f

section Head1

variable (i : grid0.Coords) (n : Fin (k0_t1_loop i).trips) (v29 : FVec Ideal S256x128 .bf16) (v37 : Elt Ideal .f32)
  (v68 v71 : Vec Ideal S1x256x128 .bf16) (v126 v161 : Vec Ideal S1x256x128 .f32) (X Y : ℕ → Fin 128 → EReal)

theorem z1_apply (hK : ∀ s l, v68 (ix3 0 s l) = X (kB i n + s.val) l) (r s : Fin 256) :
    k0_pay19 v29 v37 (k0_pay8 v68) (ix2 r s) = zq v29 v37 X r (kB i n + s.val) := by
  pointwise [k0_pay19, k0_pay8]
  unfold zq
  simp only [hK]

theorem lr1_apply (hK : ∀ s l, v68 (ix3 0 s l) = X (kB i n + s.val) l) (r s : Fin 256) :
    k0_pay21 v29 v37 (k0_pay8 v68) (k0_pay10 i (BitVec.ofNat 32 (i 2).val) k0_pay41 0#32 1#32 n) (ix2 r s)
      = lr (zq v29 v37 X r) (qT i r) (kB i n + s.val) := by
  pointwise [k0_pay21]
  rw [mask_apply, select_mask, z1_apply i n v29 v37 v68 X hK, logRest_eq]
  rfl

theorem hi1_apply (hK : ∀ s l, v68 (ix3 0 s l) = X (kB i n + s.val) l) (r s : Fin 256) :
    k0_pay22 v29 v37 (k0_pay8 v68) (k0_pay10 i (BitVec.ofNat 32 (i 2).val) k0_pay41 0#32 1#32 n) (ix2 r s)
      = lr (zq v29 v37 X r) (qT i r) (kB i n + s.val) := by
  rw [← lr1_apply i n v29 v37 v68 X hK r s]
  pointwise [k0_pay22]

theorem lo1_apply (hK : ∀ s l, v68 (ix3 0 s l) = X (kB i n + s.val) l) (r s : Fin 256) :
    k0_pay23 v29 v37 (k0_pay8 v68) (k0_pay10 i (BitVec.ofNat 32 (i 2).val) k0_pay41 0#32 1#32 n) (ix2 r s)
      = lr (zq v29 v37 X r) (qT i r) (kB i n + s.val) - lr (zq v29 v37 X r) (qT i r) (kB i n + s.val) := by
  rw [← lr1_apply i n v29 v37 v68 X hK r s]
  pointwise [k0_pay23, k0_pay22]

/-- The second head's carry after the trip. -/
theorem carry1_apply (hK : ∀ s l, v68 (ix3 0 s l) = X (kB i n + s.val) l) (r : Fin 256) (l : Fin 128)
    (hc : ∀ l, v126 (ix3 0 r l) = ∑ j ∈ Finset.Ico (kB i n + 256) (qN i), lr (zq v29 v37 X r) (qT i r) j) :
    k0_pay3 k0_pay43 (k0_pay20 v126)
        (k0_pay22 v29 v37 (k0_pay8 v68) (k0_pay10 i (BitVec.ofNat 32 (i 2).val) k0_pay41 0#32 1#32 n))
        (k0_pay23 v29 v37 (k0_pay8 v68) (k0_pay10 i (BitVec.ofNat 32 (i 2).val) k0_pay41 0#32 1#32 n)) (ix3 0 r l)
      = ∑ j ∈ Finset.Ico (kB i n) (qN i), lr (zq v29 v37 X r) (qT i r) j := by
  pointwise [k0_pay3, k0_pay43, k0_pay20]
  simp only [hi1_apply i n v29 v37 v68 X hK, lo1_apply i n v29 v37 v68 X hK]
  exact carry_step _ _ _ _ (kB_le i n) _ (hc l)

/-- The second head's accumulator after the trip. -/
theorem acc1_apply (hK : ∀ s l, v68 (ix3 0 s l) = X (kB i n + s.val) l)
    (hV : ∀ s l, v71 (ix3 0 s l) = Y (kB i n + s.val) l) (r : Fin 256) (l : Fin 128)
    (hc : ∀ l, v126 (ix3 0 r l) = ∑ j ∈ Finset.Ico (kB i n + 256) (qN i), lr (zq v29 v37 X r) (qT i r) j) :
    k0_pay4 k0_pay42 (k0_pay9 v71) (k0_pay10 i (BitVec.ofNat 32 (i 2).val) k0_pay41 0#32 1#32 n)
        (k0_pay19 v29 v37 (k0_pay8 v68)) (k0_pay20 v126)
        (k0_pay21 v29 v37 (k0_pay8 v68) (k0_pay10 i (BitVec.ofNat 32 (i 2).val) k0_pay41 0#32 1#32 n))
        (k0_pay22 v29 v37 (k0_pay8 v68) (k0_pay10 i (BitVec.ofNat 32 (i 2).val) k0_pay41 0#32 1#32 n))
        (k0_pay23 v29 v37 (k0_pay8 v68) (k0_pay10 i (BitVec.ofNat 32 (i 2).val) k0_pay41 0#32 1#32 n)) v161 (ix3 0 r l)
      = v161 (ix3 0 r l) + ∑ s : Fin 256, weight (zq v29 v37 X r) (qN i) (qT i r) (kB i n + s.val) * Y (kB i n + s.val) l := by
  pointwise [k0_pay4, k0_pay9, k0_pay42, k0_pay20]
  rw [sum_256]
  congr 2 <;> refine Finset.sum_congr rfl fun s _ => ?_
  all_goals
    have hs := s.isLt
    rw [hV, ← weight_step _ _ _ _ (kB_le i n) _ _ (hc 0), mask_apply, select_mask]
    simp (disch := omega) only [hi1_apply i n v29 v37 v68 X hK, lo1_apply i n v29 v37 v68 X hK, lr1_apply i n v29 v37 v68 X hK,
      z1_apply i n v29 v37 v68 X hK, suffix_test_nat, select_mask, hc]
    rw [ite_mul, zero_mul]

end Head1

end Cert.KernelIdeal.Value

end
-- ==== Proof.AttnTrip.lean ====
module

public import proofs.«01_k».proof.Proof.AttnPay
public import Idealize.ShloMosaic.Lib.WritesUnit
public import Idealize.ShloMosaic.Lib.VecWindow

/-!
# One trip of the loop over key blocks, and all of them

A trip of the kernel's loop stores, for each of the two heads, the carry (the sum of the log rests of the keys from the
trip's block on) and the accumulator (the weighted values of those keys). By induction the buffers hold these sums after
every trip.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise
open Cert.Attn

variable (𝒱 : Variants) (c : Dev nD) (bd : Option 𝒱.V) (i : grid0.Coords)
  (arg3 : Memref sig .tc .smem S16 .f32) (harg3 : arg3.IsWhole) (arg4 : Memref sig .tc .vmem S1x256x128 .f32) (harg4 : arg4.IsWhole)
  (arg5 : Memref sig .tc .vmem S1x4096x128 .bf16) (harg5 : arg5.IsWhole) (arg6 : Memref sig .tc .vmem S1x4096x128 .bf16) (harg6 : arg6.IsWhole)
  (arg7 : Memref sig .tc .vmem S1x256x128 .f32) (harg7 : arg7.IsWhole) (arg8 : Memref sig .tc .vmem S2x256x128 .f32) (harg8 : arg8.IsWhole)
  (arg9 : Memref sig .tc .vmem S2x256x128 .f32) (harg9 : arg9.IsWhole)
  (v21 v29 : FVec Ideal S256x128 .bf16) (v33 v37 : Elt Ideal .f32)
  (X5 : BufTy.Contents (Elt Ideal) arg5.view.ty) (X6 : BufTy.Contents (Elt Ideal) arg6.view.ty) (X Y : ℕ → Fin 128 → EReal)
  (hX : ∀ (s : Fin 4096) l, arg5.view.read (Elt Ideal) X5 (ix3 0 s l) = X s.val l)
  (hY : ∀ (s : Fin 4096) l, arg6.view.read (Elt Ideal) X6 (ix3 0 s l) = Y s.val l)

include hX in
/-- The keys a trip loads are those of its block. -/
theorem load5 (n : Fin (k0_t1_loop i).trips) (inb) (s : Fin 256) (l : Fin 128) :
    arg5.view.readAt (Elt Ideal) (Rect.unit (s := S1x4096x128) (k0_off2 i n) S1x256x128.size inb).toLoadRect X5 (ix3 0 s l) = X (kB i n + s.val) l := by
  have hq : (i 2).val < 16 := (i 2).isLt
  have hs := s.isLt
  have hk : kB i n + s.val < 4096 := by unfold kB; omega
  rw [← hX ⟨kB i n + s.val, hk⟩ l]
  show arg5.view.read (Elt Ideal) X5 _ = _
  refine congrArg (arg5.view.read (Elt Ideal) X5) (funext fun a => Fin.ext ?_)
  have e := off2_eq i n
  show k0_off2 i n a + 1 * ((ix3 0 s l : S1x256x128.Idx) a).val = _
  rw [e]
  fin_cases a
  · rfl
  · show (_ : ℕ) + 1 * s.val = _ + s.val
    rw [one_mul]; rfl
  · show 0 + 1 * l.val = l.val
    omega

include hY in
/-- The values a trip loads are those of its block. -/
theorem load6 (n : Fin (k0_t1_loop i).trips) (inb) (s : Fin 256) (l : Fin 128) :
    arg6.view.readAt (Elt Ideal) (Rect.unit (s := S1x4096x128) (k0_off2 i n) S1x256x128.size inb).toLoadRect X6 (ix3 0 s l) = Y (kB i n + s.val) l :=
  load5 i arg6 X6 Y hY n inb s l

/-- A load of one head's rows reads that head. -/
theorem load_head (arg : Memref sig .tc .vmem S2x256x128 .f32) (f : BufTy.Contents (Elt Ideal) arg.view.ty) (off : Fin 3 → ℕ) (e : Fin 2) (he : off = ![e.val, 0, 0]) (inb) (r : Fin 256) (l : Fin 128) :
    arg.view.readAt (Elt Ideal) (Rect.unit (s := S2x256x128) off S1x256x128.size inb).toLoadRect f (ix3 0 r l)
      = arg.view.read (Elt Ideal) f (ix3 e r l) := by
  subst he
  show arg.view.read (Elt Ideal) f _ = _
  refine congrArg (arg.view.read (Elt Ideal) f) (funext fun a => Fin.ext ?_)
  show (![e.val, 0, 0] : Fin 3 → ℕ) a + 1 * ((ix3 0 r l : S1x256x128.Idx) a).val = _
  fin_cases a
  · rfl
  · show 0 + 1 * r.val = r.val
    omega
  · show 0 + 1 * l.val = l.val
    omega

include hX hY in
/-- The first head's carry after trip `n`. -/
theorem trip8_0 (n : Fin (k0_t1_loop i).trips) (acc : BitVec 32) (f8 : BufTy.Contents (Elt Ideal) arg8.view.ty) (f9 : BufTy.Contents (Elt Ideal) arg9.view.ty)
    (G : BufTy.Contents (Elt Ideal) arg8.view.ty) (P : List (View.Piece (Elt Ideal) S2x256x128 .f32))
    (hc : ∀ (r : Fin 256) l, arg8.view.read (Elt Ideal) f8 (ix3 0 r l) = ∑ j ∈ Finset.Ico (kB i n + 256) (qN i), lr (zq v21 v33 X r) (qT i r) j) (r : Fin 256) (l : Fin 128) :
    arg8.view.read (Elt Ideal) (arg8.view.writes (Elt Ideal) G ((tripL_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 n acc f8 f9).1 ++ P)) (ix3 0 r l)
      = ∑ j ∈ Finset.Ico (kB i n) (qN i), lr (zq v21 v33 X r) (qT i r) j := by
  unfold tripL_k0_t1
  unfold trip_k0_t1
  dsimp only
  sl_unfold_words
  refine (View.read_writes_cons_unit_of_not_mem arg8.view _ _ _ _ (ix3 0 r l) rfl 0 (Or.inl Nat.zero_lt_one)).trans ?_
  refine (View.read_writes_cons_unit_of_mem arg8.view _ _ _ _ (ix3 0 r l) (ix3 0 r l) rfl (by
    intro a
    fin_cases a
    · rfl
    · exact (Nat.zero_add r.val).symm
    · exact (Nat.zero_add l.val).symm)).trans ?_
  exact (carry0_apply i n v21 v33 _ _ X (load5 i arg5 X5 X hX n _) r l (fun l => (load_head arg8 f8 _ 0 rfl _ r l).trans (hc r l)))

include hX hY in
/-- The second head's carry after trip `n`. -/
theorem trip8_1 (n : Fin (k0_t1_loop i).trips) (acc : BitVec 32) (f8 : BufTy.Contents (Elt Ideal) arg8.view.ty) (f9 : BufTy.Contents (Elt Ideal) arg9.view.ty)
    (G : BufTy.Contents (Elt Ideal) arg8.view.ty) (P : List (View.Piece (Elt Ideal) S2x256x128 .f32))
    (hc : ∀ (r : Fin 256) l, arg8.view.read (Elt Ideal) f8 (ix3 1 r l) = ∑ j ∈ Finset.Ico (kB i n + 256) (qN i), lr (zq v29 v37 X r) (qT i r) j) (r : Fin 256) (l : Fin 128) :
    arg8.view.read (Elt Ideal) (arg8.view.writes (Elt Ideal) G ((tripL_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 n acc f8 f9).1 ++ P)) (ix3 1 r l)
      = ∑ j ∈ Finset.Ico (kB i n) (qN i), lr (zq v29 v37 X r) (qT i r) j := by
  unfold tripL_k0_t1
  unfold trip_k0_t1
  dsimp only
  sl_unfold_words
  refine (View.read_writes_cons_unit_of_mem arg8.view _ _ _ _ (ix3 1 r l) (ix3 0 r l) rfl (by
    intro a
    fin_cases a
    · rfl
    · exact (Nat.zero_add r.val).symm
    · exact (Nat.zero_add l.val).symm)).trans ?_
  exact (carry1_apply i n v29 v37 _ _ X (load5 i arg5 X5 X hX n _) r l (fun l => (load_head arg8 f8 _ 1 rfl _ r l).trans (hc r l)))

include hX hY in
/-- The first head's accumulator after trip `n`. -/
theorem trip9_0 (n : Fin (k0_t1_loop i).trips) (acc : BitVec 32) (f8 : BufTy.Contents (Elt Ideal) arg8.view.ty) (f9 : BufTy.Contents (Elt Ideal) arg9.view.ty)
    (G : BufTy.Contents (Elt Ideal) arg9.view.ty) (P : List (View.Piece (Elt Ideal) S2x256x128 .f32))
    (hc : ∀ (r : Fin 256) l, arg8.view.read (Elt Ideal) f8 (ix3 0 r l) = ∑ j ∈ Finset.Ico (kB i n + 256) (qN i), lr (zq v21 v33 X r) (qT i r) j) (r : Fin 256) (l : Fin 128) :
    arg9.view.read (Elt Ideal) (arg9.view.writes (Elt Ideal) G ((tripL_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 n acc f8 f9).2 ++ P)) (ix3 0 r l)
      = arg9.view.read (Elt Ideal) f9 (ix3 0 r l) + ∑ j ∈ Finset.Ico (kB i n) (kB i n + 256), weight (zq v21 v33 X r) (qN i) (qT i r) j * Y j l := by
  unfold tripL_k0_t1
  unfold trip_k0_t1
  dsimp only
  sl_unfold_words
  refine (View.read_writes_cons_unit_of_not_mem arg9.view _ _ _ _ (ix3 0 r l) rfl 0 (Or.inl Nat.zero_lt_one)).trans ?_
  refine (View.read_writes_cons_unit_of_mem arg9.view _ _ _ _ (ix3 0 r l) (ix3 0 r l) rfl (by
    intro a
    fin_cases a
    · rfl
    · exact (Nat.zero_add r.val).symm
    · exact (Nat.zero_add l.val).symm)).trans ?_
  exact ((acc0_apply i n v21 v33 _ _ _ _ X Y (load5 i arg5 X5 X hX n _) (load6 i arg6 X6 Y hY n _) r l (fun l => (load_head arg8 f8 _ 0 rfl _ r l).trans (hc r l))).trans
    (congr (congrArg HAdd.hAdd (load_head arg9 f9 _ 0 rfl _ r l)) (sum_block (fun j => weight (zq v21 v33 X r) (qN i) (qT i r) j * Y j l) _ 256)))

include hX hY in
/-- The second head's accumulator after trip `n`. -/
theorem trip9_1 (n : Fin (k0_t1_loop i).trips) (acc : BitVec 32) (f8 : BufTy.Contents (Elt Ideal) arg8.view.ty) (f9 : BufTy.Contents (Elt Ideal) arg9.view.ty)
    (G : BufTy.Contents (Elt Ideal) arg9.view.ty) (P : List (View.Piece (Elt Ideal) S2x256x128 .f32))
    (hc : ∀ (r : Fin 256) l, arg8.view.read (Elt Ideal) f8 (ix3 1 r l) = ∑ j ∈ Finset.Ico (kB i n + 256) (qN i), lr (zq v29 v37 X r) (qT i r) j) (r : Fin 256) (l : Fin 128) :
    arg9.view.read (Elt Ideal) (arg9.view.writes (Elt Ideal) G ((tripL_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 n acc f8 f9).2 ++ P)) (ix3 1 r l)
      = arg9.view.read (Elt Ideal) f9 (ix3 1 r l) + ∑ j ∈ Finset.Ico (kB i n) (kB i n + 256), weight (zq v29 v37 X r) (qN i) (qT i r) j * Y j l := by
  unfold tripL_k0_t1
  unfold trip_k0_t1
  dsimp only
  sl_unfold_words
  refine (View.read_writes_cons_unit_of_mem arg9.view _ _ _ _ (ix3 1 r l) (ix3 0 r l) rfl (by
    intro a
    fin_cases a
    · rfl
    · exact (Nat.zero_add r.val).symm
    · exact (Nat.zero_add l.val).symm)).trans ?_
  exact ((acc1_apply i n v29 v37 _ _ _ _ X Y (load5 i arg5 X5 X hX n _) (load6 i arg6 X6 Y hY n _) r l (fun l => (load_head arg8 f8 _ 1 rfl _ r l).trans (hc r l))).trans
    (congr (congrArg HAdd.hAdd (load_head arg9 f9 _ 1 rfl _ r l)) (sum_block (fun j => weight (zq v29 v37 X r) (qN i) (qT i r) j * Y j l) _ 256)))

include hX hY in
/-- After `n` trips: the carries and the accumulators are the sums over the keys of the last `n` blocks. -/
theorem state_eq (G8 : BufTy.Contents (Elt Ideal) arg8.view.ty) (G9 : BufTy.Contents (Elt Ideal) arg9.view.ty) (init : BitVec 32)
    (h8 : ∀ e r l, arg8.view.read (Elt Ideal) G8 (ix3 e r l) = 0) (h9 : ∀ e r l, arg9.view.read (Elt Ideal) G9 (ix3 e r l) = 0) (n : ℕ) (hn : n ≤ (k0_t1_loop i).trips) :
    (∀ (r : Fin 256) l, arg8.view.read (Elt Ideal) (arg8.view.writes (Elt Ideal) G8 (st_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 G8 G9 init n).2.1) (ix3 0 r l) = ∑ j ∈ Finset.Ico (qN i - 256 * n) (qN i), lr (zq v21 v33 X r) (qT i r) j)
      ∧ (∀ (r : Fin 256) l, arg8.view.read (Elt Ideal) (arg8.view.writes (Elt Ideal) G8 (st_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 G8 G9 init n).2.1) (ix3 1 r l) = ∑ j ∈ Finset.Ico (qN i - 256 * n) (qN i), lr (zq v29 v37 X r) (qT i r) j)
      ∧ (∀ (r : Fin 256) l, arg9.view.read (Elt Ideal) (arg9.view.writes (Elt Ideal) G9 (st_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 G8 G9 init n).2.2) (ix3 0 r l) = ∑ j ∈ Finset.Ico (qN i - 256 * n) (qN i), weight (zq v21 v33 X r) (qN i) (qT i r) j * Y j l)
      ∧ (∀ (r : Fin 256) l, arg9.view.read (Elt Ideal) (arg9.view.writes (Elt Ideal) G9 (st_k0_t1 (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 G8 G9 init n).2.2) (ix3 1 r l) = ∑ j ∈ Finset.Ico (qN i - 256 * n) (qN i), weight (zq v29 v37 X r) (qN i) (qT i r) j * Y j l) := by
  induction n with
  | zero =>
    refine ⟨fun r l => ?_, fun r l => ?_, fun r l => ?_, fun r l => ?_⟩
    · exact (h8 0 r l).trans (by simp)
    · exact (h8 1 r l).trans (by simp)
    · exact (h9 0 r l).trans (by simp)
    · exact (h9 1 r l).trans (by simp)
  | succ n ih =>
    obtain ⟨a0, a1, b0, b1⟩ := ih (Nat.le_of_succ_le hn)
    have ht := trips_t1 i
    have eB : qN i - 256 * (n + 1) = kB i ⟨n, hn⟩ := by
      show ((i 2).val + 1) * 256 - 256 * (n + 1) = ((i 2).val - n) * 256
      omega
    have eB' : qN i - 256 * n = kB i ⟨n, hn⟩ + 256 := by
      show ((i 2).val + 1) * 256 - 256 * n = ((i 2).val - n) * 256 + 256
      omega
    have hB := kB_le i ⟨n, hn⟩
    rw [eB'] at a0 a1 b0 b1
    rw [eB]
    have es := st_k0_t1_succ (F := Ideal) 𝒱 c bd i arg3 harg3 arg4 harg4 arg5 harg5 arg6 harg6 arg7 harg7 arg8 harg8 arg9 harg9 (BitVec.ofNat 32 (i 2).val) k0_pay41 k0_pay42 k0_pay43 v21 v29 v33 v37 X5 X6 G8 G9 init ⟨n, hn⟩
    have e1 := congrArg (fun p => p.2.1) es
    have e2 := congrArg (fun p => p.2.2) es
    dsimp only at e1 e2
    rw [e1, e2]
    refine ⟨fun r l => ?_, fun r l => ?_, fun r l => ?_, fun r l => ?_⟩
    · exact trip8_0 𝒱 c bd i arg3 harg3 arg4 harg4 arg5 harg5 arg6 harg6 arg7 harg7 arg8 harg8 arg9 harg9 v21 v29 v33 v37 X5 X6 X Y hX hY ⟨n, hn⟩ _ _ _ _ _ a0 r l
    · exact trip8_1 𝒱 c bd i arg3 harg3 arg4 harg4 arg5 harg5 arg6 harg6 arg7 harg7 arg8 harg8 arg9 harg9 v21 v29 v33 v37 X5 X6 X Y hX hY ⟨n, hn⟩ _ _ _ _ _ a1 r l
    · refine (trip9_0 𝒱 c bd i arg3 harg3 arg4 harg4 arg5 harg5 arg6 harg6 arg7 harg7 arg8 harg8 arg9 harg9 v21 v29 v33 v37 X5 X6 X Y hX hY ⟨n, hn⟩ _ _ _ _ _ a0 r l).trans ?_
      rw [b0 r l, add_comm]
      exact sum_stretch _ (by omega) hB
    · refine (trip9_1 𝒱 c bd i arg3 harg3 arg4 harg4 arg5 harg5 arg6 harg6 arg7 harg7 arg8 harg8 arg9 harg9 v21 v29 v33 v37 X5 X6 X Y hX hY ⟨n, hn⟩ _ _ _ _ _ a1 r l).trans ?_
      rw [b1 r l, add_comm]
      exact sum_stretch _ (by omega) hB

end Cert.KernelIdeal.Value

end
-- ==== Proof.AttnOut.lean ====
module

public import proofs.«01_k».proof.Proof.AttnTrip

/-!
# What one grid point writes

A grid point's output block is, lane by lane, the weighted sum of the values over all keys before the query's block end,
with the first head's weights in lanes 0-63 and the second head's in lanes 64-127.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise
open Cert.Attn

variable (c : Dev nD) (i : grid0.Coords)
  (arg3 : Memref sig .tc .smem S16 .f32) (harg3 : arg3.IsWhole) (arg4 : Memref sig .tc .vmem S1x256x128 .f32) (harg4 : arg4.IsWhole)
  (arg5 : Memref sig .tc .vmem S1x4096x128 .bf16) (harg5 : arg5.IsWhole) (arg6 : Memref sig .tc .vmem S1x4096x128 .bf16) (harg6 : arg6.IsWhole)
  (arg7 : Memref sig .tc .vmem S1x256x128 .f32) (harg7 : arg7.IsWhole) (arg8 : Memref sig .tc .vmem S2x256x128 .f32) (harg8 : arg8.IsWhole)
  (arg9 : Memref sig .tc .vmem S2x256x128 .f32) (harg9 : arg9.IsWhole)
  (x0 : Vec Ideal S16 .f32) (x1 : Vec Ideal S1x256x128 .f32) (x2 : Vec Ideal S1x4096x128 .bf16) (x3 : Vec Ideal S1x4096x128 .bf16)

theorem pay7_apply (A B : Vec Ideal S1x256x128 .f32) (r : Fin 256) (l : Fin 128) :
    k0_pay7 (iota .tc S256x128 32 [1] iota_S256x128_d1_w32) A B (ix3 0 r l) = if l.val < 64 then A (ix3 0 r l) else B (ix3 0 r l) := by
  pointwise [k0_pay7]
  rw [WordCmp.cmpi_slt_ofNat (by omega) (by omega)]
  split
  · rename_i hh; rw [decide_eq_true hh]; rfl
  · rename_i hh; rw [decide_eq_false hh]; rfl

theorem zero8 (e : Fin 2) (r : Fin 256) (l : Fin 128) : k0_pay1 (F := Ideal) k0_pay46 (ix3 e r l) = (0 : EReal) := by
  pointwise [k0_pay1, k0_pay46]

theorem zero9 (e : Fin 2) (r : Fin 256) (l : Fin 128) : k0_pay2 (F := Ideal) (ix3 e r l) = (0 : EReal) := by
  pointwise [k0_pay2]

/-- A head's bias. -/
theorem bias_eq (e : Fin 2) (inb : ∀ a, k0_off1 i (BitVec.ofNat 32 e.val) a + S1.size a ≤ S16.size a) (x : S1.Idx) :
    arg3.view.readAt (Elt Ideal) (Rect.unit (s := S16) (k0_off1 i (BitVec.ofNat 32 e.val)) S1.size inb).toLoadRect (harg3.unread x0) x
      = x0 (ix1 ⟨2 * (i 1).val + e.val, by have h : (i 1).val < 8 := (i 1).isLt; have := e.isLt; omega⟩) := by
  have h1 : (i 1).val < 8 := (i 1).isLt
  have he := e.isLt
  show arg3.view.read (Elt Ideal) (harg3.unread x0) _ = _
  rw [harg3.read_unread]
  refine congrArg x0 (funext fun a => Fin.ext ?_)
  have ho : ∀ (p : Fin 8) (e : Fin 2), (Scalar.indexCast (Scalar.addi (Scalar.muli 2#32 (BitVec.ofNat 32 p.val)) (BitVec.ofNat 32 e.val))).toNat = 2 * p.val + e.val := by decide +kernel
  have hx : (x a).val = 0 := by
    have : (x a).val < 1 := by fin_cases a; exact (x 0).isLt
    omega
  fin_cases a
  show (Scalar.indexCast (Scalar.addi (Scalar.muli 2#32 (BitVec.ofNat 32 (i 1).val)) (BitVec.ofNat 32 e.val))).toNat + 1 * (x 0).val = _
  rw [ho (i 1) e]
  have hx' : (x 0).val = 0 := hx
  rw [hx']
  rfl

/-- A block's row by its number, for any number. -/
def rowOf (x : Vec Ideal S1x4096x128 .bf16) (j : ℕ) (l : Fin 128) : EReal := x (ix3 0 ⟨j % 4096, Nat.mod_lt _ (by decide)⟩ l)

theorem rowOf_lt (x : Vec Ideal S1x4096x128 .bf16) (s : Fin 4096) (l : Fin 128) : x (ix3 0 s l) = rowOf x s.val l := by
  unfold rowOf
  congr 2
  exact Fin.ext (Nat.mod_eq_of_lt s.isLt).symm

/-- The bias of the grid point's head `e`. -/
def biasOf (e : Fin 2) : EReal :=
  x0 (ix1 ⟨2 * (i 1).val + e.val, by have h : (i 1).val < 8 := (i 1).isLt; have := e.isLt; omega⟩)

theorem read_arg4 (inb) : arg4.view.readAt (Elt Ideal) (Rect.unit (s := S1x256x128) ![0, 0, 0] S1x256x128.size inb).toLoadRect (harg4.unread x1) = x1 := by
  refine (View.readAt_full arg4.view _ inb).trans (harg4.read_unread x1)

theorem trips_t2' : Scf.trips (k0_t2_loop i).lb (k0_t2_loop i).ub (k0_t2_loop i).st = 0 := trips_t2 i

/-- A query block's result in head `e` at a lane: the weighted values of all keys before its end. -/
def headOut (qm : FVec Ideal S256x128 .bf16) (e : Fin 2) (r : Fin 256) (l : Fin 128) : EReal :=
  ∑ j ∈ Finset.Ico 0 (qN i), weight (zq qm (biasOf i x0 e) (rowOf x2) r) (qN i) (qT i r) j * rowOf x3 j l

theorem out_apply (r : Fin 256) (l : Fin 128) :
    out0_A_4 (F := Ideal) c i arg3 harg3 arg4 harg4 arg5 harg5 arg6 harg6 arg7 harg7 arg8 harg8 arg9 harg9 x0 x1 x2 x3 (ix3 0 r l)
      = if l.val < 64 then headOut i x0 x2 x3 (k0_pay44 x1) 0 r l else headOut i x0 x2 x3 (k0_pay45 x1) 1 r l := by
  unfold out0_A_4
  unfold kernelRun0_A
  dsimp only
  sl_unfold_words
  refine (View.read_writes_cons_unit_of_mem VO0_4 _ _ _ _ (ix3 0 r l) (ix3 0 r l) rfl (by
    intro a
    fin_cases a
    · rfl
    · exact (Nat.zero_add r.val).symm
    · exact (Nat.zero_add l.val).symm)).trans ?_
  refine (pay7_apply _ _ r l).trans ?_
  rw [trips_t2']
  have e0 : qN i - 256 * (k0_t1_loop i).trips = 0 := by
    rw [trips_t1]; unfold qN; omega
  refine if_congr Iff.rfl ?_ ?_
  · refine (load_head arg9 _ _ 0 rfl _ r l).trans ?_
    rw [View.writes_append, st_k0_t2.eq_1, View.writes_nil, View.writes_append]
    refine ((state_eq Variants.none c none i arg3 harg3 arg4 harg4 arg5 harg5 arg6 harg6 arg7 harg7 arg8 harg8 arg9 harg9 _ _ _ _ (harg5.unread x2) (harg6.unread x3)
      (rowOf x2) (rowOf x3) (fun s l => (congrFun (harg5.read_unread x2) _).trans (rowOf_lt x2 s l)) (fun s l => (congrFun (harg6.read_unread x3) _).trans (rowOf_lt x3 s l))
      _ _ _ ?_ ?_ (Scf.trips (k0_t1_loop i).lb (k0_t1_loop i).ub (k0_t1_loop i).st) le_rfl).2.2.1 r l).trans ?_
    · intro e r l
      exact (congrFun (View.read_writes_full arg8.view _ _ _ []) _).trans (zero8 e r l)
    · intro e r l
      exact (congrFun (View.read_writes_full arg9.view _ _ _ []) _).trans (zero9 e r l)
    · rw [show qN i - 256 * Scf.trips (k0_t1_loop i).lb (k0_t1_loop i).ub (k0_t1_loop i).st = 0 from e0, read_arg4]
      unfold headOut
      exact Finset.sum_congr rfl fun j _ => congrArg (fun b => weight (zq (k0_pay44 x1) b (rowOf x2) r) (qN i) (qT i r) j * rowOf x3 j l) (bias_eq i arg3 harg3 x0 0 _ _)
  · refine (load_head arg9 _ _ 1 rfl _ r l).trans ?_
    rw [View.writes_append, st_k0_t2.eq_1, View.writes_nil, View.writes_append]
    refine ((state_eq Variants.none c none i arg3 harg3 arg4 harg4 arg5 harg5 arg6 harg6 arg7 harg7 arg8 harg8 arg9 harg9 _ _ _ _ (harg5.unread x2) (harg6.unread x3)
      (rowOf x2) (rowOf x3) (fun s l => (congrFun (harg5.read_unread x2) _).trans (rowOf_lt x2 s l)) (fun s l => (congrFun (harg6.read_unread x3) _).trans (rowOf_lt x3 s l))
      _ _ _ ?_ ?_ (Scf.trips (k0_t1_loop i).lb (k0_t1_loop i).ub (k0_t1_loop i).st) le_rfl).2.2.2 r l).trans ?_
    · intro e r l
      exact (congrFun (View.read_writes_full arg8.view _ _ _ []) _).trans (zero8 e r l)
    · intro e r l
      exact (congrFun (View.read_writes_full arg9.view _ _ _ []) _).trans (zero9 e r l)
    · rw [show qN i - 256 * Scf.trips (k0_t1_loop i).lb (k0_t1_loop i).ub (k0_t1_loop i).st = 0 from e0, read_arg4]
      unfold headOut
      exact Finset.sum_congr rfl fun j _ => congrArg (fun b => weight (zq (k0_pay45 x1) b (rowOf x2) r) (qN i) (qT i r) j * rowOf x3 j l) (bias_eq i arg3 harg3 x0 1 _ _)

end Cert.KernelIdeal.Value

end
-- ==== Proof.AttnSpec.lean ====
module

public import proofs.«01_k».proof.Proof.AttnMath
public import Idealize.ShloMosaic.Lib.Pointwise

/-!
# What the attention computes

Both programs' result: per batch, query and head, the sum of the values weighted by the stick-breaking weights of the
query's logits.
-/

@[expose] public section

noncomputable section

namespace Cert.Attn

open Idealize.ShloMosaic Idealize.ShloMosaic.Pointwise

variable (A0 A1 A2 : (⟨2, ![16384, 1024]⟩ : Shape).Idx → EReal) (A3 : (⟨1, ![16]⟩ : Shape).Idx → EReal)

/-- Head `h`'s lane `x` among the 1024. -/
abbrev hl (h : Fin 16) (x : Fin 64) : Fin 1024 := ⟨h.val * 64 + x.val, by omega⟩
/-- Batch `b`'s row `t` among the 16384. -/
abbrev br (b : Fin 4) (t : Fin 4096) : Fin 16384 := ⟨b.val * 4096 + t.val, by omega⟩

/-- The logits of batch `b`'s query `t` in head `h`, over the keys' numbers. -/
def zf (b : Fin 4) (t : Fin 4096) (h : Fin 16) (j : ℕ) : EReal :=
  ∑ x : Fin 64, A0 (ix2 (br b t) (hl h x)) * A1 (ix2 (br b ⟨j % 4096, Nat.mod_lt _ (by decide)⟩) (hl h x)) + A3 (ix1 h)

/-- The attention at batch `b`, query `t` and lane `d`. -/
def attn (b : Fin 4) (t : Fin 4096) (d : Fin 1024) : EReal :=
  ∑ s : Fin 4096, weight (zf A0 A1 A3 b t ⟨d.val / 64, by omega⟩) 4096 t.val s.val * A2 (ix2 (br b s) d)

/-- The attention's result array. -/
def attnArr : (⟨3, ![4, 4096, 1024]⟩ : Shape).Idx → EReal := fun i => attn A0 A1 A2 A3 (i 0) (i 1) (i 2)

end Cert.Attn

end
-- ==== Proof.AttnValue.lean ====
module

public import proofs.«01_k».proof.Proof.AttnOut
public import proofs.«01_k».proof.Proof.AttnSpec
public import Idealize.ShloMosaic.Lib.StableHlo.Run

/-!
# The kernel's result array is the attention

Every grid point's blocks are rows of the arguments, so what it writes is its block of the attention; the blocks cover
the array.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise
open Idealize.ShloMosaic.Pipeline (Dat)
open Cert.Attn

variable (m : (ℓ : Loc nD τ sig) → Buf (Elt Ideal) ℓ) (c : Dev nD)

abbrev arg0 : FVec Ideal S16384x1024 .f32 := m ((c : Thread nD τ).loc main_arg0)
abbrev arg1 : FVec Ideal S16384x1024 .bf16 := m ((c : Thread nD τ).loc main_arg1)
abbrev arg2 : FVec Ideal S16384x1024 .bf16 := m ((c : Thread nD τ).loc main_arg2)
abbrev arg3 : FVec Ideal S16 .f32 := m ((c : Thread nD τ).loc main_arg3)

/-- The arrays the region reads are the arguments, reshaped. -/
theorem V_v0 : V m c main_v0 = shapeCast S4x4096x1024 (arg0 m c) shapeCasts_S16384x1024_S4x4096x1024 := by
  show StableHlo.after hostOps0 (fun b => m (c, b)) main_v0 = _
  after_results
  rfl
theorem V_v1 : V m c main_v1 = shapeCast S4x4096x1024 (arg1 m c) shapeCasts_S16384x1024_S4x4096x1024 := by
  show StableHlo.after hostOps0 (fun b => m (c, b)) main_v1 = _
  after_results
  rfl
theorem V_v2 : V m c main_v2 = shapeCast S4x4096x1024 (arg2 m c) shapeCasts_S16384x1024_S4x4096x1024 := by
  show StableHlo.after hostOps0 (fun b => m (c, b)) main_v2 = _
  after_results
  rfl

/-- Row `s` of batch `b` in the reshaped array. -/
theorem reshape_apply (x : S16384x1024.Idx → EReal) (b : Fin 4) (s : Fin 4096) (d : Fin 1024) :
    shapeCast S4x4096x1024 x shapeCasts_S16384x1024_S4x4096x1024 (ix3 b s d) = x (ix2 (br b s) d) := by
  pointwise []

/-- The windows' block indices at a grid point. -/
theorem win_index : ∀ t : Fin grid0.N,
    (win0_1.index t 0 = (grid0.coords t 0).val ∧ win0_1.index t 1 = (grid0.coords t 2).val ∧ win0_1.index t 2 = (grid0.coords t 1).val)
    ∧ (win0_2.index t 0 = (grid0.coords t 0).val ∧ win0_2.index t 1 = 0 ∧ win0_2.index t 2 = (grid0.coords t 1).val)
    ∧ (win0_3.index t 0 = (grid0.coords t 0).val ∧ win0_3.index t 1 = 0 ∧ win0_3.index t 2 = (grid0.coords t 1).val)
    ∧ (win0_4.index t 0 = (grid0.coords t 0).val ∧ win0_4.index t 1 = (grid0.coords t 2).val ∧ win0_4.index t 2 = (grid0.coords t 1).val)
    ∧ win0_0.index t 0 = 0 := by decide +kernel

/-- The grid point's batch, pair of heads and query block. -/
abbrev gb (t : Fin grid0.N) : Fin 4 := grid0.coords t 0
abbrev gp (t : Fin grid0.N) : Fin 8 := grid0.coords t 1
abbrev gq (t : Fin grid0.N) : Fin 16 := grid0.coords t 2
/-- The query of row `r` of the point's block. -/
abbrev gt (t : Fin grid0.N) (r : Fin 256) : Fin 4096 := ⟨(gq t).val * 256 + r.val, by have := (gq t).isLt; omega⟩
/-- The lane of the point's block among the 1024. -/
abbrev gd (t : Fin grid0.N) (l : Fin 128) : Fin 1024 := ⟨(gp t).val * 128 + l.val, by have := (gp t).isLt; omega⟩

theorem iblk0 (t : Fin cfg0.N) (h : Fin 16) : (iblk m c 0 t : Vec Ideal S16 .f32) (ix1 h) = arg3 m c (ix1 h) := by
  obtain ⟨-, -, -, -, h0⟩ := win_index t
  unfold iblk
  rw [View.read_apply]
  refine (congrFun (V_main_arg3 m c) _).trans ?_
  refine congrArg (arg3 m c) (funext fun a => Fin.ext ?_)
  fin_cases a
  show win0_0.index t 0 * 16 + 1 * h.val = h.val
  rw [h0]; omega

theorem iblk1 (t : Fin cfg0.N) (r : Fin 256) (l : Fin 128) :
    (iblk m c 1 t : Vec Ideal S1x256x128 .f32) (ix3 0 r l) = arg0 m c (ix2 (br (gb t) (gt t r)) (gd t l)) := by
  obtain ⟨⟨h0, h1, h2⟩, -⟩ := win_index t
  rw [← reshape_apply (arg0 m c), ← V_v0]
  unfold iblk
  rw [View.read_apply]
  refine congrArg (V m c main_v0) (funext fun a => Fin.ext ?_)
  fin_cases a
  · show win0_1.index t 0 * 1 + 1 * 0 = (grid0.coords t 0).val
    rw [h0]; omega
  · show win0_1.index t 1 * 256 + 1 * r.val = (grid0.coords t 2).val * 256 + r.val
    rw [h1]; omega
  · show win0_1.index t 2 * 128 + 1 * l.val = (grid0.coords t 1).val * 128 + l.val
    rw [h2]; omega

theorem iblk2 (t : Fin cfg0.N) (s : Fin 4096) (l : Fin 128) :
    (iblk m c 2 t : Vec Ideal S1x4096x128 .bf16) (ix3 0 s l) = arg1 m c (ix2 (br (gb t) s) (gd t l)) := by
  obtain ⟨-, ⟨h0, h1, h2⟩, -⟩ := win_index t
  rw [← reshape_apply (arg1 m c), ← V_v1]
  unfold iblk
  rw [View.read_apply]
  refine congrArg (V m c main_v1) (funext fun a => Fin.ext ?_)
  fin_cases a
  · show win0_2.index t 0 * 1 + 1 * 0 = (grid0.coords t 0).val
    rw [h0]; omega
  · show win0_2.index t 1 * 4096 + 1 * s.val = s.val
    rw [h1]; omega
  · show win0_2.index t 2 * 128 + 1 * l.val = (grid0.coords t 1).val * 128 + l.val
    rw [h2]; omega

theorem iblk3 (t : Fin cfg0.N) (s : Fin 4096) (l : Fin 128) :
    (iblk m c 3 t : Vec Ideal S1x4096x128 .bf16) (ix3 0 s l) = arg2 m c (ix2 (br (gb t) s) (gd t l)) := by
  obtain ⟨-, -, ⟨h0, h1, h2⟩, -⟩ := win_index t
  rw [← reshape_apply (arg2 m c), ← V_v2]
  unfold iblk
  rw [View.read_apply]
  refine congrArg (V m c main_v2) (funext fun a => Fin.ext ?_)
  fin_cases a
  · show win0_3.index t 0 * 1 + 1 * 0 = (grid0.coords t 0).val
    rw [h0]; omega
  · show win0_3.index t 1 * 4096 + 1 * s.val = s.val
    rw [h1]; omega
  · show win0_3.index t 2 * 128 + 1 * l.val = (grid0.coords t 1).val * 128 + l.val
    rw [h2]; omega

/-! ## The two heads' masked queries -/

theorem pay44_apply (x1 : Vec Ideal S1x256x128 .f32) (r : Fin 256) (l : Fin 128) :
    k0_pay44 x1 (ix2 r l) = if l.val < 64 then x1 (ix3 0 r l) else 0 := by
  have h : ∀ l : Fin 128, IntOp.andi (IntOp.cmpi CmpIPredicate.sge (BitVec.ofNat 32 l.val) 0#32)
      (IntOp.cmpi CmpIPredicate.slt (BitVec.ofNat 32 l.val) 64#32) = if l.val < 64 then 1#1 else 0#1 := by decide +kernel
  pointwise [k0_pay44, k0_pay40]
  rw [h, select_mask]

theorem pay45_apply (x1 : Vec Ideal S1x256x128 .f32) (r : Fin 256) (l : Fin 128) :
    k0_pay45 x1 (ix2 r l) = if l.val < 64 then 0 else x1 (ix3 0 r l) := by
  have h : ∀ l : Fin 128, IntOp.andi (IntOp.cmpi CmpIPredicate.sge (BitVec.ofNat 32 l.val) 64#32)
      (IntOp.cmpi CmpIPredicate.slt (BitVec.ofNat 32 l.val) 128#32) = if l.val < 64 then 0#1 else 1#1 := by decide +kernel
  pointwise [k0_pay45, k0_pay40]
  rw [h]
  split <;> rfl

/-- A sum over 128 lanes as the sums over its halves. -/
theorem sum_128 (f : Fin 128 → EReal) :
    ∑ x, f x = ∑ x : Fin 64, f ⟨x.val, by omega⟩ + ∑ x : Fin 64, f ⟨64 + x.val, by omega⟩ :=
  Fin.sum_univ_add (a := 64) (b := 64) f

theorem sum_lo (q k : Fin 128 → EReal) :
    ∑ x : Fin 128, (if x.val < 64 then q x else 0) * k x = ∑ x : Fin 64, q ⟨x.val, by omega⟩ * k ⟨x.val, by omega⟩ := by
  rw [sum_128]
  refine (congr (congrArg HAdd.hAdd (Finset.sum_congr rfl fun x _ => ?_)) (Finset.sum_eq_zero fun x _ => ?_)).trans (add_zero _)
  · rw [if_pos x.isLt]
  · rw [if_neg (show ¬64 + x.val < 64 by omega), zero_mul]

theorem sum_hi (q k : Fin 128 → EReal) :
    ∑ x : Fin 128, (if x.val < 64 then 0 else q x) * k x = ∑ x : Fin 64, q ⟨64 + x.val, by omega⟩ * k ⟨64 + x.val, by omega⟩ := by
  rw [sum_128]
  refine (congr (congrArg HAdd.hAdd (Finset.sum_eq_zero fun x _ => ?_)) (Finset.sum_congr rfl fun x _ => ?_)).trans (zero_add _)
  · rw [if_pos x.isLt, zero_mul]
  · rw [if_neg (show ¬64 + x.val < 64 by omega)]

/-- The point's head `e`. -/
abbrev gh (t : Fin grid0.N) (e : Fin 2) : Fin 16 := ⟨2 * (gp t).val + e.val, by have := (gp t).isLt; omega⟩

theorem zq0 (t : Fin cfg0.N) (r : Fin 256) (j : ℕ) :
    zq (k0_pay44 (iblk m c 1 t)) (biasOf (grid0.coords t) (iblk m c 0 t) 0) (rowOf (iblk m c 2 t)) r j
      = zf (arg0 m c) (arg1 m c) (arg3 m c) (gb t) (gt t r) (gh t 0) j := by
  unfold zq zf biasOf
  simp only [pay44_apply]
  rw [sum_lo]
  refine congr (congrArg HAdd.hAdd (Finset.sum_congr rfl fun x _ => ?_)) (iblk0 m c t _)
  unfold rowOf
  rw [iblk1, iblk2]
  have e : gd t ⟨x.val, by omega⟩ = hl (gh t 0) x := Fin.ext (by
    show (gp t).val * 128 + x.val = (2 * (gp t).val + 0) * 64 + x.val
    omega)
  rw [e]

theorem zq1 (t : Fin cfg0.N) (r : Fin 256) (j : ℕ) :
    zq (k0_pay45 (iblk m c 1 t)) (biasOf (grid0.coords t) (iblk m c 0 t) 1) (rowOf (iblk m c 2 t)) r j
      = zf (arg0 m c) (arg1 m c) (arg3 m c) (gb t) (gt t r) (gh t 1) j := by
  unfold zq zf biasOf
  simp only [pay45_apply]
  rw [sum_hi]
  refine congr (congrArg HAdd.hAdd (Finset.sum_congr rfl fun x _ => ?_)) (iblk0 m c t _)
  unfold rowOf
  rw [iblk1, iblk2]
  have e : gd t ⟨64 + x.val, by omega⟩ = hl (gh t 1) x := Fin.ext (by
    show (gp t).val * 128 + (64 + x.val) = (2 * (gp t).val + 1) * 64 + x.val
    omega)
  rw [e]

/-- The sum up to the query block's end is the sum over all keys: later keys weigh nothing. -/
theorem head_sum (z : ℕ → EReal) (v : ℕ → EReal) (t N : ℕ) (ht : t ≤ N) (hN : N ≤ 4096) :
    ∑ j ∈ Finset.Ico 0 N, weight z N t j * v j = ∑ s : Fin 4096, weight z 4096 t s.val * v s.val := by
  rw [Fin.sum_univ_eq_sum_range (fun s => weight z 4096 t s * v s) 4096, Finset.range_eq_Ico]
  rw [Finset.sum_congr rfl fun j _ => by rw [← weight_upper z j ht hN]]
  refine Finset.sum_subset (Finset.Ico_subset_Ico_right hN) fun j _ hj => ?_
  rw [weight_of_le z 4096 (by
    have : ¬(0 ≤ j ∧ j < N) := fun h => hj (Finset.mem_Ico.mpr h)
    omega), zero_mul]

theorem head_eq (t : Fin cfg0.N) (e : Fin 2) (qm : FVec Ideal S256x128 .bf16) (r : Fin 256) (l : Fin 128)
    (hl : l.val / 64 = e.val)
    (hz : ∀ j, zq qm (biasOf (grid0.coords t) (iblk m c 0 t) e) (rowOf (iblk m c 2 t)) r j
      = zf (arg0 m c) (arg1 m c) (arg3 m c) (gb t) (gt t r) (gh t e) j) :
    headOut (grid0.coords t) (iblk m c 0 t) (iblk m c 2 t) (iblk m c 3 t) qm e r l
      = attn (arg0 m c) (arg1 m c) (arg2 m c) (arg3 m c) (gb t) (gt t r) (gd t l) := by
  have hq : (grid0.coords t 2).val < 16 := (gq t).isLt
  have hr := r.isLt
  unfold headOut attn
  rw [head_sum _ _ _ _ (by show (grid0.coords t 2).val * 256 + r.val ≤ ((grid0.coords t 2).val + 1) * 256; omega)
    (by show ((grid0.coords t 2).val + 1) * 256 ≤ 4096; omega)]
  refine Finset.sum_congr rfl fun s _ => ?_
  rw [funext hz]
  have e1 : (⟨(gd t l).val / 64, by omega⟩ : Fin 16) = gh t e := Fin.ext (by
    show ((gp t).val * 128 + l.val) / 64 = 2 * (gp t).val + e.val
    omega)
  rw [e1, ← rowOf_lt, iblk3]

/-- What point `t` writes at row `r`, lane `l` of its block. -/
theorem point_eq (t : Fin cfg0.N) (r : Fin 256) (l : Fin 128) :
    (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)) (ix3 0 r l)
      = attn (arg0 m c) (arg1 m c) (arg2 m c) (arg3 m c) (gb t) (gt t r) (gd t l) := by
  rw [out_apply]
  split
  · rename_i h
    exact head_eq m c t 0 _ r l (by show l.val / 64 = 0; omega) (zq0 m c t r)
  · rename_i h
    exact head_eq m c t 1 _ r l (by have := l.isLt; show l.val / 64 = 1; omega) (zq1 m c t r)

/-- The kernel's result. -/
abbrev result : Buf (Elt Ideal) ((c : Thread nD τ).loc main_v3) := attnArr (arg0 m c) (arg1 m c) (arg2 m c) (arg3 m c)

theorem attn_congr (A0 A1 A2 : S16384x1024.Idx → EReal) (A3 : S16.Idx → EReal) {b b' : Fin 4} {t t' : Fin 4096} {d d' : Fin 1024}
    (hb : b.val = b'.val) (ht : t.val = t'.val) (hd : d.val = d'.val) :
    attn A0 A1 A2 A3 b t d = attn A0 A1 A2 A3 b' t' d' := by
  rw [Fin.ext hb, Fin.ext ht, Fin.ext hd]

theorem cut_apply (i : grid0.Coords) (X : Vec Ideal S1x256x128 .f32) (j) :
    (cfg0.win 4).cut i X j = X (ix3 0 (j 1) (j 2)) := by
  refine congrArg X (funext fun a => ?_)
  fin_cases a
  · exact Subsingleton.elim (α := Fin 1) _ _
  · rfl
  · rfl

theorem flushed_eq (t : Fin cfg0.N) (hf : (cfg0.win 4).flush t = true) :
    (dats m 0 c).flushed 4 t = ((cfg0.win 4).blk t).view.read (Elt Ideal) (result m c) := by
  obtain ⟨-, -, -, ⟨h0, h1, h2⟩, -⟩ := win_index t
  rw [flushed4_A]
  funext j
  rw [cut_apply]
  refine (point_eq m c t (j 1) (j 2)).trans ?_
  rw [View.read_apply]
  refine attn_congr _ _ _ _ ?_ ?_ ?_
  · show (grid0.coords t 0).val = win0_4.index t 0 * 1 + 1 * (j 0).val
    have hj : (j 0).val < 1 := (j 0).isLt
    rw [h0]; omega
  · show (grid0.coords t 2).val * 256 + (j 1).val = win0_4.index t 1 * 256 + 1 * (j 1).val
    rw [h1]; omega
  · show (grid0.coords t 1).val * 128 + (j 2).val = win0_4.index t 2 * 128 + 1 * (j 2).val
    rw [h2]; omega

/-- The grid point of a batch, a pair of heads and a query block. -/
theorem point_exists (b : Fin 4) (p : Fin 8) (q : Fin 16) : ∃ t : Fin grid0.N,
    (grid0.coords t 0).val = b.val ∧ (grid0.coords t 1).val = p.val ∧ (grid0.coords t 2).val = q.val := by
  have h : ∀ n : Fin 512, (grid0.coords (n : Fin grid0.N) 0).val = n.val / 128 ∧ (grid0.coords (n : Fin grid0.N) 1).val = n.val / 16 % 8
        ∧ (grid0.coords (n : Fin grid0.N) 2).val = n.val % 16 := by decide +kernel
  refine ⟨(⟨(b.val * 8 + p.val) * 16 + q.val, by omega⟩ : Fin 512), ?_⟩
  obtain ⟨h0, h1, h2⟩ := h ⟨(b.val * 8 + p.val) * 16 + q.val, by omega⟩
  exact ⟨h0.trans (by show ((b.val * 8 + p.val) * 16 + q.val) / 128 = b.val; omega), h1.trans (by show ((b.val * 8 + p.val) * 16 + q.val) / 16 % 8 = p.val; omega), h2.trans (by show ((b.val * 8 + p.val) * 16 + q.val) % 16 = q.val; omega)⟩

theorem final_o : (dats m 0 c).arrAt 4 cfg0.N = result m c :=
  (dats m 0 c).arrAt_eq_of_cover 4 (result m c) (flushed_eq m c) fun i => by
    have i0 : (i 0 : ℕ) < 4 := (i 0).isLt
    have i1 : (i 1 : ℕ) < 4096 := (i 1).isLt
    have i2 : (i 2 : ℕ) < 1024 := (i 2).isLt
    obtain ⟨t, e0, e1, e2⟩ := point_exists ⟨(i 0 : ℕ), i0⟩ ⟨(i 2 : ℕ) / 128, by omega⟩ ⟨(i 1 : ℕ) / 256, by omega⟩
    obtain ⟨-, -, -, ⟨h0, h1, h2⟩, -⟩ := win_index t
    refine ⟨t, flush0_4 t, ?_⟩
    show i ∈ ((View.whole main_v3).slice (win0_4.rect t)).set
    rw [View.set_slice_whole, Rect.mem_set_unit]
    intro a
    match a with
    | ⟨0, _⟩ =>
      show win0_4.index t 0 * 1 ≤ (i 0 : ℕ) ∧ (i 0 : ℕ) < win0_4.index t 0 * 1 + 1
      rw [h0, e0]; show (i 0 : ℕ) * 1 ≤ (i 0 : ℕ) ∧ (i 0 : ℕ) < (i 0 : ℕ) * 1 + 1; omega
    | ⟨1, _⟩ =>
      show win0_4.index t 1 * 256 ≤ (i 1 : ℕ) ∧ (i 1 : ℕ) < win0_4.index t 1 * 256 + 256
      rw [h1, e2]; show (i 1 : ℕ) / 256 * 256 ≤ (i 1 : ℕ) ∧ (i 1 : ℕ) < (i 1 : ℕ) / 256 * 256 + 256; omega
    | ⟨2, _⟩ =>
      show win0_4.index t 2 * 128 ≤ (i 2 : ℕ) ∧ (i 2 : ℕ) < win0_4.index t 2 * 128 + 128
      rw [h2, e1]; show (i 2 : ℕ) / 128 * 128 ≤ (i 2 : ℕ) ∧ (i 2 : ℕ) < (i 2 : ℕ) / 128 * 128 + 128; omega

end Cert.KernelIdeal.Value

end
-- ==== Proof.AttnRef.lean ====
module

public import proofs.«01_k».proof.Proof.AttnSpec
public import proofs.«01_k».proof.Proof.Gen.ReferenceIdeal.Run
public import Idealize.ShloMosaic.Lib.Pointwise
public import Idealize.ShloMosaic.Lib.WordCmp

/-!
# The reference, read at an index

The reference's result at batch `b`, query `t`, head `h` and lane `d` is the sum over the keys `s` of the weight of `s`
times the value's entry.
-/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pointwise
open Cert.Attn

variable (A0 : FVec Ideal S16384x1024 .f32) (A1 A2 : FVec Ideal S16384x1024 .bf16) (A3 : FVec Ideal S16 .f32)

/-- The logits. -/
def zT : FVec Ideal S4x16x4096x4096 .f32 := (addf (Host.dotGeneral dot_S4x4096x16x64_S4x4096x16x64_S4x16x4096x4096_3_3_1_1_02_02 none (shapeCast _ A0 shapeCasts_S16384x1024_S4x4096x16x64) (shapeCast _ (extf .f32 A1 bitsLt_bf16_f32) shapeCasts_S16384x1024_S4x4096x16x64)) (broadcastInDim S4x16x4096x4096 ![0, 1, 2, 3] bcast_S1x16x1x1_S4x16x4096x4096_0_1_2_3 (broadcastInDim S1x16x1x1 ![1] bcast_S16_S1x16x1x1_1 A3)))
/-- The causal mask: key before query. -/
def maskT : IVec S4x16x4096x4096 1 := (broadcastInDim S4x16x4096x4096 ![2, 3] bcast_S4096x4096_S4x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
/-- Zeros. -/
def zeroT : FVec Ideal S4x16x4096x4096 .f32 := (broadcastInDim S4x16x4096x4096 ![] bcast_S_S4x16x4096x4096 (constant S_ .f32 0x00000000#32))
/-- The softplus as the reference computes it. -/
def spT (x : FVec Ideal S4x16x4096x4096 .f32) : FVec Ideal S4x16x4096x4096 .f32 :=
  select (cmpf .une (subf x zeroT) (subf x zeroT)) (addf x zeroT) (addf (maximumf x zeroT) (Host.log1p (Host.exp (Host.negf (Host.absf (subf x zeroT))))))
/-- The log rests. -/
def lrT (z : FVec Ideal S4x16x4096x4096 .f32) : FVec Ideal S4x16x4096x4096 .f32 :=
  select maskT (Host.negf (spT (Host.negf (Host.negf z)))) (broadcastInDim S4x16x4096x4096 ![] bcast_S_S4x16x4096x4096 (id (constant S_ .f32 0x00000000#32)))
/-- The running sums from the last key backwards. -/
def cumT (x : FVec Ideal S4x16x4096x4096 .f32) : FVec Ideal S4x16x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S4x16x4096x4096_S4x16x4096x4096_w1s1p0_0_w1s1p0_0_w1s1p0_0_w4096s1p0_4095 h_S_
/-- The attention weights. -/
def aT (z : FVec Ideal S4x16x4096x4096 .f32) : FVec Ideal S4x16x4096x4096 .f32 :=
  Host.exp (select maskT (addf (Host.negf (spT (Host.negf z))) (subf (cumT (lrT z)) (lrT z)))
    (broadcastInDim S4x16x4096x4096 ![] bcast_S_S4x16x4096x4096 (id (constant S_ .f32 0xFF800000#32))))
/-- The result from the weights. -/
def outT (a : FVec Ideal S4x16x4096x4096 .f32) : FVec Ideal S4x4096x1024 .f32 :=
  shapeCast _ (transpose S4x4096x16x64 [0, 3, 1, 2] (Host.dotGeneral dot_S4x4096x16x64_S4x16x4096x4096_S4x16x64x4096_1_3_3_2_02_01 none (shapeCast _ (extf .f32 A2 bitsLt_bf16_f32) shapeCasts_S16384x1024_S4x4096x16x64) a) transposes_S4x16x64x4096_S4x4096x16x64_0_3_1_2) shapeCasts_S4x4096x16x64_S4x4096x1024

theorem res_eq (m : (ℓ : Loc nD τ sig) → Buf (Elt Ideal) ℓ) (c : Dev nD) : res_main_v26 (F := Ideal) m c
    = outT (m ((c.tc : Thread nD τ).loc main_arg2)) (aT (zT (m ((c.tc : Thread nD τ).loc main_arg0)) (m ((c.tc : Thread nD τ).loc main_arg1)) (m ((c.tc : Thread nD τ).loc main_arg3)))) := by
  unfold res_main_v26 outT aT lrT cumT spT zT maskT zeroT
  rfl

theorem zT_apply (b : Fin 4) (h : Fin 16) (t s : Fin 4096) :
    zT A0 A1 A3 (ix4 b h t s) = ∑ x : Fin 64, A0 (ix2 (br b t) (hl h x)) * A1 (ix2 (br b s) (hl h x))
      + A3 (ix1 h) := by
  pointwise [zT]

theorem maskT_apply (b : Fin 4) (h : Fin 16) (t s : Fin 4096) :
    maskT (ix4 b h t s) = if s.val < t.val then 1#1 else 0#1 := by
  pointwise [maskT]
  rw [WordCmp.cmpi_slt_ofNat (by omega) (by omega)]
  split
  · rename_i hh; rw [decide_eq_true hh]; rfl
  · rename_i hh; rw [decide_eq_false hh]; rfl

theorem spT_apply (x : FVec Ideal S4x16x4096x4096 .f32) (j : S4x16x4096x4096.Idx) : spT x j = softplus (x j) := by
  pointwise [spT, zeroT]
  rw [if_neg (not_not.mpr rfl)]
  unfold softplus
  rw [zero_sub]
  rfl

theorem lrT_apply (z : FVec Ideal S4x16x4096x4096 .f32) (b : Fin 4) (h : Fin 16) (t s : Fin 4096) :
    lrT z (ix4 b h t s) = if s.val < t.val then logRest (z (ix4 b h t s)) else 0 := by
  pointwise [lrT]
  rw [maskT_apply, spT_apply]
  pointwise []
  unfold logRest
  rw [zero_sub, neg_neg]
  by_cases hh : s.val < t.val
  · rw [if_pos hh, if_pos hh]; rfl
  · rw [if_neg hh, if_neg hh]
    show (constant S_ FTy.f32 0#32 : FVec Ideal S_ .f32) ix0 = 0
    pointwise []

theorem aT_apply (z : FVec Ideal S4x16x4096x4096 .f32) (b : Fin 4) (h : Fin 16) (t s : Fin 4096) :
    aT z (ix4 b h t s) = if s.val < t.val then Ideal.exp (-softplus (-z (ix4 b h t s)) + (cumT (lrT z) (ix4 b h t s) - lrT z (ix4 b h t s))) else 0 := by
  pointwise [aT]
  rw [maskT_apply, spT_apply]
  pointwise []
  by_cases hh : s.val < t.val
  · rw [if_pos hh, if_pos hh]; rfl
  · rw [if_neg hh, if_neg hh]
    show Ideal.exp ((constant S_ FTy.f32 4286578688#32 : FVec Ideal S_ .f32) ix0) = 0
    have e : (constant S_ FTy.f32 4286578688#32 : FVec Ideal S_ .f32) ix0 = ⊥ := by
      pointwise []
      simp [Ideal.ofBits, Ideal.ieee]
    rw [e]
    rfl

theorem outT_apply (a : FVec Ideal S4x16x4096x4096 .f32) (b : Fin 4) (t : Fin 4096) (d : Fin 1024) :
    outT A2 a (ix3 b t d) = ∑ s : Fin 4096, a (ix4 b ⟨d.val / 64, by omega⟩ t s) * A2 (ix2 (br b s) d) := by
  pointwise [outT]
  exact Finset.sum_congr rfl fun s _ => mul_comm _ _

/-- The positions of a window along the last axis. -/
def winEquiv : Fin 4096 ≃ (⟨4, ![1, 1, 1, 4096]⟩ : Shape).Idx where
  toFun n := ix4 0 0 0 n
  invFun i := i 3
  left_inv _ := rfl
  right_inv i := by
    funext a
    fin_cases a
    · exact Subsingleton.elim (α := Fin 1) _ _
    · exact Subsingleton.elim (α := Fin 1) _ _
    · exact Subsingleton.elim (α := Fin 1) _ _
    · rfl

/-- The running sum at key `s` is the sum over the keys from `s` on. -/
theorem cumT_apply (x : FVec Ideal S4x16x4096x4096 .f32) (b : Fin 4) (h : Fin 16) (t s : Fin 4096) (f : ℕ → EReal)
    (hf : ∀ j : Fin 4096, x (ix4 b h t j) = f j.val) :
    cumT x (ix4 b h t s) = ∑ j ∈ Finset.Ico s.val 4096, f j := by
  have e0 : (broadcastInDim S_ ![] bcast_S_S_ (constant S_ .f32 0x00000000#32) : FVec Ideal S_ .f32) (Shape.Idx.first h_S_) = (0 : EReal) := by
    rw [show Shape.Idx.first h_S_ = ix0 from Subsingleton.elim _ _]
    pointwise []
  unfold cumT
  unfold Host.reduceWindowAdd
  rw [Ideal.hostReduceWindowAdd_def, e0]
  unfold Ideal.hostReduceWindowAdd Host.reduceWindow
  dsimp only
  rw [← List.foldl_map (f := fun n => _) (g := (· + ·)), ← List.sum_eq_foldl, ← Fin.sum_univ_def]
  rw [← Equiv.sum_comp (winEquiv.trans (⟨4, ![1, 1, 1, 4096]⟩ : Shape).rowMajor)]
  have hterm : ∀ w : Fin 4096, (if hin : ∀ a : Fin 4, (![0, 0, 0, 0] : Fin 4 → ℕ) a ≤ (ix4 b h t s a).val * (![1, 1, 1, 1] : Fin 4 → ℕ) a + (winEquiv w a).val
        ∧ (ix4 b h t s a).val * (![1, 1, 1, 1] : Fin 4 → ℕ) a + (winEquiv w a).val - (![0, 0, 0, 0] : Fin 4 → ℕ) a < (![4, 16, 4096, 4096] : Fin 4 → ℕ) a then
        x (fun a => ⟨(ix4 b h t s a).val * (![1, 1, 1, 1] : Fin 4 → ℕ) a + (winEquiv w a).val - (![0, 0, 0, 0] : Fin 4 → ℕ) a, (hin a).2⟩) else 0)
      = if s.val + w.val < 4096 then f (s.val + w.val) else 0 := by
    intro w
    have hb := b.isLt
    have hh := h.isLt
    have ht := t.isLt
    by_cases hw : s.val + w.val < 4096
    · rw [if_pos hw, dif_pos ?_]
      · rw [← hf ⟨s.val + w.val, hw⟩]
        refine congrArg x (funext fun a => Fin.ext ?_)
        fin_cases a
        · show b.val * 1 + 0 - 0 = b.val
          omega
        · show h.val * 1 + 0 - 0 = h.val
          omega
        · show t.val * 1 + 0 - 0 = t.val
          omega
        · show s.val * 1 + w.val - 0 = s.val + w.val
          omega
      · intro a
        fin_cases a
        · show 0 ≤ b.val * 1 + 0 ∧ b.val * 1 + 0 - 0 < 4
          omega
        · show 0 ≤ h.val * 1 + 0 ∧ h.val * 1 + 0 - 0 < 16
          omega
        · show 0 ≤ t.val * 1 + 0 ∧ t.val * 1 + 0 - 0 < 4096
          omega
        · show 0 ≤ s.val * 1 + w.val ∧ s.val * 1 + w.val - 0 < 4096
          omega
    · rw [if_neg hw, dif_neg]
      intro hin
      have h3 := (hin 3).2
      have : s.val * 1 + w.val - 0 < 4096 := h3
      omega
  have hterm' := Finset.sum_congr (rfl : (Finset.univ : Finset (Fin 4096)) = Finset.univ) fun w _ => hterm w
  simp only [Equiv.trans_apply, Equiv.symm_apply_apply]
  refine hterm'.trans ?_
  rw [Fin.sum_univ_eq_sum_range (fun w => if s.val + w < 4096 then f (s.val + w) else 0) 4096, Finset.sum_Ico_eq_sum_range]
  have hs := s.isLt
  rw [← Finset.sum_filter]
  refine Finset.sum_congr (Finset.ext fun w => ?_) fun _ _ => rfl
  simp only [Finset.mem_filter, Finset.mem_range]
  omega

/-- The reference's result is the attention. -/
theorem ref_apply (b : Fin 4) (t : Fin 4096) (d : Fin 1024) :
    outT A2 (aT (zT A0 A1 A3)) (ix3 b t d) = attn A0 A1 A2 A3 b t d := by
  rw [outT_apply]
  unfold attn
  refine Finset.sum_congr rfl fun s _ => ?_
  have hz : ∀ (h : Fin 16) (j : Fin 4096), zT A0 A1 A3 (ix4 b h t j) = zf A0 A1 A3 b t h j.val := by
    intro h j
    rw [zT_apply]
    unfold zf
    have e : (⟨j.val % 4096, Nat.mod_lt _ (by decide)⟩ : Fin 4096) = j := Fin.ext (Nat.mod_eq_of_lt j.isLt)
    rw [e]
  have hl : ∀ (h : Fin 16) (j : Fin 4096), lrT (zT A0 A1 A3) (ix4 b h t j) = lr (zf A0 A1 A3 b t h) t.val j.val := by
    intro h j
    rw [lrT_apply, hz]
    rfl
  rw [aT_apply, weight_ref _ s.isLt, cumT_apply _ _ _ _ _ _ (hl _), hl, hz]

theorem ref_arr : outT A2 (aT (zT A0 A1 A3)) = attnArr A0 A1 A2 A3 := by
  funext i
  have e : i = ix3 (i 0) (i 1) (i 2) := by
    funext a
    fin_cases a <;> rfl
  rw [e]
  exact ref_apply A0 A1 A2 A3 _ _ _

end Cert.ReferenceIdeal.Value

end
-- ==== Proof.AttnClaims.lean ====
module

public import proofs.«01_k».proof.Defs
public import proofs.«01_k».proof.Proof.AttnValue
public import proofs.«01_k».proof.Proof.AttnRef
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run

/-!
# The claims about the attention
-/

@[expose] public section

noncomputable section

namespace Cert.AttnClaims

open Idealize.ShloMosaic Idealize.SL.Sem

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) := fun m ρ _ =>
  Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array: the attention of the arguments. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Value.result m c,
    (θ_run Cert.KernelIdeal.defs _ _).mono (fun r h c => ⟨(h c).1.trans (Cert.KernelIdeal.Value.final_o m c), (h c).2⟩)
      (Cert.KernelIdeal.Value.run_blocks (F := Ideal) m ρ),
    (θ_run Cert.ReferenceIdeal.defs _ _).mono (fun r h c => ⟨(h c).1.trans (by
        obtain ⟨h0, h1, h2, h3⟩ := hag c
        rw [Cert.ReferenceIdeal.Value.res_eq, Cert.ReferenceIdeal.Value.ref_arr, h0, h1, h2, h3]), (h c).2⟩)
      (Cert.ReferenceIdeal.Value.run (F := Ideal) m' ρ')⟩

end Cert.AttnClaims

end
-- ==== Proof.LinSpec.lean ====
module

public import Idealize.ShloMosaic.Lib.Pointwise

/-!
# What the layer's linear maps compute

Row by row: the root mean square norm, its modulation by the row's batch's shift and scale, and the linear maps that
follow.
-/

@[expose] public section

noncomputable section

namespace Cert.Lin

open Idealize.ShloMosaic Idealize.ShloMosaic.Pointwise

variable (X : (⟨2, ![16384, 1024]⟩ : Shape).Idx → EReal) (G : (⟨1, ![1024]⟩ : Shape).Idx → EReal)
  (M : (⟨3, ![24, 1, 1024]⟩ : Shape).Idx → EReal)

/-- Row `n` normed by its root mean square, and scaled by `G`. -/
def normed (n : Fin 16384) (x : Fin 1024) : EReal :=
  X (ix2 n x) * Ideal.rsqrt (Ideal.div (∑ x : Fin 1024, X (ix2 n x) * X (ix2 n x)) (Ideal.ofBits FTy.f32 1149239296#32)
    + Ideal.ofBits FTy.f32 897988541#32) * G (ix1 x)

/-- The row of modulation vector `k` of row `n`'s batch. -/
abbrev part (n : Fin 16384) (k : Fin 6) : Fin 24 := ⟨n.val / 4096 * 6 + k.val, by omega⟩

/-- The normed row, scaled and shifted by its batch's vectors. -/
def modded (n : Fin 16384) (x : Fin 1024) : EReal :=
  normed X G n x * (1 + M (ix3 (part n 1) 0 x)) + M (ix3 (part n 0) 0 x)

/-- The linear map into 2048 lanes, its first half gated by the second. -/
def glu (W : (⟨2, ![1024, 2048]⟩ : Shape).Idx → EReal) (B : (⟨1, ![2048]⟩ : Shape).Idx → EReal) (n : Fin 16384) (d : Fin 1024) :
    EReal :=
  (∑ x : Fin 1024, modded X G M n x * W (ix2 x ⟨d.val, by omega⟩) + B (ix1 ⟨d.val, by omega⟩))
    * Ideal.logistic (∑ x : Fin 1024, modded X G M n x * W (ix2 x ⟨1024 + d.val, by omega⟩) + B (ix1 ⟨1024 + d.val, by omega⟩))

/-- The queries, scaled. -/
def query (W : (⟨2, ![1024, 1024]⟩ : Shape).Idx → EReal) (n : Fin 16384) (d : Fin 1024) : EReal :=
  (∑ x : Fin 1024, modded X G M n x * W (ix2 x d)) * Ideal.ofBits FTy.f32 1040187392#32

/-- A linear map of the normed row: the keys, and the values. -/
def keyval (W : (⟨2, ![1024, 1024]⟩ : Shape).Idx → EReal) (n : Fin 16384) (d : Fin 1024) : EReal :=
  ∑ x : Fin 1024, normed X G n x * W (ix2 x d)

/-- The attention's output map of `Y`, gated and added to the stream. -/
def gated (Y : (⟨2, ![16384, 1024]⟩ : Shape).Idx → EReal) (W : (⟨2, ![1024, 1024]⟩ : Shape).Idx → EReal) (n : Fin 16384)
    (d : Fin 1024) : EReal :=
  X (ix2 n d) + M (ix3 (part n 2) 0 d) * ∑ x : Fin 1024, Y (ix2 n x) * W (ix2 x d)

/-- An array of rows and lanes from its entries. -/
abbrev arr (f : Fin 16384 → Fin 1024 → EReal) : (⟨2, ![16384, 1024]⟩ : Shape).Idx → EReal := fun i => f (i 0) (i 1)

end Cert.Lin

end
-- ==== Proof.ConvInValue.lean ====
module

public import proofs.«01_k».proof.Proof.Gen.ConvInIdeal.Value
public import proofs.«01_k».proof.Proof.LinSpec
public import Idealize.ShloMosaic.Lib.StableHlo.Run

/-!
# The kernel's gate

Every grid point's blocks are rows of the arguments, so what it writes is its block of the result; the blocks cover the
array.
-/

@[expose] public section

set_option maxRecDepth 16384

noncomputable section

namespace Cert.ConvInIdeal.Value

open Cert.ConvInIdeal Cert.ConvInIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S1024 .f32 := m ((c : Thread nD τ).loc main_arg1)
abbrev arg2 : FVec Ideal S24x1x1024 .f32 := m ((c : Thread nD τ).loc main_arg2)
abbrev arg3 : FVec Ideal S1024x2048 .f32 := m ((c : Thread nD τ).loc main_arg3)
abbrev arg4 : FVec Ideal S2048 .f32 := m ((c : Thread nD τ).loc main_arg4)

theorem V_v0 : V m c main_v0 = truncf .bf16 (arg3 m c) bitsLt_bf16_f32 := by
  show StableHlo.after hostOps0 (fun b => m (c, b)) main_v0 = _
  after_results <;> rfl

theorem V_v1 : V m c main_v1 = shapeCast S1x1024 (arg1 m c) shapeCasts_S1024_S1x1024 := by
  show StableHlo.after hostOps0 (fun b => m (c, b)) main_v1 = _
  after_results <;> rfl

theorem V_v2 : V m c main_v2 = shapeCast S1x2048 (arg4 m c) shapeCasts_S2048_S1x2048 := by
  show StableHlo.after hostOps0 (fun b => m (c, b)) main_v2 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = t.val / 16 * 6 + 1
    ∧ win0_2.index t 1 = 0
    ∧ win0_2.index t 2 = 0
    ∧ win0_3.index t 0 = t.val / 16 * 6 + 0
    ∧ win0_3.index t 1 = 0
    ∧ win0_3.index t 2 = 0
    ∧ win0_4.index t 0 = 0
    ∧ win0_4.index t 1 = 0
    ∧ win0_5.index t 0 = 0
    ∧ win0_5.index t 1 = 0
    ∧ win0_6.index t 0 = t.val
    ∧ win0_6.index t 1 = 0 := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1) (x : Fin 1024) :
    (iblk m c 1 t : Vec Ideal S1x1024 .f32) (ix2 p x) = (V m c main_v1 : Vec Ideal S1x1024 .f32) (ix2 p x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine congrArg (V m c main_v1) (funext fun a => Fin.ext ?_)
  fin_cases a
  · show win0_1.index t 0 * 1 + 1 * p.val = p.val
    rw [h1_0]; omega
  · show win0_1.index t 1 * 1024 + 1 * x.val = x.val
    rw [h1_1]; omega

theorem iblk1g (t : Fin cfg0.N) (x : Fin 1024) :
    (iblk m c 1 t : Vec Ideal S1x1024 .f32) (ix2 0 x) = arg1 m c (ix1 x) := by
  rw [iblk1_V, V_v1]
  pointwise []

theorem iblk2 (t : Fin cfg0.N) (r : Fin 256) (x : Fin 1024) :
    (iblk m c 2 t : Vec Ideal S1x1x1024 .f32) (ix3 0 0 x) = arg2 m c (ix3 (part (row t r) 1) 0 x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine (congrFun (V_main_arg2 m c) _).trans ?_
  refine congrArg (arg2 m c) (funext fun a => Fin.ext ?_)
  fin_cases a
  · show win0_2.index t 0 * 1 + 1 * 0 = (t.val * 256 + r.val) / 4096 * 6 + 1
    rw [h2_0]; omega
  · show win0_2.index t 1 * 1 + 1 * 0 = 0
    rw [h2_1]
  · show win0_2.index t 2 * 1024 + 1 * x.val = x.val
    rw [h2_2]; omega

theorem iblk3 (t : Fin cfg0.N) (r : Fin 256) (x : Fin 1024) :
    (iblk m c 3 t : Vec Ideal S1x1x1024 .f32) (ix3 0 0 x) = arg2 m c (ix3 (part (row t r) 0) 0 x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine (congrFun (V_main_arg2 m c) _).trans ?_
  refine congrArg (arg2 m c) (funext fun a => Fin.ext ?_)
  fin_cases a
  · show win0_3.index t 0 * 1 + 1 * 0 = (t.val * 256 + r.val) / 4096 * 6 + 0
    rw [h3_0]; omega
  · show win0_3.index t 1 * 1 + 1 * 0 = 0
    rw [h3_1]
  · show win0_3.index t 2 * 1024 + 1 * x.val = x.val
    rw [h3_2]; omega

theorem iblk4_V (t : Fin cfg0.N) (p : Fin 1024) (x : Fin 2048) :
    (iblk m c 4 t : Vec Ideal S1024x2048 .bf16) (ix2 p x) = (V m c main_v0 : Vec Ideal S1024x2048 .bf16) (ix2 p x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine congrArg (V m c main_v0) (funext fun a => Fin.ext ?_)
  fin_cases a
  · show win0_4.index t 0 * 1024 + 1 * p.val = p.val
    rw [h4_0]; omega
  · show win0_4.index t 1 * 2048 + 1 * x.val = x.val
    rw [h4_1]; omega

theorem iblk4w (t : Fin cfg0.N) (x : Fin 1024) (d : Fin 2048) :
    (iblk m c 4 t : Vec Ideal S1024x2048 .bf16) (ix2 x d) = arg3 m c (ix2 x d) := by
  rw [iblk4_V, V_v0]
  rfl

theorem iblk5_V (t : Fin cfg0.N) (p : Fin 1) (x : Fin 2048) :
    (iblk m c 5 t : Vec Ideal S1x2048 .f32) (ix2 p x) = (V m c main_v2 : Vec Ideal S1x2048 .f32) (ix2 p x) := by
  obtain ⟨h0_0, h0_1, h1_0, h1_1, h2_0, h2_1, h2_2, h3_0, h3_1, h3_2, h4_0, h4_1, h5_0, h5_1, h6_0, h6_1⟩ := win_index t
  unfold iblk
  rw [View.read_apply]
  refine congrArg (V m c main_v2) (funext fun a => Fin.ext ?_)
  fin_cases a
  · show win0_5.index t 0 * 1 + 1 * p.val = p.val
    rw [h5_0]; omega
  · show win0_5.index t 1 * 2048 + 1 * x.val = x.val
    rw [h5_1]; omega

theorem iblk5b (t : Fin cfg0.N) (x : Fin 2048) :
    (iblk m c 5 t : Vec Ideal S1x2048 .f32) (ix2 0 x) = arg4 m c (ix1 x) := by
  rw [iblk5_V, V_v2]
  pointwise []

/-- The point's block: its one store covers it. -/
theorem out6_eq (x0 : Vec Ideal S256x1024 .f32) (x1 : Vec Ideal S1x1024 .f32) (x2 : Vec Ideal S1x1x1024 .f32) (x3 : Vec Ideal S1x1x1024 .f32) (x4 : Vec Ideal S1024x2048 .bf16) (x5 : Vec Ideal S1x2048 .f32) : out0_6 x0 x1 x2 x3 x4 x5 = k0_pay1 x0 x1 x2 x3 x4 x5 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_6
  rw [View.canon_unit_zero (S := S256x1024) h2]
  simp only [View.ld_unit_zero (S := S256x1024) h2, View.ld_unit_zero (S := S1x1024) h2, View.ld_unit_zero (S := S1x1x1024) h3, View.ld_unit_zero (S := S1024x2048) h2, View.ld_unit_zero (S := S1x2048) h2]

theorem point6 (t : Fin cfg0.N) (r : Fin 256) (d : Fin 1024) :
    out0_6 (iblk m c 0 t) (iblk m c 1 t) (iblk m c 2 t) (iblk m c 3 t) (iblk m c 4 t) (iblk m c 5 t) (ix2 r d) = glu (arg0 m c) (arg1 m c) (arg2 m c) (arg3 m c) (arg4 m c) (row t r) d := by
  rw [out6_eq]
  pointwise [k0_pay1]
  simp only [iblk0, iblk1g, iblk2 m c t r, iblk3 m c t r, iblk4w, iblk5b]
  rfl

/-- The kernel's result. -/
abbrev result6 : Buf (Elt Ideal) ((c : Thread nD τ).loc main_v3) := arr (glu (arg0 m c) (arg1 m c) (arg2 m c) (arg3 m c) (arg4 m c))

theorem cut6 (i : grid0.Coords) (X : Vec Ideal S256x1024 .f32) (j) : (cfg0.win 6).cut i X j = X (ix2 (j 0) (j 1)) := by
  refine congrArg X (funext fun a => ?_)
  fin_cases a <;> rfl

theorem flushed6_eq (t : Fin cfg0.N) (hf : (cfg0.win 6).flush t = true) :
    (dats m 0 c).flushed 6 t = ((cfg0.win 6).blk t).view.read (Elt Ideal) (result6 m c) := by
  obtain ⟨h0_0, h0_1, h1_0, h1_1, h2_0, h2_1, h2_2, h3_0, h3_1, h3_2, h4_0, h4_1, h5_0, h5_1, h6_0, h6_1⟩ := win_index t
  rw [flushed6]
  funext j
  rw [cut6]
  refine (point6 m c t (j 0) (j 1)).trans ?_
  rw [View.read_apply]
  refine congr (congrArg _ (Fin.ext ?_)) (Fin.ext ?_)
  · show t.val * 256 + (j 0).val = win0_6.index t 0 * 256 + 1 * (j 0).val
    rw [h6_0]; omega
  · show (j 1).val = win0_6.index t 1 * 1024 + 1 * (j 1).val
    rw [h6_1]; omega

theorem final6 : (dats m 0 c).arrAt 6 cfg0.N = result6 m c :=
  (dats m 0 c).arrAt_eq_of_cover 6 (result6 m c) (flushed6_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h2_2, h3_0, h3_1, h3_2, h4_0, h4_1, h5_0, h5_1, h6_0, h6_1⟩ := win_index ⟨(i 0 : ℕ) / 256, hN⟩
    refine ⟨⟨(i 0 : ℕ) / 256, hN⟩, flush0_6 _, ?_⟩
    show i ∈ ((View.whole main_v3).slice (win0_6.rect ⟨(i 0 : ℕ) / 256, hN⟩)).set
    rw [View.set_slice_whole, Rect.mem_set_unit]
    intro a
    match a with
    | ⟨0, _⟩ =>
      show win0_6.index ⟨(i 0 : ℕ) / 256, hN⟩ 0 * 256 ≤ (i 0 : ℕ) ∧ (i 0 : ℕ) < win0_6.index ⟨(i 0 : ℕ) / 256, hN⟩ 0 * 256 + 256
      rw [h6_0]; show (i 0 : ℕ) / 256 * 256 ≤ (i 0 : ℕ) ∧ (i 0 : ℕ) < (i 0 : ℕ) / 256 * 256 + 256; omega
    | ⟨1, _⟩ =>
      show win0_6.index ⟨(i 0 : ℕ) / 256, hN⟩ 1 * 1024 ≤ (i 1 : ℕ) ∧ (i 1 : ℕ) < win0_6.index ⟨(i 0 : ℕ) / 256, hN⟩ 1 * 1024 + 1024
      rw [h6_1]; omega

end Cert.ConvInIdeal.Value

end
-- ==== Proof.ConvInRef.lean ====
module

public import proofs.«01_k».proof.Proof.Gen.ConvInRefIdeal.Run
public import proofs.«01_k».proof.Proof.LinSpec

/-!
# The gate's reference, read index by index
-/

@[expose] public section

set_option maxRecDepth 16384

noncomputable section

namespace Cert.ConvInRefIdeal.Value

open Cert.ConvInRefIdeal Cert.ConvInRefIdeal.Gen Idealize.ShloMosaic Idealize.ShloMosaic.TcCoe Idealize.SL.Sem
open Idealize.ShloMosaic.Pointwise
open Cert.Lin

/-- The reference's result, from its arguments. -/
def refT (A0 : FVec Ideal S16384x1024 .f32) (A1 : FVec Ideal S1024 .f32) (A2 : FVec Ideal S24x1x1024 .f32) (A3 : FVec Ideal S1024x2048 .f32) (A4 : FVec Ideal S2048 .f32) : FVec Ideal S16384x1024 .f32 :=
  shapeCast _ (mulf (extractStridedSlice S4x4096x1024 ![0, 0, 0] (addf (Host.dotGeneral dot_S4x4096x1024_S1024x2048_S4x4096x2048_2_0_01_1_n_n none (addf (mulf (mulf (mulf (shapeCast _ A0 shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ A0 shapeCasts_S16384x1024_S4x4096x1024) (shapeCast _ A0 shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A1))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 1, 0] (shapeCast _ A2 shapeCasts_S24x1x1024_S4x6x1024) slices_S4x6x1024_S4x1x1024_0_1_0)))) (broadcastInDim S4x4096x1024 ![0, 1, 2] bcast_S4x1x1024_S4x4096x1024_0_1_2 (extractStridedSlice S4x1x1024 ![0, 0, 0] (shapeCast _ A2 shapeCasts_S24x1x1024_S4x6x1024) slices_S4x6x1024_S4x1x1024_0_0_0))) A3) (broadcastInDim S4x4096x2048 ![0, 1, 2] bcast_S1x1x2048_S4x4096x2048_0_1_2 (broadcastInDim S1x1x2048 ![2] bcast_S2048_S1x1x2048_2 A4))) slices_S4x4096x2048_S4x4096x1024_0_0_0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (addf (Host.dotGeneral dot_S4x4096x1024_S1024x2048_S4x4096x2048_2_0_01_1_n_n none (addf (mulf (mulf (mulf (shapeCast _ A0 shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ A0 shapeCasts_S16384x1024_S4x4096x1024) (shapeCast _ A0 shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A1))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 1, 0] (shapeCast _ A2 shapeCasts_S24x1x1024_S4x6x1024) slices_S4x6x1024_S4x1x1024_0_1_0)))) (broadcastInDim S4x4096x1024 ![0, 1, 2] bcast_S4x1x1024_S4x4096x1024_0_1_2 (extractStridedSlice S4x1x1024 ![0, 0, 0] (shapeCast _ A2 shapeCasts_S24x1x1024_S4x6x1024) slices_S4x6x1024_S4x1x1024_0_0_0))) A3) (broadcastInDim S4x4096x2048 ![0, 1, 2] bcast_S1x1x2048_S4x4096x2048_0_1_2 (broadcastInDim S1x1x2048 ![2] bcast_S2048_S1x1x2048_2 A4))) slices_S4x4096x2048_S4x4096x1024_0_0_1024)))))) shapeCasts_S4x4096x1024_S16384x1024

theorem ref_apply (A0 : FVec Ideal S16384x1024 .f32) (A1 : FVec Ideal S1024 .f32) (A2 : FVec Ideal S24x1x1024 .f32) (A3 : FVec Ideal S1024x2048 .f32) (A4 : FVec Ideal S2048 .f32) (n : Fin 16384) (d : Fin 1024) :
    refT A0 A1 A2 A3 A4 (ix2 n d) = glu A0 A1 A2 A3 A4 n d := by
  pointwise [refT]
  rfl

theorem ref_arr (A0 : FVec Ideal S16384x1024 .f32) (A1 : FVec Ideal S1024 .f32) (A2 : FVec Ideal S24x1x1024 .f32) (A3 : FVec Ideal S1024x2048 .f32) (A4 : FVec Ideal S2048 .f32) : refT A0 A1 A2 A3 A4 = arr (glu A0 A1 A2 A3 A4) := by
  funext i
  rw [← show ix2 (i 0) (i 1) = i from by funext a; fin_cases a <;> rfl]
  exact ref_apply A0 A1 A2 A3 A4 (i 0) (i 1)

end Cert.ConvInRefIdeal.Value

end
-- ==== Proof.QProjValue.lean ====
module

public import proofs.«01_k».proof.Proof.Gen.QProjIdeal.Value
public import proofs.«01_k».proof.Proof.LinSpec
public import Idealize.ShloMosaic.Lib.StableHlo.Run

/-!
# The kernel's queries

Every grid point's blocks are rows of the arguments, so what it writes is its block of the result; the blocks cover the
array.
-/

@[expose] public section

set_option maxRecDepth 16384

noncomputable section

namespace Cert.QProjIdeal.Value

open Cert.QProjIdeal Cert.QProjIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S1024 .f32 := m ((c : Thread nD τ).loc main_arg1)
abbrev arg2 : FVec Ideal S24x1x1024 .f32 := m ((c : Thread nD τ).loc main_arg2)
abbrev arg3 : FVec Ideal S1024x1024 .f32 := m ((c : Thread nD τ).loc main_arg3)

theorem V_v0 : V m c main_v0 = truncf .bf16 (arg3 m c) bitsLt_bf16_f32 := by
  show StableHlo.after hostOps0 (fun b => m (c, b)) main_v0 = _
  after_results <;> rfl

theorem V_v1 : V m c main_v1 = shapeCast S1x1024 (arg1 m c) shapeCasts_S1024_S1x1024 := by
  show StableHlo.after hostOps0 (fun b => m (c, b)) main_v1 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = t.val / 16 * 6 + 1
    ∧ win0_2.index t 1 = 0
    ∧ win0_2.index t 2 = 0
    ∧ win0_3.index t 0 = t.val / 16 * 6 + 0
    ∧ win0_3.index t 1 = 0
    ∧ win0_3.index t 2 = 0
    ∧ win0_4.index t 0 = 0
    ∧ win0_4.index t 1 = 0
    ∧ win0_5.index t 0 = t.val
    ∧ win0_5.index t 1 = 0 := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1, h2_2, h3_0, h3_1, h3_2, h4_0, h4_1, h5_0, h5_1⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1) (x : Fin 1024) :
    (iblk m c 1 t : Vec Ideal S1x1024 .f32) (ix2 p x) = (V m c main_v1 : Vec Ideal S1x1024 .f32) (ix2 p x) := by
  obtain ⟨h0_0, h0_1, h1_0, h1_1, h2_0, h2_1, h2_2, h3_0, h3_1, h3_2, h4_0, h4_1, h5_0, h5_1⟩ := win_index t
  unfold iblk
  rw [View.read_apply]
  refine congrArg (V m c main_v1) (funext fun a => Fin.ext ?_)
  fin_cases a
  · show win0_1.index t 0 * 1 + 1 * p.val = p.val
    rw [h1_0]; omega
  · show win0_1.index t 1 * 1024 + 1 * x.val = x.val
    rw [h1_1]; omega

theorem iblk1g (t : Fin cfg0.N) (x : Fin 1024) :
    (iblk m c 1 t : Vec Ideal S1x1024 .f32) (ix2 0 x) = arg1 m c (ix1 x) := by
  rw [iblk1_V, V_v1]
  pointwise []

theorem iblk2 (t : Fin cfg0.N) (r : Fin 256) (x : Fin 1024) :
    (iblk m c 2 t : Vec Ideal S1x1x1024 .f32) (ix3 0 0 x) = arg2 m c (ix3 (part (row t r) 1) 0 x) := by
  obtain ⟨h0_0, h0_1, h1_0, h1_1, h2_0, h2_1, h2_2, h3_0, h3_1, h3_2, h4_0, h4_1, h5_0, h5_1⟩ := win_index t
  unfold iblk
  rw [View.read_apply]
  refine (congrFun (V_main_arg2 m c) _).trans ?_
  refine congrArg (arg2 m c) (funext fun a => Fin.ext ?_)
  fin_cases a
  · show win0_2.index t 0 * 1 + 1 * 0 = (t.val * 256 + r.val) / 4096 * 6 + 1
    rw [h2_0]; omega
  · show win0_2.index t 1 * 1 + 1 * 0 = 0
    rw [h2_1]
  · show win0_2.index t 2 * 1024 + 1 * x.val = x.val
    rw [h2_2]; omega

theorem iblk3 (t : Fin cfg0.N) (r : Fin 256) (x : Fin 1024) :
    (iblk m c 3 t : Vec Ideal S1x1x1024 .f32) (ix3 0 0 x) = arg2 m c (ix3 (part (row t r) 0) 0 x) := by
  obtain ⟨h0_0, h0_1, h1_0, h1_1, h2_0, h2_1, h2_2, h3_0, h3_1, h3_2, h4_0, h4_1, h5_0, h5_1⟩ := win_index t
  unfold iblk
  rw [View.read_apply]
  refine (congrFun (V_main_arg2 m c) _).trans ?_
  refine congrArg (arg2 m c) (funext fun a => Fin.ext ?_)
  fin_cases a
  · show win0_3.index t 0 * 1 + 1 * 0 = (t.val * 256 + r.val) / 4096 * 6 + 0
    rw [h3_0]; omega
  · show win0_3.index t 1 * 1 + 1 * 0 = 0
    rw [h3_1]
  · show win0_3.index t 2 * 1024 + 1 * x.val = x.val
    rw [h3_2]; omega

theorem iblk4_V (t : Fin cfg0.N) (p : Fin 1024) (x : Fin 1024) :
    (iblk m c 4 t : Vec Ideal S1024x1024 .bf16) (ix2 p x) = (V m c main_v0 : Vec Ideal S1024x1024 .bf16) (ix2 p x) := by
  obtain ⟨h0_0, h0_1, h1_0, h1_1, h2_0, h2_1, h2_2, h3_0, h3_1, h3_2, h4_0, h4_1, h5_0, h5_1⟩ := win_index t
  unfold iblk
  rw [View.read_apply]
  refine congrArg (V m c main_v0) (funext fun a => Fin.ext ?_)
  fin_cases a
  · show win0_4.index t 0 * 1024 + 1 * p.val = p.val
    rw [h4_0]; omega
  · show win0_4.index t 1 * 1024 + 1 * x.val = x.val
    rw [h4_1]; omega

theorem iblk4w (t : Fin cfg0.N) (x : Fin 1024) (d : Fin 1024) :
    (iblk m c 4 t : Vec Ideal S1024x1024 .bf16) (ix2 x d) = arg3 m c (ix2 x d) := by
  rw [iblk4_V, V_v0]
  rfl

/-- The point's block: its one store covers it. -/
theorem out5_eq (x0 : Vec Ideal S256x1024 .f32) (x1 : Vec Ideal S1x1024 .f32) (x2 : Vec Ideal S1x1x1024 .f32) (x3 : Vec Ideal S1x1x1024 .f32) (x4 : Vec Ideal S1024x1024 .bf16) : out0_5 x0 x1 x2 x3 x4 = k0_pay1 x0 x1 x2 x3 x4 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_5
  rw [View.canon_unit_zero (S := S256x1024) h2]
  simp only [View.ld_unit_zero (S := S256x1024) h2, View.ld_unit_zero (S := S1x1024) h2, View.ld_unit_zero (S := S1x1x1024) h3, View.ld_unit_zero (S := S1024x1024) h2]

theorem point5 (t : Fin cfg0.N) (r : Fin 256) (d : Fin 1024) :
    out0_5 (iblk m c 0 t) (iblk m c 1 t) (iblk m c 2 t) (iblk m c 3 t) (iblk m c 4 t) (ix2 r d) = query (arg0 m c) (arg1 m c) (arg2 m c) (arg3 m c) (row t r) d := by
  rw [out5_eq]
  pointwise [k0_pay1]
  simp only [iblk0, iblk1g, iblk2 m c t r, iblk3 m c t r, iblk4w]
  rfl

/-- The kernel's result. -/
abbrev result5 : Buf (Elt Ideal) ((c : Thread nD τ).loc main_v2) := arr (query (arg0 m c) (arg1 m c) (arg2 m c) (arg3 m c))

theorem cut5 (i : grid0.Coords) (X : Vec Ideal S256x1024 .f32) (j) : (cfg0.win 5).cut i X j = X (ix2 (j 0) (j 1)) := by
  refine congrArg X (funext fun a => ?_)
  fin_cases a <;> rfl

theorem flushed5_eq (t : Fin cfg0.N) (hf : (cfg0.win 5).flush t = true) :
    (dats m 0 c).flushed 5 t = ((cfg0.win 5).blk t).view.read (Elt Ideal) (result5 m c) := by
  obtain ⟨h0_0, h0_1, h1_0, h1_1, h2_0, h2_1, h2_2, h3_0, h3_1, h3_2, h4_0, h4_1, h5_0, h5_1⟩ := win_index t
  rw [flushed5]
  funext j
  rw [cut5]
  refine (point5 m c t (j 0) (j 1)).trans ?_
  rw [View.read_apply]
  refine congr (congrArg _ (Fin.ext ?_)) (Fin.ext ?_)
  · show t.val * 256 + (j 0).val = win0_5.index t 0 * 256 + 1 * (j 0).val
    rw [h5_0]; omega
  · show (j 1).val = win0_5.index t 1 * 1024 + 1 * (j 1).val
    rw [h5_1]; omega

theorem final5 : (dats m 0 c).arrAt 5 cfg0.N = result5 m c :=
  (dats m 0 c).arrAt_eq_of_cover 5 (result5 m c) (flushed5_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h2_2, h3_0, h3_1, h3_2, h4_0, h4_1, h5_0, h5_1⟩ := win_index ⟨(i 0 : ℕ) / 256, hN⟩
    refine ⟨⟨(i 0 : ℕ) / 256, hN⟩, flush0_5 _, ?_⟩
    show i ∈ ((View.whole main_v2).slice (win0_5.rect ⟨(i 0 : ℕ) / 256, hN⟩)).set
    rw [View.set_slice_whole, Rect.mem_set_unit]
    intro a
    match a with
    | ⟨0, _⟩ =>
      show win0_5.index ⟨(i 0 : ℕ) / 256, hN⟩ 0 * 256 ≤ (i 0 : ℕ) ∧ (i 0 : ℕ) < win0_5.index ⟨(i 0 : ℕ) / 256, hN⟩ 0 * 256 + 256
      rw [h5_0]; show (i 0 : ℕ) / 256 * 256 ≤ (i 0 : ℕ) ∧ (i 0 : ℕ) < (i 0 : ℕ) / 256 * 256 + 256; omega
    | ⟨1, _⟩ =>
      show win0_5.index ⟨(i 0 : ℕ) / 256, hN⟩ 1 * 1024 ≤ (i 1 : ℕ) ∧ (i 1 : ℕ) < win0_5.index ⟨(i 0 : ℕ) / 256, hN⟩ 1 * 1024 + 1024
      rw [h5_1]; omega

end Cert.QProjIdeal.Value

end
-- ==== Proof.QProjRef.lean ====
module

public import proofs.«01_k».proof.Proof.Gen.QProjRefIdeal.Run
public import proofs.«01_k».proof.Proof.LinSpec

/-!
# The queries' reference, read index by index
-/

@[expose] public section

set_option maxRecDepth 16384

noncomputable section

namespace Cert.QProjRefIdeal.Value

open Cert.QProjRefIdeal Cert.QProjRefIdeal.Gen Idealize.ShloMosaic Idealize.ShloMosaic.TcCoe Idealize.SL.Sem
open Idealize.ShloMosaic.Pointwise
open Cert.Lin

/-- The reference's result, from its arguments. -/
def refT (A0 : FVec Ideal S16384x1024 .f32) (A1 : FVec Ideal S1024 .f32) (A2 : FVec Ideal S24x1x1024 .f32) (A3 : FVec Ideal S1024x1024 .f32) : FVec Ideal S16384x1024 .f32 :=
  shapeCast _ (mulf (Host.dotGeneral dot_S4x4096x1024_S1024x1024_S4x4096x1024_2_0_01_1_n_n none (addf (mulf (mulf (mulf (shapeCast _ A0 shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ A0 shapeCasts_S16384x1024_S4x4096x1024) (shapeCast _ A0 shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A1))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 1, 0] (shapeCast _ A2 shapeCasts_S24x1x1024_S4x6x1024) slices_S4x6x1024_S4x1x1024_0_1_0)))) (broadcastInDim S4x4096x1024 ![0, 1, 2] bcast_S4x1x1024_S4x4096x1024_0_1_2 (extractStridedSlice S4x1x1024 ![0, 0, 0] (shapeCast _ A2 shapeCasts_S24x1x1024_S4x6x1024) slices_S4x6x1024_S4x1x1024_0_0_0))) A3) (broadcastInDim S4x4096x1024 ![] bcast_S_S4x4096x1024 (constant S_ .f32 0x3E000000#32))) shapeCasts_S4x4096x1024_S16384x1024

theorem ref_apply (A0 : FVec Ideal S16384x1024 .f32) (A1 : FVec Ideal S1024 .f32) (A2 : FVec Ideal S24x1x1024 .f32) (A3 : FVec Ideal S1024x1024 .f32) (n : Fin 16384) (d : Fin 1024) :
    refT A0 A1 A2 A3 (ix2 n d) = query A0 A1 A2 A3 n d := by
  pointwise [refT]
  rfl

theorem ref_arr (A0 : FVec Ideal S16384x1024 .f32) (A1 : FVec Ideal S1024 .f32) (A2 : FVec Ideal S24x1x1024 .f32) (A3 : FVec Ideal S1024x1024 .f32) : refT A0 A1 A2 A3 = arr (query A0 A1 A2 A3) := by
  funext i
  rw [← show ix2 (i 0) (i 1) = i from by funext a; fin_cases a <;> rfl]
  exact ref_apply A0 A1 A2 A3 (i 0) (i 1)

end Cert.QProjRefIdeal.Value

end
-- ==== Proof.KvProjValue.lean ====
module

public import proofs.«01_k».proof.Proof.Gen.KvProjIdeal.Value
public import proofs.«01_k».proof.Proof.LinSpec
public import Idealize.ShloMosaic.Lib.StableHlo.Run

/-!
# The kernel's keys and values

Every grid point's blocks are rows of the arguments, so what it writes is its block of the result; the blocks cover the
array.
-/

@[expose] public section

set_option maxRecDepth 16384

noncomputable section

namespace Cert.KvProjIdeal.Value

open Cert.KvProjIdeal Cert.KvProjIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S1024 .f32 := m ((c : Thread nD τ).loc main_arg1)
abbrev arg2 : FVec Ideal S1024x1024 .f32 := m ((c : Thread nD τ).loc main_arg2)
abbrev arg3 : FVec Ideal S1024x1024 .f32 := m ((c : Thread nD τ).loc main_arg3)

theorem V_v1 : V m c main_v1 = truncf .bf16 (concatenate S1024x2048 1 [⟨S1024x1024, arg2 m c⟩, ⟨S1024x1024, arg3 m c⟩] concatenates_S1024x1024_S1024x1024_S1024x2048_d1) bitsLt_bf16_f32 := by
  show StableHlo.after hostOps0 (fun b => m (c, b)) main_v1 = _
  after_results <;> rfl

theorem V_v2 : V m c main_v2 = shapeCast S1x1024 (arg1 m c) shapeCasts_S1024_S1x1024 := by
  show StableHlo.after hostOps0 (fun b => m (c, b)) main_v2 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = 0
    ∧ win0_2.index t 1 = 0
    ∧ win0_3.index t 0 = t.val
    ∧ win0_3.index t 1 = 0
    ∧ win0_4.index t 0 = t.val
    ∧ win0_4.index t 1 = 0
    ∧ win0_5.index t 0 = t.val
    ∧ win0_5.index t 1 = 0
    ∧ win0_6.index t 0 = t.val
    ∧ win0_6.index t 1 = 0 := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1, h3_0, h3_1, h4_0, h4_1, h5_0, h5_1, h6_0, h6_1⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1) (x : Fin 1024) :
    (iblk m c 1 t : Vec Ideal S1x1024 .f32) (ix2 p x) = (V m c main_v2 : Vec Ideal S1x1024 .f32) (ix2 p x) := by
  obtain ⟨h0_0, h0_1, h1_0, h1_1, h2_0, h2_1, h3_0, h3_1, h4_0, h4_1, h5_0, h5_1, h6_0, h6_1⟩ := win_index t
  unfold iblk
  rw [View.read_apply]
  refine congrArg (V m c main_v2) (funext fun a => Fin.ext ?_)
  fin_cases a
  · show win0_1.index t 0 * 1 + 1 * p.val = p.val
    rw [h1_0]; omega
  · show win0_1.index t 1 * 1024 + 1 * x.val = x.val
    rw [h1_1]; omega

theorem iblk1g (t : Fin cfg0.N) (x : Fin 1024) :
    (iblk m c 1 t : Vec Ideal S1x1024 .f32) (ix2 0 x) = arg1 m c (ix1 x) := by
  rw [iblk1_V, V_v2]
  pointwise []

theorem iblk2_V (t : Fin cfg0.N) (p : Fin 1024) (x : Fin 2048) :
    (iblk m c 2 t : Vec Ideal S1024x2048 .bf16) (ix2 p x) = (V m c main_v1 : Vec Ideal S1024x2048 .bf16) (ix2 p x) := by
  obtain ⟨h0_0, h0_1, h1_0, h1_1, h2_0, h2_1, h3_0, h3_1, h4_0, h4_1, h5_0, h5_1, h6_0, h6_1⟩ := win_index t
  unfold iblk
  rw [View.read_apply]
  refine congrArg (V m c main_v1) (funext fun a => Fin.ext ?_)
  fin_cases a
  · show win0_2.index t 0 * 1024 + 1 * p.val = p.val
    rw [h2_0]; omega
  · show win0_2.index t 1 * 2048 + 1 * x.val = x.val
    rw [h2_1]; omega

theorem iblk2k (t : Fin cfg0.N) (x : Fin 1024) (d : Fin 1024) :
    (iblk m c 2 t : Vec Ideal S1024x2048 .bf16) (ix2 x ⟨d.val, by omega⟩) = arg2 m c (ix2 x d) := by
  rw [iblk2_V, V_v1]
  pointwise []

theorem iblk2v (t : Fin cfg0.N) (x : Fin 1024) (d : Fin 1024) :
    (iblk m c 2 t : Vec Ideal S1024x2048 .bf16) (ix2 x ⟨1024 + d.val, by omega⟩) = arg3 m c (ix2 x d) := by
  rw [iblk2_V, V_v1]
  pointwise []

/-- The point's block: its one store covers it. -/
theorem out3_eq (x0 : Vec Ideal S256x1024 .f32) (x1 : Vec Ideal S1x1024 .f32) (x2 : Vec Ideal S1024x2048 .bf16) : out0_3 x0 x1 x2 = k0_pay2 x0 x1 x2 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_3
  rw [View.canon_unit_zero (S := S256x1024) h2]
  simp only [View.ld_unit_zero (S := S256x1024) h2, View.ld_unit_zero (S := S1x1024) h2, View.ld_unit_zero (S := S1024x2048) h2]

theorem point3 (t : Fin cfg0.N) (r : Fin 256) (d : Fin 1024) :
    out0_3 (iblk m c 0 t) (iblk m c 1 t) (iblk m c 2 t) (ix2 r d) = keyval (arg0 m c) (arg1 m c) (arg2 m c) (row t r) d := by
  rw [out3_eq]
  pointwise [k0_pay2, k0_pay2, k0_pay3, k0_pay1]
  simp only [iblk0, iblk1g, iblk2k]
  rfl

/-- The kernel's result. -/
abbrev result3 : Buf (Elt Ideal) ((c : Thread nD τ).loc main_v3_0) := arr (keyval (arg0 m c) (arg1 m c) (arg2 m c))

theorem cut3 (i : grid0.Coords) (X : Vec Ideal S256x1024 .f32) (j) : (cfg0.win 3).cut i X j = X (ix2 (j 0) (j 1)) := by
  refine congrArg X (funext fun a => ?_)
  fin_cases a <;> rfl

theorem flushed3_eq (t : Fin cfg0.N) (hf : (cfg0.win 3).flush t = true) :
    (dats m 0 c).flushed 3 t = ((cfg0.win 3).blk t).view.read (Elt Ideal) (result3 m c) := by
  obtain ⟨h0_0, h0_1, h1_0, h1_1, h2_0, h2_1, h3_0, h3_1, h4_0, h4_1, h5_0, h5_1, h6_0, h6_1⟩ := win_index t
  rw [flushed3]
  funext j
  rw [cut3]
  refine (point3 m c t (j 0) (j 1)).trans ?_
  rw [View.read_apply]
  refine congr (congrArg _ (Fin.ext ?_)) (Fin.ext ?_)
  · show t.val * 256 + (j 0).val = win0_3.index t 0 * 256 + 1 * (j 0).val
    rw [h3_0]; omega
  · show (j 1).val = win0_3.index t 1 * 1024 + 1 * (j 1).val
    rw [h3_1]; omega

theorem final3 : (dats m 0 c).arrAt 3 cfg0.N = result3 m c :=
  (dats m 0 c).arrAt_eq_of_cover 3 (result3 m c) (flushed3_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h3_0, h3_1, h4_0, h4_1, h5_0, h5_1, h6_0, h6_1⟩ := win_index ⟨(i 0 : ℕ) / 256, hN⟩
    refine ⟨⟨(i 0 : ℕ) / 256, hN⟩, flush0_3 _, ?_⟩
    show i ∈ ((View.whole main_v3_0).slice (win0_3.rect ⟨(i 0 : ℕ) / 256, hN⟩)).set
    rw [View.set_slice_whole, Rect.mem_set_unit]
    intro a
    match a with
    | ⟨0, _⟩ =>
      show win0_3.index ⟨(i 0 : ℕ) / 256, hN⟩ 0 * 256 ≤ (i 0 : ℕ) ∧ (i 0 : ℕ) < win0_3.index ⟨(i 0 : ℕ) / 256, hN⟩ 0 * 256 + 256
      rw [h3_0]; show (i 0 : ℕ) / 256 * 256 ≤ (i 0 : ℕ) ∧ (i 0 : ℕ) < (i 0 : ℕ) / 256 * 256 + 256; omega
    | ⟨1, _⟩ =>
      show win0_3.index ⟨(i 0 : ℕ) / 256, hN⟩ 1 * 1024 ≤ (i 1 : ℕ) ∧ (i 1 : ℕ) < win0_3.index ⟨(i 0 : ℕ) / 256, hN⟩ 1 * 1024 + 1024
      rw [h3_1]; omega

/-- The point's block: its one store covers it. -/
theorem out4_eq (x0 : Vec Ideal S256x1024 .f32) (x1 : Vec Ideal S1x1024 .f32) (x2 : Vec Ideal S1024x2048 .bf16) : out0_4 x0 x1 x2 = k0_pay3 x0 x1 x2 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_4
  rw [View.canon_unit_zero (S := S256x1024) h2]
  simp only [View.ld_unit_zero (S := S256x1024) h2, View.ld_unit_zero (S := S1x1024) h2, View.ld_unit_zero (S := S1024x2048) h2]

theorem point4 (t : Fin cfg0.N) (r : Fin 256) (d : Fin 1024) :
    out0_4 (iblk m c 0 t) (iblk m c 1 t) (iblk m c 2 t) (ix2 r d) = keyval (arg0 m c) (arg1 m c) (arg3 m c) (row t r) d := by
  rw [out4_eq]
  pointwise [k0_pay3, k0_pay2, k0_pay3, k0_pay1]
  simp only [iblk0, iblk1g, iblk2v]
  rfl

/-- The kernel's result. -/
abbrev result4 : Buf (Elt Ideal) ((c : Thread nD τ).loc main_v3_1) := arr (keyval (arg0 m c) (arg1 m c) (arg3 m c))

theorem cut4 (i : grid0.Coords) (X : Vec Ideal S256x1024 .f32) (j) : (cfg0.win 4).cut i X j = X (ix2 (j 0) (j 1)) := by
  refine congrArg X (funext fun a => ?_)
  fin_cases a <;> rfl

theorem flushed4_eq (t : Fin cfg0.N) (hf : (cfg0.win 4).flush t = true) :
    (dats m 0 c).flushed 4 t = ((cfg0.win 4).blk t).view.read (Elt Ideal) (result4 m c) := by
  obtain ⟨h0_0, h0_1, h1_0, h1_1, h2_0, h2_1, h3_0, h3_1, h4_0, h4_1, h5_0, h5_1, h6_0, h6_1⟩ := win_index t
  rw [flushed4]
  funext j
  rw [cut4]
  refine (point4 m c t (j 0) (j 1)).trans ?_
  rw [View.read_apply]
  refine congr (congrArg _ (Fin.ext ?_)) (Fin.ext ?_)
  · show t.val * 256 + (j 0).val = win0_4.index t 0 * 256 + 1 * (j 0).val
    rw [h4_0]; omega
  · show (j 1).val = win0_4.index t 1 * 1024 + 1 * (j 1).val
    rw [h4_1]; omega

theorem final4 : (dats m 0 c).arrAt 4 cfg0.N = result4 m c :=
  (dats m 0 c).arrAt_eq_of_cover 4 (result4 m c) (flushed4_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h3_0, h3_1, h4_0, h4_1, h5_0, h5_1, h6_0, h6_1⟩ := win_index ⟨(i 0 : ℕ) / 256, hN⟩
    refine ⟨⟨(i 0 : ℕ) / 256, hN⟩, flush0_4 _, ?_⟩
    show i ∈ ((View.whole main_v3_1).slice (win0_4.rect ⟨(i 0 : ℕ) / 256, hN⟩)).set
    rw [View.set_slice_whole, Rect.mem_set_unit]
    intro a
    match a with
    | ⟨0, _⟩ =>
      show win0_4.index ⟨(i 0 : ℕ) / 256, hN⟩ 0 * 256 ≤ (i 0 : ℕ) ∧ (i 0 : ℕ) < win0_4.index ⟨(i 0 : ℕ) / 256, hN⟩ 0 * 256 + 256
      rw [h4_0]; show (i 0 : ℕ) / 256 * 256 ≤ (i 0 : ℕ) ∧ (i 0 : ℕ) < (i 0 : ℕ) / 256 * 256 + 256; omega
    | ⟨1, _⟩ =>
      show win0_4.index ⟨(i 0 : ℕ) / 256, hN⟩ 1 * 1024 ≤ (i 1 : ℕ) ∧ (i 1 : ℕ) < win0_4.index ⟨(i 0 : ℕ) / 256, hN⟩ 1 * 1024 + 1024
      rw [h4_1]; omega

/-- The point's block: its one store covers it. -/
theorem out5_eq (x0 : Vec Ideal S256x1024 .f32) (x1 : Vec Ideal S1x1024 .f32) (x2 : Vec Ideal S1024x2048 .bf16) : out0_5 x0 x1 x2 = k0_pay4 x0 x1 x2 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_5
  rw [View.canon_unit_zero (S := S256x1024) h2]
  simp only [View.ld_unit_zero (S := S256x1024) h2, View.ld_unit_zero (S := S1x1024) h2, View.ld_unit_zero (S := S1024x2048) h2]

theorem point5 (t : Fin cfg0.N) (r : Fin 256) (d : Fin 1024) :
    out0_5 (iblk m c 0 t) (iblk m c 1 t) (iblk m c 2 t) (ix2 r d) = keyval (arg0 m c) (arg1 m c) (arg2 m c) (row t r) d := by
  rw [out5_eq]
  pointwise [k0_pay4, k0_pay2, k0_pay3, k0_pay1]
  simp only [iblk0, iblk1g, iblk2k]
  rfl

/-- The kernel's result. -/
abbrev result5 : Buf (Elt Ideal) ((c : Thread nD τ).loc main_v3_2) := arr (keyval (arg0 m c) (arg1 m c) (arg2 m c))

theorem cut5 (i : grid0.Coords) (X : Vec Ideal S256x1024 .bf16) (j) : (cfg0.win 5).cut i X j = X (ix2 (j 0) (j 1)) := by
  refine congrArg X (funext fun a => ?_)
  fin_cases a <;> rfl

theorem flushed5_eq (t : Fin cfg0.N) (hf : (cfg0.win 5).flush t = true) :
    (dats m 0 c).flushed 5 t = ((cfg0.win 5).blk t).view.read (Elt Ideal) (result5 m c) := by
  obtain ⟨h0_0, h0_1, h1_0, h1_1, h2_0, h2_1, h3_0, h3_1, h4_0, h4_1, h5_0, h5_1, h6_0, h6_1⟩ := win_index t
  rw [flushed5]
  funext j
  rw [cut5]
  refine (point5 m c t (j 0) (j 1)).trans ?_
  rw [View.read_apply]
  refine congr (congrArg _ (Fin.ext ?_)) (Fin.ext ?_)
  · show t.val * 256 + (j 0).val = win0_5.index t 0 * 256 + 1 * (j 0).val
    rw [h5_0]; omega
  · show (j 1).val = win0_5.index t 1 * 1024 + 1 * (j 1).val
    rw [h5_1]; omega

theorem final5 : (dats m 0 c).arrAt 5 cfg0.N = result5 m c :=
  (dats m 0 c).arrAt_eq_of_cover 5 (result5 m c) (flushed5_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h3_0, h3_1, h4_0, h4_1, h5_0, h5_1, h6_0, h6_1⟩ := win_index ⟨(i 0 : ℕ) / 256, hN⟩
    refine ⟨⟨(i 0 : ℕ) / 256, hN⟩, flush0_5 _, ?_⟩
    show i ∈ ((View.whole main_v3_2).slice (win0_5.rect ⟨(i 0 : ℕ) / 256, hN⟩)).set
    rw [View.set_slice_whole, Rect.mem_set_unit]
    intro a
    match a with
    | ⟨0, _⟩ =>
      show win0_5.index ⟨(i 0 : ℕ) / 256, hN⟩ 0 * 256 ≤ (i 0 : ℕ) ∧ (i 0 : ℕ) < win0_5.index ⟨(i 0 : ℕ) / 256, hN⟩ 0 * 256 + 256
      rw [h5_0]; show (i 0 : ℕ) / 256 * 256 ≤ (i 0 : ℕ) ∧ (i 0 : ℕ) < (i 0 : ℕ) / 256 * 256 + 256; omega
    | ⟨1, _⟩ =>
      show win0_5.index ⟨(i 0 : ℕ) / 256, hN⟩ 1 * 1024 ≤ (i 1 : ℕ) ∧ (i 1 : ℕ) < win0_5.index ⟨(i 0 : ℕ) / 256, hN⟩ 1 * 1024 + 1024
      rw [h5_1]; omega

/-- The point's block: its one store covers it. -/
theorem out6_eq (x0 : Vec Ideal S256x1024 .f32) (x1 : Vec Ideal S1x1024 .f32) (x2 : Vec Ideal S1024x2048 .bf16) : out0_6 x0 x1 x2 = k0_pay5 x0 x1 x2 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_6
  rw [View.canon_unit_zero (S := S256x1024) h2]
  simp only [View.ld_unit_zero (S := S256x1024) h2, View.ld_unit_zero (S := S1x1024) h2, View.ld_unit_zero (S := S1024x2048) h2]

theorem point6 (t : Fin cfg0.N) (r : Fin 256) (d : Fin 1024) :
    out0_6 (iblk m c 0 t) (iblk m c 1 t) (iblk m c 2 t) (ix2 r d) = keyval (arg0 m c) (arg1 m c) (arg3 m c) (row t r) d := by
  rw [out6_eq]
  pointwise [k0_pay5, k0_pay2, k0_pay3, k0_pay1]
  simp only [iblk0, iblk1g, iblk2v]
  rfl

/-- The kernel's result. -/
abbrev result6 : Buf (Elt Ideal) ((c : Thread nD τ).loc main_v3_3) := arr (keyval (arg0 m c) (arg1 m c) (arg3 m c))

theorem cut6 (i : grid0.Coords) (X : Vec Ideal S256x1024 .bf16) (j) : (cfg0.win 6).cut i X j = X (ix2 (j 0) (j 1)) := by
  refine congrArg X (funext fun a => ?_)
  fin_cases a <;> rfl

theorem flushed6_eq (t : Fin cfg0.N) (hf : (cfg0.win 6).flush t = true) :
    (dats m 0 c).flushed 6 t = ((cfg0.win 6).blk t).view.read (Elt Ideal) (result6 m c) := by
  obtain ⟨h0_0, h0_1, h1_0, h1_1, h2_0, h2_1, h3_0, h3_1, h4_0, h4_1, h5_0, h5_1, h6_0, h6_1⟩ := win_index t
  rw [flushed6]
  funext j
  rw [cut6]
  refine (point6 m c t (j 0) (j 1)).trans ?_
  rw [View.read_apply]
  refine congr (congrArg _ (Fin.ext ?_)) (Fin.ext ?_)
  · show t.val * 256 + (j 0).val = win0_6.index t 0 * 256 + 1 * (j 0).val
    rw [h6_0]; omega
  · show (j 1).val = win0_6.index t 1 * 1024 + 1 * (j 1).val
    rw [h6_1]; omega

theorem final6 : (dats m 0 c).arrAt 6 cfg0.N = result6 m c :=
  (dats m 0 c).arrAt_eq_of_cover 6 (result6 m c) (flushed6_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h3_0, h3_1, h4_0, h4_1, h5_0, h5_1, h6_0, h6_1⟩ := win_index ⟨(i 0 : ℕ) / 256, hN⟩
    refine ⟨⟨(i 0 : ℕ) / 256, hN⟩, flush0_6 _, ?_⟩
    show i ∈ ((View.whole main_v3_3).slice (win0_6.rect ⟨(i 0 : ℕ) / 256, hN⟩)).set
    rw [View.set_slice_whole, Rect.mem_set_unit]
    intro a
    match a with
    | ⟨0, _⟩ =>
      show win0_6.index ⟨(i 0 : ℕ) / 256, hN⟩ 0 * 256 ≤ (i 0 : ℕ) ∧ (i 0 : ℕ) < win0_6.index ⟨(i 0 : ℕ) / 256, hN⟩ 0 * 256 + 256
      rw [h6_0]; show (i 0 : ℕ) / 256 * 256 ≤ (i 0 : ℕ) ∧ (i 0 : ℕ) < (i 0 : ℕ) / 256 * 256 + 256; omega
    | ⟨1, _⟩ =>
      show win0_6.index ⟨(i 0 : ℕ) / 256, hN⟩ 1 * 1024 ≤ (i 1 : ℕ) ∧ (i 1 : ℕ) < win0_6.index ⟨(i 0 : ℕ) / 256, hN⟩ 1 * 1024 + 1024
      rw [h6_1]; omega

end Cert.KvProjIdeal.Value

end
-- ==== Proof.KvProjRef.lean ====
module

public import proofs.«01_k».proof.Proof.Gen.KvProjRefIdeal.Run
public import proofs.«01_k».proof.Proof.LinSpec

/-!
# The keys' and values' reference, read index by index
-/

@[expose] public section

set_option maxRecDepth 16384

noncomputable section

namespace Cert.KvProjRefIdeal.Value

open Cert.KvProjRefIdeal Cert.KvProjRefIdeal.Gen Idealize.ShloMosaic Idealize.ShloMosaic.TcCoe Idealize.SL.Sem
open Idealize.ShloMosaic.Pointwise
open Cert.Lin

/-- The reference's result, from its arguments. -/
def refT0 (A0 : FVec Ideal S16384x1024 .f32) (A1 : FVec Ideal S1024 .f32) (A2 : FVec Ideal S1024x1024 .f32) (A3 : FVec Ideal S1024x1024 .f32) : FVec Ideal S16384x1024 .f32 :=
  Host.dotGeneral dot_S16384x1024_S1024x1024_S16384x1024_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A2

theorem ref0_apply (A0 : FVec Ideal S16384x1024 .f32) (A1 : FVec Ideal S1024 .f32) (A2 : FVec Ideal S1024x1024 .f32) (A3 : FVec Ideal S1024x1024 .f32) (n : Fin 16384) (d : Fin 1024) :
    refT0 A0 A1 A2 A3 (ix2 n d) = keyval A0 A1 A2 n d := by
  pointwise [refT0]
  rfl

theorem ref0_arr (A0 : FVec Ideal S16384x1024 .f32) (A1 : FVec Ideal S1024 .f32) (A2 : FVec Ideal S1024x1024 .f32) (A3 : FVec Ideal S1024x1024 .f32) : refT0 A0 A1 A2 A3 = arr (keyval A0 A1 A2) := by
  funext i
  rw [← show ix2 (i 0) (i 1) = i from by funext a; fin_cases a <;> rfl]
  exact ref0_apply A0 A1 A2 A3 (i 0) (i 1)

/-- The reference's result, from its arguments. -/
def refT1 (A0 : FVec Ideal S16384x1024 .f32) (A1 : FVec Ideal S1024 .f32) (A2 : FVec Ideal S1024x1024 .f32) (A3 : FVec Ideal S1024x1024 .f32) : FVec Ideal S16384x1024 .f32 :=
  Host.dotGeneral dot_S16384x1024_S1024x1024_S16384x1024_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A3

theorem ref1_apply (A0 : FVec Ideal S16384x1024 .f32) (A1 : FVec Ideal S1024 .f32) (A2 : FVec Ideal S1024x1024 .f32) (A3 : FVec Ideal S1024x1024 .f32) (n : Fin 16384) (d : Fin 1024) :
    refT1 A0 A1 A2 A3 (ix2 n d) = keyval A0 A1 A3 n d := by
  pointwise [refT1]
  rfl

theorem ref1_arr (A0 : FVec Ideal S16384x1024 .f32) (A1 : FVec Ideal S1024 .f32) (A2 : FVec Ideal S1024x1024 .f32) (A3 : FVec Ideal S1024x1024 .f32) : refT1 A0 A1 A2 A3 = arr (keyval A0 A1 A3) := by
  funext i
  rw [← show ix2 (i 0) (i 1) = i from by funext a; fin_cases a <;> rfl]
  exact ref1_apply A0 A1 A2 A3 (i 0) (i 1)

/-- The reference's result, from its arguments. -/
def refT2 (A0 : FVec Ideal S16384x1024 .f32) (A1 : FVec Ideal S1024 .f32) (A2 : FVec Ideal S1024x1024 .f32) (A3 : FVec Ideal S1024x1024 .f32) : FVec Ideal S16384x1024 .bf16 :=
  truncf .bf16 (Host.dotGeneral dot_S16384x1024_S1024x1024_S16384x1024_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A2) bitsLt_bf16_f32

theorem ref2_apply (A0 : FVec Ideal S16384x1024 .f32) (A1 : FVec Ideal S1024 .f32) (A2 : FVec Ideal S1024x1024 .f32) (A3 : FVec Ideal S1024x1024 .f32) (n : Fin 16384) (d : Fin 1024) :
    refT2 A0 A1 A2 A3 (ix2 n d) = keyval A0 A1 A2 n d := by
  pointwise [refT2]
  rfl

theorem ref2_arr (A0 : FVec Ideal S16384x1024 .f32) (A1 : FVec Ideal S1024 .f32) (A2 : FVec Ideal S1024x1024 .f32) (A3 : FVec Ideal S1024x1024 .f32) : refT2 A0 A1 A2 A3 = arr (keyval A0 A1 A2) := by
  funext i
  rw [← show ix2 (i 0) (i 1) = i from by funext a; fin_cases a <;> rfl]
  exact ref2_apply A0 A1 A2 A3 (i 0) (i 1)

/-- The reference's result, from its arguments. -/
def refT3 (A0 : FVec Ideal S16384x1024 .f32) (A1 : FVec Ideal S1024 .f32) (A2 : FVec Ideal S1024x1024 .f32) (A3 : FVec Ideal S1024x1024 .f32) : FVec Ideal S16384x1024 .bf16 :=
  truncf .bf16 (Host.dotGeneral dot_S16384x1024_S1024x1024_S16384x1024_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A3) bitsLt_bf16_f32

theorem ref3_apply (A0 : FVec Ideal S16384x1024 .f32) (A1 : FVec Ideal S1024 .f32) (A2 : FVec Ideal S1024x1024 .f32) (A3 : FVec Ideal S1024x1024 .f32) (n : Fin 16384) (d : Fin 1024) :
    refT3 A0 A1 A2 A3 (ix2 n d) = keyval A0 A1 A3 n d := by
  pointwise [refT3]
  rfl

theorem ref3_arr (A0 : FVec Ideal S16384x1024 .f32) (A1 : FVec Ideal S1024 .f32) (A2 : FVec Ideal S1024x1024 .f32) (A3 : FVec Ideal S1024x1024 .f32) : refT3 A0 A1 A2 A3 = arr (keyval A0 A1 A3) := by
  funext i
  rw [← show ix2 (i 0) (i 1) = i from by funext a; fin_cases a <;> rfl]
  exact ref3_apply A0 A1 A2 A3 (i 0) (i 1)

end Cert.KvProjRefIdeal.Value

end
-- ==== Proof.OutProjValue.lean ====
module

public import proofs.«01_k».proof.Proof.Gen.OutProjIdeal.Value
public import proofs.«01_k».proof.Proof.LinSpec
public import Idealize.ShloMosaic.Lib.StableHlo.Run

/-!
# The kernel's output map

Every grid point's blocks are rows of the arguments, so what it writes is its block of the result; the blocks cover the
array.
-/

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S1024x1024 .f32 := m ((c : Thread nD τ).loc main_arg1)
abbrev arg2 : FVec Ideal S16384x1024 .f32 := m ((c : Thread nD τ).loc main_arg2)
abbrev arg3 : FVec Ideal S24x1x1024 .f32 := m ((c : Thread nD τ).loc main_arg3)

theorem V_v0 : V m c main_v0 = truncf .bf16 (arg1 m c) bitsLt_bf16_f32 := by
  show StableHlo.after hostOps0 (fun b => m (c, b)) main_v0 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = t.val
    ∧ win0_2.index t 1 = 0
    ∧ win0_3.index t 0 = t.val / 16 * 6 + 2
    ∧ win0_3.index t 1 = 0
    ∧ win0_3.index t 2 = 0
    ∧ win0_4.index t 0 = t.val
    ∧ win0_4.index t 1 = 0 := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1, h3_0, h3_1, h3_2, h4_0, h4_1⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1024) (x : Fin 1024) :
    (iblk m c 1 t : Vec Ideal S1024x1024 .bf16) (ix2 p x) = (V m c main_v0 : Vec Ideal S1024x1024 .bf16) (ix2 p x) := by
  obtain ⟨h0_0, h0_1, h1_0, h1_1, h2_0, h2_1, h3_0, h3_1, h3_2, h4_0, h4_1⟩ := win_index t
  unfold iblk
  rw [View.read_apply]
  refine congrArg (V m c main_v0) (funext fun a => Fin.ext ?_)
  fin_cases a
  · show win0_1.index t 0 * 1024 + 1 * p.val = p.val
    rw [h1_0]; omega
  · show win0_1.index t 1 * 1024 + 1 * x.val = x.val
    rw [h1_1]; omega

theorem iblk1w (t : Fin cfg0.N) (x : Fin 1024) (d : Fin 1024) :
    (iblk m c 1 t : Vec Ideal S1024x1024 .bf16) (ix2 x d) = arg1 m c (ix2 x d) := by
  rw [iblk1_V, V_v0]
  rfl

theorem iblk2 (t : Fin cfg0.N) (r : Fin 256) (x : Fin 1024) :
    (iblk m c 2 t : Vec Ideal S256x1024 .f32) (ix2 r x) = arg2 m c (ix2 (row t r) x) := by
  obtain ⟨h0_0, h0_1, h1_0, h1_1, h2_0, h2_1, h3_0, h3_1, h3_2, h4_0, h4_1⟩ := win_index t
  unfold iblk
  rw [View.read_apply]
  refine (congrFun (V_main_arg2 m c) _).trans ?_
  refine congrArg (arg2 m c) (funext fun a => Fin.ext ?_)
  fin_cases a
  · show win0_2.index t 0 * 256 + 1 * r.val = t.val * 256 + r.val
    rw [h2_0]; omega
  · show win0_2.index t 1 * 1024 + 1 * x.val = x.val
    rw [h2_1]; omega

theorem iblk3 (t : Fin cfg0.N) (r : Fin 256) (x : Fin 1024) :
    (iblk m c 3 t : Vec Ideal S1x1x1024 .f32) (ix3 0 0 x) = arg3 m c (ix3 (part (row t r) 2) 0 x) := by
  obtain ⟨h0_0, h0_1, h1_0, h1_1, h2_0, h2_1, h3_0, h3_1, h3_2, h4_0, h4_1⟩ := win_index t
  unfold iblk
  rw [View.read_apply]
  refine (congrFun (V_main_arg3 m c) _).trans ?_
  refine congrArg (arg3 m c) (funext fun a => Fin.ext ?_)
  fin_cases a
  · show win0_3.index t 0 * 1 + 1 * 0 = (t.val * 256 + r.val) / 4096 * 6 + 2
    rw [h3_0]; omega
  · show win0_3.index t 1 * 1 + 1 * 0 = 0
    rw [h3_1]
  · show win0_3.index t 2 * 1024 + 1 * x.val = x.val
    rw [h3_2]; omega

/-- The point's block: its one store covers it. -/
theorem out4_eq (x0 : Vec Ideal S256x1024 .f32) (x1 : Vec Ideal S1024x1024 .bf16) (x2 : Vec Ideal S256x1024 .f32) (x3 : Vec Ideal S1x1x1024 .f32) : out0_4 x0 x1 x2 x3 = k0_pay1 x2 x3 x0 x1 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_4
  rw [View.canon_unit_zero (S := S256x1024) h2]
  simp only [View.ld_unit_zero (S := S256x1024) h2, View.ld_unit_zero (S := S1x1x1024) h3, View.ld_unit_zero (S := S1024x1024) h2]

theorem point4 (t : Fin cfg0.N) (r : Fin 256) (d : Fin 1024) :
    out0_4 (iblk m c 0 t) (iblk m c 1 t) (iblk m c 2 t) (iblk m c 3 t) (ix2 r d) = gated (arg2 m c) (arg3 m c) (arg0 m c) (arg1 m c) (row t r) d := by
  rw [out4_eq]
  pointwise [k0_pay1]
  simp only [iblk0, iblk1w, iblk2, iblk3 m c t r]
  rfl

/-- The kernel's result. -/
abbrev result4 : Buf (Elt Ideal) ((c : Thread nD τ).loc main_v1) := arr (gated (arg2 m c) (arg3 m c) (arg0 m c) (arg1 m c))

theorem cut4 (i : grid0.Coords) (X : Vec Ideal S256x1024 .f32) (j) : (cfg0.win 4).cut i X j = X (ix2 (j 0) (j 1)) := by
  refine congrArg X (funext fun a => ?_)
  fin_cases a <;> rfl

theorem flushed4_eq (t : Fin cfg0.N) (hf : (cfg0.win 4).flush t = true) :
    (dats m 0 c).flushed 4 t = ((cfg0.win 4).blk t).view.read (Elt Ideal) (result4 m c) := by
  obtain ⟨h0_0, h0_1, h1_0, h1_1, h2_0, h2_1, h3_0, h3_1, h3_2, h4_0, h4_1⟩ := win_index t
  rw [flushed4]
  funext j
  rw [cut4]
  refine (point4 m c t (j 0) (j 1)).trans ?_
  rw [View.read_apply]
  refine congr (congrArg _ (Fin.ext ?_)) (Fin.ext ?_)
  · show t.val * 256 + (j 0).val = win0_4.index t 0 * 256 + 1 * (j 0).val
    rw [h4_0]; omega
  · show (j 1).val = win0_4.index t 1 * 1024 + 1 * (j 1).val
    rw [h4_1]; omega

theorem final4 : (dats m 0 c).arrAt 4 cfg0.N = result4 m c :=
  (dats m 0 c).arrAt_eq_of_cover 4 (result4 m c) (flushed4_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h3_0, h3_1, h3_2, h4_0, h4_1⟩ := win_index ⟨(i 0 : ℕ) / 256, hN⟩
    refine ⟨⟨(i 0 : ℕ) / 256, hN⟩, flush0_4 _, ?_⟩
    show i ∈ ((View.whole main_v1).slice (win0_4.rect ⟨(i 0 : ℕ) / 256, hN⟩)).set
    rw [View.set_slice_whole, Rect.mem_set_unit]
    intro a
    match a with
    | ⟨0, _⟩ =>
      show win0_4.index ⟨(i 0 : ℕ) / 256, hN⟩ 0 * 256 ≤ (i 0 : ℕ) ∧ (i 0 : ℕ) < win0_4.index ⟨(i 0 : ℕ) / 256, hN⟩ 0 * 256 + 256
      rw [h4_0]; show (i 0 : ℕ) / 256 * 256 ≤ (i 0 : ℕ) ∧ (i 0 : ℕ) < (i 0 : ℕ) / 256 * 256 + 256; omega
    | ⟨1, _⟩ =>
      show win0_4.index ⟨(i 0 : ℕ) / 256, hN⟩ 1 * 1024 ≤ (i 1 : ℕ) ∧ (i 1 : ℕ) < win0_4.index ⟨(i 0 : ℕ) / 256, hN⟩ 1 * 1024 + 1024
      rw [h4_1]; omega

end Cert.OutProjIdeal.Value

end
-- ==== Proof.OutProjRef.lean ====
module

public import proofs.«01_k».proof.Proof.Gen.OutProjRefIdeal.Run
public import proofs.«01_k».proof.Proof.LinSpec

/-!
# The output map's reference, read index by index
-/

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem
open Idealize.ShloMosaic.Pointwise
open Cert.Lin

/-- The reference's result, from its arguments. -/
def refT (A0 : FVec Ideal S16384x1024 .f32) (A1 : FVec Ideal S1024x1024 .f32) (A2 : FVec Ideal S16384x1024 .f32) (A3 : FVec Ideal S24x1x1024 .f32) : FVec Ideal S16384x1024 .f32 :=
  shapeCast _ (addf (shapeCast _ A2 shapeCasts_S16384x1024_S4x4096x1024) (mulf (broadcastInDim S4x4096x1024 ![0, 1, 2] bcast_S4x1x1024_S4x4096x1024_0_1_2 (extractStridedSlice S4x1x1024 ![0, 2, 0] (shapeCast _ A3 shapeCasts_S24x1x1024_S4x6x1024) slices_S4x6x1024_S4x1x1024_0_2_0)) (Host.dotGeneral dot_S4x4096x1024_S1024x1024_S4x4096x1024_2_0_01_1_n_n none (shapeCast _ A0 shapeCasts_S16384x1024_S4x4096x1024) A1))) shapeCasts_S4x4096x1024_S16384x1024

theorem ref_apply (A0 : FVec Ideal S16384x1024 .f32) (A1 : FVec Ideal S1024x1024 .f32) (A2 : FVec Ideal S16384x1024 .f32) (A3 : FVec Ideal S24x1x1024 .f32) (n : Fin 16384) (d : Fin 1024) :
    refT A0 A1 A2 A3 (ix2 n d) = gated A2 A3 A0 A1 n d := by
  pointwise [refT]
  rfl

theorem ref_arr (A0 : FVec Ideal S16384x1024 .f32) (A1 : FVec Ideal S1024x1024 .f32) (A2 : FVec Ideal S16384x1024 .f32) (A3 : FVec Ideal S24x1x1024 .f32) : refT A0 A1 A2 A3 = arr (gated A2 A3 A0 A1) := by
  funext i
  rw [← show ix2 (i 0) (i 1) = i from by funext a; fin_cases a <;> rfl]
  exact ref_apply A0 A1 A2 A3 (i 0) (i 1)

end Cert.OutProjRefIdeal.Value

end
-- ==== Proof.LinClaims.lean ====
module

public import proofs.«01_k».proof.Defs
public import proofs.«01_k».proof.Proof.ConvInValue
public import proofs.«01_k».proof.Proof.ConvInRef
public import proofs.«01_k».proof.Proof.Gen.ConvIn.Frame
public import proofs.«01_k».proof.Proof.Gen.ConvInIdeal.Frame
public import proofs.«01_k».proof.Proof.QProjValue
public import proofs.«01_k».proof.Proof.QProjRef
public import proofs.«01_k».proof.Proof.Gen.QProj.Frame
public import proofs.«01_k».proof.Proof.Gen.QProjIdeal.Frame
public import proofs.«01_k».proof.Proof.KvProjValue
public import proofs.«01_k».proof.Proof.KvProjRef
public import proofs.«01_k».proof.Proof.Gen.KvProj.Frame
public import proofs.«01_k».proof.Proof.Gen.KvProjIdeal.Frame
public import proofs.«01_k».proof.Proof.OutProjValue
public import proofs.«01_k».proof.Proof.OutProjRef
public import proofs.«01_k».proof.Proof.Gen.OutProj.Frame
public import proofs.«01_k».proof.Proof.Gen.OutProjIdeal.Frame

/-!
# The claims about the maps around the attention and the gate before the convolution
-/

@[expose] public section

set_option maxRecDepth 16384

noncomputable section

open Idealize.ShloMosaic Idealize.SL.Sem

namespace Cert.ConvInClaims

theorem frame_p : Cert.quiescent_ConvIn (hConvIn := Cert.ConvIn.Gen.facts) := fun m ρ _ => Cert.ConvIn.Gen.frame m ρ

theorem frame_pi : Cert.quiescent_ConvInIdeal (hConvInIdeal := Cert.ConvInIdeal.Gen.facts) := fun m ρ _ => Cert.ConvInIdeal.Gen.frame m ρ

theorem frame_ri : Cert.quiescent_ConvInRefIdeal (hConvInRefIdeal := Cert.ConvInRefIdeal.Gen.facts) := fun m ρ _ =>
  (θ_run Cert.ConvInRefIdeal.defs _ _).mono (fun r h => ⟨fun c => (h c).2, sem_eq_zero_of_no_sems (by decide) r.2⟩)
    (Cert.ConvInRefIdeal.Value.run (F := Ideal) m ρ)

theorem algebraic : Cert.algebraic_ConvInIdeal_ConvInRefIdeal (hConvInIdeal := Cert.ConvInIdeal.Gen.facts)
    (hConvInRefIdeal := Cert.ConvInRefIdeal.Gen.facts) := fun m ρ m' ρ' _ hag =>
  ⟨fun c => Cert.ConvInIdeal.Value.result6 m c,
    (θ_run Cert.ConvInIdeal.defs _ _).mono (fun r h c => ⟨(h c).1.trans (Cert.ConvInIdeal.Value.final6 m c), (h c).2⟩)
      (Cert.ConvInIdeal.Value.run_blocks (F := Ideal) m ρ),
    (θ_run Cert.ConvInRefIdeal.defs _ _).mono (fun r h c => ⟨(h c).1.trans (by
        obtain ⟨h0, h1, h2, h3, h4⟩ := hag c
        refine (Cert.ConvInRefIdeal.Value.ref_arr (m' ((c.tc : Thread Cert.ConvInRefIdeal.nD Cert.ConvInRefIdeal.τ).loc Cert.ConvInRefIdeal.main_arg0)) (m' ((c.tc : Thread Cert.ConvInRefIdeal.nD Cert.ConvInRefIdeal.τ).loc Cert.ConvInRefIdeal.main_arg1)) (m' ((c.tc : Thread Cert.ConvInRefIdeal.nD Cert.ConvInRefIdeal.τ).loc Cert.ConvInRefIdeal.main_arg2)) (m' ((c.tc : Thread Cert.ConvInRefIdeal.nD Cert.ConvInRefIdeal.τ).loc Cert.ConvInRefIdeal.main_arg3)) (m' ((c.tc : Thread Cert.ConvInRefIdeal.nD Cert.ConvInRefIdeal.τ).loc Cert.ConvInRefIdeal.main_arg4))).trans ?_
        rw [h0, h1, h2, h3, h4]),
      (h c).2⟩)
      (Cert.ConvInRefIdeal.Value.run (F := Ideal) m' ρ')⟩

end Cert.ConvInClaims

namespace Cert.QProjClaims

theorem frame_p : Cert.quiescent_QProj (hQProj := Cert.QProj.Gen.facts) := fun m ρ _ => Cert.QProj.Gen.frame m ρ

theorem frame_pi : Cert.quiescent_QProjIdeal (hQProjIdeal := Cert.QProjIdeal.Gen.facts) := fun m ρ _ => Cert.QProjIdeal.Gen.frame m ρ

theorem frame_ri : Cert.quiescent_QProjRefIdeal (hQProjRefIdeal := Cert.QProjRefIdeal.Gen.facts) := fun m ρ _ =>
  (θ_run Cert.QProjRefIdeal.defs _ _).mono (fun r h => ⟨fun c => (h c).2, sem_eq_zero_of_no_sems (by decide) r.2⟩)
    (Cert.QProjRefIdeal.Value.run (F := Ideal) m ρ)

theorem algebraic : Cert.algebraic_QProjIdeal_QProjRefIdeal (hQProjIdeal := Cert.QProjIdeal.Gen.facts)
    (hQProjRefIdeal := Cert.QProjRefIdeal.Gen.facts) := fun m ρ m' ρ' _ hag =>
  ⟨fun c => Cert.QProjIdeal.Value.result5 m c,
    (θ_run Cert.QProjIdeal.defs _ _).mono (fun r h c => ⟨(h c).1.trans (Cert.QProjIdeal.Value.final5 m c), (h c).2⟩)
      (Cert.QProjIdeal.Value.run_blocks (F := Ideal) m ρ),
    (θ_run Cert.QProjRefIdeal.defs _ _).mono (fun r h c => ⟨(h c).1.trans (by
        obtain ⟨h0, h1, h2, h3⟩ := hag c
        refine (Cert.QProjRefIdeal.Value.ref_arr (m' ((c.tc : Thread Cert.QProjRefIdeal.nD Cert.QProjRefIdeal.τ).loc Cert.QProjRefIdeal.main_arg0)) (m' ((c.tc : Thread Cert.QProjRefIdeal.nD Cert.QProjRefIdeal.τ).loc Cert.QProjRefIdeal.main_arg1)) (m' ((c.tc : Thread Cert.QProjRefIdeal.nD Cert.QProjRefIdeal.τ).loc Cert.QProjRefIdeal.main_arg2)) (m' ((c.tc : Thread Cert.QProjRefIdeal.nD Cert.QProjRefIdeal.τ).loc Cert.QProjRefIdeal.main_arg3))).trans ?_
        rw [h0, h1, h2, h3]),
      (h c).2⟩)
      (Cert.QProjRefIdeal.Value.run (F := Ideal) m' ρ')⟩

end Cert.QProjClaims

namespace Cert.KvProjClaims

theorem frame_p : Cert.quiescent_KvProj (hKvProj := Cert.KvProj.Gen.facts) := fun m ρ _ => Cert.KvProj.Gen.frame m ρ

theorem frame_pi : Cert.quiescent_KvProjIdeal (hKvProjIdeal := Cert.KvProjIdeal.Gen.facts) := fun m ρ _ => Cert.KvProjIdeal.Gen.frame m ρ

theorem frame_ri : Cert.quiescent_KvProjRefIdeal (hKvProjRefIdeal := Cert.KvProjRefIdeal.Gen.facts) := fun m ρ _ =>
  (θ_run Cert.KvProjRefIdeal.defs _ _).mono (fun r h => ⟨fun c => (h c).2.2.2.2, sem_eq_zero_of_no_sems (by decide) r.2⟩)
    (Cert.KvProjRefIdeal.Value.run (F := Ideal) m ρ)

theorem algebraic : Cert.algebraic_KvProjIdeal_KvProjRefIdeal (hKvProjIdeal := Cert.KvProjIdeal.Gen.facts)
    (hKvProjRefIdeal := Cert.KvProjRefIdeal.Gen.facts) := fun m ρ m' ρ' _ hag =>
  ⟨fun c => Cert.KvProjIdeal.Value.result3 m c, fun c => Cert.KvProjIdeal.Value.result4 m c, fun c => Cert.KvProjIdeal.Value.result5 m c, fun c => Cert.KvProjIdeal.Value.result6 m c,
    (θ_run Cert.KvProjIdeal.defs _ _).mono (fun r h c => ⟨(h c).1.trans (Cert.KvProjIdeal.Value.final3 m c), (h c).2.1.trans (Cert.KvProjIdeal.Value.final4 m c), (h c).2.2.1.trans (Cert.KvProjIdeal.Value.final5 m c), (h c).2.2.2.1.trans (Cert.KvProjIdeal.Value.final6 m c), (h c).2.2.2.2⟩)
      (Cert.KvProjIdeal.Value.run_blocks (F := Ideal) m ρ),
    (θ_run Cert.KvProjRefIdeal.defs _ _).mono (fun r h c => ⟨(h c).1.trans (by
        obtain ⟨h0, h1, h2, h3⟩ := hag c
        refine (Cert.KvProjRefIdeal.Value.ref0_arr (m' ((c.tc : Thread Cert.KvProjRefIdeal.nD Cert.KvProjRefIdeal.τ).loc Cert.KvProjRefIdeal.main_arg0)) (m' ((c.tc : Thread Cert.KvProjRefIdeal.nD Cert.KvProjRefIdeal.τ).loc Cert.KvProjRefIdeal.main_arg1)) (m' ((c.tc : Thread Cert.KvProjRefIdeal.nD Cert.KvProjRefIdeal.τ).loc Cert.KvProjRefIdeal.main_arg2)) (m' ((c.tc : Thread Cert.KvProjRefIdeal.nD Cert.KvProjRefIdeal.τ).loc Cert.KvProjRefIdeal.main_arg3))).trans ?_
        rw [h0, h1, h2]),
      (h c).2.1.trans (by
        obtain ⟨h0, h1, h2, h3⟩ := hag c
        refine (Cert.KvProjRefIdeal.Value.ref1_arr (m' ((c.tc : Thread Cert.KvProjRefIdeal.nD Cert.KvProjRefIdeal.τ).loc Cert.KvProjRefIdeal.main_arg0)) (m' ((c.tc : Thread Cert.KvProjRefIdeal.nD Cert.KvProjRefIdeal.τ).loc Cert.KvProjRefIdeal.main_arg1)) (m' ((c.tc : Thread Cert.KvProjRefIdeal.nD Cert.KvProjRefIdeal.τ).loc Cert.KvProjRefIdeal.main_arg2)) (m' ((c.tc : Thread Cert.KvProjRefIdeal.nD Cert.KvProjRefIdeal.τ).loc Cert.KvProjRefIdeal.main_arg3))).trans ?_
        rw [h0, h1, h3]),
      (h c).2.2.1.trans (by
        obtain ⟨h0, h1, h2, h3⟩ := hag c
        refine (Cert.KvProjRefIdeal.Value.ref2_arr (m' ((c.tc : Thread Cert.KvProjRefIdeal.nD Cert.KvProjRefIdeal.τ).loc Cert.KvProjRefIdeal.main_arg0)) (m' ((c.tc : Thread Cert.KvProjRefIdeal.nD Cert.KvProjRefIdeal.τ).loc Cert.KvProjRefIdeal.main_arg1)) (m' ((c.tc : Thread Cert.KvProjRefIdeal.nD Cert.KvProjRefIdeal.τ).loc Cert.KvProjRefIdeal.main_arg2)) (m' ((c.tc : Thread Cert.KvProjRefIdeal.nD Cert.KvProjRefIdeal.τ).loc Cert.KvProjRefIdeal.main_arg3))).trans ?_
        rw [h0, h1, h2]),
      (h c).2.2.2.1.trans (by
        obtain ⟨h0, h1, h2, h3⟩ := hag c
        refine (Cert.KvProjRefIdeal.Value.ref3_arr (m' ((c.tc : Thread Cert.KvProjRefIdeal.nD Cert.KvProjRefIdeal.τ).loc Cert.KvProjRefIdeal.main_arg0)) (m' ((c.tc : Thread Cert.KvProjRefIdeal.nD Cert.KvProjRefIdeal.τ).loc Cert.KvProjRefIdeal.main_arg1)) (m' ((c.tc : Thread Cert.KvProjRefIdeal.nD Cert.KvProjRefIdeal.τ).loc Cert.KvProjRefIdeal.main_arg2)) (m' ((c.tc : Thread Cert.KvProjRefIdeal.nD Cert.KvProjRefIdeal.τ).loc Cert.KvProjRefIdeal.main_arg3))).trans ?_
        rw [h0, h1, h3]),
      (h c).2.2.2.2⟩)
      (Cert.KvProjRefIdeal.Value.run (F := Ideal) m' ρ')⟩

end Cert.KvProjClaims

namespace Cert.OutProjClaims

theorem frame_p : Cert.quiescent_OutProj (hOutProj := Cert.OutProj.Gen.facts) := fun m ρ _ => Cert.OutProj.Gen.frame m ρ

theorem frame_pi : Cert.quiescent_OutProjIdeal (hOutProjIdeal := Cert.OutProjIdeal.Gen.facts) := fun m ρ _ => Cert.OutProjIdeal.Gen.frame m ρ

theorem frame_ri : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic : Cert.algebraic_OutProjIdeal_OutProjRefIdeal (hOutProjIdeal := Cert.OutProjIdeal.Gen.facts)
    (hOutProjRefIdeal := Cert.OutProjRefIdeal.Gen.facts) := fun m ρ m' ρ' _ hag =>
  ⟨fun c => Cert.OutProjIdeal.Value.result4 m c,
    (θ_run Cert.OutProjIdeal.defs _ _).mono (fun r h c => ⟨(h c).1.trans (Cert.OutProjIdeal.Value.final4 m c), (h c).2⟩)
      (Cert.OutProjIdeal.Value.run_blocks (F := Ideal) m ρ),
    (θ_run Cert.OutProjRefIdeal.defs _ _).mono (fun r h c => ⟨(h c).1.trans (by
        obtain ⟨h0, h1, h2, h3⟩ := hag c
        refine (Cert.OutProjRefIdeal.Value.ref_arr (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3))).trans ?_
        rw [h0, h1, h2, h3]),
      (h c).2⟩)
      (Cert.OutProjRefIdeal.Value.run (F := Ideal) m' ρ')⟩

end Cert.OutProjClaims

end
-- ==== Proof.ConvSpec.lean ====
module

public import proofs.«01_k».proof.Proof.LinSpec

/-!
# What the convolution module computes after its gate

A depthwise sum over 31 rows that ends at the row itself, with zeros before a sequence's start; the norm over a row's
lanes, its gate, the second linear map, the module's gate and the residual.
-/

@[expose] public section

noncomputable section

namespace Cert.Lin

open Idealize.ShloMosaic Idealize.ShloMosaic.Pointwise

/-- A row normed by its mean and variance, scaled, shifted, and gated by itself. -/
def normedRow (y g b : Fin 1024 → EReal) (x : Fin 1024) : EReal :=
  (y x - Ideal.div (∑ x, y x) (Ideal.ofBits FTy.f32 1149239296#32)) * Ideal.rsqrt (Ideal.div
    (∑ x, (y x - Ideal.div (∑ x, y x) (Ideal.ofBits FTy.f32 1149239296#32)) * (y x - Ideal.div (∑ x, y x) (Ideal.ofBits FTy.f32 1149239296#32)))
    (Ideal.ofBits FTy.f32 1149239296#32) + Ideal.ofBits FTy.f32 897988541#32) * g x + b x

def swished (y g b : Fin 1024 → EReal) (x : Fin 1024) : EReal := normedRow y g b x * Ideal.logistic (normedRow y g b x)

/-- The row that tap `k` reads for row `n`: 30 rows back for the first, the row itself for the last, and zeros before the
sequence's start. -/
def shifted (U : (⟨2, ![16384, 1024]⟩ : Shape).Idx → EReal) (n : Fin 16384) (k : ℕ) (d : Fin 1024) : EReal :=
  if n.val % 4096 + k < 30 then 0 else U (ix2 ⟨(n.val + k - 30) % 16384, Nat.mod_lt _ (by decide)⟩ d)

/-- The depthwise convolution. -/
def convolved (U : (⟨2, ![16384, 1024]⟩ : Shape).Idx → EReal) (W : (⟨2, ![31, 1024]⟩ : Shape).Idx → EReal)
    (B : (⟨1, ![1024]⟩ : Shape).Idx → EReal) (n : Fin 16384) (d : Fin 1024) : EReal :=
  B (ix1 d) + ∑ k ∈ Finset.range 31, W (ix2 ⟨k % 31, Nat.mod_lt _ (by decide)⟩ d) * shifted U n k d

/-- The module's result. -/
def convModule (U X : (⟨2, ![16384, 1024]⟩ : Shape).Idx → EReal) (W : (⟨2, ![31, 1024]⟩ : Shape).Idx → EReal)
    (B G C : (⟨1, ![1024]⟩ : Shape).Idx → EReal) (W2 : (⟨2, ![1024, 1024]⟩ : Shape).Idx → EReal)
    (B2 : (⟨1, ![1024]⟩ : Shape).Idx → EReal) (M : (⟨3, ![24, 1, 1024]⟩ : Shape).Idx → EReal) (n : Fin 16384) (d : Fin 1024) : EReal :=
  X (ix2 n d) + M (ix3 (part n 2) 0 d)
    * ((∑ x, swished (convolved U W B n) (fun x => G (ix1 x)) (fun x => C (ix1 x)) x * W2 (ix2 x d)) + B2 (ix1 d))

end Cert.Lin

end
-- ==== Proof.ConvOut.lean ====
module

public import proofs.«01_k».proof.Proof.Gen.ConvPromptIdeal.Value
public import proofs.«01_k».proof.Proof.ConvSpec
public import Idealize.ShloMosaic.Lib.Pointwise
public import Idealize.ShloMosaic.Lib.WordCmp
public import Idealize.ShloMosaic.Lib.WritesUnit
public import Idealize.ShloMosaic.Lib.VecWindow

/-!
# What one grid point of the convolution writes

The point joins the 32 rows before its tile and the tile's 256 rows, takes for every row the weighted sum of 31 joined rows,
and sends the sum through norm, gate and the second linear map.
-/

@[expose] public section

set_option maxRecDepth 16384

noncomputable section

namespace Cert.ConvPromptIdeal.Value

open Cert.ConvPromptIdeal Cert.ConvPromptIdeal.Gen Idealize.ShloMosaic Idealize.ShloMosaic.TcCoe Idealize.SL.Sem
open Idealize.ShloMosaic.Pointwise

/-- The joined rows: the 32 before the tile, or zeros in a sequence's first tile, then the tile's. -/
def joined (i : grid0.Coords) (x0 : Vec Ideal S1x256x1024 .f32) (x1 : Vec Ideal S1x32x1024 .f32) (j : ℕ) (d : Fin 1024) : EReal :=
  if h : j < 32 then (if 0 < (i 1).val then x1 (ix3 0 ⟨j, h⟩ d) else 0)
  else if h' : j - 32 < 256 then x0 (ix3 0 ⟨j - 32, h'⟩ d) else 0

/-- The weights' row of a tap. -/
def tapRow (x2 : Vec Ideal S32x1024 .f32) (k : ℕ) (d : Fin 1024) : EReal := if h : k < 32 then x2 (ix2 ⟨k, h⟩ d) else 0

/-- The convolution's sum. -/
def convSum (i : grid0.Coords) (x0 : Vec Ideal S1x256x1024 .f32) (x1 : Vec Ideal S1x32x1024 .f32) (x2 : Vec Ideal S32x1024 .f32)
    (x3 : Vec Ideal S1x1024 .f32) (r : Fin 256) (d : Fin 1024) : EReal :=
  x3 (ix2 0 d) + ∑ k ∈ Finset.range 31, tapRow x2 k d * joined i x0 x1 (k + 2 + r.val) d

theorem pay2_apply (i : grid0.Coords) (x1 : Vec Ideal S1x32x1024 .f32) (r : Fin 32) (d : Fin 1024) :
    k0_pay2 i x1 (ix2 r d) = if 0 < (i 1).val then x1 (ix3 0 r d) else (0 : EReal) := by
  have hi : (i 1).val < 16 := (i 1).isLt
  have hc : ∀ t : Fin 16, Scalar.cmpi .sgt (BitVec.ofNat 32 t.val) 0#32 = if 0 < t.val then 1#1 else 0#1 := by decide +kernel
  pointwise [k0_pay2]
  rw [hc (i 1)]
  split <;> rfl

theorem pay3_apply (x0 : Vec Ideal S1x256x1024 .f32) (r : Fin 256) (d : Fin 1024) : k0_pay3 x0 (ix2 r d) = x0 (ix3 0 r d) := by
  pointwise [k0_pay3]

/-- A load from the joined rows. -/
theorem load_joined (arg : Memref sig .tc .vmem S288x1024 .f32) (i : grid0.Coords) (x0 : Vec Ideal S1x256x1024 .f32)
    (x1 : Vec Ideal S1x32x1024 .f32) (a b : ℕ) (i1) (i2) (inb : ∀ k, (![a, b] : Fin 2 → ℕ) k + S256x128.size k ≤ S288x1024.size k)
    (hb : b + 128 ≤ 1024) (r : Fin 256) (l : Fin 128) :
    (arg.view.readCov (Val := Elt Ideal) [⟨Rect.unit ![32, 0] S256x1024.size i1, k0_pay3 x0⟩, ⟨Rect.unit ![0, 0] S32x1024.size i2, k0_pay2 i x1⟩]
      (Rect.unit (s := S288x1024) ![a, b] S256x128.size inb).toLoadRect) (ix2 r l) = joined i x0 x1 (a + r.val) ⟨b + l.val, by omega⟩ := by
  have ha : a + 256 ≤ 288 := inb 0
  unfold View.readCov
  have hidx : (Rect.unit (s := S288x1024) ![a, b] S256x128.size inb).toLoadRect.idx (ix2 r l) = (ix2 ⟨a + r.val, by omega⟩ ⟨b + l.val, by omega⟩ : S288x1024.Idx) := by
    funext k
    refine Fin.ext ?_
    fin_cases k
    · show a + 1 * r.val = a + r.val; omega
    · show b + 1 * l.val = b + l.val; omega
  show arg.view.read (Elt Ideal) _ ((Rect.unit (s := S288x1024) ![a, b] S256x128.size inb).toLoadRect.idx (ix2 r l)) = _
  rw [hidx]
  unfold joined
  by_cases h : a + r.val < 32
  · rw [dif_pos h]
    refine (View.read_writes_cons_unit_of_not_mem arg.view _ _ _ _ (ix2 ⟨a + r.val, by omega⟩ ⟨b + l.val, by omega⟩) rfl 0 (Or.inl h)).trans ?_
    refine (View.read_writes_cons_unit_of_mem arg.view _ _ _ _ (ix2 ⟨a + r.val, by omega⟩ ⟨b + l.val, by omega⟩)
      (ix2 ⟨a + r.val, h⟩ ⟨b + l.val, by omega⟩) rfl (by
        intro k
        fin_cases k
        · exact (Nat.zero_add (a + r.val)).symm
        · exact (Nat.zero_add (b + l.val)).symm)).trans ?_
    exact pay2_apply i x1 _ _
  · rw [dif_neg h, dif_pos (show a + r.val - 32 < 256 by omega)]
    refine (View.read_writes_cons_unit_of_mem arg.view _ _ _ _ (ix2 ⟨a + r.val, by omega⟩ ⟨b + l.val, by omega⟩)
      (ix2 ⟨a + r.val - 32, by omega⟩ ⟨b + l.val, by omega⟩) rfl (by
        intro k
        fin_cases k
        · show a + r.val = 32 + (a + r.val - 32); omega
        · exact (Nat.zero_add (b + l.val)).symm)).trans ?_
    exact pay3_apply x0 _ _

/-- A load of one tap's weights. -/
theorem load_tap (arg : Memref sig .tc .vmem S32x1024 .f32) (harg : arg.IsWhole) (x2 : Vec Ideal S32x1024 .f32) (a b : ℕ)
    (inb : ∀ k, (![a, b] : Fin 2 → ℕ) k + S1x128.size k ≤ S32x1024.size k) (hb : b + 128 ≤ 1024) (l : Fin 128) :
    (View.readAt (Elt Ideal) arg.view (Rect.unit (s := S32x1024) ![a, b] S1x128.size inb).toLoadRect (harg.unread x2)) (ix2 0 l)
      = tapRow x2 a ⟨b + l.val, by omega⟩ := by
  have ha : a + 1 ≤ 32 := inb 0
  show arg.view.read (Elt Ideal) (harg.unread x2) _ = _
  rw [harg.read_unread]
  unfold tapRow
  rw [dif_pos (show a < 32 by omega)]
  refine congrArg x2 (funext fun k => Fin.ext ?_)
  fin_cases k
  · show a + 1 * 0 = a; omega
  · show b + 1 * l.val = b + l.val; omega

/-- A load of the bias. -/
theorem load_bias (arg : Memref sig .tc .vmem S1x1024 .f32) (harg : arg.IsWhole) (x3 : Vec Ideal S1x1024 .f32) (b : ℕ)
    (inb : ∀ k, (![0, b] : Fin 2 → ℕ) k + S1x128.size k ≤ S1x1024.size k) (hb : b + 128 ≤ 1024) (l : Fin 128) :
    (View.readAt (Elt Ideal) arg.view (Rect.unit (s := S1x1024) ![0, b] S1x128.size inb).toLoadRect (harg.unread x3)) (ix2 0 l)
      = x3 (ix2 0 ⟨b + l.val, by omega⟩) := by
  show arg.view.read (Elt Ideal) (harg.unread x3) _ = _
  rw [harg.read_unread]
  refine congrArg x3 (funext fun k => Fin.ext ?_)
  fin_cases k
  · rfl
  · show b + 1 * l.val = b + l.val; omega

/-- Eight column strips, each right, make the whole array. -/
theorem strips (arg : Memref sig .tc .vmem S256x1024 .f32) (w0 w1 w2 w3 w4 w5 w6 w7 : S256x128.Idx → EReal)
    (i0) (i1) (i2) (i3) (i4) (i5) (i6) (i7) (inb)
    (G : Fin 256 → Fin 1024 → EReal)
    (h0 : ∀ r l, w0 (ix2 r l) = G r ⟨0 + l.val, by omega⟩)
    (h1 : ∀ r l, w1 (ix2 r l) = G r ⟨128 + l.val, by omega⟩)
    (h2 : ∀ r l, w2 (ix2 r l) = G r ⟨256 + l.val, by omega⟩)
    (h3 : ∀ r l, w3 (ix2 r l) = G r ⟨384 + l.val, by omega⟩)
    (h4 : ∀ r l, w4 (ix2 r l) = G r ⟨512 + l.val, by omega⟩)
    (h5 : ∀ r l, w5 (ix2 r l) = G r ⟨640 + l.val, by omega⟩)
    (h6 : ∀ r l, w6 (ix2 r l) = G r ⟨768 + l.val, by omega⟩)
    (h7 : ∀ r l, w7 (ix2 r l) = G r ⟨896 + l.val, by omega⟩) (r : Fin 256) (d : Fin 1024) :
    (arg.view.readCov (Val := Elt Ideal) [⟨Rect.unit ![0, 896] S256x128.size i7, w7⟩, ⟨Rect.unit ![0, 768] S256x128.size i6, w6⟩, ⟨Rect.unit ![0, 640] S256x128.size i5, w5⟩, ⟨Rect.unit ![0, 512] S256x128.size i4, w4⟩, ⟨Rect.unit ![0, 384] S256x128.size i3, w3⟩, ⟨Rect.unit ![0, 256] S256x128.size i2, w2⟩, ⟨Rect.unit ![0, 128] S256x128.size i1, w1⟩, ⟨Rect.unit ![0, 0] S256x128.size i0, w0⟩]
      (Rect.unit (s := S256x1024) ![0, 0] S256x1024.size inb).toLoadRect) (ix2 r d) = G r d := by
  unfold View.readCov
  have hidx : (Rect.unit (s := S256x1024) ![0, 0] S256x1024.size inb).toLoadRect.idx (ix2 r d) = (ix2 r d : S256x1024.Idx) := by
    funext k
    refine Fin.ext ?_
    fin_cases k
    · show 0 + 1 * r.val = r.val; omega
    · show 0 + 1 * d.val = d.val; omega
  show arg.view.read (Elt Ideal) _ ((Rect.unit (s := S256x1024) ![0, 0] S256x1024.size inb).toLoadRect.idx (ix2 r d)) = _
  rw [hidx]
  by_cases c7 : 896 ≤ d.val
  · refine (View.read_writes_cons_unit_of_mem arg.view _ _ _ _ (ix2 r d) (ix2 r ⟨d.val - 896, by omega⟩) rfl (by
      intro a
      fin_cases a
      · exact (Nat.zero_add r.val).symm
      · show d.val = 896 + (d.val - 896); omega)).trans ?_
    rw [h7]
    exact congrArg (G r) (Fin.ext (by show 896 + (d.val - 896) = d.val; omega))
  refine (View.read_writes_cons_unit_of_not_mem arg.view _ _ _ _ (ix2 r d) rfl 1 (Or.inl (by show d.val < 896; omega))).trans ?_
  by_cases c6 : 768 ≤ d.val
  · refine (View.read_writes_cons_unit_of_mem arg.view _ _ _ _ (ix2 r d) (ix2 r ⟨d.val - 768, by omega⟩) rfl (by
      intro a
      fin_cases a
      · exact (Nat.zero_add r.val).symm
      · show d.val = 768 + (d.val - 768); omega)).trans ?_
    rw [h6]
    exact congrArg (G r) (Fin.ext (by show 768 + (d.val - 768) = d.val; omega))
  refine (View.read_writes_cons_unit_of_not_mem arg.view _ _ _ _ (ix2 r d) rfl 1 (Or.inl (by show d.val < 768; omega))).trans ?_
  by_cases c5 : 640 ≤ d.val
  · refine (View.read_writes_cons_unit_of_mem arg.view _ _ _ _ (ix2 r d) (ix2 r ⟨d.val - 640, by omega⟩) rfl (by
      intro a
      fin_cases a
      · exact (Nat.zero_add r.val).symm
      · show d.val = 640 + (d.val - 640); omega)).trans ?_
    rw [h5]
    exact congrArg (G r) (Fin.ext (by show 640 + (d.val - 640) = d.val; omega))
  refine (View.read_writes_cons_unit_of_not_mem arg.view _ _ _ _ (ix2 r d) rfl 1 (Or.inl (by show d.val < 640; omega))).trans ?_
  by_cases c4 : 512 ≤ d.val
  · refine (View.read_writes_cons_unit_of_mem arg.view _ _ _ _ (ix2 r d) (ix2 r ⟨d.val - 512, by omega⟩) rfl (by
      intro a
      fin_cases a
      · exact (Nat.zero_add r.val).symm
      · show d.val = 512 + (d.val - 512); omega)).trans ?_
    rw [h4]
    exact congrArg (G r) (Fin.ext (by show 512 + (d.val - 512) = d.val; omega))
  refine (View.read_writes_cons_unit_of_not_mem arg.view _ _ _ _ (ix2 r d) rfl 1 (Or.inl (by show d.val < 512; omega))).trans ?_
  by_cases c3 : 384 ≤ d.val
  · refine (View.read_writes_cons_unit_of_mem arg.view _ _ _ _ (ix2 r d) (ix2 r ⟨d.val - 384, by omega⟩) rfl (by
      intro a
      fin_cases a
      · exact (Nat.zero_add r.val).symm
      · show d.val = 384 + (d.val - 384); omega)).trans ?_
    rw [h3]
    exact congrArg (G r) (Fin.ext (by show 384 + (d.val - 384) = d.val; omega))
  refine (View.read_writes_cons_unit_of_not_mem arg.view _ _ _ _ (ix2 r d) rfl 1 (Or.inl (by show d.val < 384; omega))).trans ?_
  by_cases c2 : 256 ≤ d.val
  · refine (View.read_writes_cons_unit_of_mem arg.view _ _ _ _ (ix2 r d) (ix2 r ⟨d.val - 256, by omega⟩) rfl (by
      intro a
      fin_cases a
      · exact (Nat.zero_add r.val).symm
      · show d.val = 256 + (d.val - 256); omega)).trans ?_
    rw [h2]
    exact congrArg (G r) (Fin.ext (by show 256 + (d.val - 256) = d.val; omega))
  refine (View.read_writes_cons_unit_of_not_mem arg.view _ _ _ _ (ix2 r d) rfl 1 (Or.inl (by show d.val < 256; omega))).trans ?_
  by_cases c1 : 128 ≤ d.val
  · refine (View.read_writes_cons_unit_of_mem arg.view _ _ _ _ (ix2 r d) (ix2 r ⟨d.val - 128, by omega⟩) rfl (by
      intro a
      fin_cases a
      · exact (Nat.zero_add r.val).symm
      · show d.val = 128 + (d.val - 128); omega)).trans ?_
    rw [h1]
    exact congrArg (G r) (Fin.ext (by show 128 + (d.val - 128) = d.val; omega))
  refine (View.read_writes_cons_unit_of_not_mem arg.view _ _ _ _ (ix2 r d) rfl 1 (Or.inl (by show d.val < 128; omega))).trans ?_
  refine (View.read_writes_cons_unit_of_mem arg.view _ _ _ _ (ix2 r d) (ix2 r ⟨d.val - 0, by omega⟩) rfl (by
    intro a
    fin_cases a
    · exact (Nat.zero_add r.val).symm
    · show d.val = 0 + (d.val - 0); omega)).trans ?_
  rw [h0]
  exact congrArg (G r) (Fin.ext (by show 0 + (d.val - 0) = d.val; omega))

/-- The point's result from the convolution's sums. -/
def tail (y : Fin 256 → Fin 1024 → EReal) (x4 x5 : Vec Ideal S1x1024 .f32) (x6 : Vec Ideal S1024x1024 .bf16) (x7 : Vec Ideal S1x1024 .f32)
    (x8 : Vec Ideal S256x1024 .f32) (x9 : Vec Ideal S1x1x1024 .f32) (r : Fin 256) (d : Fin 1024) : EReal :=
  x8 (ix2 r d) + x9 (ix3 0 0 d) * ((∑ x, Cert.Lin.swished (y r) (fun x => x4 (ix2 0 x)) (fun x => x5 (ix2 0 x)) x * x6 (ix2 x d)) + x7 (ix2 0 d))

theorem tail_apply (Y : Vec Ideal S256x1024 .f32) (x4 x5 : Vec Ideal S1x1024 .f32) (x6 : Vec Ideal S1024x1024 .bf16) (x7 : Vec Ideal S1x1024 .f32)
    (x8 : Vec Ideal S256x1024 .f32) (x9 : Vec Ideal S1x1x1024 .f32) (r : Fin 256) (d : Fin 1024) :
    k0_pay1 (k0_pay76 (k0_pay74 Y x4) (k0_pay75 x5) x6 x7) x8 x9 (ix2 r d) = tail (fun r d => Y (ix2 r d)) x4 x5 x6 x7 x8 x9 r d := by
  pointwise [k0_pay1, k0_pay74, k0_pay75, k0_pay76]
  rfl

section

variable (c : Dev nD) (i : grid0.Coords) (arg2 : Memref sig .tc .vmem S1x256x1024 .f32) (harg2 : arg2.IsWhole) (arg3 : Memref sig .tc .vmem S1x32x1024 .f32) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S256x1024 .f32) (harg12 : arg12.IsWhole) (arg13 : Memref sig .tc .vmem S288x1024 .f32) (harg13 : arg13.IsWhole) (arg14 : Memref sig .tc .vmem S256x1024 .f32) (harg14 : arg14.IsWhole)
    (x0 : Vec Ideal S1x256x1024 .f32) (x1 : Vec Ideal S1x32x1024 .f32) (x2 : Vec Ideal S32x1024 .f32) (x3 : Vec Ideal S1x1024 .f32) (x4 : Vec Ideal S1x1024 .f32) (x5 : Vec Ideal S1x1024 .f32) (x6 : Vec Ideal S1024x1024 .bf16) (x7 : Vec Ideal S1x1024 .f32) (x8 : Vec Ideal S256x1024 .f32) (x9 : Vec Ideal S1x1x1024 .f32)

theorem read2 (inb) : View.readAt (Elt Ideal) arg2.view (Rect.unit (s := S1x256x1024) ![0, 0, 0] S1x256x1024.size inb).toLoadRect (harg2.unread x0) = x0 :=
  (View.readAt_full arg2.view _ inb).trans (harg2.read_unread x0)

theorem read3 (inb) : View.readAt (Elt Ideal) arg3.view (Rect.unit (s := S1x32x1024) ![0, 0, 0] S1x32x1024.size inb).toLoadRect (harg3.unread x1) = x1 :=
  (View.readAt_full arg3.view _ inb).trans (harg3.read_unread x1)

theorem read6 (inb) : View.readAt (Elt Ideal) arg6.view (Rect.unit (s := S1x1024) ![0, 0] S1x1024.size inb).toLoadRect (harg6.unread x4) = x4 :=
  (View.readAt_full arg6.view _ inb).trans (harg6.read_unread x4)

theorem read8 (inb) : View.readAt (Elt Ideal) arg8.view (Rect.unit (s := S1024x1024) ![0, 0] S1024x1024.size inb).toLoadRect (harg8.unread x6) = x6 :=
  (View.readAt_full arg8.view _ inb).trans (harg8.read_unread x6)

theorem read10 (inb) : View.readAt (Elt Ideal) arg10.view (Rect.unit (s := S256x1024) ![0, 0] S256x1024.size inb).toLoadRect (harg10.unread x8) = x8 :=
  (View.readAt_full arg10.view _ inb).trans (harg10.read_unread x8)

theorem read11 (inb) : View.readAt (Elt Ideal) arg11.view (Rect.unit (s := S1x1x1024) ![0, 0, 0] S1x1x1024.size inb).toLoadRect (harg11.unread x9) = x9 :=
  (View.readAt_full arg11.view _ inb).trans (harg11.read_unread x9)

set_option maxHeartbeats 8000000 in
/-- What the point writes. -/
theorem out_apply (r : Fin 256) (d : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix2 r d)
      = tail (convSum i x0 x1 x2 x3) x4 x5 x6 x7 x8 x9 r d := by
  unfold out0_A_10
  unfold kernelRun0_A
  dsimp only
  sl_unfold_words
  refine (View.read_writes_cons_unit_of_mem VO0_10 _ _ _ _ (ix2 r d) (ix2 r d) rfl (by
    intro a
    fin_cases a
    · exact (Nat.zero_add r.val).symm
    · exact (Nat.zero_add d.val).symm)).trans ?_
  rw [read2, read3, read6 arg6 harg6 x4, read6 arg7 harg7 x5, read8, read6 arg9 harg9 x7, read10, read11]
  refine (tail_apply _ _ _ _ _ _ _ r d).trans ?_
  refine congrArg (fun y => tail y x4 x5 x6 x7 x8 x9 r d) (funext fun r => funext fun d => ?_)
  refine strips arg14 _ _ _ _ _ _ _ _ _ _ _ _ _ _ _ _ _ (convSum i x0 x1 x2 x3) ?_ ?_ ?_ ?_ ?_ ?_ ?_ ?_ r d
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 0 _ _ _ (by decide), load_tap arg4 harg4 x2 _ 0 _ (by decide), load_bias arg5 harg5 x3 0 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 128 _ _ _ (by decide), load_tap arg4 harg4 x2 _ 128 _ (by decide), load_bias arg5 harg5 x3 128 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 256 _ _ _ (by decide), load_tap arg4 harg4 x2 _ 256 _ (by decide), load_bias arg5 harg5 x3 256 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 384 _ _ _ (by decide), load_tap arg4 harg4 x2 _ 384 _ (by decide), load_bias arg5 harg5 x3 384 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 512 _ _ _ (by decide), load_tap arg4 harg4 x2 _ 512 _ (by decide), load_bias arg5 harg5 x3 512 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 640 _ _ _ (by decide), load_tap arg4 harg4 x2 _ 640 _ (by decide), load_bias arg5 harg5 x3 640 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 768 _ _ _ (by decide), load_tap arg4 harg4 x2 _ 768 _ (by decide), load_bias arg5 harg5 x3 768 _ (by decide)]
    unfold convSum
    simp only [Finset.sum_range_succ, Finset.sum_range_zero, zero_add, ← add_assoc, Nat.reduceAdd]
  · intro r l
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73]
    simp only [load_joined _ i x0 x1 _ 896 _ _ _ (by decide), load_tap arg4 harg4 x2 _ 896 _ (by decide), load_bias arg5 harg5 x3 896 _ (by decide)]
    unfold convSum
    simp only [Finset.sum_range_succ, Finset.sum_range_zero, zero_add, ← add_assoc, Nat.reduceAdd]

end

end Cert.ConvPromptIdeal.Value

end
-- ==== Proof.ConvPromptValue.lean ====
module

public import proofs.«01_k».proof.Proof.Gen.ConvPromptIdeal.Value
public import proofs.«01_k».proof.Proof.ConvOut
public import Idealize.ShloMosaic.Lib.StableHlo.Run

/-!
# The convolution module's kernel

Every grid point's blocks are rows of the arguments, so what it writes is its block of the result; the blocks cover the
array.
-/

@[expose] public section

set_option maxRecDepth 16384

noncomputable section

namespace Cert.ConvPromptIdeal.Value

open Cert.ConvPromptIdeal Cert.ConvPromptIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S16384x1024 .f32 := m ((c : Thread nD τ).loc main_arg1)
abbrev arg2 : FVec Ideal S31x1024 .f32 := m ((c : Thread nD τ).loc main_arg2)
abbrev arg3 : FVec Ideal S1024 .f32 := m ((c : Thread nD τ).loc main_arg3)
abbrev arg4 : FVec Ideal S1024 .f32 := m ((c : Thread nD τ).loc main_arg4)
abbrev arg5 : FVec Ideal S1024 .f32 := m ((c : Thread nD τ).loc main_arg5)
abbrev arg6 : FVec Ideal S1024x1024 .f32 := m ((c : Thread nD τ).loc main_arg6)
abbrev arg7 : FVec Ideal S1024 .f32 := m ((c : Thread nD τ).loc main_arg7)
abbrev arg8 : FVec Ideal S24x1x1024 .f32 := m ((c : Thread nD τ).loc main_arg8)

theorem V_v0 : V m c main_v0 = pad S32x1024 ![0, 0] ![1, 0] ![0, 0] (arg2 m c) (sitofp .f32 (constantI S_ 32 0#32)) pads_S31x1024_S32x1024_010_000 h_S_ := by
  show StableHlo.after (List.flatten [hostOps0, hostOps0_1, hostOps0_2]) (fun b => m (c, b)) main_v0 = _
  simp only [hostOps0, hostOps0_1, hostOps0_2, List.flatten_cons, List.flatten_nil, List.append_nil, List.cons_append, List.nil_append]
  after_results <;> rfl

theorem V_v1 : V m c main_v1 = shapeCast S1x1024 (arg3 m c) shapeCasts_S1024_S1x1024 := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append]
  after_results <;> rfl

theorem V_v2 : V m c main_v2 = shapeCast S1x1024 (arg4 m c) shapeCasts_S1024_S1x1024 := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_v3 : V m c main_v3 = shapeCast S1x1024 (arg5 m c) shapeCasts_S1024_S1x1024 := by
  show StableHlo.after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

theorem V_v4 : V m c main_v4 = truncf .bf16 (arg6 m c) bitsLt_bf16_f32 := by
  show StableHlo.after (List.flatten [hostOps0, hostOps0_1, hostOps0_2]) (fun b => m (c, b)) main_v4 = _
  simp only [hostOps0, hostOps0_1, hostOps0_2, List.flatten_cons, List.flatten_nil, List.append_nil, List.cons_append, List.nil_append]
  after_results <;> rfl

theorem V_v5 : V m c main_v5 = shapeCast S1x1024 (arg7 m c) shapeCasts_S1024_S1x1024 := by
  show StableHlo.after (List.flatten [hostOps0, hostOps0_1, hostOps0_2]) (fun b => m (c, b)) main_v5 = _
  simp only [hostOps0, hostOps0_1, hostOps0_2, List.flatten_cons, List.flatten_nil, List.append_nil, List.cons_append, List.nil_append]
  after_results <;> rfl

theorem V_v6 : V m c main_v6 = shapeCast S4x4096x1024 (arg0 m c) shapeCasts_S16384x1024_S4x4096x1024 := by
  show StableHlo.after (List.flatten [hostOps0, hostOps0_1, hostOps0_2]) (fun b => m (c, b)) main_v6 = _
  simp only [hostOps0, hostOps0_1, hostOps0_2, List.flatten_cons, List.flatten_nil, List.append_nil, List.cons_append, List.nil_append]
  after_results <;> rfl

/-- The windows' block indices at a grid point. -/
theorem win_index : ∀ t : Fin grid0.N,
    win0_0.index t 0 = t.val / 16
    ∧ win0_0.index t 1 = t.val % 16
    ∧ win0_0.index t 2 = 0
    ∧ win0_1.index t 0 = t.val / 16
    ∧ win0_1.index t 1 = t.val % 16 * 8 - 1
    ∧ win0_1.index t 2 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = 0
    ∧ win0_6.index t 0 = 0
    ∧ win0_6.index t 1 = 0
    ∧ win0_7.index t 0 = 0
    ∧ win0_7.index t 1 = 0
    ∧ win0_8.index t 0 = t.val
    ∧ win0_8.index t 1 = 0
    ∧ win0_9.index t 0 = t.val / 16 * 6 + 2
    ∧ win0_9.index t 1 = 0
    ∧ win0_9.index t 2 = 0
    ∧ win0_10.index t 0 = t.val
    ∧ win0_10.index t 1 = 0 := by decide +kernel

theorem coord1 : ∀ t : Fin grid0.N, ((grid0.coords t) 1).val = t.val % 16 := by decide +kernel

/-- Row `r` of point `t`'s block. -/
abbrev row (t : Fin cfg0.N) (r : Fin 256) : Fin 16384 := ⟨t.val * 256 + r.val, by have : t.val < 64 := t.isLt; omega⟩

theorem iblk0_V (t : Fin cfg0.N) (r : Fin 256) (x : Fin 1024) :
    (iblk m c 0 t : Vec Ideal S1x256x1024 .f32) (ix3 0 r x)
      = (V m c main_v6 : Vec Ideal S4x4096x1024 .f32) (ix3 ⟨t.val / 16, by have : t.val < 64 := t.isLt; omega⟩ ⟨t.val % 16 * 256 + r.val, by omega⟩ x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v6) (funext fun a => Fin.ext ?_)
  fin_cases a
  · show win0_0.index t 0 * 1 + 1 * 0 = t.val / 16
    rw [h0_0]; omega
  · show win0_0.index t 1 * 256 + 1 * r.val = t.val % 16 * 256 + r.val
    rw [h0_1]; omega
  · show win0_0.index t 2 * 1024 + 1 * x.val = x.val
    rw [h0_2]; omega

theorem iblk1_V (t : Fin cfg0.N) (r : Fin 32) (x : Fin 1024) :
    (iblk m c 1 t : Vec Ideal S1x32x1024 .f32) (ix3 0 r x)
      = (V m c main_v6 : Vec Ideal S4x4096x1024 .f32) (ix3 ⟨t.val / 16, by have : t.val < 64 := t.isLt; omega⟩ ⟨(t.val % 16 * 8 - 1) * 32 + r.val, by omega⟩ x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v6) (funext fun a => Fin.ext ?_)
  fin_cases a
  · show win0_1.index t 0 * 1 + 1 * 0 = t.val / 16
    rw [h1_0]; omega
  · show win0_1.index t 1 * 32 + 1 * r.val = (t.val % 16 * 8 - 1) * 32 + r.val
    rw [h1_1]; omega
  · show win0_1.index t 2 * 1024 + 1 * x.val = x.val
    rw [h1_2]; omega

/-- A row of the argument, seen as four sequences. -/
theorem seq_apply (b : Fin 4) (s : Fin 4096) (x : Fin 1024) :
    (V m c main_v6 : Vec Ideal S4x4096x1024 .f32) (ix3 b s x) = arg0 m c (ix2 ⟨b.val * 4096 + s.val, by omega⟩ x) := by
  rw [V_v6]
  pointwise []

theorem iblk0 (t : Fin cfg0.N) (r : Fin 256) (x : Fin 1024) :
    (iblk m c 0 t : Vec Ideal S1x256x1024 .f32) (ix3 0 r x) = arg0 m c (ix2 (row t r) x) := by
  refine (iblk0_V m c t r x).trans ((seq_apply m c _ _ _).trans ?_)
  refine congrArg (fun q => arg0 m c (ix2 q x)) (Fin.ext ?_)
  show t.val / 16 * 4096 + (t.val % 16 * 256 + r.val) = t.val * 256 + r.val
  omega

theorem iblk1 (t : Fin cfg0.N) (h : 0 < t.val % 16) (r : Fin 32) (x : Fin 1024) :
    (iblk m c 1 t : Vec Ideal S1x32x1024 .f32) (ix3 0 r x)
      = arg0 m c (ix2 ⟨(t.val * 256 + r.val - 32) % 16384, Nat.mod_lt _ (by decide)⟩ x) := by
  refine (iblk1_V m c t r x).trans ((seq_apply m c _ _ _).trans ?_)
  refine congrArg (fun q => arg0 m c (ix2 q x)) (Fin.ext ?_)
  have : t.val < 64 := t.isLt
  show t.val / 16 * 4096 + ((t.val % 16 * 8 - 1) * 32 + r.val) = (t.val * 256 + r.val - 32) % 16384
  omega

theorem iblk3_V (t : Fin cfg0.N) (p : Fin 1) (x : Fin 1024) :
    (iblk m c 3 t : Vec Ideal S1x1024 .f32) (ix2 p x) = (V m c main_v1 : Vec Ideal S1x1024 .f32) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v1) (funext fun a => Fin.ext ?_)
  fin_cases a
  · show win0_3.index t 0 * 1 + 1 * p.val = p.val
    rw [h3_0]; omega
  · show win0_3.index t 1 * 1024 + 1 * x.val = x.val
    rw [h3_1]; omega

theorem iblk3 (t : Fin cfg0.N) (x : Fin 1024) :
    (iblk m c 3 t : Vec Ideal S1x1024 .f32) (ix2 0 x) = arg3 m c (ix1 x) := by
  rw [iblk3_V, V_v1]
  pointwise []

theorem iblk4_V (t : Fin cfg0.N) (p : Fin 1) (x : Fin 1024) :
    (iblk m c 4 t : Vec Ideal S1x1024 .f32) (ix2 p x) = (V m c main_v2 : Vec Ideal S1x1024 .f32) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v2) (funext fun a => Fin.ext ?_)
  fin_cases a
  · show win0_4.index t 0 * 1 + 1 * p.val = p.val
    rw [h4_0]; omega
  · show win0_4.index t 1 * 1024 + 1 * x.val = x.val
    rw [h4_1]; omega

theorem iblk4 (t : Fin cfg0.N) (x : Fin 1024) :
    (iblk m c 4 t : Vec Ideal S1x1024 .f32) (ix2 0 x) = arg4 m c (ix1 x) := by
  rw [iblk4_V, V_v2]
  pointwise []

theorem iblk5_V (t : Fin cfg0.N) (p : Fin 1) (x : Fin 1024) :
    (iblk m c 5 t : Vec Ideal S1x1024 .f32) (ix2 p x) = (V m c main_v3 : Vec Ideal S1x1024 .f32) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v3) (funext fun a => Fin.ext ?_)
  fin_cases a
  · show win0_5.index t 0 * 1 + 1 * p.val = p.val
    rw [h5_0]; omega
  · show win0_5.index t 1 * 1024 + 1 * x.val = x.val
    rw [h5_1]; omega

theorem iblk5 (t : Fin cfg0.N) (x : Fin 1024) :
    (iblk m c 5 t : Vec Ideal S1x1024 .f32) (ix2 0 x) = arg5 m c (ix1 x) := by
  rw [iblk5_V, V_v3]
  pointwise []

theorem iblk7_V (t : Fin cfg0.N) (p : Fin 1) (x : Fin 1024) :
    (iblk m c 7 t : Vec Ideal S1x1024 .f32) (ix2 p x) = (V m c main_v5 : Vec Ideal S1x1024 .f32) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v5) (funext fun a => Fin.ext ?_)
  fin_cases a
  · show win0_7.index t 0 * 1 + 1 * p.val = p.val
    rw [h7_0]; omega
  · show win0_7.index t 1 * 1024 + 1 * x.val = x.val
    rw [h7_1]; omega

theorem iblk7 (t : Fin cfg0.N) (x : Fin 1024) :
    (iblk m c 7 t : Vec Ideal S1x1024 .f32) (ix2 0 x) = arg7 m c (ix1 x) := by
  rw [iblk7_V, V_v5]
  pointwise []

theorem iblk6_V (t : Fin cfg0.N) (p : Fin 1024) (x : Fin 1024) :
    (iblk m c 6 t : Vec Ideal S1024x1024 .bf16) (ix2 p x) = (V m c main_v4 : Vec Ideal S1024x1024 .bf16) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v4) (funext fun a => Fin.ext ?_)
  fin_cases a
  · show win0_6.index t 0 * 1024 + 1 * p.val = p.val
    rw [h6_0]; omega
  · show win0_6.index t 1 * 1024 + 1 * x.val = x.val
    rw [h6_1]; omega

theorem iblk6 (t : Fin cfg0.N) (x d : Fin 1024) :
    (iblk m c 6 t : Vec Ideal S1024x1024 .bf16) (ix2 x d) = arg6 m c (ix2 x d) := by
  rw [iblk6_V, V_v4]
  rfl

theorem iblk2_V (t : Fin cfg0.N) (p : Fin 32) (x : Fin 1024) :
    (iblk m c 2 t : Vec Ideal S32x1024 .f32) (ix2 p x) = (V m c main_v0 : Vec Ideal S32x1024 .f32) (ix2 p x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine congrArg (V m c main_v0) (funext fun a => Fin.ext ?_)
  fin_cases a
  · show win0_2.index t 0 * 32 + 1 * p.val = p.val
    rw [h2_0]; omega
  · show win0_2.index t 1 * 1024 + 1 * x.val = x.val
    rw [h2_1]; omega

/-- The weights' rows under a row of zeros. -/
theorem iblk2 (t : Fin cfg0.N) (k : Fin 32) (h : k.val < 31) (d : Fin 1024) :
    (iblk m c 2 t : Vec Ideal S32x1024 .f32) (ix2 k d) = arg2 m c (ix2 ⟨k.val, h⟩ d) := by
  rw [iblk2_V, V_v0]
  pointwise []
  exact dif_pos h

theorem iblk8 (t : Fin cfg0.N) (r : Fin 256) (x : Fin 1024) :
    (iblk m c 8 t : Vec Ideal S256x1024 .f32) (ix2 r x) = arg1 m c (ix2 (row t r) x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine (congrFun (V_main_arg1 m c) _).trans ?_
  refine congrArg (arg1 m c) (funext fun a => Fin.ext ?_)
  fin_cases a
  · show win0_8.index t 0 * 256 + 1 * r.val = t.val * 256 + r.val
    rw [h8_0]; omega
  · show win0_8.index t 1 * 1024 + 1 * x.val = x.val
    rw [h8_1]; omega

theorem iblk9 (t : Fin cfg0.N) (r : Fin 256) (x : Fin 1024) :
    (iblk m c 9 t : Vec Ideal S1x1x1024 .f32) (ix3 0 0 x) = arg8 m c (ix3 (part (row t r) 2) 0 x) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  unfold iblk
  rw [View.read_apply]
  refine (congrFun (V_main_arg8 m c) _).trans ?_
  refine congrArg (arg8 m c) (funext fun a => Fin.ext ?_)
  fin_cases a
  · show win0_9.index t 0 * 1 + 1 * 0 = (t.val * 256 + r.val) / 4096 * 6 + 2
    rw [h9_0]; omega
  · show win0_9.index t 1 * 1 + 1 * 0 = 0
    rw [h9_1]
  · show win0_9.index t 2 * 1024 + 1 * x.val = x.val
    rw [h9_2]; omega

/-- The joined row that a tap reads is the shifted row of the argument. -/
theorem joined_eq (t : Fin cfg0.N) (k : ℕ) (hk : k < 31) (r : Fin 256) (d : Fin 1024) :
    joined (grid0.coords t) (iblk m c 0 t) (iblk m c 1 t) (k + 2 + r.val) d = shifted (arg0 m c) (row t r) k d := by
  have ht : t.val < 64 := t.isLt
  have hn : (row t r).val = t.val * 256 + r.val := rfl
  unfold joined shifted
  simp only [coord1]
  by_cases h : k + 2 + r.val < 32
  · rw [dif_pos h]
    by_cases h0 : 0 < t.val % 16
    · rw [if_pos h0, if_neg (by omega)]
      refine (iblk1 m c t h0 _ d).trans (congrArg (fun q => arg0 m c (ix2 q d)) (Fin.ext ?_))
      show (t.val * 256 + (k + 2 + r.val) - 32) % 16384 = (t.val * 256 + r.val + k - 30) % 16384
      congr 1
      omega
    · rw [if_neg h0, if_pos (by omega)]
  · rw [dif_neg h, dif_pos (by omega), if_neg (by omega)]
    refine (iblk0 m c t _ d).trans (congrArg (fun q => arg0 m c (ix2 q d)) (Fin.ext ?_))
    show t.val * 256 + (k + 2 + r.val - 32) = (t.val * 256 + r.val + k - 30) % 16384
    omega

theorem convSum_eq (t : Fin cfg0.N) (r : Fin 256) (d : Fin 1024) :
    convSum (grid0.coords t) (iblk m c 0 t) (iblk m c 1 t) (iblk m c 2 t) (iblk m c 3 t) r d
      = convolved (arg0 m c) (arg2 m c) (arg3 m c) (row t r) d := by
  unfold convSum convolved
  refine congr (congrArg (HAdd.hAdd (α := EReal)) (iblk3 m c t d)) (Finset.sum_congr rfl fun k hk => ?_)
  have hk : k < 31 := Finset.mem_range.mp hk
  rw [joined_eq m c t k hk r d]
  refine congrArg (fun z : EReal => z * shifted (arg0 m c) (row t r) k d) ?_
  unfold tapRow
  rw [dif_pos (show k < 32 by omega)]
  refine (iblk2 m c t ⟨k, by omega⟩ hk d).trans (congrArg (fun q => arg2 m c (ix2 q d)) (Fin.ext ?_))
  exact (Nat.mod_eq_of_lt hk).symm

theorem tail_eq (t : Fin cfg0.N) (r : Fin 256) (d : Fin 1024) :
    tail (convSum (grid0.coords t) (iblk m c 0 t) (iblk m c 1 t) (iblk m c 2 t) (iblk m c 3 t)) (iblk m c 4 t) (iblk m c 5 t) (iblk m c 6 t) (iblk m c 7 t) (iblk m c 8 t) (iblk m c 9 t) r d
      = convModule (arg0 m c) (arg1 m c) (arg2 m c) (arg3 m c) (arg4 m c) (arg5 m c) (arg6 m c) (arg7 m c) (arg8 m c) (row t r) d := by
  unfold tail convModule
  rw [show convSum (grid0.coords t) (iblk m c 0 t) (iblk m c 1 t) (iblk m c 2 t) (iblk m c 3 t) r = convolved (arg0 m c) (arg2 m c) (arg3 m c) (row t r) from
    funext fun x => convSum_eq m c t r x]
  simp only [iblk4, iblk5, iblk6, iblk7, iblk8, iblk9 m c t r]

/-- The kernel's result. -/
abbrev result10 : Buf (Elt Ideal) ((c : Thread nD τ).loc main_v7) := arr (convModule (arg0 m c) (arg1 m c) (arg2 m c) (arg3 m c) (arg4 m c) (arg5 m c) (arg6 m c) (arg7 m c) (arg8 m c))

theorem cut10 (i : grid0.Coords) (X : Vec Ideal S256x1024 .f32) (j) : (cfg0.win 10).cut i X j = X (ix2 (j 0) (j 1)) := by
  refine congrArg X (funext fun a => ?_)
  fin_cases a <;> rfl

theorem flushed10_eq (t : Fin cfg0.N) (hf : (cfg0.win 10).flush t = true) :
    (dats m 0 c).flushed 10 t = ((cfg0.win 10).blk t).view.read (Elt Ideal) (result10 m c) := by
  obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index t
  rw [flushed10_A]
  funext j
  rw [cut10]
  refine ((out_apply c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (j 0) (j 1)).trans (tail_eq m c t (j 0) (j 1))).trans ?_
  rw [View.read_apply]
  refine congr (congrArg _ (Fin.ext ?_)) (Fin.ext ?_)
  · show t.val * 256 + (j 0).val = win0_10.index t 0 * 256 + 1 * (j 0).val
    rw [h10_0]; omega
  · show (j 1).val = win0_10.index t 1 * 1024 + 1 * (j 1).val
    rw [h10_1]; omega

theorem final10 : (dats m 0 c).arrAt 10 cfg0.N = result10 m c :=
  (dats m 0 c).arrAt_eq_of_cover 10 (result10 m c) (flushed10_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h0_2, h1_0, h1_1, h1_2, h2_0, h2_1, h3_0, h3_1, h4_0, h4_1, h5_0, h5_1, h6_0, h6_1, h7_0, h7_1, h8_0, h8_1, h9_0, h9_1, h9_2, h10_0, h10_1⟩ := win_index ⟨(i 0 : ℕ) / 256, hN⟩
    refine ⟨⟨(i 0 : ℕ) / 256, hN⟩, flush0_10 _, ?_⟩
    show i ∈ ((View.whole main_v7).slice (win0_10.rect ⟨(i 0 : ℕ) / 256, hN⟩)).set
    rw [View.set_slice_whole, Rect.mem_set_unit]
    intro a
    match a with
    | ⟨0, _⟩ =>
      show win0_10.index ⟨(i 0 : ℕ) / 256, hN⟩ 0 * 256 ≤ (i 0 : ℕ) ∧ (i 0 : ℕ) < win0_10.index ⟨(i 0 : ℕ) / 256, hN⟩ 0 * 256 + 256
      rw [h10_0]; show (i 0 : ℕ) / 256 * 256 ≤ (i 0 : ℕ) ∧ (i 0 : ℕ) < (i 0 : ℕ) / 256 * 256 + 256; omega
    | ⟨1, _⟩ =>
      show win0_10.index ⟨(i 0 : ℕ) / 256, hN⟩ 1 * 1024 ≤ (i 1 : ℕ) ∧ (i 1 : ℕ) < win0_10.index ⟨(i 0 : ℕ) / 256, hN⟩ 1 * 1024 + 1024
      rw [h10_1]; omega

end Cert.ConvPromptIdeal.Value

end
-- ==== Proof.ConvPromptRef.lean ====
module

public import proofs.«01_k».proof.Proof.Gen.ConvPromptRefIdeal.Run
public import proofs.«01_k».proof.Proof.ConvSpec

/-!
# The convolution module's reference, read index by index
-/

@[expose] public section

set_option maxRecDepth 16384

noncomputable section

namespace Cert.ConvPromptRefIdeal.Value

open Cert.ConvPromptRefIdeal Cert.ConvPromptRefIdeal.Gen Idealize.ShloMosaic Idealize.ShloMosaic.TcCoe Idealize.SL.Sem
open Idealize.ShloMosaic.Pointwise
open Cert.Lin

variable (V0 : Valuation τ sig (Elt Ideal))

abbrev A0 : FVec Ideal S16384x1024 .f32 := V0 (Proc.devRef .tc main_arg0)
abbrev A1 : FVec Ideal S16384x1024 .f32 := V0 (Proc.devRef .tc main_arg1)
abbrev A2 : FVec Ideal S31x1024 .f32 := V0 (Proc.devRef .tc main_arg2)
abbrev A3 : FVec Ideal S1024 .f32 := V0 (Proc.devRef .tc main_arg3)
abbrev A4 : FVec Ideal S1024 .f32 := V0 (Proc.devRef .tc main_arg4)
abbrev A5 : FVec Ideal S1024 .f32 := V0 (Proc.devRef .tc main_arg5)
abbrev A6 : FVec Ideal S1024x1024 .f32 := V0 (Proc.devRef .tc main_arg6)
abbrev A7 : FVec Ideal S1024 .f32 := V0 (Proc.devRef .tc main_arg7)
abbrev A8 : FVec Ideal S24x1x1024 .f32 := V0 (Proc.devRef .tc main_arg8)
abbrev P : FVec Ideal S4x4126x1024 .f32 := res_main_v4 V0

/-- The rows with 30 zero rows before each sequence. -/
theorem pad_apply (b : Fin 4) (s : Fin 4126) (d : Fin 1024) : P V0 (ix3 b s d)
    = if s.val < 30 then (0 : EReal) else A0 V0 (ix2 ⟨(b.val * 4096 + s.val - 30) % 16384, Nat.mod_lt _ (by decide)⟩ d) := by
  pointwise [res_main_v4]
  split
  · rfl
  · refine congrArg (fun n => A0 V0 (ix2 n d)) (Fin.ext ?_)
    show _ = (b.val * 4096 + s.val - 30) % 16384
    dsimp only
    omega

/-- One tap's product. -/
theorem tap_eq (n : Fin 16384) (b : Fin 4) (s : Fin 4096) (d : Fin 1024) (hn : n.val = b.val * 4096 + s.val) (k : ℕ) (hk : k < 31) (hs : k + s.val < 4126) :
    P V0 (ix3 b ⟨k + s.val, hs⟩ d) * A2 V0 (ix2 ⟨k, hk⟩ d) = A2 V0 (ix2 ⟨k % 31, Nat.mod_lt _ (by decide)⟩ d) * shifted (A0 V0) n k d := by
  rw [pad_apply, mul_comm]
  unfold shifted
  refine congr (congrArg HMul.hMul (congrArg (fun q => A2 V0 (ix2 q d)) (Fin.ext (Nat.mod_eq_of_lt hk).symm))) ?_
  have hm : n.val % 4096 = s.val := by omega
  rw [hm]
  refine if_congr (by show k + s.val < 30 ↔ s.val + k < 30; omega) rfl ?_
  refine congrArg (fun q => A0 V0 (ix2 q d)) (Fin.ext ?_)
  show (b.val * 4096 + (k + s.val) - 30) % 16384 = (n.val + k - 30) % 16384
  rw [hn]
  congr 1
  omega

/-- The convolution. -/
theorem conv_apply (n : Fin 16384) (b : Fin 4) (s : Fin 4096) (d : Fin 1024) (hn : n.val = b.val * 4096 + s.val) :
    res_main_v225 V0 (ix3 b s d) = convolved (A0 V0) (A2 V0) (A3 V0) n d := by
  have e := fun k hk hs => tap_eq V0 n b s d hn k hk hs
  pointwise [res_main_v225, res_main_v159, res_main_v82]
  unfold convolved
  simp only [Finset.sum_range_succ, Finset.sum_range_zero, zero_add]
  refine (add_comm (_ : EReal) _).trans (congrArg (fun z : EReal => A3 V0 (ix1 d) + z) ?_)
  refine congr (congrArg (HAdd.hAdd (α := EReal)) ?_) (e 30 (by decide) (by omega))
  refine congr (congrArg (HAdd.hAdd (α := EReal)) ?_) (e 29 (by decide) (by omega))
  refine congr (congrArg (HAdd.hAdd (α := EReal)) ?_) (e 28 (by decide) (by omega))
  refine congr (congrArg (HAdd.hAdd (α := EReal)) ?_) (e 27 (by decide) (by omega))
  refine congr (congrArg (HAdd.hAdd (α := EReal)) ?_) (e 26 (by decide) (by omega))
  refine congr (congrArg (HAdd.hAdd (α := EReal)) ?_) (e 25 (by decide) (by omega))
  refine congr (congrArg (HAdd.hAdd (α := EReal)) ?_) (e 24 (by decide) (by omega))
  refine congr (congrArg (HAdd.hAdd (α := EReal)) ?_) (e 23 (by decide) (by omega))
  refine congr (congrArg (HAdd.hAdd (α := EReal)) ?_) (e 22 (by decide) (by omega))
  refine congr (congrArg (HAdd.hAdd (α := EReal)) ?_) (e 21 (by decide) (by omega))
  refine congr (congrArg (HAdd.hAdd (α := EReal)) ?_) (e 20 (by decide) (by omega))
  refine congr (congrArg (HAdd.hAdd (α := EReal)) ?_) (e 19 (by decide) (by omega))
  refine congr (congrArg (HAdd.hAdd (α := EReal)) ?_) (e 18 (by decide) (by omega))
  refine congr (congrArg (HAdd.hAdd (α := EReal)) ?_) (e 17 (by decide) (by omega))
  refine congr (congrArg (HAdd.hAdd (α := EReal)) ?_) (e 16 (by decide) (by omega))
  refine congr (congrArg (HAdd.hAdd (α := EReal)) ?_) (e 15 (by decide) (by omega))
  refine congr (congrArg (HAdd.hAdd (α := EReal)) ?_) (e 14 (by decide) (by omega))
  refine congr (congrArg (HAdd.hAdd (α := EReal)) ?_) (e 13 (by decide) (by omega))
  refine congr (congrArg (HAdd.hAdd (α := EReal)) ?_) (e 12 (by decide) (by omega))
  refine congr (congrArg (HAdd.hAdd (α := EReal)) ?_) (e 11 (by decide) (by omega))
  refine congr (congrArg (HAdd.hAdd (α := EReal)) ?_) (e 10 (by decide) (by omega))
  refine congr (congrArg (HAdd.hAdd (α := EReal)) ?_) (e 9 (by decide) (by omega))
  refine congr (congrArg (HAdd.hAdd (α := EReal)) ?_) (e 8 (by decide) (by omega))
  refine congr (congrArg (HAdd.hAdd (α := EReal)) ?_) (e 7 (by decide) (by omega))
  refine congr (congrArg (HAdd.hAdd (α := EReal)) ?_) (e 6 (by decide) (by omega))
  refine congr (congrArg (HAdd.hAdd (α := EReal)) ?_) (e 5 (by decide) (by omega))
  refine congr (congrArg (HAdd.hAdd (α := EReal)) ?_) (e 4 (by decide) (by omega))
  refine congr (congrArg (HAdd.hAdd (α := EReal)) ?_) (e 3 (by decide) (by omega))
  refine congr (congrArg (HAdd.hAdd (α := EReal)) ?_) (e 2 (by decide) (by omega))
  refine congr (congrArg (HAdd.hAdd (α := EReal)) ?_) (e 1 (by decide) (by omega))
  refine Eq.trans ?_ (e 0 (by decide) (by omega))
  refine congrArg (fun q => P V0 (ix3 b q d) * A2 V0 (ix2 0 d)) (Fin.ext ?_)
  show s.val = 0 + s.val
  omega

theorem norm_apply (n : Fin 16384) (b : Fin 4) (s : Fin 4096) (d : Fin 1024) (hn : n.val = b.val * 4096 + s.val) :
    res_main_v247 V0 (ix3 b s d)
      = normedRow (convolved (A0 V0) (A2 V0) (A3 V0) n) (fun x => A4 V0 (ix1 x)) (fun x => A5 V0 (ix1 x)) d := by
  have e := fun d => conv_apply V0 n b s d hn
  pointwise [res_main_v247, res_main_v231]
  simp only [e]
  rfl

/-- The reference's result. -/
theorem ref_apply (n : Fin 16384) (d : Fin 1024) : (shapeCast S16384x1024 (addf (shapeCast S4x4096x1024 (A1 V0) shapeCasts_S16384x1024_S4x4096x1024) (mulf (broadcastInDim S4x4096x1024 ![0, 1, 2] bcast_S4x1x1024_S4x4096x1024_0_1_2 (extractStridedSlice S4x1x1024 ![0, 2, 0] (shapeCast _ (A8 V0) shapeCasts_S24x1x1024_S4x6x1024) slices_S4x6x1024_S4x1x1024_0_2_0)) (addf (Host.dotGeneral dot_S4x4096x1024_S1024x1024_S4x4096x1024_2_0_01_1_n_n none (mulf (res_main_v247 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v247 V0)))))) (A6 V0)) (broadcastInDim S4x4096x1024 ![0, 1, 2] bcast_S1x1x1024_S4x4096x1024_0_1_2 (broadcastInDim S1x1x1024 ![2] bcast_S1024_S1x1x1024_2 (A7 V0)))))) shapeCasts_S4x4096x1024_S16384x1024 : FVec Ideal S16384x1024 .f32) (ix2 n d)
    = convModule (A0 V0) (A1 V0) (A2 V0) (A3 V0) (A4 V0) (A5 V0) (A6 V0) (A7 V0) (A8 V0) n d := by
  have e := fun x => norm_apply V0 n ⟨n.val / 4096, by omega⟩ ⟨n.val % 4096, by omega⟩ x (by show n.val = n.val / 4096 * 4096 + n.val % 4096; omega)
  pointwise []
  simp only [e]
  rfl

theorem ref_arr : (shapeCast S16384x1024 (addf (shapeCast S4x4096x1024 (A1 V0) shapeCasts_S16384x1024_S4x4096x1024) (mulf (broadcastInDim S4x4096x1024 ![0, 1, 2] bcast_S4x1x1024_S4x4096x1024_0_1_2 (extractStridedSlice S4x1x1024 ![0, 2, 0] (shapeCast _ (A8 V0) shapeCasts_S24x1x1024_S4x6x1024) slices_S4x6x1024_S4x1x1024_0_2_0)) (addf (Host.dotGeneral dot_S4x4096x1024_S1024x1024_S4x4096x1024_2_0_01_1_n_n none (mulf (res_main_v247 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v247 V0)))))) (A6 V0)) (broadcastInDim S4x4096x1024 ![0, 1, 2] bcast_S1x1x1024_S4x4096x1024_0_1_2 (broadcastInDim S1x1x1024 ![2] bcast_S1024_S1x1x1024_2 (A7 V0)))))) shapeCasts_S4x4096x1024_S16384x1024 : FVec Ideal S16384x1024 .f32)
    = arr (convModule (A0 V0) (A1 V0) (A2 V0) (A3 V0) (A4 V0) (A5 V0) (A6 V0) (A7 V0) (A8 V0)) := by
  funext i
  rw [← show ix2 (i 0) (i 1) = i from by funext a; fin_cases a <;> rfl]
  exact ref_apply V0 (i 0) (i 1)

end Cert.ConvPromptRefIdeal.Value

end
-- ==== Proof.ConvClaims.lean ====
module

public import proofs.«01_k».proof.Defs
public import proofs.«01_k».proof.Proof.ConvPromptValue
public import proofs.«01_k».proof.Proof.ConvPromptRef
public import proofs.«01_k».proof.Proof.Gen.ConvPrompt.Frame
public import proofs.«01_k».proof.Proof.Gen.ConvPromptIdeal.Frame

/-!
# The claims about the convolution module
-/

@[expose] public section

set_option maxRecDepth 16384

noncomputable section

open Idealize.ShloMosaic Idealize.SL.Sem

namespace Cert.ConvPromptClaims

theorem frame_p : Cert.quiescent_ConvPrompt (hConvPrompt := Cert.ConvPrompt.Gen.facts) := fun m ρ _ => Cert.ConvPrompt.Gen.frame m ρ

theorem frame_pi : Cert.quiescent_ConvPromptIdeal (hConvPromptIdeal := Cert.ConvPromptIdeal.Gen.facts) := fun m ρ _ => Cert.ConvPromptIdeal.Gen.frame m ρ

theorem frame_ri : Cert.quiescent_ConvPromptRefIdeal (hConvPromptRefIdeal := Cert.ConvPromptRefIdeal.Gen.facts) := fun m ρ _ =>
  (θ_run Cert.ConvPromptRefIdeal.defs _ _).mono (fun r h => ⟨fun c => (h c).2, sem_eq_zero_of_no_sems (by decide) r.2⟩)
    (Cert.ConvPromptRefIdeal.Value.run (F := Ideal) m ρ)

theorem algebraic : Cert.algebraic_ConvPromptIdeal_ConvPromptRefIdeal (hConvPromptIdeal := Cert.ConvPromptIdeal.Gen.facts)
    (hConvPromptRefIdeal := Cert.ConvPromptRefIdeal.Gen.facts) := fun m ρ m' ρ' _ hag =>
  ⟨fun c => Cert.ConvPromptIdeal.Value.result10 m c,
    (θ_run Cert.ConvPromptIdeal.defs _ _).mono (fun r h c => ⟨(h c).1.trans (Cert.ConvPromptIdeal.Value.final10 m c), (h c).2⟩)
      (Cert.ConvPromptIdeal.Value.run_blocks (F := Ideal) m ρ),
    (θ_run Cert.ConvPromptRefIdeal.defs _ _).mono (fun r h c => ⟨(h c).1.trans (by
        obtain ⟨h0, h1, h2, h3, h4, h5, h6, h7, h8⟩ := hag c
        refine (Cert.ConvPromptRefIdeal.Value.ref_arr (StableHlo.launchContents m' c)).trans ?_
        show Cert.Lin.arr (Cert.Lin.convModule (m' ((c.tc : Thread Cert.ConvPromptRefIdeal.nD Cert.ConvPromptRefIdeal.τ).loc Cert.ConvPromptRefIdeal.main_arg0)) (m' ((c.tc : Thread Cert.ConvPromptRefIdeal.nD Cert.ConvPromptRefIdeal.τ).loc Cert.ConvPromptRefIdeal.main_arg1)) (m' ((c.tc : Thread Cert.ConvPromptRefIdeal.nD Cert.ConvPromptRefIdeal.τ).loc Cert.ConvPromptRefIdeal.main_arg2)) (m' ((c.tc : Thread Cert.ConvPromptRefIdeal.nD Cert.ConvPromptRefIdeal.τ).loc Cert.ConvPromptRefIdeal.main_arg3)) (m' ((c.tc : Thread Cert.ConvPromptRefIdeal.nD Cert.ConvPromptRefIdeal.τ).loc Cert.ConvPromptRefIdeal.main_arg4)) (m' ((c.tc : Thread Cert.ConvPromptRefIdeal.nD Cert.ConvPromptRefIdeal.τ).loc Cert.ConvPromptRefIdeal.main_arg5)) (m' ((c.tc : Thread Cert.ConvPromptRefIdeal.nD Cert.ConvPromptRefIdeal.τ).loc Cert.ConvPromptRefIdeal.main_arg6)) (m' ((c.tc : Thread Cert.ConvPromptRefIdeal.nD Cert.ConvPromptRefIdeal.τ).loc Cert.ConvPromptRefIdeal.main_arg7)) (m' ((c.tc : Thread Cert.ConvPromptRefIdeal.nD Cert.ConvPromptRefIdeal.τ).loc Cert.ConvPromptRefIdeal.main_arg8))) = _
        rw [h0, h1, h2, h3, h4, h5, h6, h7, h8]),
      (h c).2⟩)
      (Cert.ConvPromptRefIdeal.Value.run (F := Ideal) m' ρ')⟩

end Cert.ConvPromptClaims

end
-- ==== Proof.PeerSpec.lean ====
module

public import proofs.«01_k».proof.Proof.LinSpec

/-!
# The sum over the experts, as mathematics

Every row takes 16384 experts, 128 groups of 128, each with a weight that its eight heads give it: expert `128 i + j` weighs the
sum over the heads of `coef i * e2 j`, taken where the rank of `i` lies below the bound of `j`.
-/

@[expose] public section

noncomputable section

namespace Cert.Lin

open Idealize.ShloMosaic

/-- The smoothed ramp, by the hyperbolic tangent. -/
def gelu (y : EReal) : EReal :=
  y * (Ideal.ofBits FTy.f32 1056964608#32
    * (1 + Ideal.tanh (Ideal.ofBits FTy.f32 1061962282#32 * (y + Ideal.ofBits FTy.f32 1027024659#32 * (y * (y * y))))))

/-- The weight of an expert, from the eight heads' ranks, coefficients, bounds and factors. -/
def gateSum (rk cf m2 e2 : ℕ → EReal) : EReal := ∑ h ∈ Finset.range 8, (if rk h < m2 h then e2 h else 0) * cf h

/-- A head's entry of an array of heads, keys and rows. -/
def headAt {a n : ℕ} (A : (⟨3, ![8, a, n]⟩ : Shape).Idx → EReal) (i : Fin a) (r : Fin n) (h : ℕ) : EReal :=
  A (ix3 ⟨h % 8, Nat.mod_lt _ (by decide)⟩ i r)

variable (H : (⟨2, ![16384, 1024]⟩ : Shape).Idx → EReal) (U : (⟨2, ![16384, 1024]⟩ : Shape).Idx → EReal)
  (W : (⟨2, ![16384, 1024]⟩ : Shape).Idx → EReal) (RK CF M2 E2 : (⟨3, ![8, 128, 16384]⟩ : Shape).Idx → EReal)
  (X : (⟨2, ![16384, 1024]⟩ : Shape).Idx → EReal) (M : (⟨3, ![24, 1, 1024]⟩ : Shape).Idx → EReal)

/-- What expert `e` adds to row `n`'s lane `d`. -/
def expert (n : Fin 16384) (d : Fin 1024) (e : Fin 16384) : EReal :=
  W (ix2 e d) * (gateSum (headAt RK ⟨e.val / 128, by omega⟩ n) (headAt CF ⟨e.val / 128, by omega⟩ n)
      (headAt M2 ⟨e.val % 128, by omega⟩ n) (headAt E2 ⟨e.val % 128, by omega⟩ n)
    * gelu (∑ x : Fin 1024, U (ix2 e x) * H (ix2 n x)))

/-- The experts' sum, gated and added to the stream. -/
def peer (n : Fin 16384) (d : Fin 1024) : EReal :=
  X (ix2 n d) + M (ix3 (part n 5) 0 d) * ∑ e : Fin 16384, expert H U W RK CF M2 E2 n d e

end Cert.Lin

end
-- ==== Proof.PeerOut.lean ====
module

public import proofs.«01_k».proof.Proof.Gen.PeerDenseIdeal.Value
public import proofs.«01_k».proof.Proof.PeerSpec
public import Idealize.ShloMosaic.Lib.Pointwise
public import Idealize.ShloMosaic.Lib.WritesUnit
public import Idealize.ShloMosaic.Lib.VecWindow

/-!
# What one grid point of the experts' sum writes

The point takes 1024 experts and 512 rows. It writes the experts' weights in eight strips of 128 experts, multiplies them by the
experts' output vectors, and adds the product to the running sum.
-/

@[expose] public section

set_option maxRecDepth 16384

noncomputable section

namespace Cert.PeerDenseIdeal.Value

open Cert.PeerDenseIdeal Cert.PeerDenseIdeal.Gen Idealize.ShloMosaic Idealize.ShloMosaic.TcCoe Idealize.SL.Sem
open Idealize.ShloMosaic.Pointwise
open Cert.Lin

/-- The weight of the block's expert `q` for its row `r`, times the expert's activation. -/
def weight (x0 : Vec Ideal S512x1024 .bf16) (x1 : Vec Ideal S1024x1024 .bf16) (x3 x4 : Vec Ideal S8x8x512 .f32)
    (x5 x6 : Vec Ideal S8x128x512 .f32) (q : Fin 1024) (r : Fin 512) : EReal :=
  gateSum (headAt x3 ⟨q.val / 128, by omega⟩ r) (headAt x4 ⟨q.val / 128, by omega⟩ r)
      (headAt x5 ⟨q.val % 128, by omega⟩ r) (headAt x6 ⟨q.val % 128, by omega⟩ r)
    * gelu (∑ x : Fin 1024, x1 (ix2 q x) * x0 (ix2 r x))

/-- What the block's experts add to row `r`'s lane `d`. -/
def block (x0 : Vec Ideal S512x1024 .bf16) (x1 x2 : Vec Ideal S1024x1024 .bf16) (x3 x4 : Vec Ideal S8x8x512 .f32)
    (x5 x6 : Vec Ideal S8x128x512 .f32) (d : Fin 1024) (r : Fin 512) : EReal :=
  ∑ q : Fin 1024, x2 (ix2 d q) * weight x0 x1 x3 x4 x5 x6 q r

theorem pay4_apply (x1 : Vec Ideal S1024x1024 .bf16) (x0 : Vec Ideal S512x1024 .bf16) (q : Fin 1024) (r : Fin 512) :
    k0_pay4 x1 x0 (ix2 q r) = ∑ x : Fin 1024, x1 (ix2 q x) * x0 (ix2 r x) := by
  pointwise [k0_pay4]

/-- A load of one head's row of ranks or coefficients. -/
theorem load_row (arg : Memref sig .tc .vmem S8x8x512 .f32) (harg : arg.IsWhole) (x : Vec Ideal S8x8x512 .f32) (a b : ℕ)
    (inb : ∀ k, (![a, b, 0] : Fin 3 → ℕ) k + S1x1x512.size k ≤ S8x8x512.size k) (hb : b < 8) (l : Fin 512) :
    (View.readAt (Elt Ideal) arg.view (Rect.unit (s := S8x8x512) ![a, b, 0] S1x1x512.size inb).toLoadRect (harg.unread x)) (ix3 0 0 l)
      = headAt x (⟨b, hb⟩ : Fin 8) l a := by
  have ha : a + 1 ≤ 8 := inb 0
  show arg.view.read (Elt Ideal) (harg.unread x) _ = _
  rw [harg.read_unread]
  unfold headAt
  refine congrArg x (funext fun k => Fin.ext ?_)
  fin_cases k
  · show a + 1 * 0 = a % 8; omega
  · show b + 1 * 0 = b; omega
  · show 0 + 1 * l.val = l.val; omega

/-- A load of one head's slab of bounds or factors. -/
theorem load_slab (arg : Memref sig .tc .vmem S8x128x512 .f32) (harg : arg.IsWhole) (x : Vec Ideal S8x128x512 .f32) (a : ℕ)
    (inb : ∀ k, (![a, 0, 0] : Fin 3 → ℕ) k + S1x128x512.size k ≤ S8x128x512.size k) (j : Fin 128) (l : Fin 512) :
    (View.readAt (Elt Ideal) arg.view (Rect.unit (s := S8x128x512) ![a, 0, 0] S1x128x512.size inb).toLoadRect (harg.unread x)) (ix3 0 j l)
      = headAt x j l a := by
  have ha : a + 1 ≤ 8 := inb 0
  show arg.view.read (Elt Ideal) (harg.unread x) _ = _
  rw [harg.read_unread]
  unfold headAt
  refine congrArg x (funext fun k => Fin.ext ?_)
  fin_cases k
  · show a + 1 * 0 = a % 8; omega
  · show 0 + 1 * j.val = j.val; omega
  · show 0 + 1 * l.val = l.val; omega

/-- Eight row strips, each right, make the whole array. -/
theorem strips (arg : Memref sig .tc .vmem S1024x512 .bf16) (w0 w1 w2 w3 w4 w5 w6 w7 : S128x512.Idx → EReal)
    (i0) (i1) (i2) (i3) (i4) (i5) (i6) (i7) (inb)
    (G : Fin 1024 → Fin 512 → EReal)
    (h0 : ∀ j r, w0 (ix2 j r) = G ⟨0 + j.val, by omega⟩ r)
    (h1 : ∀ j r, w1 (ix2 j r) = G ⟨128 + j.val, by omega⟩ r)
    (h2 : ∀ j r, w2 (ix2 j r) = G ⟨256 + j.val, by omega⟩ r)
    (h3 : ∀ j r, w3 (ix2 j r) = G ⟨384 + j.val, by omega⟩ r)
    (h4 : ∀ j r, w4 (ix2 j r) = G ⟨512 + j.val, by omega⟩ r)
    (h5 : ∀ j r, w5 (ix2 j r) = G ⟨640 + j.val, by omega⟩ r)
    (h6 : ∀ j r, w6 (ix2 j r) = G ⟨768 + j.val, by omega⟩ r)
    (h7 : ∀ j r, w7 (ix2 j r) = G ⟨896 + j.val, by omega⟩ r) (q : Fin 1024) (r : Fin 512) :
    (arg.view.readCov (Val := Elt Ideal) [⟨Rect.unit ![896, 0] S128x512.size i7, w7⟩, ⟨Rect.unit ![768, 0] S128x512.size i6, w6⟩, ⟨Rect.unit ![640, 0] S128x512.size i5, w5⟩, ⟨Rect.unit ![512, 0] S128x512.size i4, w4⟩, ⟨Rect.unit ![384, 0] S128x512.size i3, w3⟩, ⟨Rect.unit ![256, 0] S128x512.size i2, w2⟩, ⟨Rect.unit ![128, 0] S128x512.size i1, w1⟩, ⟨Rect.unit ![0, 0] S128x512.size i0, w0⟩]
      (Rect.unit (s := S1024x512) ![0, 0] S1024x512.size inb).toLoadRect) (ix2 q r) = G q r := by
  unfold View.readCov
  have hidx : (Rect.unit (s := S1024x512) ![0, 0] S1024x512.size inb).toLoadRect.idx (ix2 q r) = (ix2 q r : S1024x512.Idx) := by
    funext k
    refine Fin.ext ?_
    fin_cases k
    · show 0 + 1 * q.val = q.val; omega
    · show 0 + 1 * r.val = r.val; omega
  show arg.view.read (Elt Ideal) _ ((Rect.unit (s := S1024x512) ![0, 0] S1024x512.size inb).toLoadRect.idx (ix2 q r)) = _
  rw [hidx]
  by_cases c7 : 896 ≤ q.val
  · refine (View.read_writes_cons_unit_of_mem arg.view _ _ _ _ (ix2 q r) (ix2 ⟨q.val - 896, by omega⟩ r) rfl (by
      intro a
      fin_cases a
      · show q.val = 896 + (q.val - 896); omega
      · exact (Nat.zero_add r.val).symm)).trans ?_
    rw [h7]
    exact congrArg (G · r) (Fin.ext (by show 896 + (q.val - 896) = q.val; omega))
  refine (View.read_writes_cons_unit_of_not_mem arg.view _ _ _ _ (ix2 q r) rfl 0 (Or.inl (by show q.val < 896; omega))).trans ?_
  by_cases c6 : 768 ≤ q.val
  · refine (View.read_writes_cons_unit_of_mem arg.view _ _ _ _ (ix2 q r) (ix2 ⟨q.val - 768, by omega⟩ r) rfl (by
      intro a
      fin_cases a
      · show q.val = 768 + (q.val - 768); omega
      · exact (Nat.zero_add r.val).symm)).trans ?_
    rw [h6]
    exact congrArg (G · r) (Fin.ext (by show 768 + (q.val - 768) = q.val; omega))
  refine (View.read_writes_cons_unit_of_not_mem arg.view _ _ _ _ (ix2 q r) rfl 0 (Or.inl (by show q.val < 768; omega))).trans ?_
  by_cases c5 : 640 ≤ q.val
  · refine (View.read_writes_cons_unit_of_mem arg.view _ _ _ _ (ix2 q r) (ix2 ⟨q.val - 640, by omega⟩ r) rfl (by
      intro a
      fin_cases a
      · show q.val = 640 + (q.val - 640); omega
      · exact (Nat.zero_add r.val).symm)).trans ?_
    rw [h5]
    exact congrArg (G · r) (Fin.ext (by show 640 + (q.val - 640) = q.val; omega))
  refine (View.read_writes_cons_unit_of_not_mem arg.view _ _ _ _ (ix2 q r) rfl 0 (Or.inl (by show q.val < 640; omega))).trans ?_
  by_cases c4 : 512 ≤ q.val
  · refine (View.read_writes_cons_unit_of_mem arg.view _ _ _ _ (ix2 q r) (ix2 ⟨q.val - 512, by omega⟩ r) rfl (by
      intro a
      fin_cases a
      · show q.val = 512 + (q.val - 512); omega
      · exact (Nat.zero_add r.val).symm)).trans ?_
    rw [h4]
    exact congrArg (G · r) (Fin.ext (by show 512 + (q.val - 512) = q.val; omega))
  refine (View.read_writes_cons_unit_of_not_mem arg.view _ _ _ _ (ix2 q r) rfl 0 (Or.inl (by show q.val < 512; omega))).trans ?_
  by_cases c3 : 384 ≤ q.val
  · refine (View.read_writes_cons_unit_of_mem arg.view _ _ _ _ (ix2 q r) (ix2 ⟨q.val - 384, by omega⟩ r) rfl (by
      intro a
      fin_cases a
      · show q.val = 384 + (q.val - 384); omega
      · exact (Nat.zero_add r.val).symm)).trans ?_
    rw [h3]
    exact congrArg (G · r) (Fin.ext (by show 384 + (q.val - 384) = q.val; omega))
  refine (View.read_writes_cons_unit_of_not_mem arg.view _ _ _ _ (ix2 q r) rfl 0 (Or.inl (by show q.val < 384; omega))).trans ?_
  by_cases c2 : 256 ≤ q.val
  · refine (View.read_writes_cons_unit_of_mem arg.view _ _ _ _ (ix2 q r) (ix2 ⟨q.val - 256, by omega⟩ r) rfl (by
      intro a
      fin_cases a
      · show q.val = 256 + (q.val - 256); omega
      · exact (Nat.zero_add r.val).symm)).trans ?_
    rw [h2]
    exact congrArg (G · r) (Fin.ext (by show 256 + (q.val - 256) = q.val; omega))
  refine (View.read_writes_cons_unit_of_not_mem arg.view _ _ _ _ (ix2 q r) rfl 0 (Or.inl (by show q.val < 256; omega))).trans ?_
  by_cases c1 : 128 ≤ q.val
  · refine (View.read_writes_cons_unit_of_mem arg.view _ _ _ _ (ix2 q r) (ix2 ⟨q.val - 128, by omega⟩ r) rfl (by
      intro a
      fin_cases a
      · show q.val = 128 + (q.val - 128); omega
      · exact (Nat.zero_add r.val).symm)).trans ?_
    rw [h1]
    exact congrArg (G · r) (Fin.ext (by show 128 + (q.val - 128) = q.val; omega))
  refine (View.read_writes_cons_unit_of_not_mem arg.view _ _ _ _ (ix2 q r) rfl 0 (Or.inl (by show q.val < 128; omega))).trans ?_
  refine (View.read_writes_cons_unit_of_mem arg.view _ _ _ _ (ix2 q r) (ix2 ⟨q.val - 0, by omega⟩ r) rfl (by
    intro a
    fin_cases a
    · show q.val = 0 + (q.val - 0); omega
    · exact (Nat.zero_add r.val).symm)).trans ?_
  rw [h0]
  exact congrArg (G · r) (Fin.ext (by show 0 + (q.val - 0) = q.val; omega))

/-- A strip's entry, as the weight of its expert. -/
theorem strip_eq (x0 : Vec Ideal S512x1024 .bf16) (x1 : Vec Ideal S1024x1024 .bf16) (x3 x4 : Vec Ideal S8x8x512 .f32)
    (x5 x6 : Vec Ideal S8x128x512 .f32) (b : ℕ) (hb : b < 8) (j : Fin 128) (r : Fin 512) (q : Fin 1024) (hq : q.val = 128 * b + j.val) :
    weight x0 x1 x3 x4 x5 x6 q r = gateSum (headAt x3 ⟨b, hb⟩ r) (headAt x4 ⟨b, hb⟩ r) (headAt x5 j r) (headAt x6 j r)
      * gelu (∑ x : Fin 1024, x1 (ix2 q x) * x0 (ix2 r x)) := by
  unfold weight
  have e1 : (⟨q.val / 128, by omega⟩ : Fin 8) = ⟨b, hb⟩ := Fin.ext (by show q.val / 128 = b; omega)
  have e2 : (⟨q.val % 128, by omega⟩ : Fin 128) = j := Fin.ext (by show q.val % 128 = j.val; omega)
  rw [e1, e2]

/-- What a full write left is read back whole. -/
theorem read_back (arg : Memref sig .tc .vmem S1024x512 .f32) (w : S1024x512.Idx → EReal) (L) (i1) (inb) :
    (arg.view.readCov (Val := Elt Ideal) (⟨Rect.unit ![0, 0] S1024x512.size i1, w⟩ :: L)
      (Rect.unit (s := S1024x512) ![0, 0] S1024x512.size inb).toLoadRect) = w := by
  funext i
  rw [← show (ix2 (i 0) (i 1) : S1024x512.Idx) = i from by funext a; fin_cases a <;> rfl]
  generalize i 0 = q
  generalize i 1 = r
  unfold View.readCov
  have hidx : (Rect.unit (s := S1024x512) ![0, 0] S1024x512.size inb).toLoadRect.idx (ix2 q r) = (ix2 q r : S1024x512.Idx) := by
    funext k
    refine Fin.ext ?_
    fin_cases k
    · show 0 + 1 * q.val = q.val; omega
    · show 0 + 1 * r.val = r.val; omega
  show arg.view.read (Elt Ideal) _ ((Rect.unit (s := S1024x512) ![0, 0] S1024x512.size inb).toLoadRect.idx (ix2 q r)) = _
  rw [hidx]
  exact View.read_writes_cons_unit_of_mem arg.view _ _ _ _ (ix2 q r) (ix2 q r) rfl (by
    intro a
    fin_cases a
    · exact (Nat.zero_add q.val).symm
    · exact (Nat.zero_add r.val).symm)

theorem pay3_apply (d : Fin 1024) (r : Fin 512) : k0_pay3 (F := Ideal) (ix2 d r) = (0 : EReal) := by
  pointwise [k0_pay3]

theorem pay2_apply (x7 : Vec Ideal S512x1024 .f32) (x8 : Vec Ideal S1x1x1024 .f32) (a : Vec Ideal S1024x512 .f32) (r : Fin 512) (d : Fin 1024) :
    k0_pay2 x7 x8 a (ix2 r d) = x7 (ix2 r d) + x8 (ix3 0 0 d) * a (ix2 d r) := by
  pointwise [k0_pay2]

theorem pay1_apply (a : Vec Ideal S1024x512 .f32) (x2 : Vec Ideal S1024x1024 .bf16) (W : Vec Ideal S1024x512 .bf16) (d : Fin 1024) (r : Fin 512) :
    k0_pay1 a (k0_pay85 x2) W (ix2 d r) = a (ix2 d r) + ∑ q : Fin 1024, x2 (ix2 d q) * W (ix2 q r) := by
  pointwise [k0_pay1, k0_pay85]

section

variable (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S8x8x512 .f32) (harg5 : arg5.IsWhole) (arg6 : Memref sig .tc .vmem S8x8x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S1024x512 .bf16) (harg13 : arg13.IsWhole)
    (x0 : Vec Ideal S512x1024 .bf16) (x1 : Vec Ideal S1024x1024 .bf16) (x2 : Vec Ideal S1024x1024 .bf16) (x3 : Vec Ideal S8x8x512 .f32) (x4 : Vec Ideal S8x8x512 .f32) (x5 : Vec Ideal S8x128x512 .f32) (x6 : Vec Ideal S8x128x512 .f32) (x7 : Vec Ideal S512x1024 .f32) (x8 : Vec Ideal S1x1x1024 .f32) (xs0 : Vec Ideal S1024x512 .f32)

theorem read2 (inb) : View.readAt (Elt Ideal) arg2.view (Rect.unit (s := S512x1024) ![0, 0] S512x1024.size inb).toLoadRect (harg2.unread x0) = x0 :=
  (View.readAt_full arg2.view _ inb).trans (harg2.read_unread x0)

theorem read3 (inb) : View.readAt (Elt Ideal) arg3.view (Rect.unit (s := S1024x1024) ![0, 0] S1024x1024.size inb).toLoadRect (harg3.unread x1) = x1 :=
  (View.readAt_full arg3.view _ inb).trans (harg3.read_unread x1)

theorem read4 (inb) : View.readAt (Elt Ideal) arg4.view (Rect.unit (s := S1024x1024) ![0, 0] S1024x1024.size inb).toLoadRect (harg4.unread x2) = x2 :=
  (View.readAt_full arg4.view _ inb).trans (harg4.read_unread x2)

theorem read9 (inb) : View.readAt (Elt Ideal) arg9.view (Rect.unit (s := S512x1024) ![0, 0] S512x1024.size inb).toLoadRect (harg9.unread x7) = x7 :=
  (View.readAt_full arg9.view _ inb).trans (harg9.read_unread x7)

theorem read12 (inb) : View.readAt (Elt Ideal) arg12.view (Rect.unit (s := S1024x512) ![0, 0] S1024x512.size inb).toLoadRect (harg12.unread xs0) = xs0 :=
  (View.readAt_full arg12.view _ inb).trans (harg12.read_unread xs0)

theorem read10 (inb) : View.readAt (Elt Ideal) arg10.view (Rect.unit (s := S1x1x1024) ![0, 0, 0] S1x1x1024.size inb).toLoadRect (harg10.unread x8) = x8 :=
  (View.readAt_full arg10.view _ inb).trans (harg10.read_unread x8)

set_option maxHeartbeats 8000000 in
/-- The running sum after a point of the row tile, neither its first nor its last. -/
theorem soutB_apply (hc0 : ¬cond0_0 i) (hc1 : ¬cond0_1 i) (d : Fin 1024) (r : Fin 512) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix2 d r)
      = xs0 (ix2 d r) + block x0 x1 x2 x3 x4 x5 x6 d r := by
  unfold sout0_B_0
  unfold kernelRun0_B
  dsimp only
  sl_unfold_words
  refine (View.read_writes_cons_unit_of_mem VS0_0 _ _ _ _ (ix2 d r) (ix2 d r) rfl (by
    intro a
    fin_cases a
    · exact (Nat.zero_add d.val).symm
    · exact (Nat.zero_add r.val).symm)).trans ?_
  rw [read2, read3, read4, read12]
  refine (pay1_apply _ _ _ d r).trans ?_
  refine congrArg (xs0 (ix2 d r) + ·) (Finset.sum_congr rfl fun q _ => congrArg (x2 (ix2 d q) * ·) ?_)
  refine strips arg13 _ _ _ _ _ _ _ _ _ _ _ _ _ _ _ _ _ (weight x0 x1 x3 x4 x5 x6) ?_ ?_ ?_ ?_ ?_ ?_ ?_ ?_ q r
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 0 _ (by decide), load_row arg6 harg6 x4 _ 0 _ (by decide), load_slab arg7 harg7 x5, load_slab arg8 harg8 x6]
    rw [strip_eq x0 x1 x3 x4 x5 x6 0 (by decide) j r _ (Nat.zero_add j.val).symm]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 1 _ (by decide), load_row arg6 harg6 x4 _ 1 _ (by decide), load_slab arg7 harg7 x5, load_slab arg8 harg8 x6]
    rw [strip_eq x0 x1 x3 x4 x5 x6 1 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 2 _ (by decide), load_row arg6 harg6 x4 _ 2 _ (by decide), load_slab arg7 harg7 x5, load_slab arg8 harg8 x6]
    rw [strip_eq x0 x1 x3 x4 x5 x6 2 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 3 _ (by decide), load_row arg6 harg6 x4 _ 3 _ (by decide), load_slab arg7 harg7 x5, load_slab arg8 harg8 x6]
    rw [strip_eq x0 x1 x3 x4 x5 x6 3 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 4 _ (by decide), load_row arg6 harg6 x4 _ 4 _ (by decide), load_slab arg7 harg7 x5, load_slab arg8 harg8 x6]
    rw [strip_eq x0 x1 x3 x4 x5 x6 4 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 5 _ (by decide), load_row arg6 harg6 x4 _ 5 _ (by decide), load_slab arg7 harg7 x5, load_slab arg8 harg8 x6]
    rw [strip_eq x0 x1 x3 x4 x5 x6 5 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 6 _ (by decide), load_row arg6 harg6 x4 _ 6 _ (by decide), load_slab arg7 harg7 x5, load_slab arg8 harg8 x6]
    rw [strip_eq x0 x1 x3 x4 x5 x6 6 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 7 _ (by decide), load_row arg6 harg6 x4 _ 7 _ (by decide), load_slab arg7 harg7 x5, load_slab arg8 harg8 x6]
    rw [strip_eq x0 x1 x3 x4 x5 x6 7 (by decide) j r _ rfl]
    unfold gateSum gelu
    simp only [Finset.sum_range_succ, Finset.sum_range_zero, zero_add]

set_option maxHeartbeats 8000000 in
/-- The running sum after a point of the row tile, its first. -/
theorem soutA_apply (hc0 : cond0_0 i) (hc1 : ¬cond0_1 i) (d : Fin 1024) (r : Fin 512) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 d r)
      = (0 : EReal) + block x0 x1 x2 x3 x4 x5 x6 d r := by
  unfold sout0_A_0
  unfold kernelRun0_A
  dsimp only
  sl_unfold_words
  refine (View.read_writes_cons_unit_of_mem VS0_0 _ _ _ _ (ix2 d r) (ix2 d r) rfl (by
    intro a
    fin_cases a
    · exact (Nat.zero_add d.val).symm
    · exact (Nat.zero_add r.val).symm)).trans ?_
  rw [read2, read3, read4, read_back]
  refine (pay1_apply _ _ _ d r).trans ?_
  rw [pay3_apply]
  refine congrArg ((0 : EReal) + ·) (Finset.sum_congr rfl fun q _ => congrArg (x2 (ix2 d q) * ·) ?_)
  refine strips arg13 _ _ _ _ _ _ _ _ _ _ _ _ _ _ _ _ _ (weight x0 x1 x3 x4 x5 x6) ?_ ?_ ?_ ?_ ?_ ?_ ?_ ?_ q r
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 0 _ (by decide), load_row arg6 harg6 x4 _ 0 _ (by decide), load_slab arg7 harg7 x5, load_slab arg8 harg8 x6]
    rw [strip_eq x0 x1 x3 x4 x5 x6 0 (by decide) j r _ (Nat.zero_add j.val).symm]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 1 _ (by decide), load_row arg6 harg6 x4 _ 1 _ (by decide), load_slab arg7 harg7 x5, load_slab arg8 harg8 x6]
    rw [strip_eq x0 x1 x3 x4 x5 x6 1 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 2 _ (by decide), load_row arg6 harg6 x4 _ 2 _ (by decide), load_slab arg7 harg7 x5, load_slab arg8 harg8 x6]
    rw [strip_eq x0 x1 x3 x4 x5 x6 2 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 3 _ (by decide), load_row arg6 harg6 x4 _ 3 _ (by decide), load_slab arg7 harg7 x5, load_slab arg8 harg8 x6]
    rw [strip_eq x0 x1 x3 x4 x5 x6 3 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 4 _ (by decide), load_row arg6 harg6 x4 _ 4 _ (by decide), load_slab arg7 harg7 x5, load_slab arg8 harg8 x6]
    rw [strip_eq x0 x1 x3 x4 x5 x6 4 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 5 _ (by decide), load_row arg6 harg6 x4 _ 5 _ (by decide), load_slab arg7 harg7 x5, load_slab arg8 harg8 x6]
    rw [strip_eq x0 x1 x3 x4 x5 x6 5 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 6 _ (by decide), load_row arg6 harg6 x4 _ 6 _ (by decide), load_slab arg7 harg7 x5, load_slab arg8 harg8 x6]
    rw [strip_eq x0 x1 x3 x4 x5 x6 6 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 7 _ (by decide), load_row arg6 harg6 x4 _ 7 _ (by decide), load_slab arg7 harg7 x5, load_slab arg8 harg8 x6]
    rw [strip_eq x0 x1 x3 x4 x5 x6 7 (by decide) j r _ rfl]
    unfold gateSum gelu
    simp only [Finset.sum_range_succ, Finset.sum_range_zero, zero_add]

set_option maxHeartbeats 8000000 in
/-- What the row tile's last point writes. -/
theorem outC_apply (hc0 : ¬cond0_0 i) (hc1 : cond0_1 i) (r : Fin 512) (d : Fin 1024) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix2 r d)
      = x7 (ix2 r d) + x8 (ix3 0 0 d) * (xs0 (ix2 d r) + block x0 x1 x2 x3 x4 x5 x6 d r) := by
  unfold out0_C_9
  unfold kernelRun0_C
  dsimp only
  sl_unfold_words
  refine (View.read_writes_cons_unit_of_mem VO0_9 _ _ _ _ (ix2 r d) (ix2 r d) rfl (by
    intro a
    fin_cases a
    · exact (Nat.zero_add r.val).symm
    · exact (Nat.zero_add d.val).symm)).trans ?_
  rw [read_back, read2, read3, read4, read9, read10, read12]
  refine (pay2_apply _ _ _ r d).trans ?_
  refine congrArg (fun z : EReal => x7 (ix2 r d) + x8 (ix3 0 0 d) * z) ?_
  refine (pay1_apply _ _ _ d r).trans ?_
  refine congrArg (xs0 (ix2 d r) + ·) (Finset.sum_congr rfl fun q _ => congrArg (x2 (ix2 d q) * ·) ?_)
  refine strips arg13 _ _ _ _ _ _ _ _ _ _ _ _ _ _ _ _ _ (weight x0 x1 x3 x4 x5 x6) ?_ ?_ ?_ ?_ ?_ ?_ ?_ ?_ q r
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 0 _ (by decide), load_row arg6 harg6 x4 _ 0 _ (by decide), load_slab arg7 harg7 x5, load_slab arg8 harg8 x6]
    rw [strip_eq x0 x1 x3 x4 x5 x6 0 (by decide) j r _ (Nat.zero_add j.val).symm]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 1 _ (by decide), load_row arg6 harg6 x4 _ 1 _ (by decide), load_slab arg7 harg7 x5, load_slab arg8 harg8 x6]
    rw [strip_eq x0 x1 x3 x4 x5 x6 1 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 2 _ (by decide), load_row arg6 harg6 x4 _ 2 _ (by decide), load_slab arg7 harg7 x5, load_slab arg8 harg8 x6]
    rw [strip_eq x0 x1 x3 x4 x5 x6 2 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 3 _ (by decide), load_row arg6 harg6 x4 _ 3 _ (by decide), load_slab arg7 harg7 x5, load_slab arg8 harg8 x6]
    rw [strip_eq x0 x1 x3 x4 x5 x6 3 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 4 _ (by decide), load_row arg6 harg6 x4 _ 4 _ (by decide), load_slab arg7 harg7 x5, load_slab arg8 harg8 x6]
    rw [strip_eq x0 x1 x3 x4 x5 x6 4 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 5 _ (by decide), load_row arg6 harg6 x4 _ 5 _ (by decide), load_slab arg7 harg7 x5, load_slab arg8 harg8 x6]
    rw [strip_eq x0 x1 x3 x4 x5 x6 5 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 6 _ (by decide), load_row arg6 harg6 x4 _ 6 _ (by decide), load_slab arg7 harg7 x5, load_slab arg8 harg8 x6]
    rw [strip_eq x0 x1 x3 x4 x5 x6 6 (by decide) j r _ rfl]
    unfold gateSum gelu
    simp only [Finset.sum_range_succ, Finset.sum_range_zero, zero_add]
  · intro j r
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [pay4_apply, load_row arg5 harg5 x3 _ 7 _ (by decide), load_row arg6 harg6 x4 _ 7 _ (by decide), load_slab arg7 harg7 x5, load_slab arg8 harg8 x6]
    rw [strip_eq x0 x1 x3 x4 x5 x6 7 (by decide) j r _ rfl]
    unfold gateSum gelu
    simp only [Finset.sum_range_succ, Finset.sum_range_zero, zero_add]

end

end Cert.PeerDenseIdeal.Value

end
-- ==== Proof.PeerDenseValue.lean ====
module

public import proofs.«01_k».proof.Proof.Gen.PeerDenseIdeal.Value
public import proofs.«01_k».proof.Proof.PeerOut
public import Idealize.ShloMosaic.Lib.StableHlo.Run

/-!
# The kernel of the sum over the experts

Every grid point's blocks are parts of the arguments, so each point of a row tile adds its 1024 experts to the running sum; the
tile's last point writes the sum over all the experts, and the tiles cover the array.
-/

@[expose] public section

set_option maxRecDepth 16384

noncomputable section

namespace Cert.PeerDenseIdeal.Value

open Cert.PeerDenseIdeal Cert.PeerDenseIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .bf16 := m ((c : Thread nD τ).loc main_arg0)
abbrev arg1 : FVec Ideal S16384x1024 .f32 := m ((c : Thread nD τ).loc main_arg1)
abbrev arg2 : FVec Ideal S16384x1024 .f32 := m ((c : Thread nD τ).loc main_arg2)
abbrev arg3 : FVec Ideal S8x128x16384 .f32 := m ((c : Thread nD τ).loc main_arg3)
abbrev arg4 : FVec Ideal S8x128x16384 .f32 := m ((c : Thread nD τ).loc main_arg4)
abbrev arg5 : FVec Ideal S8x128x16384 .f32 := m ((c : Thread nD τ).loc main_arg5)
abbrev arg6 : FVec Ideal S8x128x16384 .f32 := m ((c : Thread nD τ).loc main_arg6)
abbrev arg7 : FVec Ideal S16384x1024 .f32 := m ((c : Thread nD τ).loc main_arg7)
abbrev arg8 : FVec Ideal S24x1x1024 .f32 := m ((c : Thread nD τ).loc main_arg8)

theorem V_v0 : V m c main_v0 = truncf .bf16 (arg1 m c) bitsLt_bf16_f32 := by
  show StableHlo.after hostOps0 (fun b => m (c, b)) main_v0 = _
  after_results <;> rfl

theorem V_v2 : V m c main_v2 = truncf .bf16 (transpose S1024x16384 [1, 0] (arg2 m c) transposes_S16384x1024_S1024x16384_1_0 : FVec Ideal S1024x16384 .f32) bitsLt_bf16_f32 := by
  show StableHlo.after hostOps0 (fun b => m (c, b)) main_v2 = _
  after_results <;> rfl

/-- The windows' block indices at a grid point. -/
theorem win_index : ∀ t : Fin grid0.N,
    win0_0.index t 0 = t.val / 16
    ∧ win0_0.index t 1 = 0
    ∧ win0_1.index t 0 = t.val % 16
    ∧ win0_1.index t 1 = 0
    ∧ win0_2.index t 0 = 0
    ∧ win0_2.index t 1 = t.val % 16
    ∧ win0_3.index t 0 = 0
    ∧ win0_3.index t 1 = t.val % 16
    ∧ win0_3.index t 2 = t.val / 16
    ∧ win0_4.index t 0 = 0
    ∧ win0_4.index t 1 = t.val % 16
    ∧ win0_4.index t 2 = t.val / 16
    ∧ win0_5.index t 0 = 0
    ∧ win0_5.index t 1 = 0
    ∧ win0_5.index t 2 = t.val / 16
    ∧ win0_6.index t 0 = 0
    ∧ win0_6.index t 1 = 0
    ∧ win0_6.index t 2 = t.val / 16
    ∧ win0_7.index t 0 = t.val / 16
    ∧ win0_7.index t 1 = 0
    ∧ win0_8.index t 0 = t.val / 16 / 8 * 6 + 5
    ∧ win0_8.index t 1 = 0
    ∧ win0_8.index t 2 = 0
    ∧ win0_9.index t 0 = t.val / 16
    ∧ win0_9.index t 1 = 0 := by decide +kernel

/-- Row `r` of point `t`'s rows. -/
abbrev row (t : Fin cfg0.N) (r : Fin 512) : Fin 16384 := ⟨t.val / 16 * 512 + r.val, by have : t.val < 512 := t.isLt; omega⟩

/-- Expert `q` of point `t`'s experts. -/
abbrev exp (t : Fin cfg0.N) (q : Fin 1024) : Fin 16384 := ⟨t.val % 16 * 1024 + q.val, by omega⟩

/-- Group `i` of point `t`'s groups. -/
abbrev grp (t : Fin cfg0.N) (i : Fin 8) : Fin 128 := ⟨t.val % 16 * 8 + i.val, by omega⟩

theorem iblk0 (t : Fin cfg0.N) (r : Fin 512) (x : Fin 1024) :
    (iblk m c 0 t : Vec Ideal S512x1024 .bf16) (ix2 r x) = arg0 m c (ix2 (row t r) x) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg0 m c) _).trans ?_
  refine congrArg (arg0 m c) (funext fun a => Fin.ext ?_)
  fin_cases a
  · show win0_0.index t 0 * 512 + 1 * r.val = t.val / 16 * 512 + r.val
    rw [h0_0]; omega
  · show win0_0.index t 1 * 1024 + 1 * x.val = x.val
    rw [h0_1]; omega

theorem iblk7 (t : Fin cfg0.N) (r : Fin 512) (x : Fin 1024) :
    (iblk m c 7 t : Vec Ideal S512x1024 .f32) (ix2 r x) = arg7 m c (ix2 (row t r) x) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg7 m c) _).trans ?_
  refine congrArg (arg7 m c) (funext fun a => Fin.ext ?_)
  fin_cases a
  · show win0_7.index t 0 * 512 + 1 * r.val = t.val / 16 * 512 + r.val
    rw [h7_0]; omega
  · show win0_7.index t 1 * 1024 + 1 * x.val = x.val
    rw [h7_1]; omega

theorem iblk3 (t : Fin cfg0.N) (h : Fin 8) (i : Fin 8) (r : Fin 512) :
    (iblk m c 3 t : Vec Ideal S8x8x512 .f32) (ix3 h i r) = arg3 m c (ix3 h (grp t i) (row t r)) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg3 m c) _).trans ?_
  refine congrArg (arg3 m c) (funext fun a => Fin.ext ?_)
  fin_cases a
  · show win0_3.index t 0 * 8 + 1 * h.val = h.val
    rw [h3_0]; omega
  · show win0_3.index t 1 * 8 + 1 * i.val = t.val % 16 * 8 + i.val
    rw [h3_1]; omega
  · show win0_3.index t 2 * 512 + 1 * r.val = t.val / 16 * 512 + r.val
    rw [h3_2]; omega

theorem iblk4 (t : Fin cfg0.N) (h : Fin 8) (i : Fin 8) (r : Fin 512) :
    (iblk m c 4 t : Vec Ideal S8x8x512 .f32) (ix3 h i r) = arg4 m c (ix3 h (grp t i) (row t r)) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg4 m c) _).trans ?_
  refine congrArg (arg4 m c) (funext fun a => Fin.ext ?_)
  fin_cases a
  · show win0_4.index t 0 * 8 + 1 * h.val = h.val
    rw [h4_0]; omega
  · show win0_4.index t 1 * 8 + 1 * i.val = t.val % 16 * 8 + i.val
    rw [h4_1]; omega
  · show win0_4.index t 2 * 512 + 1 * r.val = t.val / 16 * 512 + r.val
    rw [h4_2]; omega

theorem iblk5 (t : Fin cfg0.N) (h : Fin 8) (j : Fin 128) (r : Fin 512) :
    (iblk m c 5 t : Vec Ideal S8x128x512 .f32) (ix3 h j r) = arg5 m c (ix3 h j (row t r)) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg5 m c) _).trans ?_
  refine congrArg (arg5 m c) (funext fun a => Fin.ext ?_)
  fin_cases a
  · show win0_5.index t 0 * 8 + 1 * h.val = h.val
    rw [h5_0]; omega
  · show win0_5.index t 1 * 128 + 1 * j.val = j.val
    rw [h5_1]; omega
  · show win0_5.index t 2 * 512 + 1 * r.val = t.val / 16 * 512 + r.val
    rw [h5_2]; omega

theorem iblk6 (t : Fin cfg0.N) (h : Fin 8) (j : Fin 128) (r : Fin 512) :
    (iblk m c 6 t : Vec Ideal S8x128x512 .f32) (ix3 h j r) = arg6 m c (ix3 h j (row t r)) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg6 m c) _).trans ?_
  refine congrArg (arg6 m c) (funext fun a => Fin.ext ?_)
  fin_cases a
  · show win0_6.index t 0 * 8 + 1 * h.val = h.val
    rw [h6_0]; omega
  · show win0_6.index t 1 * 128 + 1 * j.val = j.val
    rw [h6_1]; omega
  · show win0_6.index t 2 * 512 + 1 * r.val = t.val / 16 * 512 + r.val
    rw [h6_2]; omega

theorem iblk8 (t : Fin cfg0.N) (r : Fin 512) (x : Fin 1024) :
    (iblk m c 8 t : Vec Ideal S1x1x1024 .f32) (ix3 0 0 x) = arg8 m c (ix3 (part (row t r) 5) 0 x) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine (congrFun (V_main_arg8 m c) _).trans ?_
  refine congrArg (arg8 m c) (funext fun a => Fin.ext ?_)
  fin_cases a
  · show win0_8.index t 0 * 1 + 1 * 0 = (t.val / 16 * 512 + r.val) / 4096 * 6 + 5
    rw [h8_0]; omega
  · show win0_8.index t 1 * 1 + 1 * 0 = 0
    rw [h8_1]
  · show win0_8.index t 2 * 1024 + 1 * x.val = x.val
    rw [h8_2]; omega

theorem iblk1_V (t : Fin cfg0.N) (q x : Fin 1024) :
    (iblk m c 1 t : Vec Ideal S1024x1024 .bf16) (ix2 q x) = (V m c main_v0 : Vec Ideal S16384x1024 .bf16) (ix2 (exp t q) x) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine congrArg (V m c main_v0) (funext fun a => Fin.ext ?_)
  fin_cases a
  · show win0_1.index t 0 * 1024 + 1 * q.val = t.val % 16 * 1024 + q.val
    rw [h1_0]; omega
  · show win0_1.index t 1 * 1024 + 1 * x.val = x.val
    rw [h1_1]; omega

theorem iblk1 (t : Fin cfg0.N) (q x : Fin 1024) :
    (iblk m c 1 t : Vec Ideal S1024x1024 .bf16) (ix2 q x) = arg1 m c (ix2 (exp t q) x) := by
  rw [iblk1_V, V_v0]
  rfl

theorem iblk2_V (t : Fin cfg0.N) (d q : Fin 1024) :
    (iblk m c 2 t : Vec Ideal S1024x1024 .bf16) (ix2 d q) = (V m c main_v2 : Vec Ideal S1024x16384 .bf16) (ix2 d (exp t q)) := by
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  unfold iblk
  rw [View.read_apply]
  refine congrArg (V m c main_v2) (funext fun a => Fin.ext ?_)
  fin_cases a
  · show win0_2.index t 0 * 1024 + 1 * d.val = d.val
    rw [h2_0]; omega
  · show win0_2.index t 1 * 1024 + 1 * q.val = t.val % 16 * 1024 + q.val
    rw [h2_1]; omega

theorem iblk2 (t : Fin cfg0.N) (d q : Fin 1024) :
    (iblk m c 2 t : Vec Ideal S1024x1024 .bf16) (ix2 d q) = arg2 m c (ix2 (exp t q) d) := by
  rw [iblk2_V, V_v2]
  pointwise []

/-- What expert `e` adds to row `n`'s lane `d`, from the arguments. -/
abbrev added (n : Fin 16384) (d : Fin 1024) (e : Fin 16384) : EReal :=
  expert (arg0 m c) (arg1 m c) (arg2 m c) (arg3 m c) (arg4 m c) (arg5 m c) (arg6 m c) n d e

/-- What the `k`-th 1024 experts add. -/
def blockSum (n : Fin 16384) (d : Fin 1024) (k : ℕ) : EReal :=
  ∑ q : Fin 1024, added m c n d ⟨(k * 1024 + q.val) % 16384, Nat.mod_lt _ (by decide)⟩

/-- All the experts, 1024 at a time. -/
theorem sum_blocks (n : Fin 16384) (d : Fin 1024) :
    ∑ e : Fin 16384, added m c n d e = ∑ k ∈ Finset.range 16, blockSum m c n d k := by
  rw [Finset.sum_range]
  unfold blockSum
  rw [← Fintype.sum_prod_type' (f := fun (k : Fin 16) (q : Fin 1024) => added m c n d ⟨(k.val * 1024 + q.val) % 16384, Nat.mod_lt _ (by decide)⟩)]
  refine (Fintype.sum_equiv (finProdFinEquiv (m := 16) (n := 1024)) _ (fun e : Fin 16384 => added m c n d e) fun p => ?_).symm
  refine congrArg (added m c n d) (Fin.ext ?_)
  have h0 := p.1.isLt
  have h1 := p.2.isLt
  show (p.1.val * 1024 + p.2.val) % 16384 = p.2.val + 1024 * p.1.val
  omega

theorem weight_eq (t : Fin cfg0.N) (q : Fin 1024) (r : Fin 512) :
    weight (iblk m c 0 t) (iblk m c 1 t) (iblk m c 3 t) (iblk m c 4 t) (iblk m c 5 t) (iblk m c 6 t) q r
      = gateSum (headAt (arg3 m c) ⟨(exp t q).val / 128, by omega⟩ (row t r)) (headAt (arg4 m c) ⟨(exp t q).val / 128, by omega⟩ (row t r))
          (headAt (arg5 m c) ⟨(exp t q).val % 128, by omega⟩ (row t r)) (headAt (arg6 m c) ⟨(exp t q).val % 128, by omega⟩ (row t r))
        * gelu (∑ x : Fin 1024, arg1 m c (ix2 (exp t q) x) * arg0 m c (ix2 (row t r) x)) := by
  have eg : (⟨(exp t q).val / 128, by omega⟩ : Fin 128) = grp t ⟨q.val / 128, by omega⟩ := Fin.ext (by
    show (t.val % 16 * 1024 + q.val) / 128 = t.val % 16 * 8 + q.val / 128; omega)
  have ej : (⟨(exp t q).val % 128, by omega⟩ : Fin 128) = ⟨q.val % 128, by omega⟩ := Fin.ext (by
    show (t.val % 16 * 1024 + q.val) % 128 = q.val % 128; omega)
  rw [eg, ej]
  unfold weight
  refine congr (congrArg (HMul.hMul (α := EReal)) ?_) (congrArg gelu (Finset.sum_congr rfl fun x _ => ?_))
  · unfold gateSum headAt
    refine Finset.sum_congr rfl fun h _ => ?_
    rw [iblk3, iblk4, iblk5, iblk6]
  · rw [iblk0, iblk1]

theorem block_eq (t : Fin cfg0.N) (d : Fin 1024) (r : Fin 512) :
    block (iblk m c 0 t) (iblk m c 1 t) (iblk m c 2 t) (iblk m c 3 t) (iblk m c 4 t) (iblk m c 5 t) (iblk m c 6 t) d r
      = blockSum m c (row t r) d (t.val % 16) := by
  unfold block blockSum
  refine Finset.sum_congr rfl fun q _ => ?_
  have e : (⟨(t.val % 16 * 1024 + q.val) % 16384, Nat.mod_lt _ (by decide)⟩ : Fin 16384) = exp t q := Fin.ext (by
    show (t.val % 16 * 1024 + q.val) % 16384 = t.val % 16 * 1024 + q.val; omega)
  rw [e, weight_eq, iblk2]
  rfl

/-- The running sum after a point, which is not its tile's last. -/
theorem acc_eq : ∀ (k : ℕ) (t : Fin cfg0.N), t.val % 16 = k → k < 15 → ∀ (d : Fin 1024) (r : Fin 512),
    ((outsAt0 m c t.val t.isLt).2 : Vec Ideal S1024x512 .f32) (ix2 d r) = ∑ j ∈ Finset.range (k + 1), blockSum m c (row t r) d j := by
  intro k
  induction k with
  | zero =>
    intro t hk _ d r
    rw [outsAt0_A m c t hk (by omega)]
    dsimp only
    refine (soutA_apply c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ d r).trans ?_
    rw [block_eq, hk, zero_add, Finset.sum_range_one]
  | succ k ih =>
    intro t hk hlt d r
    have ht : t.val < 512 := t.isLt
    rw [outsAt0_B m c t (by omega) (by omega)]
    dsimp only
    refine (soutB_apply c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ d r).trans ?_
    rw [block_eq, hk, Finset.sum_range_succ]
    refine congrArg (fun z : EReal => z + blockSum m c (row t r) d (k + 1)) ?_
    have hrow : row ⟨t.val - 1, Nat.lt_of_le_of_lt (Nat.sub_le _ _) t.isLt⟩ r = row t r := Fin.ext (by
      show (t.val - 1) / 16 * 512 + r.val = t.val / 16 * 512 + r.val; omega)
    refine (ih ⟨t.val - 1, Nat.lt_of_le_of_lt (Nat.sub_le _ _) t.isLt⟩ (by show (t.val - 1) % 16 = k; omega) (by omega) d r).trans ?_
    rw [hrow]

/-- The kernel's result. -/
abbrev result9 : Buf (Elt Ideal) ((c : Thread nD τ).loc main_v3) := arr (peer (arg0 m c) (arg1 m c) (arg2 m c) (arg3 m c) (arg4 m c) (arg5 m c) (arg6 m c) (arg7 m c) (arg8 m c))

theorem cut9 (i : grid0.Coords) (X : Vec Ideal S512x1024 .f32) (j) : (cfg0.win 9).cut i X j = X (ix2 (j 0) (j 1)) := by
  refine congrArg X (funext fun a => ?_)
  fin_cases a <;> rfl

abbrev streamBlk (t : Fin cfg0.N) : Vec Ideal S512x1024 .f32 := iblk m c 7 t
abbrev gateBlk (t : Fin cfg0.N) : Vec Ideal S1x1x1024 .f32 := iblk m c 8 t
/-- The running sum before a point. -/
abbrev before (t : Fin cfg0.N) : Vec Ideal S1024x512 .f32 := (outsAt0 m c (t.val - 1) (Nat.lt_of_le_of_lt (Nat.sub_le _ _) t.isLt)).2

theorem last_eq (t : Fin cfg0.N) (h : t.val % 16 = 15) (r : Fin 512) (d : Fin 1024) :
    streamBlk m c t (ix2 r d) + gateBlk m c t (ix3 0 0 d) * (before m c t (ix2 d r)
          + block (iblk m c 0 t) (iblk m c 1 t) (iblk m c 2 t) (iblk m c 3 t) (iblk m c 4 t) (iblk m c 5 t) (iblk m c 6 t) d r)
      = peer (arg0 m c) (arg1 m c) (arg2 m c) (arg3 m c) (arg4 m c) (arg5 m c) (arg6 m c) (arg7 m c) (arg8 m c) (row t r) d := by
  have ht : t.val < 512 := t.isLt
  have hrow : row ⟨t.val - 1, Nat.lt_of_le_of_lt (Nat.sub_le _ _) t.isLt⟩ r = row t r := Fin.ext (by
    show (t.val - 1) / 16 * 512 + r.val = t.val / 16 * 512 + r.val; omega)
  have ha := acc_eq m c 14 ⟨t.val - 1, Nat.lt_of_le_of_lt (Nat.sub_le _ _) t.isLt⟩ (by show (t.val - 1) % 16 = 14; omega) (by omega) d r
  rw [hrow] at ha
  unfold peer
  rw [show streamBlk m c t (ix2 r d) = arg7 m c (ix2 (row t r) d) from iblk7 m c t r d,
    show gateBlk m c t (ix3 0 0 d) = arg8 m c (ix3 (part (row t r) 5) 0 d) from iblk8 m c t r d, block_eq, h]
  refine congrArg (fun z : EReal => arg7 m c (ix2 (row t r) d) + arg8 m c (ix3 (part (row t r) 5) 0 d) * z) ?_
  refine Eq.trans ?_ (sum_blocks m c (row t r) d).symm
  rw [Finset.sum_range_succ]
  exact congrArg (fun z : EReal => z + blockSum m c (row t r) d 15) ha

theorem flushed9_val (t : Fin cfg0.N) (hf : (cfg0.win 9).flush t = true) :
    (dats m 0 c).flushed 9 t = ((cfg0.win 9).blk t).view.read (Elt Ideal) (result9 m c) := by
  have hm : t.val % 16 = 15 := (flush0_9 t).mp hf
  obtain ⟨h0_0, h0_1, h1_0, h1_1, h2_0, h2_1, h3_0, h3_1, h3_2, h4_0, h4_1, h4_2, h5_0, h5_1, h5_2, h6_0, h6_1, h6_2, h7_0, h7_1, h8_0, h8_1, h8_2, h9_0, h9_1⟩ := win_index t
  rw [flushed9_C m c t (by omega) hm]
  funext j
  rw [cut9]
  refine ((outC_apply c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ (j 0) (j 1)).trans (last_eq m c t hm (j 0) (j 1))).trans ?_
  rw [View.read_apply]
  refine congr (congrArg _ (Fin.ext ?_)) (Fin.ext ?_)
  · show t.val / 16 * 512 + (j 0).val = win0_9.index t 0 * 512 + 1 * (j 0).val
    rw [h9_0]; omega
  · show (j 1).val = win0_9.index t 1 * 1024 + 1 * (j 1).val
    rw [h9_1]; omega

theorem final9_val : (dats m 0 c).arrAt 9 cfg0.N = result9 m c :=
  (dats m 0 c).arrAt_eq_of_cover 9 (result9 m c) (fun t hf => flushed9_val m c t hf) (fun i => (covered_iff9 i).2 (by
    have h0 : (i 0).val < 16384 := (i 0).isLt; have h1 : (i 1).val < 1024 := (i 1).isLt; omega))

end Cert.PeerDenseIdeal.Value

end
-- ==== Proof.PeerDenseRef.lean ====
module

public import proofs.«01_k».proof.Proof.Gen.PeerDenseRefIdeal.Run
public import proofs.«01_k».proof.Proof.PeerSpec
public import Idealize.ShloMosaic.Lib.Pointwise

/-!
# The reference of the sum over the experts, read index by index
-/

@[expose] public section

set_option maxRecDepth 16384

noncomputable section

namespace Cert.PeerDenseRefIdeal.Value

open Cert.PeerDenseRefIdeal Cert.PeerDenseRefIdeal.Gen Idealize.ShloMosaic Idealize.ShloMosaic.TcCoe Idealize.SL.Sem
open Idealize.ShloMosaic.Pointwise
open Cert.Lin

variable (V0 : Valuation τ sig (Elt Ideal))

abbrev A0 : FVec Ideal S16384x1024 .bf16 := V0 (Proc.devRef .tc main_arg0)
abbrev A1 : FVec Ideal S16384x1024 .f32 := V0 (Proc.devRef .tc main_arg1)
abbrev A2 : FVec Ideal S16384x1024 .f32 := V0 (Proc.devRef .tc main_arg2)
abbrev A3 : FVec Ideal S8x128x16384 .f32 := V0 (Proc.devRef .tc main_arg3)
abbrev A4 : FVec Ideal S8x128x16384 .f32 := V0 (Proc.devRef .tc main_arg4)
abbrev A5 : FVec Ideal S8x128x16384 .f32 := V0 (Proc.devRef .tc main_arg5)
abbrev A6 : FVec Ideal S8x128x16384 .f32 := V0 (Proc.devRef .tc main_arg6)
abbrev A7 : FVec Ideal S16384x1024 .f32 := V0 (Proc.devRef .tc main_arg7)
abbrev A8 : FVec Ideal S24x1x1024 .f32 := V0 (Proc.devRef .tc main_arg8)

/-- A choice between a product and nothing is the choice times the factor. -/
theorem choice (p : Prop) [Decidable p] (a b : EReal) : (if p then a * b else 0) = (if p then b else 0) * a := by
  split
  · exact mul_comm a b
  · exact (zero_mul a).symm

abbrev dots : FVec Ideal S16384x16384 .f32 :=
  Host.dotGeneral dot_S16384x1024_S1024x16384_S16384x16384_1_0_0_1_n_n none (extf .f32 (A0 V0) bitsLt_bf16_f32) (transpose S1024x16384 [1, 0] (A1 V0) transposes_S16384x1024_S1024x16384_1_0)

abbrev gates : FVec Ideal S128x128x16384 .f32 :=
  Host.reduceAdd (select (cmpf .olt (broadcastInDim S8x128x128x16384 ![0, 1, 2, 3] bcast_S8x128x1x16384_S8x128x128x16384_0_1_2_3 (broadcastInDim S8x128x1x16384 ![0, 1, 3] bcast_S8x128x16384_S8x128x1x16384_0_1_3 (A3 V0))) (broadcastInDim S8x128x128x16384 ![0, 1, 2, 3] bcast_S8x1x128x16384_S8x128x128x16384_0_1_2_3 (broadcastInDim S8x1x128x16384 ![0, 2, 3] bcast_S8x128x16384_S8x1x128x16384_0_2_3 (A5 V0)))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 (A4 V0))) (broadcastInDim S8x128x128x16384 ![0, 1, 2, 3] bcast_S8x1x128x16384_S8x128x128x16384_0_1_2_3 (broadcastInDim S8x1x128x16384 ![0, 2, 3] bcast_S8x128x16384_S8x1x128x16384_0_2_3 (A6 V0)))) (broadcastInDim S8x128x128x16384 ![] bcast_S_S8x128x128x16384 (id (constant S_ .f32 0x00000000#32)))) (constant S_ .f32 0x00000000#32) reducesTo_S8x128x128x16384_S128x128x16384_d0 h_S_

abbrev weights : FVec Ideal S16384x16384 .f32 :=
  mulf (transpose S16384x16384 [1, 0] (shapeCast _ (gates V0) shapeCasts_S128x128x16384_S16384x16384) transposes_S16384x16384_S16384x16384_1_0) (mulf (dots V0) (mulf (broadcastInDim S16384x16384 ![] bcast_S_S16384x16384 (constant S_ .f32 0x3F000000#32)) (addf (broadcastInDim S16384x16384 ![] bcast_S_S16384x16384 (constant S_ .f32 0x3F800000#32)) (Host.tanh (mulf (broadcastInDim S16384x16384 ![] bcast_S_S16384x16384 (constant S_ .f32 0x3F4C422A#32)) (addf (dots V0) (mulf (broadcastInDim S16384x16384 ![] bcast_S_S16384x16384 (constant S_ .f32 0x3D372713#32)) (mulf (mulf (dots V0) (dots V0)) (dots V0)))))))))

theorem dots_apply (n e : Fin 16384) : dots V0 (ix2 n e) = ∑ x : Fin 1024, A1 V0 (ix2 e x) * A0 V0 (ix2 n x) := by
  refine Eq.trans (b := ∑ x : Fin 1024, A0 V0 (ix2 n x) * A1 V0 (ix2 e x)) ?_ (Finset.sum_congr rfl fun x _ => mul_comm _ _)
  pointwise [dots]

theorem gates_apply (i j : Fin 128) (n : Fin 16384) : gates V0 (ix3 i j n)
    = gateSum (headAt (A3 V0) i n) (headAt (A4 V0) i n) (headAt (A5 V0) j n) (headAt (A6 V0) j n) := by
  unfold gateSum
  rw [Finset.sum_range]
  pointwise [gates]
  refine Finset.sum_congr rfl fun h _ => ?_
  have hh : (⟨h.val % 8, Nat.mod_lt _ (by decide)⟩ : Fin 8) = h := Fin.ext (Nat.mod_eq_of_lt h.isLt)
  unfold headAt
  rw [hh, ← choice]
  refine if_congr Iff.rfl rfl ?_
  show (constant S_ .f32 0#32 : FVec Ideal S_ .f32) ix0 = (0 : EReal)
  pointwise []

theorem weights_apply (n e : Fin 16384) : weights V0 (ix2 n e)
    = gateSum (headAt (A3 V0) ⟨e.val / 128, by omega⟩ n) (headAt (A4 V0) ⟨e.val / 128, by omega⟩ n)
        (headAt (A5 V0) ⟨e.val % 128, by omega⟩ n) (headAt (A6 V0) ⟨e.val % 128, by omega⟩ n)
      * gelu (∑ x : Fin 1024, A1 V0 (ix2 e x) * A0 V0 (ix2 n x)) := by
  have eg := fun i j => gates_apply V0 i j n
  have ed := dots_apply V0 n e
  generalize hG : gates V0 = G at eg
  generalize hD : dots V0 = D at ed
  unfold weights
  rw [hG, hD]
  pointwise []
  rw [eg, ed]
  refine congrArg (fun z : EReal => _ * z) ?_
  generalize (∑ x : Fin 1024, A1 V0 (ix2 e x) * A0 V0 (ix2 n x)) = y
  unfold gelu
  rw [mul_comm (y * y) y]

theorem ref_apply (n : Fin 16384) (d : Fin 1024) : (shapeCast S16384x1024 (addf (shapeCast _ (A7 V0) shapeCasts_S16384x1024_S4x4096x1024) (mulf (broadcastInDim S4x4096x1024 ![0, 1, 2] bcast_S4x1x1024_S4x4096x1024_0_1_2 (extractStridedSlice S4x1x1024 ![0, 5, 0] (shapeCast _ (A8 V0) shapeCasts_S24x1x1024_S4x6x1024) slices_S4x6x1024_S4x1x1024_0_5_0)) (shapeCast _ (Host.dotGeneral dot_S16384x16384_S16384x1024_S16384x1024_1_0_0_1_n_n none (weights V0) (A2 V0)) shapeCasts_S16384x1024_S4x4096x1024))) shapeCasts_S4x4096x1024_S16384x1024 : FVec Ideal S16384x1024 .f32) (ix2 n d)
    = peer (A0 V0) (A1 V0) (A2 V0) (A3 V0) (A4 V0) (A5 V0) (A6 V0) (A7 V0) (A8 V0) n d := by
  have e := fun y => weights_apply V0 n y
  generalize hW : weights V0 = W at e
  pointwise []
  simp only [e]
  unfold peer
  refine congrArg (fun z : EReal => A7 V0 (ix2 n d) + A8 V0 (ix3 (part n 5) 0 d) * z) (Finset.sum_congr rfl fun e _ => ?_)
  exact mul_comm (_ : EReal) _

theorem ref_arr : (shapeCast S16384x1024 (addf (shapeCast _ (A7 V0) shapeCasts_S16384x1024_S4x4096x1024) (mulf (broadcastInDim S4x4096x1024 ![0, 1, 2] bcast_S4x1x1024_S4x4096x1024_0_1_2 (extractStridedSlice S4x1x1024 ![0, 5, 0] (shapeCast _ (A8 V0) shapeCasts_S24x1x1024_S4x6x1024) slices_S4x6x1024_S4x1x1024_0_5_0)) (shapeCast _ (Host.dotGeneral dot_S16384x16384_S16384x1024_S16384x1024_1_0_0_1_n_n none (weights V0) (A2 V0)) shapeCasts_S16384x1024_S4x4096x1024))) shapeCasts_S4x4096x1024_S16384x1024 : FVec Ideal S16384x1024 .f32)
    = arr (peer (A0 V0) (A1 V0) (A2 V0) (A3 V0) (A4 V0) (A5 V0) (A6 V0) (A7 V0) (A8 V0)) := by
  funext i
  rw [← show ix2 (i 0) (i 1) = i from by funext a; fin_cases a <;> rfl]
  exact ref_apply V0 (i 0) (i 1)

end Cert.PeerDenseRefIdeal.Value

end
-- ==== Proof.PeerClaims.lean ====
module

public import proofs.«01_k».proof.Defs
public import proofs.«01_k».proof.Proof.PeerDenseValue
public import proofs.«01_k».proof.Proof.PeerDenseRef
public import proofs.«01_k».proof.Proof.Gen.PeerDense.Frame
public import proofs.«01_k».proof.Proof.Gen.PeerDenseIdeal.Frame

/-!
# The claims about the sum over the experts
-/

@[expose] public section

set_option maxRecDepth 16384

noncomputable section

open Idealize.ShloMosaic Idealize.SL.Sem

namespace Cert.PeerDenseClaims

theorem frame_p : Cert.quiescent_PeerDense (hPeerDense := Cert.PeerDense.Gen.facts) := fun m ρ _ => Cert.PeerDense.Gen.frame m ρ

theorem frame_pi : Cert.quiescent_PeerDenseIdeal (hPeerDenseIdeal := Cert.PeerDenseIdeal.Gen.facts) := fun m ρ _ => Cert.PeerDenseIdeal.Gen.frame m ρ

theorem frame_ri : Cert.quiescent_PeerDenseRefIdeal (hPeerDenseRefIdeal := Cert.PeerDenseRefIdeal.Gen.facts) := fun m ρ _ =>
  (θ_run Cert.PeerDenseRefIdeal.defs _ _).mono (fun r h => ⟨fun c => (h c).2, sem_eq_zero_of_no_sems (by decide) r.2⟩)
    (Cert.PeerDenseRefIdeal.Value.run (F := Ideal) m ρ)

theorem algebraic : Cert.algebraic_PeerDenseIdeal_PeerDenseRefIdeal (hPeerDenseIdeal := Cert.PeerDenseIdeal.Gen.facts)
    (hPeerDenseRefIdeal := Cert.PeerDenseRefIdeal.Gen.facts) := fun m ρ m' ρ' _ hag =>
  ⟨fun c => Cert.PeerDenseIdeal.Value.result9 m c,
    (θ_run Cert.PeerDenseIdeal.defs _ _).mono (fun r h c => ⟨(h c).1.trans (Cert.PeerDenseIdeal.Value.final9_val m c), (h c).2⟩)
      (Cert.PeerDenseIdeal.Value.run_blocks (F := Ideal) m ρ),
    (θ_run Cert.PeerDenseRefIdeal.defs _ _).mono (fun r h c => ⟨(h c).1.trans (by
        obtain ⟨h0, h1, h2, h3, h4, h5, h6, h7, h8⟩ := hag c
        refine (Cert.PeerDenseRefIdeal.Value.ref_arr (StableHlo.launchContents m' c)).trans ?_
        show Cert.Lin.arr (Cert.Lin.peer (m' ((c.tc : Thread Cert.PeerDenseRefIdeal.nD Cert.PeerDenseRefIdeal.τ).loc Cert.PeerDenseRefIdeal.main_arg0)) (m' ((c.tc : Thread Cert.PeerDenseRefIdeal.nD Cert.PeerDenseRefIdeal.τ).loc Cert.PeerDenseRefIdeal.main_arg1)) (m' ((c.tc : Thread Cert.PeerDenseRefIdeal.nD Cert.PeerDenseRefIdeal.τ).loc Cert.PeerDenseRefIdeal.main_arg2)) (m' ((c.tc : Thread Cert.PeerDenseRefIdeal.nD Cert.PeerDenseRefIdeal.τ).loc Cert.PeerDenseRefIdeal.main_arg3)) (m' ((c.tc : Thread Cert.PeerDenseRefIdeal.nD Cert.PeerDenseRefIdeal.τ).loc Cert.PeerDenseRefIdeal.main_arg4)) (m' ((c.tc : Thread Cert.PeerDenseRefIdeal.nD Cert.PeerDenseRefIdeal.τ).loc Cert.PeerDenseRefIdeal.main_arg5)) (m' ((c.tc : Thread Cert.PeerDenseRefIdeal.nD Cert.PeerDenseRefIdeal.τ).loc Cert.PeerDenseRefIdeal.main_arg6)) (m' ((c.tc : Thread Cert.PeerDenseRefIdeal.nD Cert.PeerDenseRefIdeal.τ).loc Cert.PeerDenseRefIdeal.main_arg7)) (m' ((c.tc : Thread Cert.PeerDenseRefIdeal.nD Cert.PeerDenseRefIdeal.τ).loc Cert.PeerDenseRefIdeal.main_arg8))) = _
        rw [h0, h1, h2, h3, h4, h5, h6, h7, h8]),
      (h c).2⟩)
      (Cert.PeerDenseRefIdeal.Value.run (F := Ideal) m' ρ')⟩

end Cert.PeerDenseClaims

end
-- ==== Proof.AdaSpec.lean ====
module

public import proofs.«01_k».proof.Proof.LinSpec

/-!
# The modulation vectors, as mathematics
-/

@[expose] public section

noncomputable section

namespace Cert.Lin

open Idealize.ShloMosaic

/-- Every layer's linear map of the conditioning's smooth ramp. -/
def modulation (C : (⟨2, ![136, 1024]⟩ : Shape).Idx → EReal) (W : (⟨3, ![4, 1024, 6144]⟩ : Shape).Idx → EReal)
    (B : (⟨2, ![4, 6144]⟩ : Shape).Idx → EReal) (l : Fin 4) (n : Fin 136) (d : Fin 6144) : EReal :=
  ∑ x : Fin 1024, C (ix2 n x) * Ideal.logistic (C (ix2 n x)) * W (ix3 l x d) + B (ix2 l d)

/-- An array of layers, rows and lanes from its entries. -/
abbrev arr3 (f : Fin 4 → Fin 136 → Fin 6144 → EReal) : (⟨3, ![4, 136, 6144]⟩ : Shape).Idx → EReal := fun i => f (i 0) (i 1) (i 2)

end Cert.Lin

end
-- ==== Proof.AdaValue.lean ====
module

public import proofs.«01_k».proof.Proof.Gen.AdaIdeal.Value
public import proofs.«01_k».proof.Proof.AdaSpec
public import Idealize.ShloMosaic.Lib.StableHlo.Run

/-!
# The kernel of the modulation vectors

Every grid point's blocks are parts of the arguments, so what it writes is its block of the result; the blocks cover the
array.
-/

@[expose] public section

set_option maxRecDepth 16384

noncomputable section

namespace Cert.AdaIdeal.Value

open Cert.AdaIdeal Cert.AdaIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S136x1024 .f32 := m ((c : Thread nD τ).loc main_arg0)
abbrev arg1 : FVec Ideal S4x1024x6144 .f32 := m ((c : Thread nD τ).loc main_arg1)
abbrev arg2 : FVec Ideal S4x6144 .f32 := m ((c : Thread nD τ).loc main_arg2)

theorem V_v0 : V m c main_v0 = shapeCast S4x1x6144 (arg2 m c) shapeCasts_S4x6144_S4x1x6144 := by
  show StableHlo.after hostOps0 (fun b => m (c, b)) main_v0 = _
  after_results <;> rfl

/-- The windows' block indices at a grid point. -/
theorem win_index : ∀ t : Fin grid0.N,
    win0_0.index t 0 = 0
    ∧ win0_0.index t 1 = 0
    ∧ win0_1.index t 0 = t.val / 6
    ∧ win0_1.index t 1 = 0
    ∧ win0_1.index t 2 = t.val % 6
    ∧ win0_2.index t 0 = t.val / 6
    ∧ win0_2.index t 1 = 0
    ∧ win0_2.index t 2 = t.val % 6
    ∧ win0_3.index t 0 = t.val / 6
    ∧ win0_3.index t 1 = 0
    ∧ win0_3.index t 2 = t.val % 6 := by decide +kernel

/-- Point `t`'s layer. -/
abbrev layer (t : Fin cfg0.N) : Fin 4 := ⟨t.val / 6, by have : t.val < 24 := t.isLt; omega⟩

/-- Lane `d` of point `t`'s lanes. -/
abbrev lane (t : Fin cfg0.N) (d : Fin 1024) : Fin 6144 := ⟨t.val % 6 * 1024 + d.val, by omega⟩

theorem iblk0 (t : Fin cfg0.N) (n : Fin 136) (x : Fin 1024) :
    (iblk m c 0 t : Vec Ideal S136x1024 .f32) (ix2 n x) = arg0 m c (ix2 n x) := by
  obtain ⟨h0_0, h0_1, h1_0, h1_1, h1_2, h2_0, h2_1, h2_2, h3_0, h3_1, h3_2⟩ := win_index t
  unfold iblk
  rw [View.read_apply]
  refine (congrFun (V_main_arg0 m c) _).trans ?_
  refine congrArg (arg0 m c) (funext fun a => Fin.ext ?_)
  fin_cases a
  · show win0_0.index t 0 * 136 + 1 * n.val = n.val
    rw [h0_0]; omega
  · show win0_0.index t 1 * 1024 + 1 * x.val = x.val
    rw [h0_1]; omega

theorem iblk1 (t : Fin cfg0.N) (x d : Fin 1024) :
    (iblk m c 1 t : Vec Ideal S1x1024x1024 .f32) (ix3 0 x d) = arg1 m c (ix3 (layer t) x (lane t d)) := by
  obtain ⟨h0_0, h0_1, h1_0, h1_1, h1_2, h2_0, h2_1, h2_2, h3_0, h3_1, h3_2⟩ := win_index t
  unfold iblk
  rw [View.read_apply]
  refine (congrFun (V_main_arg1 m c) _).trans ?_
  refine congrArg (arg1 m c) (funext fun a => Fin.ext ?_)
  fin_cases a
  · show win0_1.index t 0 * 1 + 1 * 0 = t.val / 6
    rw [h1_0]; omega
  · show win0_1.index t 1 * 1024 + 1 * x.val = x.val
    rw [h1_1]; omega
  · show win0_1.index t 2 * 1024 + 1 * d.val = t.val % 6 * 1024 + d.val
    rw [h1_2]; omega

theorem iblk2_V (t : Fin cfg0.N) (d : Fin 1024) :
    (iblk m c 2 t : Vec Ideal S1x1x1024 .f32) (ix3 0 0 d) = (V m c main_v0 : Vec Ideal S4x1x6144 .f32) (ix3 (layer t) 0 (lane t d)) := by
  obtain ⟨h0_0, h0_1, h1_0, h1_1, h1_2, h2_0, h2_1, h2_2, h3_0, h3_1, h3_2⟩ := win_index t
  unfold iblk
  rw [View.read_apply]
  refine congrArg (V m c main_v0) (funext fun a => Fin.ext ?_)
  fin_cases a
  · show win0_2.index t 0 * 1 + 1 * 0 = t.val / 6
    rw [h2_0]; omega
  · show win0_2.index t 1 * 1 + 1 * 0 = 0
    rw [h2_1]
  · show win0_2.index t 2 * 1024 + 1 * d.val = t.val % 6 * 1024 + d.val
    rw [h2_2]; omega

theorem iblk2 (t : Fin cfg0.N) (d : Fin 1024) :
    (iblk m c 2 t : Vec Ideal S1x1x1024 .f32) (ix3 0 0 d) = arg2 m c (ix2 (layer t) (lane t d)) := by
  rw [iblk2_V, V_v0]
  pointwise []

/-- The point's block: its one store covers it. -/
theorem out3_eq (x0 : Vec Ideal S136x1024 .f32) (x1 : Vec Ideal S1x1024x1024 .f32) (x2 : Vec Ideal S1x1x1024 .f32) :
    out0_3 x0 x1 x2 = k0_pay1 x0 x1 x2 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_3
  rw [View.canon_unit_zero (S := S1x136x1024) h3]
  simp only [View.ld_unit_zero (S := S136x1024) h2, View.ld_unit_zero (S := S1x1024x1024) h3, View.ld_unit_zero (S := S1x1x1024) h3]

theorem point3 (t : Fin cfg0.N) (n : Fin 136) (d : Fin 1024) :
    out0_3 (iblk m c 0 t) (iblk m c 1 t) (iblk m c 2 t) (ix3 0 n d)
      = modulation (arg0 m c) (arg1 m c) (arg2 m c) (layer t) n (lane t d) := by
  rw [out3_eq]
  pointwise [k0_pay1]
  simp only [iblk0, iblk1, iblk2]
  rfl

/-- The kernel's result. -/
abbrev result3 : Buf (Elt Ideal) ((c : Thread nD τ).loc main_v1) := arr3 (modulation (arg0 m c) (arg1 m c) (arg2 m c))

theorem cut3 (i : grid0.Coords) (X : Vec Ideal S1x136x1024 .f32) (j) : (cfg0.win 3).cut i X j = X (ix3 0 (j 1) (j 2)) := by
  have h0 : (j 0 : ℕ) < 1 := (j 0).isLt
  refine congrArg X (funext fun a => ?_)
  fin_cases a
  · exact Fin.ext (by show (j 0 : ℕ) = 0; omega)
  · rfl
  · rfl

theorem flushed3_eq (t : Fin cfg0.N) (hf : (cfg0.win 3).flush t = true) :
    (dats m 0 c).flushed 3 t = ((cfg0.win 3).blk t).view.read (Elt Ideal) (result3 m c) := by
  obtain ⟨h0_0, h0_1, h1_0, h1_1, h1_2, h2_0, h2_1, h2_2, h3_0, h3_1, h3_2⟩ := win_index t
  rw [flushed3]
  funext j
  have h0 : (j 0 : ℕ) < 1 := (j 0).isLt
  rw [cut3]
  refine (point3 m c t (j 1) (j 2)).trans ?_
  rw [View.read_apply]
  refine congr (congr (congrArg _ (Fin.ext ?_)) (Fin.ext ?_)) (Fin.ext ?_)
  · show t.val / 6 = win0_3.index t 0 * 1 + 1 * (j 0).val
    rw [h3_0]; omega
  · show (j 1).val = win0_3.index t 1 * 136 + 1 * (j 1).val
    rw [h3_1]; omega
  · show t.val % 6 * 1024 + (j 2).val = win0_3.index t 2 * 1024 + 1 * (j 2).val
    rw [h3_2]; omega

theorem final3 : (dats m 0 c).arrAt 3 cfg0.N = result3 m c :=
  (dats m 0 c).arrAt_eq_of_cover 3 (result3 m c) (flushed3_eq m c) fun i => by
    have i0 : (i 0 : ℕ) < 4 := (i 0).isLt
    have i1 : (i 1 : ℕ) < 136 := (i 1).isLt
    have i2 : (i 2 : ℕ) < 6144 := (i 2).isLt
    have hN : (i 0 : ℕ) * 6 + (i 2 : ℕ) / 1024 < grid0.N := by show (i 0 : ℕ) * 6 + (i 2 : ℕ) / 1024 < 24; omega
    obtain ⟨h0_0, h0_1, h1_0, h1_1, h1_2, h2_0, h2_1, h2_2, h3_0, h3_1, h3_2⟩ := win_index ⟨(i 0 : ℕ) * 6 + (i 2 : ℕ) / 1024, hN⟩
    refine ⟨⟨(i 0 : ℕ) * 6 + (i 2 : ℕ) / 1024, hN⟩, flush0_3 _, ?_⟩
    show i ∈ ((View.whole main_v1).slice (win0_3.rect ⟨(i 0 : ℕ) * 6 + (i 2 : ℕ) / 1024, hN⟩)).set
    rw [View.set_slice_whole, Rect.mem_set_unit]
    intro a
    match a with
    | ⟨0, _⟩ =>
      show win0_3.index ⟨(i 0 : ℕ) * 6 + (i 2 : ℕ) / 1024, hN⟩ 0 * 1 ≤ (i 0 : ℕ) ∧ (i 0 : ℕ) < win0_3.index ⟨(i 0 : ℕ) * 6 + (i 2 : ℕ) / 1024, hN⟩ 0 * 1 + 1
      rw [h3_0]; show ((i 0 : ℕ) * 6 + (i 2 : ℕ) / 1024) / 6 * 1 ≤ (i 0 : ℕ) ∧ (i 0 : ℕ) < ((i 0 : ℕ) * 6 + (i 2 : ℕ) / 1024) / 6 * 1 + 1; omega
    | ⟨1, _⟩ =>
      show win0_3.index ⟨(i 0 : ℕ) * 6 + (i 2 : ℕ) / 1024, hN⟩ 1 * 136 ≤ (i 1 : ℕ) ∧ (i 1 : ℕ) < win0_3.index ⟨(i 0 : ℕ) * 6 + (i 2 : ℕ) / 1024, hN⟩ 1 * 136 + 136
      rw [h3_1]; omega
    | ⟨2, _⟩ =>
      show win0_3.index ⟨(i 0 : ℕ) * 6 + (i 2 : ℕ) / 1024, hN⟩ 2 * 1024 ≤ (i 2 : ℕ) ∧ (i 2 : ℕ) < win0_3.index ⟨(i 0 : ℕ) * 6 + (i 2 : ℕ) / 1024, hN⟩ 2 * 1024 + 1024
      rw [h3_2]; show ((i 0 : ℕ) * 6 + (i 2 : ℕ) / 1024) % 6 * 1024 ≤ (i 2 : ℕ) ∧ (i 2 : ℕ) < ((i 0 : ℕ) * 6 + (i 2 : ℕ) / 1024) % 6 * 1024 + 1024; omega

end Cert.AdaIdeal.Value

end
-- ==== Proof.AdaRef.lean ====
module

public import proofs.«01_k».proof.Proof.Gen.AdaRefIdeal.Run
public import proofs.«01_k».proof.Proof.AdaSpec

/-!
# The modulation vectors' reference, read index by index
-/

@[expose] public section

set_option maxRecDepth 16384

noncomputable section

namespace Cert.AdaRefIdeal.Value

open Cert.AdaRefIdeal Cert.AdaRefIdeal.Gen Idealize.ShloMosaic Idealize.ShloMosaic.TcCoe Idealize.SL.Sem
open Idealize.ShloMosaic.Pointwise
open Cert.Lin

/-- The reference's result, from its arguments. -/
def refT (A0 : FVec Ideal S136x1024 .f32) (A1 : FVec Ideal S4x1024x6144 .f32) (A2 : FVec Ideal S4x6144 .f32) : FVec Ideal S4x136x6144 .f32 :=
  addf (transpose S4x136x6144 [0, 2, 1] (Host.dotGeneral dot_S4x1024x6144_S136x1024_S4x6144x136_1_1_02_0_n_n none A1 (mulf A0 (Host.divf (broadcastInDim S136x1024 ![] bcast_S_S136x1024 (constant S_ .f32 0x3F800000#32)) (addf (broadcastInDim S136x1024 ![] bcast_S_S136x1024 (constant S_ .f32 0x3F800000#32)) (Host.exp (Host.negf A0)))))) transposes_S4x6144x136_S4x136x6144_0_2_1) (broadcastInDim S4x136x6144 ![0, 1, 2] bcast_S4x1x6144_S4x136x6144_0_1_2 (broadcastInDim S4x1x6144 ![0, 2] bcast_S4x6144_S4x1x6144_0_2 A2))

theorem ref_apply (A0 : FVec Ideal S136x1024 .f32) (A1 : FVec Ideal S4x1024x6144 .f32) (A2 : FVec Ideal S4x6144 .f32) (l : Fin 4) (n : Fin 136) (d : Fin 6144) :
    refT A0 A1 A2 (ix3 l n d) = modulation A0 A1 A2 l n d := by
  pointwise [refT]
  unfold modulation
  refine congrArg (fun z : EReal => z + A2 (ix2 l d)) (Finset.sum_congr rfl fun x _ => mul_comm (_ : EReal) _)

theorem ref_arr (A0 : FVec Ideal S136x1024 .f32) (A1 : FVec Ideal S4x1024x6144 .f32) (A2 : FVec Ideal S4x6144 .f32) :
    refT A0 A1 A2 = arr3 (modulation A0 A1 A2) := by
  funext i
  rw [← show ix3 (i 0) (i 1) (i 2) = i from by funext a; fin_cases a <;> rfl]
  exact ref_apply A0 A1 A2 (i 0) (i 1) (i 2)

end Cert.AdaRefIdeal.Value

end
-- ==== Proof.FinalNormValue.lean ====
module

public import proofs.«01_k».proof.Proof.Gen.FinalNormIdeal.Value
public import proofs.«01_k».proof.Proof.LinSpec
public import Idealize.ShloMosaic.Lib.StableHlo.Run

/-!
# The kernel of the last norm

Every grid point's blocks are rows of the arguments, so what it writes is its block of the result; the blocks cover the
array.
-/

@[expose] public section

set_option maxRecDepth 16384

noncomputable section

namespace Cert.FinalNormIdeal.Value

open Cert.FinalNormIdeal Cert.FinalNormIdeal.Gen Idealize.ShloMosaic Idealize.ShloMosaic.TcCoe Idealize.SL.Sem
open Idealize.ShloMosaic.Pointwise
open Idealize.ShloMosaic.Pipeline (Dat)
open Cert.Lin

variable (m : (ℓ : Loc nD τ sig) → Buf (Elt Ideal) ℓ) (c : Dev nD)

abbrev arg0 : FVec Ideal S16384x1024 .f32 := m ((c : Thread nD τ).loc main_arg0)
abbrev arg1 : FVec Ideal S1024 .f32 := m ((c : Thread nD τ).loc main_arg1)

theorem V_v0 : V m c main_v0 = shapeCast S1x1024 (arg1 m c) shapeCasts_S1024_S1x1024 := by
  show StableHlo.after hostOps0 (fun b => m (c, b)) main_v0 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = t.val
    ∧ win0_2.index t 1 = 0 := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1) (x : Fin 1024) :
    (iblk m c 1 t : Vec Ideal S1x1024 .f32) (ix2 p x) = (V m c main_v0 : Vec Ideal S1x1024 .f32) (ix2 p x) := by
  obtain ⟨h0_0, h0_1, h1_0, h1_1, h2_0, h2_1⟩ := win_index t
  unfold iblk
  rw [View.read_apply]
  refine congrArg (V m c main_v0) (funext fun a => Fin.ext ?_)
  fin_cases a
  · show win0_1.index t 0 * 1 + 1 * p.val = p.val
    rw [h1_0]; omega
  · show win0_1.index t 1 * 1024 + 1 * x.val = x.val
    rw [h1_1]; omega

theorem iblk1g (t : Fin cfg0.N) (x : Fin 1024) :
    (iblk m c 1 t : Vec Ideal S1x1024 .f32) (ix2 0 x) = arg1 m c (ix1 x) := by
  rw [iblk1_V, V_v0]
  pointwise []

/-- The point's block: its one store covers it. -/
theorem out2_eq (x0 : Vec Ideal S256x1024 .f32) (x1 : Vec Ideal S1x1024 .f32) : out0_2 x0 x1 = k0_pay1 x0 x1 := by
  have h2 : ((![0, 0] : Fin 2 → ℕ)) = fun _ => 0 := by funext a; fin_cases a <;> rfl
  have h3 : ((![0, 0, 0] : Fin 3 → ℕ)) = fun _ => 0 := by funext a; fin_cases a <;> rfl
  unfold out0_2
  rw [View.canon_unit_zero (S := S256x1024) h2]
  simp only [View.ld_unit_zero (S := S256x1024) h2, View.ld_unit_zero (S := S1x1024) h2]

theorem point2 (t : Fin cfg0.N) (r : Fin 256) (d : Fin 1024) :
    out0_2 (iblk m c 0 t) (iblk m c 1 t) (ix2 r d) = normed (arg0 m c) (arg1 m c) (row t r) d := by
  rw [out2_eq]
  pointwise [k0_pay1]
  simp only [iblk0, iblk1g]
  rfl

/-- The kernel's result. -/
abbrev result2 : Buf (Elt Ideal) ((c : Thread nD τ).loc main_v1) := arr (normed (arg0 m c) (arg1 m c))

theorem cut2 (i : grid0.Coords) (X : Vec Ideal S256x1024 .f32) (j) : (cfg0.win 2).cut i X j = X (ix2 (j 0) (j 1)) := by
  refine congrArg X (funext fun a => ?_)
  fin_cases a <;> rfl

theorem flushed2_eq (t : Fin cfg0.N) (hf : (cfg0.win 2).flush t = true) :
    (dats m 0 c).flushed 2 t = ((cfg0.win 2).blk t).view.read (Elt Ideal) (result2 m c) := by
  obtain ⟨h0_0, h0_1, h1_0, h1_1, h2_0, h2_1⟩ := win_index t
  rw [flushed2]
  funext j
  rw [cut2]
  refine (point2 m c t (j 0) (j 1)).trans ?_
  rw [View.read_apply]
  refine congr (congrArg _ (Fin.ext ?_)) (Fin.ext ?_)
  · show t.val * 256 + (j 0).val = win0_2.index t 0 * 256 + 1 * (j 0).val
    rw [h2_0]; omega
  · show (j 1).val = win0_2.index t 1 * 1024 + 1 * (j 1).val
    rw [h2_1]; omega

theorem final2 : (dats m 0 c).arrAt 2 cfg0.N = result2 m c :=
  (dats m 0 c).arrAt_eq_of_cover 2 (result2 m c) (flushed2_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1⟩ := win_index ⟨(i 0 : ℕ) / 256, hN⟩
    refine ⟨⟨(i 0 : ℕ) / 256, hN⟩, flush0_2 _, ?_⟩
    show i ∈ ((View.whole main_v1).slice (win0_2.rect ⟨(i 0 : ℕ) / 256, hN⟩)).set
    rw [View.set_slice_whole, Rect.mem_set_unit]
    intro a
    match a with
    | ⟨0, _⟩ =>
      show win0_2.index ⟨(i 0 : ℕ) / 256, hN⟩ 0 * 256 ≤ (i 0 : ℕ) ∧ (i 0 : ℕ) < win0_2.index ⟨(i 0 : ℕ) / 256, hN⟩ 0 * 256 + 256
      rw [h2_0]; show (i 0 : ℕ) / 256 * 256 ≤ (i 0 : ℕ) ∧ (i 0 : ℕ) < (i 0 : ℕ) / 256 * 256 + 256; omega
    | ⟨1, _⟩ =>
      show win0_2.index ⟨(i 0 : ℕ) / 256, hN⟩ 1 * 1024 ≤ (i 1 : ℕ) ∧ (i 1 : ℕ) < win0_2.index ⟨(i 0 : ℕ) / 256, hN⟩ 1 * 1024 + 1024
      rw [h2_1]; omega

end Cert.FinalNormIdeal.Value

end
-- ==== Proof.FinalNormRef.lean ====
module

public import proofs.«01_k».proof.Proof.Gen.FinalNormRefIdeal.Run
public import proofs.«01_k».proof.Proof.LinSpec

/-!
# The last norm's reference, read index by index
-/

@[expose] public section

set_option maxRecDepth 16384

noncomputable section

namespace Cert.FinalNormRefIdeal.Value

open Cert.FinalNormRefIdeal Cert.FinalNormRefIdeal.Gen Idealize.ShloMosaic Idealize.ShloMosaic.TcCoe Idealize.SL.Sem
open Idealize.ShloMosaic.Pointwise
open Cert.Lin

/-- The reference's result, from its arguments. -/
def refT (A0 : FVec Ideal S16384x1024 .f32) (A1 : FVec Ideal S1024 .f32) : FVec Ideal S16384x1024 .f32 :=
  mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))

theorem ref_apply (A0 : FVec Ideal S16384x1024 .f32) (A1 : FVec Ideal S1024 .f32) (n : Fin 16384) (d : Fin 1024) :
    refT A0 A1 (ix2 n d) = normed A0 A1 n d := by
  pointwise [refT]
  rfl

theorem ref_arr (A0 : FVec Ideal S16384x1024 .f32) (A1 : FVec Ideal S1024 .f32) : refT A0 A1 = arr (normed A0 A1) := by
  funext i
  rw [← show ix2 (i 0) (i 1) = i from by funext a; fin_cases a <;> rfl]
  exact ref_apply A0 A1 (i 0) (i 1)

end Cert.FinalNormRefIdeal.Value

end
-- ==== Proof.NormClaims.lean ====
module

public import proofs.«01_k».proof.Defs
public import proofs.«01_k».proof.Proof.AdaValue
public import proofs.«01_k».proof.Proof.AdaRef
public import proofs.«01_k».proof.Proof.Gen.Ada.Frame
public import proofs.«01_k».proof.Proof.Gen.AdaIdeal.Frame
public import proofs.«01_k».proof.Proof.FinalNormValue
public import proofs.«01_k».proof.Proof.FinalNormRef
public import proofs.«01_k».proof.Proof.Gen.FinalNorm.Frame
public import proofs.«01_k».proof.Proof.Gen.FinalNormIdeal.Frame

/-!
# The claims about the modulation vectors and the last norm
-/

@[expose] public section

set_option maxRecDepth 16384

noncomputable section

open Idealize.ShloMosaic Idealize.SL.Sem

namespace Cert.AdaClaims

theorem frame_p : Cert.quiescent_Ada (hAda := Cert.Ada.Gen.facts) := fun m ρ _ => Cert.Ada.Gen.frame m ρ

theorem frame_pi : Cert.quiescent_AdaIdeal (hAdaIdeal := Cert.AdaIdeal.Gen.facts) := fun m ρ _ => Cert.AdaIdeal.Gen.frame m ρ

theorem frame_ri : Cert.quiescent_AdaRefIdeal (hAdaRefIdeal := Cert.AdaRefIdeal.Gen.facts) := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic : Cert.algebraic_AdaIdeal_AdaRefIdeal (hAdaIdeal := Cert.AdaIdeal.Gen.facts)
    (hAdaRefIdeal := Cert.AdaRefIdeal.Gen.facts) := fun m ρ m' ρ' _ hag =>
  ⟨fun c => Cert.AdaIdeal.Value.result3 m c,
    (θ_run Cert.AdaIdeal.defs _ _).mono (fun r h c => ⟨(h c).1.trans (Cert.AdaIdeal.Value.final3 m c), (h c).2⟩)
      (Cert.AdaIdeal.Value.run_blocks (F := Ideal) m ρ),
    (θ_run Cert.AdaRefIdeal.defs _ _).mono (fun r h c => ⟨(h c).1.trans (by
        obtain ⟨h0, h1, h2⟩ := hag c
        refine (Cert.AdaRefIdeal.Value.ref_arr (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2))).trans ?_
        rw [h0, h1, h2]),
      (h c).2⟩)
      (Cert.AdaRefIdeal.Value.run (F := Ideal) m' ρ')⟩

end Cert.AdaClaims

namespace Cert.FinalNormClaims

theorem frame_p : Cert.quiescent_FinalNorm (hFinalNorm := Cert.FinalNorm.Gen.facts) := fun m ρ _ => Cert.FinalNorm.Gen.frame m ρ

theorem frame_pi : Cert.quiescent_FinalNormIdeal (hFinalNormIdeal := Cert.FinalNormIdeal.Gen.facts) := fun m ρ _ => Cert.FinalNormIdeal.Gen.frame m ρ

theorem frame_ri : Cert.quiescent_FinalNormRefIdeal (hFinalNormRefIdeal := Cert.FinalNormRefIdeal.Gen.facts) := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

theorem algebraic : Cert.algebraic_FinalNormIdeal_FinalNormRefIdeal (hFinalNormIdeal := Cert.FinalNormIdeal.Gen.facts)
    (hFinalNormRefIdeal := Cert.FinalNormRefIdeal.Gen.facts) := fun m ρ m' ρ' _ hag =>
  ⟨fun c => Cert.FinalNormIdeal.Value.result2 m c,
    (θ_run Cert.FinalNormIdeal.defs _ _).mono (fun r h c => ⟨(h c).1.trans (Cert.FinalNormIdeal.Value.final2 m c), (h c).2⟩)
      (Cert.FinalNormIdeal.Value.run_blocks (F := Ideal) m ρ),
    (θ_run Cert.FinalNormRefIdeal.defs _ _).mono (fun r h c => ⟨(h c).1.trans (by
        obtain ⟨h0, h1⟩ := hag c
        refine (Cert.FinalNormRefIdeal.Value.ref_arr (m' ((c.tc : Thread Cert.FinalNormRefIdeal.nD Cert.FinalNormRefIdeal.τ).loc Cert.FinalNormRefIdeal.main_arg0)) (m' ((c.tc : Thread Cert.FinalNormRefIdeal.nD Cert.FinalNormRefIdeal.τ).loc Cert.FinalNormRefIdeal.main_arg1))).trans ?_
        rw [h0, h1]),
      (h c).2⟩)
      (Cert.FinalNormRefIdeal.Value.run (F := Ideal) m' ρ')⟩

end Cert.FinalNormClaims

end
-- ==== Proof.PeerSelectIdealRun.lean ====
module

public import proofs.«01_k».proof.Proof.Gen.PeerSelectIdeal.Frame
public import proofs.«01_k».proof.Proof.Gen.PeerSelectIdeal.Loops
public import Idealize.ShloMosaic.Lib.Claim

/-!
# The run of the selection's body

From whole buffers at any contents the body runs to the end: the inputs' buffers are as before, and every output's buffer has
got the pieces that are named below.
-/

@[expose] public section

set_option maxRecDepth 16384

noncomputable section

namespace Cert.PeerSelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The piece that the body writes into the buffer of the normed and modulated rows. -/
noncomputable def raw7 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) : List (View.Piece (Elt F) S256x1024 .bf16) :=
  [⟨Rect.unit ![0, 0] S256x1024.size inb_S256x1024_S256x1024_0_0, k0_pay882 (View.readAt (Elt F) arg1.view (Rect.unit (s := S256x1024) ![0, 0] S256x1024.size inb_S256x1024_S256x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1x1x1024) ![0, 0, 0] S1x1x1024.size inb_S1x1x1024_S1x1x1024_0_0_0).toLoadRect (harg3.unread x2)) (View.readAt (Elt F) arg4.view (Rect.unit (s := S1x1x1024) ![0, 0, 0] S1x1x1024.size inb_S1x1x1024_S1x1x1024_0_0_0).toLoadRect (harg4.unread x3))⟩]

/-- The queries of the tile's rows, before they are taken apart into heads. -/
noncomputable abbrev raw30 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) : FVec F S2048x256 .bf16 := k0_pay883 (View.readAt (Elt F) arg1.view (Rect.unit (s := S256x1024) ![0, 0] S256x1024.size inb_S256x1024_S256x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1x1x1024) ![0, 0, 0] S1x1x1024.size inb_S1x1x1024_S1x1x1024_0_0_0).toLoadRect (harg3.unread x2)) (View.readAt (Elt F) arg4.view (Rect.unit (s := S1x1x1024) ![0, 0, 0] S1x1x1024.size inb_S1x1x1024_S1x1x1024_0_0_0).toLoadRect (harg4.unread x3)) (View.readAt (Elt F) arg5.view (Rect.unit (s := S2048x1024) ![0, 0] S2048x1024.size inb_S2048x1024_S2048x1024_0_0).toLoadRect (harg5.unread x4))

/-- The pieces that the body writes into the scores' scratch, the last written first. -/
noncomputable def raw12 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) : List (View.Piece (Elt F) S16x128x256 .f32) :=
  [⟨Rect.unit (s := S16x128x256) ![15, 0, 0] S1x128x256.size inb_S16x128x256_S1x128x256_15_0_0, k0_pay903 (raw30 arg1 harg1 arg2 harg2 arg3 harg3 arg4 harg4 arg5 harg5 arg6 harg6 x0 x1 x2 x3 x4 x5) (View.readAt (Elt F) arg6.view (Rect.unit (s := S16x128x128) ![15, 0, 0] S1x128x128.size inb_S16x128x128_S1x128x128_15_0_0).toLoadRect (harg6.unread x5))⟩,
    ⟨Rect.unit (s := S16x128x256) ![14, 0, 0] S1x128x256.size inb_S16x128x256_S1x128x256_14_0_0, k0_pay902 (raw30 arg1 harg1 arg2 harg2 arg3 harg3 arg4 harg4 arg5 harg5 arg6 harg6 x0 x1 x2 x3 x4 x5) (View.readAt (Elt F) arg6.view (Rect.unit (s := S16x128x128) ![14, 0, 0] S1x128x128.size inb_S16x128x128_S1x128x128_14_0_0).toLoadRect (harg6.unread x5))⟩,
    ⟨Rect.unit (s := S16x128x256) ![13, 0, 0] S1x128x256.size inb_S16x128x256_S1x128x256_13_0_0, k0_pay901 (raw30 arg1 harg1 arg2 harg2 arg3 harg3 arg4 harg4 arg5 harg5 arg6 harg6 x0 x1 x2 x3 x4 x5) (View.readAt (Elt F) arg6.view (Rect.unit (s := S16x128x128) ![13, 0, 0] S1x128x128.size inb_S16x128x128_S1x128x128_13_0_0).toLoadRect (harg6.unread x5))⟩,
    ⟨Rect.unit (s := S16x128x256) ![12, 0, 0] S1x128x256.size inb_S16x128x256_S1x128x256_12_0_0, k0_pay900 (k0_pay899 (raw30 arg1 harg1 arg2 harg2 arg3 harg3 arg4 harg4 arg5 harg5 arg6 harg6 x0 x1 x2 x3 x4 x5) (View.readAt (Elt F) arg6.view (Rect.unit (s := S16x128x128) ![12, 0, 0] S1x128x128.size inb_S16x128x128_S1x128x128_12_0_0).toLoadRect (harg6.unread x5)))⟩,
    ⟨Rect.unit (s := S16x128x256) ![11, 0, 0] S1x128x256.size inb_S16x128x256_S1x128x256_11_0_0, k0_pay898 (raw30 arg1 harg1 arg2 harg2 arg3 harg3 arg4 harg4 arg5 harg5 arg6 harg6 x0 x1 x2 x3 x4 x5) (View.readAt (Elt F) arg6.view (Rect.unit (s := S16x128x128) ![11, 0, 0] S1x128x128.size inb_S16x128x128_S1x128x128_11_0_0).toLoadRect (harg6.unread x5))⟩,
    ⟨Rect.unit (s := S16x128x256) ![10, 0, 0] S1x128x256.size inb_S16x128x256_S1x128x256_10_0_0, k0_pay897 (raw30 arg1 harg1 arg2 harg2 arg3 harg3 arg4 harg4 arg5 harg5 arg6 harg6 x0 x1 x2 x3 x4 x5) (View.readAt (Elt F) arg6.view (Rect.unit (s := S16x128x128) ![10, 0, 0] S1x128x128.size inb_S16x128x128_S1x128x128_10_0_0).toLoadRect (harg6.unread x5))⟩,
    ⟨Rect.unit (s := S16x128x256) ![9, 0, 0] S1x128x256.size inb_S16x128x256_S1x128x256_9_0_0, k0_pay896 (raw30 arg1 harg1 arg2 harg2 arg3 harg3 arg4 harg4 arg5 harg5 arg6 harg6 x0 x1 x2 x3 x4 x5) (View.readAt (Elt F) arg6.view (Rect.unit (s := S16x128x128) ![9, 0, 0] S1x128x128.size inb_S16x128x128_S1x128x128_9_0_0).toLoadRect (harg6.unread x5))⟩,
    ⟨Rect.unit (s := S16x128x256) ![8, 0, 0] S1x128x256.size inb_S16x128x256_S1x128x256_8_0_0, k0_pay895 (k0_pay894 (raw30 arg1 harg1 arg2 harg2 arg3 harg3 arg4 harg4 arg5 harg5 arg6 harg6 x0 x1 x2 x3 x4 x5) (View.readAt (Elt F) arg6.view (Rect.unit (s := S16x128x128) ![8, 0, 0] S1x128x128.size inb_S16x128x128_S1x128x128_8_0_0).toLoadRect (harg6.unread x5)))⟩,
    ⟨Rect.unit (s := S16x128x256) ![7, 0, 0] S1x128x256.size inb_S16x128x256_S1x128x256_7_0_0, k0_pay893 (raw30 arg1 harg1 arg2 harg2 arg3 harg3 arg4 harg4 arg5 harg5 arg6 harg6 x0 x1 x2 x3 x4 x5) (View.readAt (Elt F) arg6.view (Rect.unit (s := S16x128x128) ![7, 0, 0] S1x128x128.size inb_S16x128x128_S1x128x128_7_0_0).toLoadRect (harg6.unread x5))⟩,
    ⟨Rect.unit (s := S16x128x256) ![6, 0, 0] S1x128x256.size inb_S16x128x256_S1x128x256_6_0_0, k0_pay892 (raw30 arg1 harg1 arg2 harg2 arg3 harg3 arg4 harg4 arg5 harg5 arg6 harg6 x0 x1 x2 x3 x4 x5) (View.readAt (Elt F) arg6.view (Rect.unit (s := S16x128x128) ![6, 0, 0] S1x128x128.size inb_S16x128x128_S1x128x128_6_0_0).toLoadRect (harg6.unread x5))⟩,
    ⟨Rect.unit (s := S16x128x256) ![5, 0, 0] S1x128x256.size inb_S16x128x256_S1x128x256_5_0_0, k0_pay891 (raw30 arg1 harg1 arg2 harg2 arg3 harg3 arg4 harg4 arg5 harg5 arg6 harg6 x0 x1 x2 x3 x4 x5) (View.readAt (Elt F) arg6.view (Rect.unit (s := S16x128x128) ![5, 0, 0] S1x128x128.size inb_S16x128x128_S1x128x128_5_0_0).toLoadRect (harg6.unread x5))⟩,
    ⟨Rect.unit (s := S16x128x256) ![4, 0, 0] S1x128x256.size inb_S16x128x256_S1x128x256_4_0_0, k0_pay890 (k0_pay889 (raw30 arg1 harg1 arg2 harg2 arg3 harg3 arg4 harg4 arg5 harg5 arg6 harg6 x0 x1 x2 x3 x4 x5) (View.readAt (Elt F) arg6.view (Rect.unit (s := S16x128x128) ![4, 0, 0] S1x128x128.size inb_S16x128x128_S1x128x128_4_0_0).toLoadRect (harg6.unread x5)))⟩,
    ⟨Rect.unit (s := S16x128x256) ![3, 0, 0] S1x128x256.size inb_S16x128x256_S1x128x256_3_0_0, k0_pay888 (raw30 arg1 harg1 arg2 harg2 arg3 harg3 arg4 harg4 arg5 harg5 arg6 harg6 x0 x1 x2 x3 x4 x5) (View.readAt (Elt F) arg6.view (Rect.unit (s := S16x128x128) ![3, 0, 0] S1x128x128.size inb_S16x128x128_S1x128x128_3_0_0).toLoadRect (harg6.unread x5))⟩,
    ⟨Rect.unit (s := S16x128x256) ![2, 0, 0] S1x128x256.size inb_S16x128x256_S1x128x256_2_0_0, k0_pay887 (raw30 arg1 harg1 arg2 harg2 arg3 harg3 arg4 harg4 arg5 harg5 arg6 harg6 x0 x1 x2 x3 x4 x5) (View.readAt (Elt F) arg6.view (Rect.unit (s := S16x128x128) ![2, 0, 0] S1x128x128.size inb_S16x128x128_S1x128x128_2_0_0).toLoadRect (harg6.unread x5))⟩,
    ⟨Rect.unit (s := S16x128x256) ![1, 0, 0] S1x128x256.size inb_S16x128x256_S1x128x256_1_0_0, k0_pay886 (raw30 arg1 harg1 arg2 harg2 arg3 harg3 arg4 harg4 arg5 harg5 arg6 harg6 x0 x1 x2 x3 x4 x5) (View.readAt (Elt F) arg6.view (Rect.unit (s := S16x128x128) ![1, 0, 0] S1x128x128.size inb_S16x128x128_S1x128x128_1_0_0).toLoadRect (harg6.unread x5))⟩,
    ⟨Rect.unit (s := S16x128x256) ![0, 0, 0] S1x128x256.size inb_S16x128x256_S1x128x256_0_0_0, k0_pay885 (k0_pay884 (View.readAt (Elt F) arg1.view (Rect.unit (s := S256x1024) ![0, 0] S256x1024.size inb_S256x1024_S256x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1x1x1024) ![0, 0, 0] S1x1x1024.size inb_S1x1x1024_S1x1x1024_0_0_0).toLoadRect (harg3.unread x2)) (View.readAt (Elt F) arg4.view (Rect.unit (s := S1x1x1024) ![0, 0, 0] S1x1x1024.size inb_S1x1x1024_S1x1x1024_0_0_0).toLoadRect (harg4.unread x3)) (View.readAt (Elt F) arg5.view (Rect.unit (s := S2048x1024) ![0, 0] S2048x1024.size inb_S2048x1024_S2048x1024_0_0).toLoadRect (harg5.unread x4)) (View.readAt (Elt F) arg6.view (Rect.unit (s := S16x128x128) ![0, 0, 0] S1x128x128.size inb_S16x128x128_S1x128x128_0_0_0).toLoadRect (harg6.unread x5)))⟩]

set_option maxHeartbeats 1000000 in
/-- The body up to its loop: the normed rows and the scores are written. -/
theorem partA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole)
    (x0 : Vec F S256x1024 .f32) (x1 : Vec F S1x1024 .f32) (x2 : Vec F S1x1x1024 .f32) (x3 : Vec F S1x1x1024 .f32) (x4 : Vec F S2048x1024 .bf16) (x5 : Vec F S16x128x128 .bf16) (farg7 : BufTy.Contents (Elt F) arg7.view.ty) (farg12 : BufTy.Contents (Elt F) arg12.view.ty) (E : Set ℕ) (K : (Σ' (c0_i32 : BitVec 32), BitVec 32) → sProp (MT nD τ sig Unit (Elt F) ℕ (UR sig nD τ) ℕ)) :
    iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} farg7) ∗ (arg12.view.loc (c : Thread nD τ) ↦[arg12.view.set]{fullShare} farg12) ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} arg7.view.writes (Elt F) farg7 (raw7 arg1 harg1 arg2 harg2 arg3 harg3 arg4 harg4 arg5 harg5 arg6 harg6 x0 x1 x2 x3 x4 x5)) ∗ (arg12.view.loc (c : Thread nD τ) ↦[arg12.view.set]{fullShare} (arg12.view.writes (Elt F) farg12 (raw12 arg1 harg1 arg2 harg2 arg3 harg3 arg4 harg4 arg5 harg5 arg6 harg6 x0 x1 x2 x3 x4 x5)))) -∗ K ⟨0#32, 1#32⟩))
      ⊢ wp frame (wpE (defs₀ (F := F)) Variants.none c none) E (k0_part83 i arg1 harg1 arg2 harg2 arg3 harg3 arg4 harg4 arg5 harg5 arg6 harg6 arg7 harg7 arg8 harg8 arg9 harg9 arg10 harg10 arg11 harg11 arg12 harg12 arg13 harg13) K := by
  simp only [k0_part83_eq_skeleton]; unfold k0_part83_skel
  simp only [k0_part82_eq_skeleton, k0_part81_eq_skeleton, k0_part80_eq_skeleton, k0_part79_eq_skeleton]
  iintro ⟨H0, H1, H2, H3, H4, H5, Garg7, Garg12, Hk⟩
  sl_exec
  sl_step
  iapply Hk
  unfold partA.sl.r_1 partA.sl.r_2 partA.sl.r_3 partA.sl.r_4 partA.sl.r
  unfold raw7 raw12 raw30
  isplitl [H0]; · iexact H0
  isplitl [H1]; · iexact H1
  isplitl [H2]; · iexact H2
  isplitl [H3]; · iexact H3
  isplitl [H4]; · iexact H4
  isplitl [H5]; · iexact H5
  isplitl [Garg7]; · iexact Garg7
  iexact Garg12

set_option maxHeartbeats 1000000 in
/-- The loop over the heads, by its invariant. -/
theorem partB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole)
    (X12 : BufTy.Contents (Elt F) arg12.view.ty) (farg8 : BufTy.Contents (Elt F) arg8.view.ty) (farg9 : BufTy.Contents (Elt F) arg9.view.ty) (farg10 : BufTy.Contents (Elt F) arg10.view.ty) (farg11 : BufTy.Contents (Elt F) arg11.view.ty) (farg13 : BufTy.Contents (Elt F) arg13.view.ty) (E : Set ℕ) (K : PUnit → sProp (MT nD τ sig Unit (Elt F) ℕ (UR sig nD τ) ℕ)) :
    iprop((arg12.view.loc (c : Thread nD τ) ↦[arg12.view.set]{fullShare} X12) ∗ (arg8.view.loc (c : Thread nD τ) ↦[arg8.view.set]{fullShare} farg8) ∗ (arg9.view.loc (c : Thread nD τ) ↦[arg9.view.set]{fullShare} farg9) ∗ (arg10.view.loc (c : Thread nD τ) ↦[arg10.view.set]{fullShare} farg10) ∗ (arg11.view.loc (c : Thread nD τ) ↦[arg11.view.set]{fullShare} farg11) ∗ (arg13.view.loc (c : Thread nD τ) ↦[arg13.view.set]{fullShare} farg13) ∗ (iprop((arg12.view.loc (c : Thread nD τ) ↦[arg12.view.set]{fullShare} X12) ∗ (arg8.view.loc (c : Thread nD τ) ↦[arg8.view.set]{fullShare} arg8.view.writes (Elt F) farg8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 k0_t1_loop.trips).1) ∗ (arg9.view.loc (c : Thread nD τ) ↦[arg9.view.set]{fullShare} arg9.view.writes (Elt F) farg9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 k0_t1_loop.trips).2.1) ∗ (arg10.view.loc (c : Thread nD τ) ↦[arg10.view.set]{fullShare} arg10.view.writes (Elt F) farg10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 k0_t1_loop.trips).2.2.1) ∗ (arg11.view.loc (c : Thread nD τ) ↦[arg11.view.set]{fullShare} arg11.view.writes (Elt F) farg11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 k0_t1_loop.trips).2.2.2.1) ∗ (arg13.view.loc (c : Thread nD τ) ↦[arg13.view.set]{fullShare} arg13.view.writes (Elt F) farg13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 k0_t1_loop.trips).2.2.2.2)) -∗ K ⟨⟩))
      ⊢ wp frame (wpE (defs₀ (F := F)) Variants.none c none) E (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 0#32 1#32) >>= fun _ => pure ⟨⟩) K := by
  iintro ⟨Garg12, Garg8, Garg9, Garg10, Garg11, Garg13, Hk⟩
  sl_exec
  sl_step
  iapply Hk
  isplitl [Garg12]; · iexact Garg12
  isplitl [Garg8]; · iexact Garg8
  isplitl [Garg9]; · iexact Garg9
  isplitl [Garg10]; · iexact Garg10
  isplitl [Garg11]; · iexact Garg11
  iexact Garg13

set_option maxHeartbeats 1000000 in
/-- The whole body. -/
theorem run_select (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole)
    (x0 : Vec F S256x1024 .f32) (x1 : Vec F S1x1024 .f32) (x2 : Vec F S1x1x1024 .f32) (x3 : Vec F S1x1x1024 .f32) (x4 : Vec F S2048x1024 .bf16) (x5 : Vec F S16x128x128 .bf16) (farg7 : BufTy.Contents (Elt F) arg7.view.ty) (farg8 : BufTy.Contents (Elt F) arg8.view.ty) (farg9 : BufTy.Contents (Elt F) arg9.view.ty) (farg10 : BufTy.Contents (Elt F) arg10.view.ty) (farg11 : BufTy.Contents (Elt F) arg11.view.ty) (farg12 : BufTy.Contents (Elt F) arg12.view.ty) (farg13 : BufTy.Contents (Elt F) arg13.view.ty) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} farg7) ∗ (arg8.view.loc (c : Thread nD τ) ↦[arg8.view.set]{fullShare} farg8) ∗ (arg9.view.loc (c : Thread nD τ) ↦[arg9.view.set]{fullShare} farg9) ∗ (arg10.view.loc (c : Thread nD τ) ↦[arg10.view.set]{fullShare} farg10) ∗ (arg11.view.loc (c : Thread nD τ) ↦[arg11.view.set]{fullShare} farg11) ∗ (arg12.view.loc (c : Thread nD τ) ↦[arg12.view.set]{fullShare} farg12) ∗ (arg13.view.loc (c : Thread nD τ) ↦[arg13.view.set]{fullShare} farg13) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) farg7 (raw7 arg1 harg1 arg2 harg2 arg3 harg3 arg4 harg4 arg5 harg5 arg6 harg6 x0 x1 x2 x3 x4 x5)) ∗ (arg8.view.loc (c : Thread nD τ) ↦[arg8.view.set]{fullShare} arg8.view.writes (Elt F) farg8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (arg12.view.writes (Elt F) farg12 (raw12 arg1 harg1 arg2 harg2 arg3 harg3 arg4 harg4 arg5 harg5 arg6 harg6 x0 x1 x2 x3 x4 x5)) farg8 farg9 farg10 farg11 farg13 k0_t1_loop.trips).1) ∗ (arg9.view.loc (c : Thread nD τ) ↦[arg9.view.set]{fullShare} arg9.view.writes (Elt F) farg9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (arg12.view.writes (Elt F) farg12 (raw12 arg1 harg1 arg2 harg2 arg3 harg3 arg4 harg4 arg5 harg5 arg6 harg6 x0 x1 x2 x3 x4 x5)) farg8 farg9 farg10 farg11 farg13 k0_t1_loop.trips).2.1) ∗ (arg10.view.loc (c : Thread nD τ) ↦[arg10.view.set]{fullShare} arg10.view.writes (Elt F) farg10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (arg12.view.writes (Elt F) farg12 (raw12 arg1 harg1 arg2 harg2 arg3 harg3 arg4 harg4 arg5 harg5 arg6 harg6 x0 x1 x2 x3 x4 x5)) farg8 farg9 farg10 farg11 farg13 k0_t1_loop.trips).2.2.1) ∗ (arg11.view.loc (c : Thread nD τ) ↦[arg11.view.set]{fullShare} arg11.view.writes (Elt F) farg11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (arg12.view.writes (Elt F) farg12 (raw12 arg1 harg1 arg2 harg2 arg3 harg3 arg4 harg4 arg5 harg5 arg6 harg6 x0 x1 x2 x3 x4 x5)) farg8 farg9 farg10 farg11 farg13 k0_t1_loop.trips).2.2.2.1) ∗ (∃ d, owns (c : Thread nD τ) arg12 fullShare d) ∗ (∃ d, owns (c : Thread nD τ) arg13 fullShare d)) -∗ K ⟨⟩))
      ⊢ wp frame (wpE (defs₀ (F := F)) Variants.none c none) E (cc0_peer_select i arg1 harg1 arg2 harg2 arg3 harg3 arg4 harg4 arg5 harg5 arg6 harg6 arg7 harg7 arg8 harg8 arg9 harg9 arg10 harg10 arg11 harg11 arg12 harg12 arg13 harg13) K := by
  simp only [cc0_peer_select_eq_skeleton]; unfold cc0_peer_select_skel
  unfold owns
  iintro ⟨⟨%y0, %hy0, H0⟩, ⟨%y1, %hy1, H1⟩, ⟨%y2, %hy2, H2⟩, ⟨%y3, %hy3, H3⟩, ⟨%y4, %hy4, H4⟩, ⟨%y5, %hy5, H5⟩, Garg7, Garg8, Garg9, Garg10, Garg11, Garg12, Garg13, Hk⟩
  obtain rfl := harg1.eq_unread hy0; obtain rfl := harg2.eq_unread hy1; obtain rfl := harg3.eq_unread hy2; obtain rfl := harg4.eq_unread hy3; obtain rfl := harg5.eq_unread hy4; obtain rfl := harg6.eq_unread hy5
  rw [wp_bind]
  iapply (partA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 farg7 farg12 E)
  isplitl [H0]; · iexact H0
  isplitl [H1]; · iexact H1
  isplitl [H2]; · iexact H2
  isplitl [H3]; · iexact H3
  isplitl [H4]; · iexact H4
  isplitl [H5]; · iexact H5
  isplitl [Garg7]; · iexact Garg7
  isplitl [Garg12]; · iexact Garg12
  iintro ⟨H0, H1, H2, H3, H4, H5, Garg7, Garg12⟩
  iapply (partB c i arg1 harg1 arg2 harg2 arg3 harg3 arg4 harg4 arg5 harg5 arg6 harg6 arg7 harg7 arg8 harg8 arg9 harg9 arg10 harg10 arg11 harg11 arg12 harg12 arg13 harg13 (arg12.view.writes (Elt F) farg12 (raw12 arg1 harg1 arg2 harg2 arg3 harg3 arg4 harg4 arg5 harg5 arg6 harg6 x0 x1 x2 x3 x4 x5)) farg8 farg9 farg10 farg11 farg13 E)
  isplitl [Garg12]; · iexact Garg12
  isplitl [Garg8]; · iexact Garg8
  isplitl [Garg9]; · iexact Garg9
  isplitl [Garg10]; · iexact Garg10
  isplitl [Garg11]; · iexact Garg11
  isplitl [Garg13]; · iexact Garg13
  iintro ⟨Garg12, Garg8, Garg9, Garg10, Garg11, Garg13⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [Garg7]; · iexact Garg7
  isplitl [Garg8]; · iexact Garg8
  isplitl [Garg9]; · iexact Garg9
  isplitl [Garg10]; · iexact Garg10
  isplitl [Garg11]; · iexact Garg11
  isplitl [Garg12]
  · iexists _; iexists _; isplitr; swap; · iexact Garg12
    ipureintro; exact rfl
  iexists _; iexists _; isplitr; swap; · iexact Garg13
  ipureintro; exact rfl

end Cert.PeerSelectIdeal.Gen

end
-- ==== Proof.PeerSelectIdealFrame.lean ====
module

public import proofs.«01_k».proof.Proof.PeerSelectIdealRun
public import Idealize.ShloMosaic.Lib.Claim

/-!
# The frame of the call that selects the experts

What the run's pieces leave does not depend on what the buffers held before: the trips' pieces depend on the scores alone, the
scores' scratch is covered, and so is every output's block. With that the frame of the whole call follows as it does for the
other calls.
-/

@[expose] public section

set_option maxRecDepth 16384

noncomputable section

namespace Cert.PeerSelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The pieces of one trip do not depend on what the written buffers held before. -/
theorem trip_indep (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (X12 : BufTy.Contents (Elt F) arg12.view.ty) (k : Fin k0_t1_loop.trips)
    (farg8 garg8 : BufTy.Contents (Elt F) arg8.view.ty) (farg9 garg9 : BufTy.Contents (Elt F) arg9.view.ty) (farg10 garg10 : BufTy.Contents (Elt F) arg10.view.ty) (farg11 garg11 : BufTy.Contents (Elt F) arg11.view.ty) (farg13 garg13 : BufTy.Contents (Elt F) arg13.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 k farg8 farg9 farg10 farg11 farg13
      = tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 k garg8 garg9 garg10 garg11 garg13 := by
  unfold tripL_k0_t1 trip_k0_t1
  rfl

theorem pb_indep (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (X12 : BufTy.Contents (Elt F) arg12.view.ty)
    (farg8 garg8 : BufTy.Contents (Elt F) arg8.view.ty) (farg9 garg9 : BufTy.Contents (Elt F) arg9.view.ty) (farg10 garg10 : BufTy.Contents (Elt F) arg10.view.ty) (farg11 garg11 : BufTy.Contents (Elt F) arg11.view.ty) (farg13 garg13 : BufTy.Contents (Elt F) arg13.view.ty) :
    ∀ n, n ≤ k0_t1_loop.trips → pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 n
      = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 n
  | 0, _ => rfl
  | n + 1, h => by
    have e1 := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 farg8 farg9 farg10 farg11 farg13 ⟨n, h⟩
    have e2 := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 ⟨n, h⟩
    have ih := pb_indep c i arg1 harg1 arg2 harg2 arg3 harg3 arg4 harg4 arg5 harg5 arg6 harg6 arg7 harg7 arg8 harg8 arg9 harg9 arg10 harg10 arg11 harg11 arg12 harg12 arg13 harg13 X12 farg8 garg8 farg9 garg9 farg10 garg10 farg11 garg11 farg13 garg13 (Fin.val (⟨n, h⟩ : Fin k0_t1_loop.trips)) (Nat.le_of_succ_le h)
    refine e1.trans (Eq.trans ?_ e2.symm)
    rw [ih, trip_indep c i arg1 harg1 arg2 harg2 arg3 harg3 arg4 harg4 arg5 harg5 arg6 harg6 arg7 harg7 arg8 harg8 arg9 harg9 arg10 harg10 arg11 harg11 arg12 harg12 arg13 harg13 X12 ⟨n, h⟩ (arg8.view.writes (Elt F) farg8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).1) (arg8.view.writes (Elt F) garg8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).1) (arg9.view.writes (Elt F) farg9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.1) (arg9.view.writes (Elt F) garg9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.1) (arg10.view.writes (Elt F) farg10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.1) (arg10.view.writes (Elt F) garg10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.1) (arg11.view.writes (Elt F) farg11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.2.1) (arg11.view.writes (Elt F) garg11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.2.1) (arg13.view.writes (Elt F) farg13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.2.2) (arg13.view.writes (Elt F) garg13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 X12 garg8 garg9 garg10 garg11 garg13 (Fin.val (⟨n, h⟩ : Fin k0_t1_loop.trips))).2.2.2.2)]

/-- The pieces of the scores cover their scratch. -/
theorem cover12 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) (y : S16x128x256.Idx) : ∃ pc ∈ raw12 (F := F) arg1 harg1 arg2 harg2 arg3 harg3 arg4 harg4 arg5 harg5 arg6 harg6 x0 x1 x2 x3 x4 x5, y ∈ pc.1.set :=
  View.cover_of_tiledL (raw12 (F := F) arg1 harg1 arg2 harg2 arg3 harg3 arg4 harg4 arg5 harg5 arg6 harg6 x0 x1 x2 x3 x4 x5) S1x128x256.size (by sl_kernel_rfl) y

/-- The pieces of the normed rows cover their block. -/
theorem cover7 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) (y : S256x1024.Idx) : ∃ pc ∈ raw7 (F := F) arg1 harg1 arg2 harg2 arg3 harg3 arg4 harg4 arg5 harg5 arg6 harg6 x0 x1 x2 x3 x4 x5, y ∈ pc.1.set :=
  View.cover_of_tiledL (raw7 (F := F) arg1 harg1 arg2 harg2 arg3 harg3 arg4 harg4 arg5 harg5 arg6 harg6 x0 x1 x2 x3 x4 x5) S256x1024.size (by sl_kernel_rfl) y

/-- A view of the scores' scratch, and one of each output's staging buffers, through which their contents are stated. -/
abbrev VS12 : View sig .tc .vmem S16x128x256 .f32 := (Memref.whole cc0_scratch0 : Memref sig .tc .vmem S16x128x256 .f32).view
abbrev VO7 : View sig .tc .vmem S256x1024 .bf16 := (Memref.whole cc0_stg6_0 : Memref sig .tc .vmem S256x1024 .bf16).view
abbrev VO8 : View sig .tc .vmem S8x128x256 .f32 := (Memref.whole cc0_stg7_0 : Memref sig .tc .vmem S8x128x256 .f32).view
abbrev VO9 : View sig .tc .vmem S8x128x256 .f32 := (Memref.whole cc0_stg8_0 : Memref sig .tc .vmem S8x128x256 .f32).view
abbrev VO10 : View sig .tc .vmem S8x128x256 .f32 := (Memref.whole cc0_stg9_0 : Memref sig .tc .vmem S8x128x256 .f32).view
abbrev VO11 : View sig .tc .vmem S8x128x256 .f32 := (Memref.whole cc0_stg10_0 : Memref sig .tc .vmem S8x128x256 .f32).view

/-- The scores of a tile. -/
def scores (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) : Vec F S16x128x256 .f32 :=
  VS12.read (Elt F) (VS12.writes (Elt F) VS12.junk (raw12 (F := F) arg1 harg1 arg2 harg2 arg3 harg3 arg4 harg4 arg5 harg5 arg6 harg6 x0 x1 x2 x3 x4 x5))

/-- The trips' pieces, from the scores alone. -/
def loopPieces (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) :
    List (View.Piece (Elt F) S8x128x256 .f32) × List (View.Piece (Elt F) S8x128x256 .f32) × List (View.Piece (Elt F) S8x128x256 .f32) × List (View.Piece (Elt F) S8x128x256 .f32) × List (View.Piece (Elt F) S16x128 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) arg8.view.junk arg9.view.junk arg10.view.junk arg11.view.junk arg13.view.junk k0_t1_loop.trips

theorem pieces_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) (farg12 : BufTy.Contents (Elt F) arg12.view.ty)
    (farg8 : BufTy.Contents (Elt F) arg8.view.ty) (farg9 : BufTy.Contents (Elt F) arg9.view.ty) (farg10 : BufTy.Contents (Elt F) arg10.view.ty) (farg11 : BufTy.Contents (Elt F) arg11.view.ty) (farg13 : BufTy.Contents (Elt F) arg13.view.ty) :
    pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 0#32 1#32 (arg12.view.writes (Elt F) farg12 (raw12 arg1 harg1 arg2 harg2 arg3 harg3 arg4 harg4 arg5 harg5 arg6 harg6 x0 x1 x2 x3 x4 x5)) farg8 farg9 farg10 farg11 farg13 k0_t1_loop.trips
      = loopPieces c i arg1 harg1 arg2 harg2 arg3 harg3 arg4 harg4 arg5 harg5 arg6 harg6 arg7 harg7 arg8 harg8 arg9 harg9 arg10 harg10 arg11 harg11 arg12 harg12 arg13 harg13 (scores arg1 harg1 arg2 harg2 arg3 harg3 arg4 harg4 arg5 harg5 arg6 harg6 x0 x1 x2 x3 x4 x5) := by
  have hX : (arg12.view.writes (Elt F) farg12 (raw12 arg1 harg1 arg2 harg2 arg3 harg3 arg4 harg4 arg5 harg5 arg6 harg6 x0 x1 x2 x3 x4 x5)) = harg12.unread (scores arg1 harg1 arg2 harg2 arg3 harg3 arg4 harg4 arg5 harg5 arg6 harg6 x0 x1 x2 x3 x4 x5) :=
    harg12.eq_unread (View.read_writes_of_cover _ _ _ _ _ (cover12 arg1 harg1 arg2 harg2 arg3 harg3 arg4 harg4 arg5 harg5 arg6 harg6 x0 x1 x2 x3 x4 x5))
  rw [hX]
  exact pb_indep c i arg1 harg1 arg2 harg2 arg3 harg3 arg4 harg4 arg5 harg5 arg6 harg6 arg7 harg7 arg8 harg8 arg9 harg9 arg10 harg10 arg11 harg11 arg12 harg12 arg13 harg13 _ farg8 _ farg9 _ farg10 _ farg11 _ farg13 _ _ le_rfl

def out7 (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec F S256x1024 .f32) (x1 : Vec F S1x1024 .f32) (x2 : Vec F S1x1x1024 .f32) (x3 : Vec F S1x1x1024 .f32) (x4 : Vec F S2048x1024 .bf16) (x5 : Vec F S16x128x128 .bf16) : Vec F S256x1024 .bf16 :=
  VO7.read (Elt F) (VO7.writes (Elt F) VO7.junk (raw7 (F := F) arg1 harg1 arg2 harg2 arg3 harg3 arg4 harg4 arg5 harg5 arg6 harg6 x0 x1 x2 x3 x4 x5))

theorem cover8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) (y : S8x128x256.Idx) :
    ∃ pc ∈ (loopPieces (F := F) c i arg1 harg1 arg2 harg2 arg3 harg3 arg4 harg4 arg5 harg5 arg6 harg6 arg7 harg7 arg8 harg8 arg9 harg9 arg10 harg10 arg11 harg11 arg12 harg12 arg13 harg13 S).1, y ∈ pc.1.set :=
  View.cover_of_tiledL (loopPieces (F := F) c i arg1 harg1 arg2 harg2 arg3 harg3 arg4 harg4 arg5 harg5 arg6 harg6 arg7 harg7 arg8 harg8 arg9 harg9 arg10 harg10 arg11 harg11 arg12 harg12 arg13 harg13 S).1 S1x128x128.size (by sl_kernel_rfl) y

def out8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) : Vec F S8x128x256 .f32 :=
  VO8.read (Elt F) (VO8.writes (Elt F) VO8.junk (loopPieces (F := F) c i arg1 harg1 arg2 harg2 arg3 harg3 arg4 harg4 arg5 harg5 arg6 harg6 arg7 harg7 arg8 harg8 arg9 harg9 arg10 harg10 arg11 harg11 arg12 harg12 arg13 harg13 S).1)

theorem cover9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) (y : S8x128x256.Idx) :
    ∃ pc ∈ (loopPieces (F := F) c i arg1 harg1 arg2 harg2 arg3 harg3 arg4 harg4 arg5 harg5 arg6 harg6 arg7 harg7 arg8 harg8 arg9 harg9 arg10 harg10 arg11 harg11 arg12 harg12 arg13 harg13 S).2.1, y ∈ pc.1.set :=
  View.cover_of_tiledL (loopPieces (F := F) c i arg1 harg1 arg2 harg2 arg3 harg3 arg4 harg4 arg5 harg5 arg6 harg6 arg7 harg7 arg8 harg8 arg9 harg9 arg10 harg10 arg11 harg11 arg12 harg12 arg13 harg13 S).2.1 S1x128x128.size (by sl_kernel_rfl) y

def out9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) : Vec F S8x128x256 .f32 :=
  VO9.read (Elt F) (VO9.writes (Elt F) VO9.junk (loopPieces (F := F) c i arg1 harg1 arg2 harg2 arg3 harg3 arg4 harg4 arg5 harg5 arg6 harg6 arg7 harg7 arg8 harg8 arg9 harg9 arg10 harg10 arg11 harg11 arg12 harg12 arg13 harg13 S).2.1)

theorem cover10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) (y : S8x128x256.Idx) :
    ∃ pc ∈ (loopPieces (F := F) c i arg1 harg1 arg2 harg2 arg3 harg3 arg4 harg4 arg5 harg5 arg6 harg6 arg7 harg7 arg8 harg8 arg9 harg9 arg10 harg10 arg11 harg11 arg12 harg12 arg13 harg13 S).2.2.1, y ∈ pc.1.set :=
  View.cover_of_tiledL (loopPieces (F := F) c i arg1 harg1 arg2 harg2 arg3 harg3 arg4 harg4 arg5 harg5 arg6 harg6 arg7 harg7 arg8 harg8 arg9 harg9 arg10 harg10 arg11 harg11 arg12 harg12 arg13 harg13 S).2.2.1 S1x128x128.size (by sl_kernel_rfl) y

def out10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) : Vec F S8x128x256 .f32 :=
  VO10.read (Elt F) (VO10.writes (Elt F) VO10.junk (loopPieces (F := F) c i arg1 harg1 arg2 harg2 arg3 harg3 arg4 harg4 arg5 harg5 arg6 harg6 arg7 harg7 arg8 harg8 arg9 harg9 arg10 harg10 arg11 harg11 arg12 harg12 arg13 harg13 S).2.2.1)

theorem cover11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) (y : S8x128x256.Idx) :
    ∃ pc ∈ (loopPieces (F := F) c i arg1 harg1 arg2 harg2 arg3 harg3 arg4 harg4 arg5 harg5 arg6 harg6 arg7 harg7 arg8 harg8 arg9 harg9 arg10 harg10 arg11 harg11 arg12 harg12 arg13 harg13 S).2.2.2.1, y ∈ pc.1.set :=
  View.cover_of_tiledL (loopPieces (F := F) c i arg1 harg1 arg2 harg2 arg3 harg3 arg4 harg4 arg5 harg5 arg6 harg6 arg7 harg7 arg8 harg8 arg9 harg9 arg10 harg10 arg11 harg11 arg12 harg12 arg13 harg13 S).2.2.2.1 S1x128x128.size (by sl_kernel_rfl) y

def out11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec F S16x128x256 .f32) : Vec F S8x128x256 .f32 :=
  VO11.read (Elt F) (VO11.writes (Elt F) VO11.junk (loopPieces (F := F) c i arg1 harg1 arg2 harg2 arg3 harg3 arg4 harg4 arg5 harg5 arg6 harg6 arg7 harg7 arg8 harg8 arg9 harg9 arg10 harg10 arg11 harg11 arg12 harg12 arg13 harg13 S).2.2.2.1)

/-! ## The windows' memrefs at a point -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x256 .f32 := win0_10.stage (cfg0.slots t 10)
abbrev hs0_10 (t : Fin cfg0.N) : (ms0_10 t).IsWhole := hstage0_10 ((cfg0.slots t 10).cast nbuf0_10)
abbrev scM0_0 : Memref sig .tc .vmem S16x128x256 .f32 := Memref.whole cc0_scratch0
abbrev scM0_1 : Memref sig .tc .vmem S16x128 .f32 := Memref.whole cc0_scratch1

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The scores at a point. -/
def scoresAt (c : Dev nD) (t : Fin cfg0.N) : Vec F S16x128x256 .f32 := scores (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t)

def out7At (c : Dev nD) (t : Fin cfg0.N) : Vec F S256x1024 .bf16 := out7 (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t)
def out8At (c : Dev nD) (t : Fin cfg0.N) : Vec F S8x128x256 .f32 := out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (scoresAt m c t)
def out9At (c : Dev nD) (t : Fin cfg0.N) : Vec F S8x128x256 .f32 := out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (scoresAt m c t)
def out10At (c : Dev nD) (t : Fin cfg0.N) : Vec F S8x128x256 .f32 := out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (scoresAt m c t)
def out11At (c : Dev nD) (t : Fin cfg0.N) : Vec F S8x128x256 .f32 := out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (scoresAt m c t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out7At m c t
    | ⟨7, _⟩ => out8At m c t
    | ⟨8, _⟩ => out9At m c t
    | ⟨9, _⟩ => out10At m c t
    | ⟨10, _⟩ => out11At m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out7At m c t := by dsimp only [dats]
theorem after0_7 (c : Dev nD) (t : Fin cfg0.N) : (dats m 0 c).after 7 t = out8At m c t := by dsimp only [dats]
theorem after0_8 (c : Dev nD) (t : Fin cfg0.N) : (dats m 0 c).after 8 t = out9At m c t := by dsimp only [dats]
theorem after0_9 (c : Dev nD) (t : Fin cfg0.N) : (dats m 0 c).after 9 t = out10At m c t := by dsimp only [dats]
theorem after0_10 (c : Dev nD) (t : Fin cfg0.N) : (dats m 0 c).after 10 t = out11At m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold owns
  iintro ⟨⟨⟨⟨%d12, ⟨%f12, %e12, G12⟩⟩, ⟨%d13, ⟨%f13, %e13, G13⟩⟩⟩, Hg⟩, Ho, ⟨%d0, H0⟩, ⟨%d1, H1⟩, ⟨%d2, H2⟩, ⟨%d3, H3⟩, ⟨%d4, H4⟩, ⟨%d5, H5⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩⟩
  iapply (run_select c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) f6 f7 f8 f9 f10 f12 f13 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G12]; · iexact G12
  isplitl [G13]; · iexact G13
  iintro ⟨H0, H1, H2, H3, H4, H5, H6, H7, H8, H9, H10, G12, G13⟩
  isplitl [G12 G13 Hg]
  · isplitl [G12 G13]
    · isplitl [G12]
      · iexact G12
      iexact G13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    unfold out7At out7
    exact View.read_writes_of_cover _ _ _ _ _ (cover7 (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t))
  isplitl [H7]
  · iexists _; isplitr; swap; · iexact H7
    ipureintro
    rw [pieces_eq]; unfold out8At out8 scoresAt
    exact View.read_writes_of_cover _ _ _ _ _ (cover8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) _)
  isplitl [H8]
  · iexists _; isplitr; swap; · iexact H8
    ipureintro
    rw [pieces_eq]; unfold out9At out9 scoresAt
    exact View.read_writes_of_cover _ _ _ _ _ (cover9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) _)
  isplitl [H9]
  · iexists _; isplitr; swap; · iexact H9
    ipureintro
    rw [pieces_eq]; unfold out10At out10 scoresAt
    exact View.read_writes_of_cover _ _ _ _ _ (cover10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) _)
  iexists _; isplitr; swap; · iexact H10
  ipureintro
  rw [pieces_eq]; unfold out11At out11 scoresAt
  exact View.read_writes_of_cover _ _ _ _ _ (cover11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.PeerSelectIdeal.Gen

end
-- ==== Proof.SelectSpec.lean ====
module

public import proofs.«01_k».proof.Proof.LinSpec
public import Idealize.ShloMosaic.Lib.Pipeline.Value

/-!
# What the selection of the experts computes

Row by row: the normed and modulated row, its queries, and every query's scores against the sub keys; for a column of 128
scores, the order of its sixteen greatest by taking the maximum away sixteen times, and the exponentials less the maximum.
-/

@[expose] public section

noncomputable section

namespace Cert.Select

open Idealize.ShloMosaic Idealize.ShloMosaic.Pointwise
open Cert.Lin

variable (X : (⟨2, ![16384, 1024]⟩ : Shape).Idx → EReal) (G : (⟨1, ![1024]⟩ : Shape).Idx → EReal)
  (M : (⟨3, ![24, 1, 1024]⟩ : Shape).Idx → EReal) (W : (⟨2, ![1024, 2048]⟩ : Shape).Idx → EReal)
  (K : (⟨4, ![8, 2, 128, 128]⟩ : Shape).Idx → EReal)

/-- The normed row, scaled and shifted by its batch's vectors. -/
def modded2 (n : Fin 16384) (x : Fin 1024) : EReal :=
  normed X G n x * (1 + M (ix3 (part n 4) 0 x)) + M (ix3 (part n 3) 0 x)

/-- A row's query, at a lane. -/
def qry (n : Fin 16384) (j : Fin 2048) : EReal := ∑ x : Fin 1024, modded2 X G M n x * W (ix2 x j)

/-- A row's score against sub key `k` of half `p` of head `h`. -/
def score (h : Fin 8) (p : Fin 2) (k : Fin 128) (n : Fin 16384) : EReal :=
  ∑ d : Fin 128, qry X G M W n ⟨h.val * 256 + p.val * 128 + d.val, by omega⟩ * K (ix4 h p k d)

/-- A column's maximum. -/
def top (s : Fin 128 → EReal) : EReal := (Finset.univ : Finset (Fin 128)).fold max (Ideal.ofBits FTy.f32 4286578688#32) s

/-- Is this entry the maximum? -/
def hit (s : Fin 128 → EReal) (k : Fin 128) : BitVec 1 := FloatOps.cmpf (F := Ideal) (φ := .f32) .oge (s k) (top s)

/-- The column once its maximum is taken away. -/
def mask (s : Fin 128 → EReal) (k : Fin 128) : EReal := Scalar.select (hit s k) (Ideal.ofBits FTy.f32 4286578688#32) (s k)

/-- The column once its maximum is taken away `n` times. -/
def rest (s : Fin 128 → EReal) : ℕ → Fin 128 → EReal
  | 0 => s
  | n + 1 => mask (rest s n)

/-- The round's number where the round `n` hits, and what was there elsewhere. -/
def mark (s : Fin 128 → EReal) (n : ℕ) (b : BitVec 32) (a : Fin 128 → EReal) (k : Fin 128) : EReal :=
  Scalar.select (hit (rest s n) k) (Ideal.ofBits FTy.f32 b) (a k)

/-- The round in which an entry is taken away, and 16 for the entries that are left. -/
def rank (s : Fin 128 → EReal) : Fin 128 → EReal :=
  mark s 15 0x41700000#32 (mark s 14 0x41600000#32 (mark s 13 0x41500000#32 (mark s 12 0x41400000#32
  (mark s 11 0x41300000#32 (mark s 10 0x41200000#32 (mark s 9 0x41100000#32 (mark s 8 0x41000000#32
  (mark s 7 0x40E00000#32 (mark s 6 0x40C00000#32 (mark s 5 0x40A00000#32 (mark s 4 0x40800000#32
  (mark s 3 0x40400000#32 (mark s 2 0x40000000#32 (mark s 1 0x3F800000#32 (mark s 0 0x00000000#32
  fun _ => Ideal.ofBits FTy.f32 0x41800000#32)))))))))))))))

/-- A column's exponentials, less its maximum. -/
def expo (s : Fin 128 → EReal) (k : Fin 128) : EReal := Ideal.exp (s k - top s)

/-- The normed and modulated rows. -/
abbrev rowsArr : (⟨2, ![16384, 1024]⟩ : Shape).Idx → EReal := arr (modded2 X G M)

/-- The ranks of the first half's scores. -/
abbrev rankArr : (⟨3, ![8, 128, 16384]⟩ : Shape).Idx → EReal := fun i =>
  rank (fun k => score X G M W K (i 0) 0 k (i 2)) (i 1)

/-- The exponentials of the second half's scores. -/
abbrev expoArr : (⟨3, ![8, 128, 16384]⟩ : Shape).Idx → EReal := fun i =>
  expo (fun k => score X G M W K (i 0) 1 k (i 2)) (i 1)

end Cert.Select

namespace Cert.Pieces

open Idealize.ShloMosaic Idealize.SL.Sem

variable {Val : EltTy → Type} {sig : RefSig} {κ : Kind} {sp : Space} {s : Shape} {e : EltTy}

/-- The piece's values are `g`'s at its indices. -/
def Agrees (g : s.Idx → Val e) (p : View.Piece Val s e) : Prop := ∀ x, p.2 x = g (p.1.emb x)

theorem agrees_cons (g : s.Idx → Val e) {p : View.Piece Val s e} {L : List (View.Piece Val s e)} (h : Agrees g p) (hL : ∀ q ∈ L, Agrees g q) :
    ∀ q ∈ p :: L, Agrees g q := List.forall_mem_cons.2 ⟨h, hL⟩

theorem agrees_nil (g : s.Idx → Val e) : ∀ q ∈ ([] : List (View.Piece Val s e)), Agrees g q := fun _ h => absurd h List.not_mem_nil

/-- Where every piece agrees with `g`, what a covered index reads is `g`'s. -/
theorem read_agree (v : View sig κ sp s e) (f : v.ty.Contents Val) (g : s.Idx → Val e) :
    ∀ L : List (View.Piece Val s e), (∀ p ∈ L, Agrees g p) → ∀ y, (∃ p ∈ L, y ∈ p.1.set) →
      v.read Val (v.writes Val f L) y = g y
  | [], _, y, hy => by obtain ⟨p, hp, _⟩ := hy; exact absurd hp List.not_mem_nil
  | q :: L, hL, y, hy => by
    by_cases hq : y ∈ q.1.set
    · obtain ⟨x, rfl⟩ : ∃ x, q.1.emb x = y := by
        rw [← Rect.map_emb_univ] at hq
        obtain ⟨x, _, hx⟩ := Finset.mem_map.mp hq
        exact ⟨x, hx⟩
      rw [View.read_writes_cons_emb v f q.1 q.2 L x]
      exact hL q List.mem_cons_self x
    · rw [View.writes_cons, View.read_slice_write_of_not_mem q.1 _ _ _ (by rwa [Rect.map_emb_univ])]
      refine read_agree v f g L (fun p hp => hL p (List.mem_cons_of_mem _ hp)) y ?_
      obtain ⟨p, hp, hy'⟩ := hy
      rcases List.mem_cons.mp hp with rfl | hp'
      · exact absurd hy' hq
      · exact ⟨p, hp', hy'⟩

end Cert.Pieces

end
-- ==== Proof.SelectRank.lean ====
module

public import proofs.«01_k».proof.Proof.PeerSelectIdealRun
public import proofs.«01_k».proof.Proof.SelectSpec

/-!
# The kernel's sixteen rounds

A trip takes the maximum away round by round; its payloads are those rounds, and an index of what they leave is the
column's.
-/

@[expose] public section

set_option maxRecDepth 16384

noncomputable section

namespace Cert.PeerSelectIdeal.Gen

open Idealize.ShloMosaic Idealize.ShloMosaic.TcCoe Idealize.ShloMosaic.Pointwise

/-- A tile's maxima, column by column. -/
def maxV (s : FVec Ideal S128x128 .f32) : FVec Ideal S1x128 .f32 :=
  shapeCast S1x128 (multiReduction .maximumf [0] S128 s 0xFF800000#32 reduces_S128x128_S128 (.inl rfl) rfl) shapeCasts_S128_S1x128

def hitV (s : FVec Ideal S128x128 .f32) : IVec S128x128 1 := cmpf .oge s (broadcastTo S128x128 (maxV s) broadcasts_S1x128_S128x128)

def maskV (s : FVec Ideal S128x128 .f32) : FVec Ideal S128x128 .f32 :=
  select (hitV s) (broadcast S128x128 (Scalar.ofBits .f32 0xFF800000#32)) s

def restV (s : FVec Ideal S128x128 .f32) : ℕ → FVec Ideal S128x128 .f32
  | 0 => s
  | n + 1 => maskV (restV s n)

def markV (s : FVec Ideal S128x128 .f32) (n : ℕ) (b : BitVec 32) (a : FVec Ideal S128x128 .f32) : FVec Ideal S128x128 .f32 :=
  select (hitV (restV s n)) (broadcast S128x128 (Scalar.ofBits .f32 b)) a

def rankV (s : FVec Ideal S128x128 .f32) : FVec Ideal S128x128 .f32 :=
  markV s 15 0x41700000#32 (markV s 14 0x41600000#32 (markV s 13 0x41500000#32 (markV s 12 0x41400000#32
  (markV s 11 0x41300000#32 (markV s 10 0x41200000#32 (markV s 9 0x41100000#32 (markV s 8 0x41000000#32
  (markV s 7 0x40E00000#32 (markV s 6 0x40C00000#32 (markV s 5 0x40A00000#32 (markV s 4 0x40800000#32
  (markV s 3 0x40400000#32 (markV s 2 0x40000000#32 (markV s 1 0x3F800000#32 (markV s 0 0x00000000#32
  (broadcast S128x128 (Scalar.ofBits .f32 0x41800000#32)))))))))))))))))

theorem maxV_apply (s : FVec Ideal S128x128 .f32) (l : Fin 128) : maxV s (ix2 0 l) = Select.top (fun k => s (ix2 k l)) := by
  pointwise [maxV]
  rfl

theorem hitV_apply (s : FVec Ideal S128x128 .f32) (k l : Fin 128) : hitV s (ix2 k l) = Select.hit (fun k => s (ix2 k l)) k := by
  pointwise [hitV]
  rw [maxV_apply]
  rfl

theorem maskV_apply (s : FVec Ideal S128x128 .f32) (k l : Fin 128) : maskV s (ix2 k l) = Select.mask (fun k => s (ix2 k l)) k := by
  pointwise [maskV]
  rw [hitV_apply]
  rfl

theorem restV_apply (s : FVec Ideal S128x128 .f32) (l : Fin 128) : ∀ (n : ℕ) (k : Fin 128),
    restV s n (ix2 k l) = Select.rest (fun k => s (ix2 k l)) n k
  | 0, k => rfl
  | n + 1, k => by
    show maskV (restV s n) (ix2 k l) = Select.mask (Select.rest (fun k => s (ix2 k l)) n) k
    rw [maskV_apply, show (fun k => restV s n (ix2 k l)) = Select.rest (fun k => s (ix2 k l)) n from funext (restV_apply s l n)]

theorem markV_apply (s a : FVec Ideal S128x128 .f32) (n : ℕ) (b : BitVec 32) (a' : Fin 128 → EReal) (l : Fin 128) (ha : ∀ k, a (ix2 k l) = a' k) (k : Fin 128) :
    markV s n b a (ix2 k l) = Select.mark (fun k => s (ix2 k l)) n b a' k := by
  show Scalar.select (hitV (restV s n) (ix2 k l)) (Ideal.ofBits FTy.f32 b) (a (ix2 k l)) = _
  rw [hitV_apply, ha, show (fun k => restV s n (ix2 k l)) = Select.rest (fun k => s (ix2 k l)) n from funext (restV_apply s l n)]
  rfl

theorem rankV_apply (s : FVec Ideal S128x128 .f32) (l k : Fin 128) : rankV s (ix2 k l) = Select.rank (fun k => s (ix2 k l)) k := by
  unfold rankV Select.rank
  refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; refine markV_apply _ _ _ _ _ _ ?_ k
  intro k; rfl

section Trip

variable (arg12 : Memref sig .tc .vmem S16x128x256 .f32) (Y : BufTy.Contents (Elt Ideal) arg12.view.ty) (k : Fin k0_t1_loop.trips)

/-- The two halves' scores of the trip's head, in the first 128 columns and in the last. -/
abbrev ld1 : FVec Ideal S128x128 .f32 := k0_pay5 (View.readAt (Elt Ideal) arg12.view (Rect.unit (s := S16x128x256) (k0_off1 k) S1x128x128.size (k0_off1_inb k)).toLoadRect Y)

theorem rank0_eq : trip_k0_t1.sl.r_27 arg12 Y k = rankV (ld1 arg12 Y k) := rfl

abbrev ld4 : FVec Ideal S128x128 .f32 := k0_pay445 (View.readAt (Elt Ideal) arg12.view (Rect.unit (s := S16x128x256) (k0_off4 k) S1x128x128.size (k0_off4_inb k)).toLoadRect Y)

theorem rank1_eq : trip_k0_t1.sl.r_400 arg12 Y k = rankV (ld4 arg12 Y k) := rfl

abbrev ld2 : FVec Ideal S128x128 .f32 := k0_pay6 (View.readAt (Elt Ideal) arg12.view (Rect.unit (s := S16x128x256) (k0_off2 k) S1x128x128.size (k0_off2_inb k)).toLoadRect Y)

abbrev ld5 : FVec Ideal S128x128 .f32 := k0_pay446 (View.readAt (Elt Ideal) arg12.view (Rect.unit (s := S16x128x256) (k0_off5 k) S1x128x128.size (k0_off5_inb k)).toLoadRect Y)

def expoV (s : FVec Ideal S128x128 .f32) : FVec Ideal S128x128 .f32 :=
  exp (subf s (broadcastTo S128x128 (maxV s) broadcasts_S1x128_S128x128))

theorem expoV_apply (s : FVec Ideal S128x128 .f32) (k l : Fin 128) : expoV s (ix2 k l) = Select.expo (fun k => s (ix2 k l)) k := by
  pointwise [expoV]
  rw [maxV_apply]
  rfl

theorem expo0_eq : k0_pay444 (trip_k0_t1.sl.r_48 arg12 Y k) = shapeCast S1x128x128 (expoV (ld2 arg12 Y k)) shapeCasts_S128x128_S1x128x128 := rfl

theorem expo1_eq : k0_pay4 (trip_k0_t1.sl.r_420 arg12 Y k) = shapeCast S1x128x128 (expoV (ld5 arg12 Y k)) shapeCasts_S128x128_S1x128x128 := rfl

theorem pay1_eq (v : FVec Ideal S128x128 .f32) : k0_pay1 v = shapeCast S1x128x128 v shapeCasts_S128x128_S1x128x128 := rfl

theorem pay441_eq (v : FVec Ideal S128x128 .f32) : k0_pay441 v = shapeCast S1x128x128 v shapeCasts_S128x128_S1x128x128 := rfl

end Trip

end Cert.PeerSelectIdeal.Gen

end
-- ==== Proof.SelectOut.lean ====
module

public import proofs.«01_k».proof.Proof.PeerSelectIdealFrame
public import proofs.«01_k».proof.Proof.SelectRank
public import Idealize.ShloMosaic.Lib.Pipeline.Value
public import Idealize.ShloMosaic.Lib.VecWindow

/-!
# What a grid point of the selection leaves

The scores' scratch holds every head's two halves; a trip writes the ranks of its head's first half and the exponentials of
its second, 128 columns at a time.
-/

@[expose] public section

set_option maxRecDepth 16384

noncomputable section

namespace Cert.PeerSelectIdeal.Gen

open Idealize.ShloMosaic Idealize.ShloMosaic.TcCoe Idealize.ShloMosaic.Pointwise Idealize.SL.Sem

theorem pay30_apply (x0 : Vec Ideal S256x1024 .f32) (x1 : Vec Ideal S1x1024 .f32) (x2 : Vec Ideal S1x1x1024 .f32) (x3 : Vec Ideal S1x1x1024 .f32) (x4 : Vec Ideal S2048x1024 .bf16) (j : Fin 2048) (r : Fin 256) :
    k0_pay883 x0 x1 x2 x3 x4 (ix2 j r) = ∑ x : Fin 1024, x4 (ix2 j x) * k0_pay882 x0 x1 x2 x3 (ix2 r x) := by
  pointwise [k0_pay883]

theorem payb0 (x0 : Vec Ideal S256x1024 .f32) (x1 : Vec Ideal S1x1024 .f32) (x2 : Vec Ideal S1x1x1024 .f32) (x3 : Vec Ideal S1x1x1024 .f32) (x4 : Vec Ideal S2048x1024 .bf16) (x5 : Vec Ideal S16x128x128 .bf16) (kb : Vec Ideal S1x128x128 .bf16) (k : Fin 128) (l : Fin 256) :
    k0_pay885 (k0_pay884 x0 x1 x2 x3 x4 kb) (ix3 0 k l) = ∑ d : Fin 128, kb (ix3 0 k d) * k0_pay883 x0 x1 x2 x3 x4 (ix2 ⟨0 * 128 + d.val, by omega⟩ l) := by
  pointwise [k0_pay885, k0_pay884]

theorem payb1 (v30 : FVec Ideal S2048x256 .bf16) (kb : Vec Ideal S1x128x128 .bf16) (k : Fin 128) (l : Fin 256) :
    k0_pay886 v30 kb (ix3 0 k l) = ∑ d : Fin 128, kb (ix3 0 k d) * v30 (ix2 ⟨1 * 128 + d.val, by omega⟩ l) := by
  pointwise [k0_pay886]

theorem payb2 (v30 : FVec Ideal S2048x256 .bf16) (kb : Vec Ideal S1x128x128 .bf16) (k : Fin 128) (l : Fin 256) :
    k0_pay887 v30 kb (ix3 0 k l) = ∑ d : Fin 128, kb (ix3 0 k d) * v30 (ix2 ⟨2 * 128 + d.val, by omega⟩ l) := by
  pointwise [k0_pay887]

theorem payb3 (v30 : FVec Ideal S2048x256 .bf16) (kb : Vec Ideal S1x128x128 .bf16) (k : Fin 128) (l : Fin 256) :
    k0_pay888 v30 kb (ix3 0 k l) = ∑ d : Fin 128, kb (ix3 0 k d) * v30 (ix2 ⟨3 * 128 + d.val, by omega⟩ l) := by
  pointwise [k0_pay888]

theorem payb4 (v30 : FVec Ideal S2048x256 .bf16) (kb : Vec Ideal S1x128x128 .bf16) (k : Fin 128) (l : Fin 256) :
    k0_pay890 (k0_pay889 v30 kb) (ix3 0 k l) = ∑ d : Fin 128, kb (ix3 0 k d) * v30 (ix2 ⟨4 * 128 + d.val, by omega⟩ l) := by
  pointwise [k0_pay890, k0_pay889]

theorem payb5 (v30 : FVec Ideal S2048x256 .bf16) (kb : Vec Ideal S1x128x128 .bf16) (k : Fin 128) (l : Fin 256) :
    k0_pay891 v30 kb (ix3 0 k l) = ∑ d : Fin 128, kb (ix3 0 k d) * v30 (ix2 ⟨5 * 128 + d.val, by omega⟩ l) := by
  pointwise [k0_pay891]

theorem payb6 (v30 : FVec Ideal S2048x256 .bf16) (kb : Vec Ideal S1x128x128 .bf16) (k : Fin 128) (l : Fin 256) :
    k0_pay892 v30 kb (ix3 0 k l) = ∑ d : Fin 128, kb (ix3 0 k d) * v30 (ix2 ⟨6 * 128 + d.val, by omega⟩ l) := by
  pointwise [k0_pay892]

theorem payb7 (v30 : FVec Ideal S2048x256 .bf16) (kb : Vec Ideal S1x128x128 .bf16) (k : Fin 128) (l : Fin 256) :
    k0_pay893 v30 kb (ix3 0 k l) = ∑ d : Fin 128, kb (ix3 0 k d) * v30 (ix2 ⟨7 * 128 + d.val, by omega⟩ l) := by
  pointwise [k0_pay893]

theorem payb8 (v30 : FVec Ideal S2048x256 .bf16) (kb : Vec Ideal S1x128x128 .bf16) (k : Fin 128) (l : Fin 256) :
    k0_pay895 (k0_pay894 v30 kb) (ix3 0 k l) = ∑ d : Fin 128, kb (ix3 0 k d) * v30 (ix2 ⟨8 * 128 + d.val, by omega⟩ l) := by
  pointwise [k0_pay895, k0_pay894]

theorem payb9 (v30 : FVec Ideal S2048x256 .bf16) (kb : Vec Ideal S1x128x128 .bf16) (k : Fin 128) (l : Fin 256) :
    k0_pay896 v30 kb (ix3 0 k l) = ∑ d : Fin 128, kb (ix3 0 k d) * v30 (ix2 ⟨9 * 128 + d.val, by omega⟩ l) := by
  pointwise [k0_pay896]

theorem payb10 (v30 : FVec Ideal S2048x256 .bf16) (kb : Vec Ideal S1x128x128 .bf16) (k : Fin 128) (l : Fin 256) :
    k0_pay897 v30 kb (ix3 0 k l) = ∑ d : Fin 128, kb (ix3 0 k d) * v30 (ix2 ⟨10 * 128 + d.val, by omega⟩ l) := by
  pointwise [k0_pay897]

theorem payb11 (v30 : FVec Ideal S2048x256 .bf16) (kb : Vec Ideal S1x128x128 .bf16) (k : Fin 128) (l : Fin 256) :
    k0_pay898 v30 kb (ix3 0 k l) = ∑ d : Fin 128, kb (ix3 0 k d) * v30 (ix2 ⟨11 * 128 + d.val, by omega⟩ l) := by
  pointwise [k0_pay898]

theorem payb12 (v30 : FVec Ideal S2048x256 .bf16) (kb : Vec Ideal S1x128x128 .bf16) (k : Fin 128) (l : Fin 256) :
    k0_pay900 (k0_pay899 v30 kb) (ix3 0 k l) = ∑ d : Fin 128, kb (ix3 0 k d) * v30 (ix2 ⟨12 * 128 + d.val, by omega⟩ l) := by
  pointwise [k0_pay900, k0_pay899]

theorem payb13 (v30 : FVec Ideal S2048x256 .bf16) (kb : Vec Ideal S1x128x128 .bf16) (k : Fin 128) (l : Fin 256) :
    k0_pay901 v30 kb (ix3 0 k l) = ∑ d : Fin 128, kb (ix3 0 k d) * v30 (ix2 ⟨13 * 128 + d.val, by omega⟩ l) := by
  pointwise [k0_pay901]

theorem payb14 (v30 : FVec Ideal S2048x256 .bf16) (kb : Vec Ideal S1x128x128 .bf16) (k : Fin 128) (l : Fin 256) :
    k0_pay902 v30 kb (ix3 0 k l) = ∑ d : Fin 128, kb (ix3 0 k d) * v30 (ix2 ⟨14 * 128 + d.val, by omega⟩ l) := by
  pointwise [k0_pay902]

theorem payb15 (v30 : FVec Ideal S2048x256 .bf16) (kb : Vec Ideal S1x128x128 .bf16) (k : Fin 128) (l : Fin 256) :
    k0_pay903 v30 kb (ix3 0 k l) = ∑ d : Fin 128, kb (ix3 0 k d) * v30 (ix2 ⟨15 * 128 + d.val, by omega⟩ l) := by
  pointwise [k0_pay903]

/-- The score of column `l` against sub key `k` of half head `b`. -/
def scoreT (x0 : Vec Ideal S256x1024 .f32) (x1 : Vec Ideal S1x1024 .f32) (x2 : Vec Ideal S1x1x1024 .f32) (x3 : Vec Ideal S1x1x1024 .f32) (x4 : Vec Ideal S2048x1024 .bf16) (x5 : Vec Ideal S16x128x128 .bf16) (b : Fin 16) (k : Fin 128) (l : Fin 256) : EReal :=
  ∑ d : Fin 128, x5 (ix3 b k d) * ∑ x : Fin 1024, x4 (ix2 ⟨b.val * 128 + d.val, by omega⟩ x) * k0_pay882 x0 x1 x2 x3 (ix2 l x)

theorem key_load (arg6 : Memref sig .tc .vmem S16x128x128 .bf16) (harg6 : arg6.IsWhole) (x5 : Vec Ideal S16x128x128 .bf16) (b : Fin 16) (inb) (k d : Fin 128) :
    (View.readAt (Elt Ideal) arg6.view (Rect.unit (s := S16x128x128) ![b.val, 0, 0] S1x128x128.size inb).toLoadRect (harg6.unread x5)) (ix3 0 k d) = x5 (ix3 b k d) := by
  show arg6.view.read (Elt Ideal) (harg6.unread x5) _ = _
  rw [harg6.read_unread]
  refine congrArg x5 (funext fun a => Fin.ext ?_)
  fin_cases a
  · show b.val + 1 * 0 = b.val; omega
  · show 0 + 1 * k.val = k.val; omega
  · show 0 + 1 * d.val = d.val; omega

section

variable (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (x0 : Vec Ideal S256x1024 .f32) (x1 : Vec Ideal S1x1024 .f32) (x2 : Vec Ideal S1x1x1024 .f32) (x3 : Vec Ideal S1x1x1024 .f32) (x4 : Vec Ideal S2048x1024 .bf16) (x5 : Vec Ideal S16x128x128 .bf16)

theorem read1 (inb) : View.readAt (Elt Ideal) arg1.view (Rect.unit (s := S256x1024) ![0, 0] S256x1024.size inb).toLoadRect (harg1.unread x0) = x0 :=
  (View.readAt_full arg1.view _ inb).trans (harg1.read_unread x0)

theorem read2 (inb) : View.readAt (Elt Ideal) arg2.view (Rect.unit (s := S1x1024) ![0, 0] S1x1024.size inb).toLoadRect (harg2.unread x1) = x1 :=
  (View.readAt_full arg2.view _ inb).trans (harg2.read_unread x1)

theorem read3 (inb) : View.readAt (Elt Ideal) arg3.view (Rect.unit (s := S1x1x1024) ![0, 0, 0] S1x1x1024.size inb).toLoadRect (harg3.unread x2) = x2 :=
  (View.readAt_full arg3.view _ inb).trans (harg3.read_unread x2)

theorem read4 (inb) : View.readAt (Elt Ideal) arg4.view (Rect.unit (s := S1x1x1024) ![0, 0, 0] S1x1x1024.size inb).toLoadRect (harg4.unread x3) = x3 :=
  (View.readAt_full arg4.view _ inb).trans (harg4.read_unread x3)

theorem read5 (inb) : View.readAt (Elt Ideal) arg5.view (Rect.unit (s := S2048x1024) ![0, 0] S2048x1024.size inb).toLoadRect (harg5.unread x4) = x4 :=
  (View.readAt_full arg5.view _ inb).trans (harg5.read_unread x4)

theorem raw30_eq : raw30 arg1 harg1 arg2 harg2 arg3 harg3 arg4 harg4 arg5 harg5 arg6 harg6 x0 x1 x2 x3 x4 x5 = k0_pay883 x0 x1 x2 x3 x4 := by
  unfold raw30
  rw [read1 arg1 harg1 x0, read2 arg2 harg2 x1, read3 arg3 harg3 x2, read4 arg4 harg4 x3, read5 arg5 harg5 x4]

/-- The normed and modulated rows of a tile. -/
theorem out7_eq : out7 arg1 harg1 arg2 harg2 arg3 harg3 arg4 harg4 arg5 harg5 arg6 harg6 x0 x1 x2 x3 x4 x5 = k0_pay882 x0 x1 x2 x3 := by
  funext y
  refine Pieces.read_agree VO7 VO7.junk (k0_pay882 x0 x1 x2 x3) _ ?_ y (cover7 arg1 harg1 arg2 harg2 arg3 harg3 arg4 harg4 arg5 harg5 arg6 harg6 x0 x1 x2 x3 x4 x5 y)
  unfold raw7
  rw [read1 arg1 harg1 x0, read2 arg2 harg2 x1, read3 arg3 harg3 x2, read4 arg4 harg4 x3]
  refine Pieces.agrees_cons _ (fun x => ?_) (Pieces.agrees_nil _)
  refine congrArg (k0_pay882 x0 x1 x2 x3) (funext fun a => Fin.ext ?_)
  fin_cases a
  · show (x 0).val = 0 + 1 * (x 0).val; omega
  · show (x 1).val = 0 + 1 * (x 1).val; omega

theorem agree12 (v30 : FVec Ideal S2048x256 .bf16) (h30 : v30 = k0_pay883 x0 x1 x2 x3 x4) (b : Fin 16) (inb) (inb') (w : S1x128x256.Idx → EReal)
    (hw : ∀ (k : Fin 128) (l : Fin 256), w (ix3 0 k l) = ∑ d : Fin 128, (View.readAt (Elt Ideal) arg6.view (Rect.unit (s := S16x128x128) ![b.val, 0, 0] S1x128x128.size inb').toLoadRect (harg6.unread x5)) (ix3 0 k d) * v30 (ix2 ⟨b.val * 128 + d.val, by omega⟩ l))
    :
    Pieces.Agrees (Val := Elt Ideal) (e := .f32) (fun i : S16x128x256.Idx => scoreT x0 x1 x2 x3 x4 x5 (i 0) (i 1) (i 2)) ⟨Rect.unit (s := S16x128x256) ![b.val, 0, 0] S1x128x256.size inb, w⟩ := by
  intro y
  obtain ⟨x, rfl⟩ : ∃ x : S1x128x256.Idx, x = y := ⟨y, rfl⟩
  have hx : x = ix3 0 (x 1) (x 2) := by
    funext a; fin_cases a
    · exact Subsingleton.elim (α := Fin 1) _ _
    · rfl
    · rfl
  have h0 : (Rect.unit (s := S16x128x256) ![b.val, 0, 0] S1x128x256.size inb).emb x 0 = b := Fin.ext (by
    have : (x 0).val = 0 := by have := (x 0).isLt; exact Nat.lt_one_iff.mp this
    show b.val + 1 * (x 0).val = b.val; omega)
  have h1 : (Rect.unit (s := S16x128x256) ![b.val, 0, 0] S1x128x256.size inb).emb x 1 = x 1 := Fin.ext (by show 0 + 1 * (x 1).val = (x 1).val; omega)
  have h2 : (Rect.unit (s := S16x128x256) ![b.val, 0, 0] S1x128x256.size inb).emb x 2 = x 2 := Fin.ext (by show 0 + 1 * (x 2).val = (x 2).val; omega)
  show w x = scoreT x0 x1 x2 x3 x4 x5 ((Rect.unit (s := S16x128x256) ![b.val, 0, 0] S1x128x256.size inb).emb x 0) ((Rect.unit (s := S16x128x256) ![b.val, 0, 0] S1x128x256.size inb).emb x 1) ((Rect.unit (s := S16x128x256) ![b.val, 0, 0] S1x128x256.size inb).emb x 2)
  rw [h0, h1, h2]
  refine (congrArg w hx).trans ((hw (x 1) (x 2)).trans ?_)
  unfold scoreT
  subst h30
  exact Finset.sum_congr rfl fun d _ => congrArg₂ (· * ·) (key_load arg6 harg6 x5 b inb' (x 1) d) (pay30_apply x0 x1 x2 x3 x4 _ (x 2))

/-- What the scores' scratch holds. -/
theorem scores_apply (y : S16x128x256.Idx) : scores arg1 harg1 arg2 harg2 arg3 harg3 arg4 harg4 arg5 harg5 arg6 harg6 x0 x1 x2 x3 x4 x5 y = scoreT x0 x1 x2 x3 x4 x5 (y 0) (y 1) (y 2) := by
  refine Pieces.read_agree VS12 VS12.junk (fun i : S16x128x256.Idx => scoreT x0 x1 x2 x3 x4 x5 (i 0) (i 1) (i 2)) _ ?_ y (cover12 arg1 harg1 arg2 harg2 arg3 harg3 arg4 harg4 arg5 harg5 arg6 harg6 x0 x1 x2 x3 x4 x5 y)
  unfold raw12
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 15 _ inb_S16x128x128_S1x128x128_15_0_0 _ (payb15 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 14 _ inb_S16x128x128_S1x128x128_14_0_0 _ (payb14 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 13 _ inb_S16x128x128_S1x128x128_13_0_0 _ (payb13 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 12 _ inb_S16x128x128_S1x128x128_12_0_0 _ (payb12 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 11 _ inb_S16x128x128_S1x128x128_11_0_0 _ (payb11 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 10 _ inb_S16x128x128_S1x128x128_10_0_0 _ (payb10 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 9 _ inb_S16x128x128_S1x128x128_9_0_0 _ (payb9 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 8 _ inb_S16x128x128_S1x128x128_8_0_0 _ (payb8 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 7 _ inb_S16x128x128_S1x128x128_7_0_0 _ (payb7 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 6 _ inb_S16x128x128_S1x128x128_6_0_0 _ (payb6 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 5 _ inb_S16x128x128_S1x128x128_5_0_0 _ (payb5 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 4 _ inb_S16x128x128_S1x128x128_4_0_0 _ (payb4 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 3 _ inb_S16x128x128_S1x128x128_3_0_0 _ (payb3 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 2 _ inb_S16x128x128_S1x128x128_2_0_0 _ (payb2 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 1 _ inb_S16x128x128_S1x128x128_1_0_0 _ (payb1 _ _)) ?_
  refine Pieces.agrees_cons _ (agree12 arg6 harg6 x0 x1 x2 x3 x4 x5 (raw30 arg1 harg1 arg2 harg2 arg3 harg3 arg4 harg4 arg5 harg5 arg6 harg6 x0 x1 x2 x3 x4 x5) (raw30_eq arg1 harg1 arg2 harg2 arg3 harg3 arg4 harg4 arg5 harg5 arg6 harg6 x0 x1 x2 x3 x4 x5) 0 _ inb_S16x128x128_S1x128x128_0_0_0 _ (payb0 _ _ _ _ _ x5 _)) ?_
  exact Pieces.agrees_nil _

end

/-- The trips' slabs. -/
theorem offs : ∀ n : Fin k0_t1_loop.trips, n.val < 8
    ∧ k0_off1 n = ![2 * n.val, 0, 0] ∧ k0_off2 n = ![2 * n.val + 1, 0, 0] ∧ k0_off3 n = ![n.val, 0, 0]
    ∧ k0_off4 n = ![2 * n.val, 0, 128] ∧ k0_off5 n = ![2 * n.val + 1, 0, 128] ∧ k0_off6 n = ![n.val, 0, 128] := by decide +kernel

theorem slab_load (arg12 : Memref sig .tc .vmem S16x128x256 .f32) (harg12 : arg12.IsWhole) (S : Vec Ideal S16x128x256 .f32) (off : Fin 3 → ℕ) (b : Fin 16) (o : ℕ)
    (ho : o + 128 ≤ 256) (hoff : off = ![b.val, 0, o]) (inb) (k l : Fin 128) :
    (View.readAt (Elt Ideal) arg12.view (Rect.unit (s := S16x128x256) off S1x128x128.size inb).toLoadRect (harg12.unread S)) (ix3 0 k l) = S (ix3 b k ⟨o + l.val, by omega⟩) := by
  subst hoff
  show arg12.view.read (Elt Ideal) (harg12.unread S) _ = _
  rw [harg12.read_unread]
  refine congrArg S (funext fun a => Fin.ext ?_)
  fin_cases a
  · show b.val + 1 * 0 = b.val; omega
  · show 0 + 1 * k.val = k.val; omega
  · show o + 1 * l.val = o + l.val; omega

theorem agree8 (off : Fin 3 → ℕ) (h : Fin 8) (o : ℕ) (ho : o + 128 ≤ 256) (hoff : off = ![h.val, 0, o]) (inb) (g : S8x128x256.Idx → EReal) (w : FVec Ideal S128x128 .f32)
    (hw : ∀ a b : Fin 128, w (ix2 a b) = g (ix3 h a ⟨o + b.val, by omega⟩))  :
    Pieces.Agrees (Val := Elt Ideal) (e := .f32) g ⟨Rect.unit (s := S8x128x256) off S1x128x128.size inb, shapeCast S1x128x128 w shapeCasts_S128x128_S1x128x128⟩ := by
  intro x
  subst hoff
  have hx : x = ix3 0 (x 1) (x 2) := by
    funext a; fin_cases a
    · exact Subsingleton.elim (α := Fin 1) _ _
    · rfl
    · rfl
  have he : (Rect.unit (s := S8x128x256) ![h.val, 0, o] S1x128x128.size inb).emb x = ix3 h (x 1) ⟨o + (x 2).val, by have := (x 2).isLt; have h' : (x 2).val < 128 := this; omega⟩ := by
    funext a; refine Fin.ext ?_
    fin_cases a
    · have : (x 0).val = 0 := by have := (x 0).isLt; exact Nat.lt_one_iff.mp this
      show h.val + 1 * (x 0).val = h.val; omega
    · show 0 + 1 * (x 1).val = (x 1).val; omega
    · show o + 1 * (x 2).val = o + (x 2).val; omega
  rw [he]
  refine Eq.trans ?_ (hw (x 1) (x 2))
  refine (congrArg _ hx).trans ?_
  pointwise []

section

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S16x128x128 .bf16) (harg6 : arg6.IsWhole) (arg7 : Memref sig .tc .vmem S256x1024 .bf16) (harg7 : arg7.IsWhole) (arg8 : Memref sig .tc .vmem S8x128x256 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S16x128x256 .f32) (harg12 : arg12.IsWhole) (arg13 : Memref sig .tc .vmem S16x128 .f32) (harg13 : arg13.IsWhole) (S : Vec Ideal S16x128x256 .f32)

/-- What the ranks' block holds, and what the exponentials' block holds. -/
def rankT (S : Vec Ideal S16x128x256 .f32) (y : S8x128x256.Idx) : EReal := Select.rank (fun k => S (ix3 (⟨2 * (y 0).val, by have := (y 0).isLt; have h : (y 0).val < 8 := this; omega⟩ : Fin 16) k (y 2))) (y 1)
def expoT (S : Vec Ideal S16x128x256 .f32) (y : S8x128x256.Idx) : EReal := Select.expo (fun k => S (ix3 (⟨2 * (y 0).val + 1, by have := (y 0).isLt; have h : (y 0).val < 8 := this; omega⟩ : Fin 16) k (y 2))) (y 1)

theorem ld_apply (arg12 : Memref sig .tc .vmem S16x128x256 .f32) (harg12 : arg12.IsWhole) (S : Vec Ideal S16x128x256 .f32) (n : Fin k0_t1_loop.trips) (hn : n.val < 8) (k l : Fin 128) :
    ld1 arg12 (harg12.unread S) n (ix2 k l) = S (ix3 ⟨2 * n.val, by omega⟩ k ⟨0 + l.val, by omega⟩)
    ∧ ld2 arg12 (harg12.unread S) n (ix2 k l) = S (ix3 ⟨2 * n.val + 1, by omega⟩ k ⟨0 + l.val, by omega⟩)
    ∧ ld4 arg12 (harg12.unread S) n (ix2 k l) = S (ix3 ⟨2 * n.val, by omega⟩ k ⟨128 + l.val, by omega⟩)
    ∧ ld5 arg12 (harg12.unread S) n (ix2 k l) = S (ix3 ⟨2 * n.val + 1, by omega⟩ k ⟨128 + l.val, by omega⟩) := by
  obtain ⟨_, o1, o2, o3, o4, o5, o6⟩ := offs n
  have hc : ∀ v : Vec Ideal S1x128x128 .f32, shapeCast S128x128 v shapeCasts_S1x128x128_S128x128 (ix2 k l) = v (ix3 0 k l) := fun v => by pointwise []
  refine ⟨(hc _).trans (slab_load arg12 harg12 S _ ⟨2 * n.val, by omega⟩ 0 (by omega) o1 _ k l), (hc _).trans (slab_load arg12 harg12 S _ ⟨2 * n.val + 1, by omega⟩ 0 (by omega) o2 _ k l),
    (hc _).trans (slab_load arg12 harg12 S _ ⟨2 * n.val, by omega⟩ 128 (by omega) o4 _ k l), (hc _).trans (slab_load arg12 harg12 S _ ⟨2 * n.val + 1, by omega⟩ 128 (by omega) o5 _ k l)⟩

theorem trip_agree (n : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f13 : BufTy.Contents (Elt Ideal) arg13.view.ty) :
    (∀ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) n f8 f9 f10 f11 f13).1, Pieces.Agrees (Val := Elt Ideal) (e := .f32) (rankT S) p)
    ∧ ∀ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) n f8 f9 f10 f11 f13).2.2.2.1, Pieces.Agrees (Val := Elt Ideal) (e := .f32) (expoT S) p := by
  obtain ⟨hn, o1, o2, o3, o4, o5, o6⟩ := offs n
  have e8 : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) n f8 f9 f10 f11 f13).1
      = [⟨Rect.unit (s := S8x128x256) (k0_off6 n) S1x128x128.size (k0_off6_inb n), k0_pay1 (trip_k0_t1.sl.r_400 arg12 (harg12.unread S) n)⟩,
        ⟨Rect.unit (s := S8x128x256) (k0_off3 n) S1x128x128.size (k0_off3_inb n), k0_pay441 (trip_k0_t1.sl.r_27 arg12 (harg12.unread S) n)⟩] := by
    unfold tripL_k0_t1 trip_k0_t1
    rfl
  have e11 : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) n f8 f9 f10 f11 f13).2.2.2.1
      = [⟨Rect.unit (s := S8x128x256) (k0_off6 n) S1x128x128.size (k0_off6_inb n), k0_pay4 (trip_k0_t1.sl.r_420 arg12 (harg12.unread S) n)⟩,
        ⟨Rect.unit (s := S8x128x256) (k0_off3 n) S1x128x128.size (k0_off3_inb n), k0_pay444 (trip_k0_t1.sl.r_48 arg12 (harg12.unread S) n)⟩] := by
    unfold tripL_k0_t1 trip_k0_t1
    rfl
  rw [e8, e11, rank0_eq, rank1_eq, expo0_eq, expo1_eq, pay1_eq, pay441_eq]
  have l1 : ∀ k l, _ := fun k l => (ld_apply arg12 harg12 S n hn k l).1
  have l2 : ∀ k l, _ := fun k l => (ld_apply arg12 harg12 S n hn k l).2.1
  have l4 : ∀ k l, _ := fun k l => (ld_apply arg12 harg12 S n hn k l).2.2.1
  have l5 : ∀ k l, _ := fun k l => (ld_apply arg12 harg12 S n hn k l).2.2.2
  have a1 : Pieces.Agrees (Val := Elt Ideal) (e := .f32) (rankT S) ⟨Rect.unit (s := S8x128x256) (k0_off6 n) S1x128x128.size (k0_off6_inb n), shapeCast S1x128x128 (rankV (ld4 arg12 (harg12.unread S) n)) shapeCasts_S128x128_S1x128x128⟩ :=
    agree8 _ ⟨n.val, hn⟩ 128 (by omega) o6 _ (rankT S) _ fun a b => by rw [rankV_apply, funext fun k => l4 k b]; rfl
  have a2 : Pieces.Agrees (Val := Elt Ideal) (e := .f32) (rankT S) ⟨Rect.unit (s := S8x128x256) (k0_off3 n) S1x128x128.size (k0_off3_inb n), shapeCast S1x128x128 (rankV (ld1 arg12 (harg12.unread S) n)) shapeCasts_S128x128_S1x128x128⟩ :=
    agree8 _ ⟨n.val, hn⟩ 0 (by omega) o3 _ (rankT S) _ fun a b => by rw [rankV_apply, funext fun k => l1 k b]; rfl
  have a3 : Pieces.Agrees (Val := Elt Ideal) (e := .f32) (expoT S) ⟨Rect.unit (s := S8x128x256) (k0_off6 n) S1x128x128.size (k0_off6_inb n), shapeCast S1x128x128 (expoV (ld5 arg12 (harg12.unread S) n)) shapeCasts_S128x128_S1x128x128⟩ :=
    agree8 _ ⟨n.val, hn⟩ 128 (by omega) o6 _ (expoT S) _ fun a b => by rw [expoV_apply, funext fun k => l5 k b]; rfl
  have a4 : Pieces.Agrees (Val := Elt Ideal) (e := .f32) (expoT S) ⟨Rect.unit (s := S8x128x256) (k0_off3 n) S1x128x128.size (k0_off3_inb n), shapeCast S1x128x128 (expoV (ld2 arg12 (harg12.unread S) n)) shapeCasts_S128x128_S1x128x128⟩ :=
    agree8 _ ⟨n.val, hn⟩ 0 (by omega) o3 _ (expoT S) _ fun a b => by rw [expoV_apply, funext fun k => l2 k b]; rfl
  clear l1 l2 l4 l5 o1 o2 o3 o4 o5 o6 e8 e11
  exact ⟨Pieces.agrees_cons _ a1 (Pieces.agrees_cons _ a2 (Pieces.agrees_nil _)), Pieces.agrees_cons _ a3 (Pieces.agrees_cons _ a4 (Pieces.agrees_nil _))⟩

theorem pb_agree (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G13 : BufTy.Contents (Elt Ideal) arg13.view.ty) : ∀ n, n ≤ k0_t1_loop.trips →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) G8 G9 G10 G11 G13 n).1, Pieces.Agrees (Val := Elt Ideal) (e := .f32) (rankT S) p)
    ∧ ∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) G8 G9 G10 G11 G13 n).2.2.2.1, Pieces.Agrees (Val := Elt Ideal) (e := .f32) (expoT S) p
  | 0, _ => ⟨fun p hp => absurd hp List.not_mem_nil, fun p hp => absurd hp List.not_mem_nil⟩
  | n + 1, h => by
    have e1 := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 0#32 1#32 (harg12.unread S) G8 G9 G10 G11 G13 ⟨n, h⟩
    have ih := pb_agree G8 G9 G10 G11 G13 n (Nat.le_of_succ_le h)
    rw [show n + 1 = Fin.val (⟨n, h⟩ : Fin k0_t1_loop.trips) + 1 from rfl, e1]
    refine ⟨fun p hp => ?_, fun p hp => ?_⟩
    · rcases List.mem_append.mp hp with hp | hp
      · exact (trip_agree c i arg1 harg1 arg2 harg2 arg3 harg3 arg4 harg4 arg5 harg5 arg6 harg6 arg7 harg7 arg8 harg8 arg9 harg9 arg10 harg10 arg11 harg11 arg12 harg12 arg13 harg13 S ⟨n, h⟩ _ _ _ _ _).1 p hp
      · exact ih.1 p hp
    · rcases List.mem_append.mp hp with hp | hp
      · exact (trip_agree c i arg1 harg1 arg2 harg2 arg3 harg3 arg4 harg4 arg5 harg5 arg6 harg6 arg7 harg7 arg8 harg8 arg9 harg9 arg10 harg10 arg11 harg11 arg12 harg12 arg13 harg13 S ⟨n, h⟩ _ _ _ _ _).2 p hp
      · exact ih.2 p hp

theorem out8_eq (y : S8x128x256.Idx) : out8 c i arg1 harg1 arg2 harg2 arg3 harg3 arg4 harg4 arg5 harg5 arg6 harg6 arg7 harg7 arg8 harg8 arg9 harg9 arg10 harg10 arg11 harg11 arg12 harg12 arg13 harg13 S y = rankT S y := by
  unfold out8
  exact Pieces.read_agree VO8 VO8.junk (rankT S) _ (pb_agree c i arg1 harg1 arg2 harg2 arg3 harg3 arg4 harg4 arg5 harg5 arg6 harg6 arg7 harg7 arg8 harg8 arg9 harg9 arg10 harg10 arg11 harg11 arg12 harg12 arg13 harg13 S _ _ _ _ _ _ le_rfl).1 y (cover8 c i arg1 harg1 arg2 harg2 arg3 harg3 arg4 harg4 arg5 harg5 arg6 harg6 arg7 harg7 arg8 harg8 arg9 harg9 arg10 harg10 arg11 harg11 arg12 harg12 arg13 harg13 S y)

theorem out11_eq (y : S8x128x256.Idx) : out11 c i arg1 harg1 arg2 harg2 arg3 harg3 arg4 harg4 arg5 harg5 arg6 harg6 arg7 harg7 arg8 harg8 arg9 harg9 arg10 harg10 arg11 harg11 arg12 harg12 arg13 harg13 S y = expoT S y := by
  unfold out11
  exact Pieces.read_agree VO11 VO11.junk (expoT S) _ (pb_agree c i arg1 harg1 arg2 harg2 arg3 harg3 arg4 harg4 arg5 harg5 arg6 harg6 arg7 harg7 arg8 harg8 arg9 harg9 arg10 harg10 arg11 harg11 arg12 harg12 arg13 harg13 S _ _ _ _ _ _ le_rfl).2 y (cover11 c i arg1 harg1 arg2 harg2 arg3 harg3 arg4 harg4 arg5 harg5 arg6 harg6 arg7 harg7 arg8 harg8 arg9 harg9 arg10 harg10 arg11 harg11 arg12 harg12 arg13 harg13 S y)

end

end Cert.PeerSelectIdeal.Gen

end
-- ==== Proof.SelectValue.lean ====
module

public import proofs.«01_k».proof.Proof.SelectOut
public import Idealize.ShloMosaic.Lib.StableHlo.Run

/-!
# The kernel's rows, ranks and exponentials

Every grid point's blocks are rows of the arguments, so what it writes is its block of the three results; the blocks cover
the arrays.
-/

@[expose] public section

set_option maxRecDepth 16384

noncomputable section

namespace Cert.PeerSelectIdeal.Value

open Cert.PeerSelectIdeal Cert.PeerSelectIdeal.Gen Idealize.ShloMosaic Idealize.ShloMosaic.TcCoe Idealize.SL.Sem
open Idealize.ShloMosaic.Pointwise
open Idealize.ShloMosaic.Pipeline (Dat)
open Cert.Lin Cert.Select

variable (m : (ℓ : Loc nD τ sig) → Buf (Elt Ideal) ℓ) (ρ : Dev nD → PrngReg) (c : Dev nD)

abbrev arg0 : FVec Ideal S16384x1024 .f32 := m ((c : Thread nD τ).loc main_arg0)
abbrev arg1 : FVec Ideal S1024 .f32 := m ((c : Thread nD τ).loc main_arg1)
abbrev arg2 : FVec Ideal S24x1x1024 .f32 := m ((c : Thread nD τ).loc main_arg2)
abbrev arg3 : FVec Ideal S1024x2048 .f32 := m ((c : Thread nD τ).loc main_arg3)
abbrev arg4 : FVec Ideal S8x2x128x128 .f32 := m ((c : Thread nD τ).loc main_arg4)

theorem V_v1 : V m c main_v1 = truncf .bf16 (shapeCast S16x128x128 (arg4 m c) shapeCasts_S8x2x128x128_S16x128x128) bitsLt_bf16_f32 := by
  show StableHlo.after hostOps0 (fun b => m (c, b)) main_v1 = _
  after_results <;> rfl

theorem V_v3 : V m c main_v3 = truncf .bf16 (transpose S2048x1024 [1, 0] (arg3 m c) transposes_S1024x2048_S2048x1024_1_0) bitsLt_bf16_f32 := by
  show StableHlo.after hostOps0 (fun b => m (c, b)) main_v3 = _
  after_results <;> rfl

theorem V_v4 : V m c main_v4 = shapeCast S1x1024 (arg1 m c) shapeCasts_S1024_S1x1024 := by
  show StableHlo.after hostOps0 (fun b => m (c, b)) main_v4 = _
  after_results <;> rfl

/-- The windows' block indices at a grid point. -/
theorem win_index : ∀ t : Fin grid0.N,
    win0_0.index t 0 = t.val
    ∧ win0_0.index t 1 = 0
    ∧ win0_1.index t 0 = 0
    ∧ win0_1.index t 1 = 0
    ∧ win0_2.index t 0 = t.val / 16 * 6 + 4
    ∧ win0_2.index t 1 = 0
    ∧ win0_2.index t 2 = 0
    ∧ win0_3.index t 0 = t.val / 16 * 6 + 3
    ∧ win0_3.index t 1 = 0
    ∧ win0_3.index t 2 = 0
    ∧ win0_4.index t 0 = 0
    ∧ win0_4.index t 1 = 0
    ∧ win0_5.index t 0 = 0
    ∧ win0_5.index t 1 = 0
    ∧ win0_5.index t 2 = 0
    ∧ win0_6.index t 0 = t.val
    ∧ win0_6.index t 1 = 0
    ∧ win0_7.index t 0 = 0
    ∧ win0_7.index t 1 = 0
    ∧ win0_7.index t 2 = t.val
    ∧ win0_10.index t 0 = 0
    ∧ win0_10.index t 1 = 0
    ∧ win0_10.index t 2 = t.val := by decide +kernel

/-- Row `r` of point `t`'s block. -/
abbrev row (t : Fin cfg0.N) (r : Fin 256) : Fin 16384 := ⟨t.val * 256 + r.val, by have : t.val < 64 := t.isLt; omega⟩

theorem iblk0 (t : Fin cfg0.N) (r : Fin 256) (x : Fin 1024) :
    (iblk m c 0 t : Vec Ideal S256x1024 .f32) (ix2 r x) = arg0 m c (ix2 (row t r) x) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine (congrFun (V_main_arg0 m c) _).trans ?_
  refine congrArg (arg0 m c) (funext fun a => Fin.ext ?_)
  fin_cases a
  · show win0_0.index t 0 * 256 + 1 * r.val = t.val * 256 + r.val
    rw [h0_0]; omega
  · show win0_0.index t 1 * 1024 + 1 * x.val = x.val
    rw [h0_1]; omega

theorem iblk1_V (t : Fin cfg0.N) (p : Fin 1) (x : Fin 1024) :
    (iblk m c 1 t : Vec Ideal S1x1024 .f32) (ix2 p x) = (V m c main_v4 : Vec Ideal S1x1024 .f32) (ix2 p x) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine congrArg (V m c main_v4) (funext fun a => Fin.ext ?_)
  fin_cases a
  · show win0_1.index t 0 * 1 + 1 * p.val = p.val
    rw [h1_0]; omega
  · show win0_1.index t 1 * 1024 + 1 * x.val = x.val
    rw [h1_1]; omega

theorem iblk2 (t : Fin cfg0.N) (r : Fin 256) (x : Fin 1024) :
    (iblk m c 2 t : Vec Ideal S1x1x1024 .f32) (ix3 0 0 x) = arg2 m c (ix3 (part (row t r) 4) 0 x) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine (congrFun (V_main_arg2 m c) _).trans ?_
  refine congrArg (arg2 m c) (funext fun a => Fin.ext ?_)
  fin_cases a
  · show win0_2.index t 0 * 1 + 1 * 0 = (t.val * 256 + r.val) / 4096 * 6 + 4
    rw [h2_0]; omega
  · show win0_2.index t 1 * 1 + 1 * 0 = 0
    rw [h2_1]
  · show win0_2.index t 2 * 1024 + 1 * x.val = x.val
    rw [h2_2]; omega

theorem iblk3 (t : Fin cfg0.N) (r : Fin 256) (x : Fin 1024) :
    (iblk m c 3 t : Vec Ideal S1x1x1024 .f32) (ix3 0 0 x) = arg2 m c (ix3 (part (row t r) 3) 0 x) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine (congrFun (V_main_arg2 m c) _).trans ?_
  refine congrArg (arg2 m c) (funext fun a => Fin.ext ?_)
  fin_cases a
  · show win0_3.index t 0 * 1 + 1 * 0 = (t.val * 256 + r.val) / 4096 * 6 + 3
    rw [h3_0]; omega
  · show win0_3.index t 1 * 1 + 1 * 0 = 0
    rw [h3_1]
  · show win0_3.index t 2 * 1024 + 1 * x.val = x.val
    rw [h3_2]; omega

theorem iblk4_V (t : Fin cfg0.N) (p : Fin 2048) (x : Fin 1024) :
    (iblk m c 4 t : Vec Ideal S2048x1024 .bf16) (ix2 p x) = (V m c main_v3 : Vec Ideal S2048x1024 .bf16) (ix2 p x) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine congrArg (V m c main_v3) (funext fun a => Fin.ext ?_)
  fin_cases a
  · show win0_4.index t 0 * 2048 + 1 * p.val = p.val
    rw [h4_0]; omega
  · show win0_4.index t 1 * 1024 + 1 * x.val = x.val
    rw [h4_1]; omega

theorem iblk5_V (t : Fin cfg0.N) (p : Fin 16) (k d : Fin 128) :
    (iblk m c 5 t : Vec Ideal S16x128x128 .bf16) (ix3 p k d) = (V m c main_v1 : Vec Ideal S16x128x128 .bf16) (ix3 p k d) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  unfold iblk
  rw [View.read_apply]
  refine congrArg (V m c main_v1) (funext fun a => Fin.ext ?_)
  fin_cases a
  · show win0_5.index t 0 * 16 + 1 * p.val = p.val
    rw [h5_0]; omega
  · show win0_5.index t 1 * 128 + 1 * k.val = k.val
    rw [h5_1]; omega
  · show win0_5.index t 2 * 128 + 1 * d.val = d.val
    rw [h5_2]; omega

theorem iblk1g (t : Fin cfg0.N) (x : Fin 1024) :
    (iblk m c 1 t : Vec Ideal S1x1024 .f32) (ix2 0 x) = arg1 m c (ix1 x) := by
  rw [iblk1_V, V_v4]
  pointwise []

theorem iblk4w (t : Fin cfg0.N) (j : Fin 2048) (x : Fin 1024) :
    (iblk m c 4 t : Vec Ideal S2048x1024 .bf16) (ix2 j x) = arg3 m c (ix2 x j) := by
  rw [iblk4_V, V_v3]
  pointwise []

theorem keys_apply (K : FVec Ideal S8x2x128x128 .f32) (h : Fin 8) (p : Fin 2) (b : Fin 16) (hb : b.val = 2 * h.val + p.val) (k d : Fin 128) :
    shapeCast S16x128x128 K shapeCasts_S8x2x128x128_S16x128x128 (ix3 b k d) = K (ix4 h p k d) := by
  pointwise []
  refine congrArg K (funext fun a => Fin.ext ?_)
  have := p.isLt
  fin_cases a
  · show b.val / 2 = h.val; omega
  · show b.val % 2 = p.val; omega
  · rfl
  · rfl

theorem iblk5k (t : Fin cfg0.N) (h : Fin 8) (p : Fin 2) (b : Fin 16) (hb : b.val = 2 * h.val + p.val) (k d : Fin 128) :
    (iblk m c 5 t : Vec Ideal S16x128x128 .bf16) (ix3 b k d) = arg4 m c (ix4 h p k d) := by
  rw [iblk5_V, V_v1]
  exact keys_apply (arg4 m c) h p b hb k d

theorem rows_apply (t : Fin cfg0.N) (r : Fin 256) (x : Fin 1024) :
    k0_pay882 (iblk m c 0 t) (iblk m c 1 t) (iblk m c 2 t) (iblk m c 3 t) (ix2 r x) = modded2 (arg0 m c) (arg1 m c) (arg2 m c) (row t r) x := by
  pointwise [k0_pay882]
  simp only [iblk0, iblk1g, iblk2 m c t r, iblk3 m c t r]
  rfl

theorem scoresAt_apply (t : Fin cfg0.N) (h : Fin 8) (p : Fin 2) (b : Fin 16) (hb : b.val = 2 * h.val + p.val) (k : Fin 128) (r : Fin 256) :
    scoresAt m c t (ix3 b k r) = score (arg0 m c) (arg1 m c) (arg2 m c) (arg3 m c) (arg4 m c) h p k (row t r) := by
  unfold scoresAt
  refine (scores_apply _ _ _ _ _ _ _ _ _ _ _ _ _ _ _ _ _ _ (ix3 b k r)).trans ?_
  show scoreT (iblk m c 0 t) (iblk m c 1 t) (iblk m c 2 t) (iblk m c 3 t) (iblk m c 4 t) (iblk m c 5 t) b k r = _
  unfold scoreT score
  refine Finset.sum_congr rfl fun d _ => ?_
  rw [iblk5k m c t h p b hb, mul_comm]
  congr 1
  unfold qry
  refine Finset.sum_congr rfl fun x _ => ?_
  rw [iblk4w, rows_apply, mul_comm]
  congr 2
  refine congrArg (ix2 x) (Fin.ext ?_)
  show b.val * 128 + d.val = h.val * 256 + p.val * 128 + d.val
  omega

/-! ## What the points write, and the arrays -/

abbrev result6 : Buf (Elt Ideal) ((c : Thread nD τ).loc main_v5_0) := rowsArr (arg0 m c) (arg1 m c) (arg2 m c)
abbrev result7 : Buf (Elt Ideal) ((c : Thread nD τ).loc main_v5_1) := rankArr (arg0 m c) (arg1 m c) (arg2 m c) (arg3 m c) (arg4 m c)
abbrev result10 : Buf (Elt Ideal) ((c : Thread nD τ).loc main_v5_4) := expoArr (arg0 m c) (arg1 m c) (arg2 m c) (arg3 m c) (arg4 m c)

theorem point6 (t : Fin cfg0.N) (r : Fin 256) (d : Fin 1024) :
    out7At m c t (ix2 r d) = modded2 (arg0 m c) (arg1 m c) (arg2 m c) (row t r) d := by
  unfold out7At
  rw [out7_eq]
  exact rows_apply m c t r d

theorem point7 (t : Fin cfg0.N) (h : Fin 8) (k : Fin 128) (r : Fin 256) :
    out8At m c t (ix3 h k r) = rank (fun k => score (arg0 m c) (arg1 m c) (arg2 m c) (arg3 m c) (arg4 m c) h 0 k (row t r)) k := by
  unfold out8At
  rw [out8_eq]
  show rank (fun k => scoresAt m c t (ix3 (⟨2 * h.val, by omega⟩ : Fin 16) k r)) k = _
  rw [funext fun k => scoresAt_apply m c t h 0 (⟨2 * h.val, by omega⟩ : Fin 16) rfl k r]

theorem point10 (t : Fin cfg0.N) (h : Fin 8) (k : Fin 128) (r : Fin 256) :
    out11At m c t (ix3 h k r) = expo (fun k => score (arg0 m c) (arg1 m c) (arg2 m c) (arg3 m c) (arg4 m c) h 1 k (row t r)) k := by
  unfold out11At
  rw [out11_eq]
  show expo (fun k => scoresAt m c t (ix3 (⟨2 * h.val + 1, by omega⟩ : Fin 16) k r)) k = _
  rw [funext fun k => scoresAt_apply m c t h 1 (⟨2 * h.val + 1, by omega⟩ : Fin 16) rfl k r]

attribute [local irreducible] Cert.Select.rank Cert.Select.expo Cert.Select.score

theorem cut6 (i : grid0.Coords) (X : Vec Ideal S256x1024 .bf16) (j) : (cfg0.win 6).cut i X j = X (ix2 (j 0) (j 1)) := by
  refine congrArg X (funext fun a => ?_)
  fin_cases a <;> rfl

theorem flushed6_eq (t : Fin cfg0.N) (hf : (cfg0.win 6).flush t = true) :
    (dats m 0 c).flushed 6 t = ((cfg0.win 6).blk t).view.read (Elt Ideal) (result6 m c) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  show (cfg0.win 6).cut (grid0.coords t) ((dats m 0 c).after 6 t) = _
  rw [after0_6]
  funext j
  rw [cut6]
  refine (point6 m c t (j 0) (j 1)).trans ?_
  rw [View.read_apply]
  refine congr (congrArg _ (Fin.ext ?_)) (Fin.ext ?_)
  · show t.val * 256 + (j 0).val = win0_6.index t 0 * 256 + 1 * (j 0).val
    rw [h6_0]; omega
  · show (j 1).val = win0_6.index t 1 * 1024 + 1 * (j 1).val
    rw [h6_1]; omega

theorem final6 : (dats m 0 c).arrAt 6 cfg0.N = result6 m c :=
  (dats m 0 c).arrAt_eq_of_cover 6 (result6 m c) (flushed6_eq m c) fun i => by
    have i0 : (i 0 : ℕ) < 16384 := (i 0).isLt
    have i1 : (i 1 : ℕ) < 1024 := (i 1).isLt
    have hN : (i 0 : ℕ) / 256 < grid0.N := by show (i 0 : ℕ) / 256 < 64; omega
    obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index ⟨(i 0 : ℕ) / 256, hN⟩
    refine ⟨⟨(i 0 : ℕ) / 256, hN⟩, flush0_6 _, ?_⟩
    show i ∈ ((View.whole main_v5_0).slice (win0_6.rect ⟨(i 0 : ℕ) / 256, hN⟩)).set
    rw [View.set_slice_whole, Rect.mem_set_unit]
    intro a
    match a with
    | ⟨0, _⟩ =>
      show win0_6.index ⟨(i 0 : ℕ) / 256, hN⟩ 0 * 256 ≤ (i 0 : ℕ) ∧ (i 0 : ℕ) < win0_6.index ⟨(i 0 : ℕ) / 256, hN⟩ 0 * 256 + 256
      rw [h6_0]; show (i 0 : ℕ) / 256 * 256 ≤ (i 0 : ℕ) ∧ (i 0 : ℕ) < (i 0 : ℕ) / 256 * 256 + 256; omega
    | ⟨1, _⟩ =>
      show win0_6.index ⟨(i 0 : ℕ) / 256, hN⟩ 1 * 1024 ≤ (i 1 : ℕ) ∧ (i 1 : ℕ) < win0_6.index ⟨(i 0 : ℕ) / 256, hN⟩ 1 * 1024 + 1024
      rw [h6_1]; omega

theorem cut7 (i : grid0.Coords) (X : Vec Ideal S8x128x256 .f32) (j) : (cfg0.win 7).cut i X j = X (ix3 (j 0) (j 1) (j 2)) := by
  refine congrArg X (funext fun a => ?_)
  fin_cases a <;> rfl

theorem flushed7_eq (t : Fin cfg0.N) (hf : (cfg0.win 7).flush t = true) :
    (dats m 0 c).flushed 7 t = ((cfg0.win 7).blk t).view.read (Elt Ideal) (result7 m c) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  show (cfg0.win 7).cut (grid0.coords t) ((dats m 0 c).after 7 t) = _
  rw [after0_7]
  funext j
  rw [cut7]
  refine (point7 m c t (j 0) (j 1) (j 2)).trans ?_
  rw [View.read_apply]
  have e0 : (j 0 : Fin 8) = ((cfg0.win 7).blk t).view.emb j 0 := Fin.ext (by
    show (j 0).val = win0_7.index t 0 * 8 + 1 * (j 0).val
    rw [h7_0]; omega)
  have e1 : (j 1 : Fin 128) = ((cfg0.win 7).blk t).view.emb j 1 := Fin.ext (by
    show (j 1).val = win0_7.index t 1 * 128 + 1 * (j 1).val
    rw [h7_1]; omega)
  have e2 : (row t (j 2) : Fin 16384) = ((cfg0.win 7).blk t).view.emb j 2 := Fin.ext (by
    show t.val * 256 + (j 2).val = win0_7.index t 2 * 256 + 1 * (j 2).val
    rw [h7_2]; omega)
  have key : ∀ (a a' : Fin 8) (b b' : Fin 128) (n n' : Fin 16384), a = a' → b = b' → n = n' →
      rank (fun k => score (arg0 m c) (arg1 m c) (arg2 m c) (arg3 m c) (arg4 m c) a 0 k n) b = rank (fun k => score (arg0 m c) (arg1 m c) (arg2 m c) (arg3 m c) (arg4 m c) a' 0 k n') b' := by
    rintro _ _ _ _ _ _ rfl rfl rfl; rfl
  exact key _ _ _ _ _ _ e0 e1 e2

theorem final7 : (dats m 0 c).arrAt 7 cfg0.N = result7 m c :=
  (dats m 0 c).arrAt_eq_of_cover 7 (result7 m c) (flushed7_eq m c) fun i => by
    have i0 : (i 0 : ℕ) < 8 := (i 0).isLt
    have i1 : (i 1 : ℕ) < 128 := (i 1).isLt
    have i2 : (i 2 : ℕ) < 16384 := (i 2).isLt
    have hN : (i 2 : ℕ) / 256 < grid0.N := by show (i 2 : ℕ) / 256 < 64; omega
    obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index ⟨(i 2 : ℕ) / 256, hN⟩
    refine ⟨⟨(i 2 : ℕ) / 256, hN⟩, flush0_7 _, ?_⟩
    show i ∈ ((View.whole main_v5_1).slice (win0_7.rect ⟨(i 2 : ℕ) / 256, hN⟩)).set
    rw [View.set_slice_whole, Rect.mem_set_unit]
    intro a
    match a with
    | ⟨0, _⟩ =>
      show win0_7.index ⟨(i 2 : ℕ) / 256, hN⟩ 0 * 8 ≤ (i 0 : ℕ) ∧ (i 0 : ℕ) < win0_7.index ⟨(i 2 : ℕ) / 256, hN⟩ 0 * 8 + 8
      rw [h7_0]; omega
    | ⟨1, _⟩ =>
      show win0_7.index ⟨(i 2 : ℕ) / 256, hN⟩ 1 * 128 ≤ (i 1 : ℕ) ∧ (i 1 : ℕ) < win0_7.index ⟨(i 2 : ℕ) / 256, hN⟩ 1 * 128 + 128
      rw [h7_1]; omega
    | ⟨2, _⟩ =>
      show win0_7.index ⟨(i 2 : ℕ) / 256, hN⟩ 2 * 256 ≤ (i 2 : ℕ) ∧ (i 2 : ℕ) < win0_7.index ⟨(i 2 : ℕ) / 256, hN⟩ 2 * 256 + 256
      rw [h7_2]; show (i 2 : ℕ) / 256 * 256 ≤ (i 2 : ℕ) ∧ (i 2 : ℕ) < (i 2 : ℕ) / 256 * 256 + 256; omega

theorem cut10 (i : grid0.Coords) (X : Vec Ideal S8x128x256 .f32) (j) : (cfg0.win 10).cut i X j = X (ix3 (j 0) (j 1) (j 2)) := by
  refine congrArg X (funext fun a => ?_)
  fin_cases a <;> rfl

theorem flushed10_eq (t : Fin cfg0.N) (hf : (cfg0.win 10).flush t = true) :
    (dats m 0 c).flushed 10 t = ((cfg0.win 10).blk t).view.read (Elt Ideal) (result10 m c) := by
  obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index t
  show (cfg0.win 10).cut (grid0.coords t) ((dats m 0 c).after 10 t) = _
  rw [after0_10]
  funext j
  rw [cut10]
  refine (point10 m c t (j 0) (j 1) (j 2)).trans ?_
  rw [View.read_apply]
  have e0 : (j 0 : Fin 8) = ((cfg0.win 10).blk t).view.emb j 0 := Fin.ext (by
    show (j 0).val = win0_10.index t 0 * 8 + 1 * (j 0).val
    rw [h10_0]; omega)
  have e1 : (j 1 : Fin 128) = ((cfg0.win 10).blk t).view.emb j 1 := Fin.ext (by
    show (j 1).val = win0_10.index t 1 * 128 + 1 * (j 1).val
    rw [h10_1]; omega)
  have e2 : (row t (j 2) : Fin 16384) = ((cfg0.win 10).blk t).view.emb j 2 := Fin.ext (by
    show t.val * 256 + (j 2).val = win0_10.index t 2 * 256 + 1 * (j 2).val
    rw [h10_2]; omega)
  have key : ∀ (a a' : Fin 8) (b b' : Fin 128) (n n' : Fin 16384), a = a' → b = b' → n = n' →
      expo (fun k => score (arg0 m c) (arg1 m c) (arg2 m c) (arg3 m c) (arg4 m c) a 1 k n) b = expo (fun k => score (arg0 m c) (arg1 m c) (arg2 m c) (arg3 m c) (arg4 m c) a' 1 k n') b' := by
    rintro _ _ _ _ _ _ rfl rfl rfl; rfl
  exact key _ _ _ _ _ _ e0 e1 e2

theorem final10 : (dats m 0 c).arrAt 10 cfg0.N = result10 m c :=
  (dats m 0 c).arrAt_eq_of_cover 10 (result10 m c) (flushed10_eq m c) fun i => by
    have i0 : (i 0 : ℕ) < 8 := (i 0).isLt
    have i1 : (i 1 : ℕ) < 128 := (i 1).isLt
    have i2 : (i 2 : ℕ) < 16384 := (i 2).isLt
    have hN : (i 2 : ℕ) / 256 < grid0.N := by show (i 2 : ℕ) / 256 < 64; omega
    obtain ⟨h0_0, h0_1, h1_0, h1_1, h2_0, h2_1, h2_2, h3_0, h3_1, h3_2, h4_0, h4_1, h5_0, h5_1, h5_2, h6_0, h6_1, h7_0, h7_1, h7_2, h10_0, h10_1, h10_2⟩ := win_index ⟨(i 2 : ℕ) / 256, hN⟩
    refine ⟨⟨(i 2 : ℕ) / 256, hN⟩, flush0_10 _, ?_⟩
    show i ∈ ((View.whole main_v5_4).slice (win0_10.rect ⟨(i 2 : ℕ) / 256, hN⟩)).set
    rw [View.set_slice_whole, Rect.mem_set_unit]
    intro a
    match a with
    | ⟨0, _⟩ =>
      show win0_10.index ⟨(i 2 : ℕ) / 256, hN⟩ 0 * 8 ≤ (i 0 : ℕ) ∧ (i 0 : ℕ) < win0_10.index ⟨(i 2 : ℕ) / 256, hN⟩ 0 * 8 + 8
      rw [h10_0]; omega
    | ⟨1, _⟩ =>
      show win0_10.index ⟨(i 2 : ℕ) / 256, hN⟩ 1 * 128 ≤ (i 1 : ℕ) ∧ (i 1 : ℕ) < win0_10.index ⟨(i 2 : ℕ) / 256, hN⟩ 1 * 128 + 128
      rw [h10_1]; omega
    | ⟨2, _⟩ =>
      show win0_10.index ⟨(i 2 : ℕ) / 256, hN⟩ 2 * 256 ≤ (i 2 : ℕ) ∧ (i 2 : ℕ) < win0_10.index ⟨(i 2 : ℕ) / 256, hN⟩ 2 * 256 + 256
      rw [h10_2]; show (i 2 : ℕ) / 256 * 256 ≤ (i 2 : ℕ) ∧ (i 2 : ℕ) < (i 2 : ℕ) / 256 * 256 + 256; omega

/-- The run: the three results, and the arguments as they were. -/
theorem run_blocks : θ_run defs (onTc (τ := τ) (main (F := Ideal))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7, (h c).1 10,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.PeerSelectIdeal.Value

end
-- ==== Proof.SelectRef.lean ====
module

public import proofs.«01_k».proof.Proof.Gen.PeerSelectRefIdeal.Run
public import proofs.«01_k».proof.Proof.SelectSpec

/-!
# The selection's reference, read index by index
-/

@[expose] public section

set_option maxRecDepth 16384

noncomputable section

namespace Cert.PeerSelectRefIdeal.Value

open Cert.PeerSelectRefIdeal Cert.PeerSelectRefIdeal.Gen Idealize.ShloMosaic Idealize.ShloMosaic.TcCoe Idealize.SL.Sem
open Idealize.ShloMosaic.StableHlo
open Idealize.ShloMosaic.Pointwise
open Cert.Lin Cert.Select

/-- The normed and modulated rows. -/
def rowsT (A0 : FVec Ideal S16384x1024 .f32) (A1 : FVec Ideal S1024 .f32) (A2 : FVec Ideal S24x1x1024 .f32) : FVec Ideal S16384x1024 .f32 :=
  shapeCast _ (addf (mulf (mulf (mulf (shapeCast _ A0 shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ A0 shapeCasts_S16384x1024_S4x4096x1024) (shapeCast _ A0 shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A1))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 4, 0] (shapeCast _ A2 shapeCasts_S24x1x1024_S4x6x1024) slices_S4x6x1024_S4x1x1024_0_4_0)))) (broadcastInDim S4x4096x1024 ![0, 1, 2] bcast_S4x1x1024_S4x4096x1024_0_1_2 (extractStridedSlice S4x1x1024 ![0, 3, 0] (shapeCast _ A2 shapeCasts_S24x1x1024_S4x6x1024) slices_S4x6x1024_S4x1x1024_0_3_0))) shapeCasts_S4x4096x1024_S16384x1024

/-- The scores of the rows `H`. -/
def scoresT (H : FVec Ideal S16384x1024 .f32) (A3 : FVec Ideal S1024x2048 .f32) (A4 : FVec Ideal S8x2x128x128 .f32) : FVec Ideal S8x2x128x16384 .f32 :=
  Host.dotGeneral dot_S8x2x128x128_S16384x8x2x128_S8x2x128x16384_3_3_2_0_01_12 none A4 (shapeCast _ (Host.dotGeneral dot_S16384x1024_S1024x2048_S16384x2048_1_0_0_1_n_n none H A3) shapeCasts_S16384x2048_S16384x8x2x128)

def half0 (S : FVec Ideal S8x2x128x16384 .f32) : FVec Ideal S8x128x16384 .f32 :=
  shapeCast _ (extractStridedSlice S8x1x128x16384 ![0, 0, 0, 0] S slices_S8x2x128x16384_S8x1x128x16384_0_0_0_0) shapeCasts_S8x1x128x16384_S8x128x16384

def half1 (S : FVec Ideal S8x2x128x16384 .f32) : FVec Ideal S8x128x16384 .f32 :=
  shapeCast _ (extractStridedSlice S8x1x128x16384 ![0, 1, 0, 0] S slices_S8x2x128x16384_S8x1x128x16384_0_1_0_0) shapeCasts_S8x1x128x16384_S8x128x16384

def maxR (s : FVec Ideal S8x128x16384 .f32) : FVec Ideal S8x1x16384 .f32 :=
  broadcastInDim S8x1x16384 ![0, 2] bcast_S8x16384_S8x1x16384_0_2 (Host.reduce FloatOps.maximumf s (constant S_ .f32 0xFF800000#32) reducesTo_S8x128x16384_S8x16384_d1 h_S_)

def spreadR (v : FVec Ideal S8x1x16384 .f32) : FVec Ideal S8x128x16384 .f32 :=
  broadcastInDim S8x128x16384 ![0, 1, 2] bcast_S8x1x16384_S8x128x16384_0_1_2 v

def hitR (s : FVec Ideal S8x128x16384 .f32) : IVec S8x128x16384 1 :=
  cmpf .oge s (spreadR (maxR s))

def maskR (s : FVec Ideal S8x128x16384 .f32) : FVec Ideal S8x128x16384 .f32 :=
  select (hitR s) (broadcastInDim S8x128x16384 ![] bcast_S_S8x128x16384 (constant S_ .f32 0xFF800000#32)) s

def restR (s : FVec Ideal S8x128x16384 .f32) : ℕ → FVec Ideal S8x128x16384 .f32
  | 0 => s
  | n + 1 => maskR (restR s n)

def markR (s : FVec Ideal S8x128x16384 .f32) (n : ℕ) (b : BitVec 32) (a : FVec Ideal S8x128x16384 .f32) : FVec Ideal S8x128x16384 .f32 :=
  select (hitR (restR s n)) (broadcastInDim S8x128x16384 ![] bcast_S_S8x128x16384 (constant S_ .f32 b)) a

def rankR (s : FVec Ideal S8x128x16384 .f32) : FVec Ideal S8x128x16384 .f32 :=
  markR s 15 0x41700000#32 (markR s 14 0x41600000#32 (markR s 13 0x41500000#32 (markR s 12 0x41400000#32 (markR s 11 0x41300000#32 (markR s 10 0x41200000#32 (markR s 9 0x41100000#32 (markR s 8 0x41000000#32 (markR s 7 0x40E00000#32 (markR s 6 0x40C00000#32 (markR s 5 0x40A00000#32 (markR s 4 0x40800000#32 (markR s 3 0x40400000#32 (markR s 2 0x40000000#32 (markR s 1 0x3F800000#32 (markR s 0 0x00000000#32 (broadcastInDim S8x128x16384 ![] bcast_S_S8x128x16384 (constant S_ .f32 0x41800000#32)))))))))))))))))

def expoR (s : FVec Ideal S8x128x16384 .f32) : FVec Ideal S8x128x16384 .f32 :=
  Host.exp (subf s (broadcastInDim S8x128x16384 ![0, 1, 2] bcast_S8x1x16384_S8x128x16384_0_1_2 (maxR s)))

theorem maxR_apply (s : FVec Ideal S8x128x16384 .f32) (h : Fin 8) (l : Fin 16384) : maxR s (ix3 h 0 l) = Select.top (fun k => s (ix3 h k l)) := by
  pointwise [maxR]
  rfl

theorem spreadR_apply (v : FVec Ideal S8x1x16384 .f32) (h : Fin 8) (k : Fin 128) (l : Fin 16384) : spreadR v (ix3 h k l) = v (ix3 h 0 l) := by
  pointwise [spreadR]

theorem cmp_apply (s t : FVec Ideal S8x128x16384 .f32) (i : S8x128x16384.Idx) : cmpf .oge s t i = FloatOps.cmpf (F := Ideal) (φ := .f32) .oge (s i) (t i) := rfl

theorem hitR_apply (s : FVec Ideal S8x128x16384 .f32) (h : Fin 8) (k : Fin 128) (l : Fin 16384) : hitR s (ix3 h k l) = Select.hit (fun k => s (ix3 h k l)) k := by
  have e : spreadR (maxR s) (ix3 h k l) = Select.top (fun k => s (ix3 h k l)) := (spreadR_apply (maxR s) h k l).trans (maxR_apply s h l)
  unfold hitR Select.hit
  exact (cmp_apply s (spreadR (maxR s)) (ix3 h k l)).trans (congrArg (fun z => FloatOps.cmpf (F := Ideal) (φ := .f32) .oge (s (ix3 h k l)) z) e)

theorem maskR_apply (s : FVec Ideal S8x128x16384 .f32) (h : Fin 8) (k : Fin 128) (l : Fin 16384) : maskR s (ix3 h k l) = Select.mask (fun k => s (ix3 h k l)) k := by
  pointwise [maskR]
  rw [hitR_apply]
  rfl

theorem expoR_apply (s : FVec Ideal S8x128x16384 .f32) (h : Fin 8) (k : Fin 128) (l : Fin 16384) : expoR s (ix3 h k l) = Select.expo (fun k => s (ix3 h k l)) k := by
  pointwise [expoR]
  rw [maxR_apply]
  rfl

theorem restR_apply (s : FVec Ideal S8x128x16384 .f32) (h : Fin 8) (l : Fin 16384) : ∀ (n : ℕ) (k : Fin 128),
    restR s n (ix3 h k l) = Select.rest (fun k => s (ix3 h k l)) n k
  | 0, k => rfl
  | n + 1, k => by
    show maskR (restR s n) (ix3 h k l) = Select.mask (Select.rest (fun k => s (ix3 h k l)) n) k
    rw [maskR_apply, show (fun k => restR s n (ix3 h k l)) = Select.rest (fun k => s (ix3 h k l)) n from funext (restR_apply s h l n)]

theorem markR_apply (s a : FVec Ideal S8x128x16384 .f32) (n : ℕ) (b : BitVec 32) (a' : Fin 128 → EReal) (h : Fin 8) (l : Fin 16384) (ha : ∀ k, a (ix3 h k l) = a' k) (k : Fin 128) :
    markR s n b a (ix3 h k l) = Select.mark (fun k => s (ix3 h k l)) n b a' k := by
  show Scalar.select (hitR (restR s n) (ix3 h k l)) (Ideal.ofBits FTy.f32 b) (a (ix3 h k l)) = _
  rw [hitR_apply, ha, show (fun k => restR s n (ix3 h k l)) = Select.rest (fun k => s (ix3 h k l)) n from funext (restR_apply s h l n)]
  rfl

theorem rankR_apply (s : FVec Ideal S8x128x16384 .f32) (h : Fin 8) (l : Fin 16384) (k : Fin 128) : rankR s (ix3 h k l) = Select.rank (fun k => s (ix3 h k l)) k := by
  unfold rankR Select.rank
  refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; refine markR_apply _ _ _ _ _ _ _ ?_ k
  intro k; rfl

theorem rowsT_apply (A0 : FVec Ideal S16384x1024 .f32) (A1 : FVec Ideal S1024 .f32) (A2 : FVec Ideal S24x1x1024 .f32) (n : Fin 16384) (x : Fin 1024) :
    rowsT A0 A1 A2 (ix2 n x) = modded2 A0 A1 A2 n x := by
  pointwise [rowsT]
  rfl

theorem scoresT_apply (H : FVec Ideal S16384x1024 .f32) (A3 : FVec Ideal S1024x2048 .f32) (A4 : FVec Ideal S8x2x128x128 .f32) (h : Fin 8) (p : Fin 2) (k : Fin 128) (n : Fin 16384) :
    scoresT H A3 A4 (ix4 h p k n) = ∑ d : Fin 128, A4 (ix4 h p k d) * ∑ x : Fin 1024, H (ix2 n x) * A3 (ix2 x ⟨h.val * 256 + p.val * 128 + d.val, by omega⟩) := by
  pointwise [scoresT]

section

variable (A0 : FVec Ideal S16384x1024 .f32) (A1 : FVec Ideal S1024 .f32) (A2 : FVec Ideal S24x1x1024 .f32) (A3 : FVec Ideal S1024x2048 .f32) (A4 : FVec Ideal S8x2x128x128 .f32)

theorem score_eq (h : Fin 8) (p : Fin 2) (k : Fin 128) (n : Fin 16384) :
    scoresT (rowsT A0 A1 A2) A3 A4 (ix4 h p k n) = score A0 A1 A2 A3 A4 h p k n := by
  rw [scoresT_apply]
  unfold score qry
  simp only [rowsT_apply]
  exact Finset.sum_congr rfl fun d _ => mul_comm _ _

theorem half0_apply (S : FVec Ideal S8x2x128x16384 .f32) (h : Fin 8) (k : Fin 128) (n : Fin 16384) : half0 S (ix3 h k n) = S (ix4 h 0 k n) := by
  pointwise [half0]

theorem half1_apply (S : FVec Ideal S8x2x128x16384 .f32) (h : Fin 8) (k : Fin 128) (n : Fin 16384) : half1 S (ix3 h k n) = S (ix4 h 1 k n) := by
  pointwise [half1]

theorem rows_arr : (rowsT A0 A1 A2 : S16384x1024.Idx → EReal) = rowsArr A0 A1 A2 := by
  funext i
  rw [← show ix2 (i 0) (i 1) = i from by funext a; fin_cases a <;> rfl]
  exact rowsT_apply A0 A1 A2 (i 0) (i 1)

theorem rank_arr : rankR (half0 (scoresT (rowsT A0 A1 A2) A3 A4)) = rankArr A0 A1 A2 A3 A4 := by
  funext i
  rw [← show ix3 (i 0) (i 1) (i 2) = i from by funext a; fin_cases a <;> rfl]
  refine (rankR_apply _ (i 0) (i 2) (i 1)).trans ?_
  refine congrArg (fun f => Select.rank f (i 1)) (funext fun k => ?_)
  exact (half0_apply _ (i 0) k (i 2)).trans (score_eq A0 A1 A2 A3 A4 (i 0) 0 k (i 2))

theorem expo_arr : expoR (half1 (scoresT (rowsT A0 A1 A2) A3 A4)) = expoArr A0 A1 A2 A3 A4 := by
  funext i
  rw [← show ix3 (i 0) (i 1) (i 2) = i from by funext a; fin_cases a <;> rfl]
  refine (expoR_apply _ (i 0) (i 1) (i 2)).trans ?_
  refine congrArg (fun f => Select.expo f (i 1)) (funext fun k => ?_)
  exact (half1_apply _ (i 0) k (i 2)).trans (score_eq A0 A1 A2 A3 A4 (i 0) 1 k (i 2))

end

section Run

variable (V0 : Valuation τ sig (Elt Ideal))

abbrev in0 : FVec Ideal S16384x1024 .f32 := V0 (Proc.devRef .tc main_arg0)
abbrev in1 : FVec Ideal S1024 .f32 := V0 (Proc.devRef .tc main_arg1)
abbrev in2 : FVec Ideal S24x1x1024 .f32 := V0 (Proc.devRef .tc main_arg2)
abbrev in3 : FVec Ideal S1024x2048 .f32 := V0 (Proc.devRef .tc main_arg3)
abbrev in4 : FVec Ideal S8x2x128x128 .f32 := V0 (Proc.devRef .tc main_arg4)

theorem v23_eq : res_main_v23 V0 = rowsT (in0 V0) (in1 V0) (in2 V0) := rfl

theorem v28_eq : res_main_v28 V0 = half0 (scoresT (rowsT (in0 V0) (in1 V0) (in2 V0)) (in3 V0) (in4 V0)) := rfl

theorem v33_eq : res_main_v33 V0 = hitR (restR (res_main_v28 V0) 0) := rfl

theorem v35_eq : res_main_v35 V0 = restR (res_main_v28 V0) 1 := by
  unfold res_main_v35
  rw [v33_eq]
  rfl

theorem v39_eq : res_main_v39 V0 = hitR (restR (res_main_v28 V0) 1) := by
  unfold res_main_v39
  rw [v35_eq]
  rfl

theorem v41_eq : res_main_v41 V0 = restR (res_main_v28 V0) 2 := by
  unfold res_main_v41
  rw [v39_eq, v35_eq]
  rfl

theorem v45_eq : res_main_v45 V0 = hitR (restR (res_main_v28 V0) 2) := by
  unfold res_main_v45
  rw [v41_eq]
  rfl

theorem v47_eq : res_main_v47 V0 = restR (res_main_v28 V0) 3 := by
  unfold res_main_v47
  rw [v45_eq, v41_eq]
  rfl

theorem v51_eq : res_main_v51 V0 = hitR (restR (res_main_v28 V0) 3) := by
  unfold res_main_v51
  rw [v47_eq]
  rfl

theorem v53_eq : res_main_v53 V0 = restR (res_main_v28 V0) 4 := by
  unfold res_main_v53
  rw [v51_eq, v47_eq]
  rfl

theorem v57_eq : res_main_v57 V0 = hitR (restR (res_main_v28 V0) 4) := by
  unfold res_main_v57
  rw [v53_eq]
  rfl

theorem v59_eq : res_main_v59 V0 = restR (res_main_v28 V0) 5 := by
  unfold res_main_v59
  rw [v57_eq, v53_eq]
  rfl

theorem v63_eq : res_main_v63 V0 = hitR (restR (res_main_v28 V0) 5) := by
  unfold res_main_v63
  rw [v59_eq]
  rfl

theorem v65_eq : res_main_v65 V0 = restR (res_main_v28 V0) 6 := by
  unfold res_main_v65
  rw [v63_eq, v59_eq]
  rfl

theorem v69_eq : res_main_v69 V0 = hitR (restR (res_main_v28 V0) 6) := by
  unfold res_main_v69
  rw [v65_eq]
  rfl

theorem v71_eq : res_main_v71 V0 = restR (res_main_v28 V0) 7 := by
  unfold res_main_v71
  rw [v69_eq, v65_eq]
  rfl

theorem v75_eq : res_main_v75 V0 = hitR (restR (res_main_v28 V0) 7) := by
  unfold res_main_v75
  rw [v71_eq]
  rfl

theorem v77_eq : res_main_v77 V0 = restR (res_main_v28 V0) 8 := by
  unfold res_main_v77
  rw [v75_eq, v71_eq]
  rfl

theorem v81_eq : res_main_v81 V0 = hitR (restR (res_main_v28 V0) 8) := by
  unfold res_main_v81
  rw [v77_eq]
  rfl

theorem v83_eq : res_main_v83 V0 = restR (res_main_v28 V0) 9 := by
  unfold res_main_v83
  rw [v81_eq, v77_eq]
  rfl

theorem v87_eq : res_main_v87 V0 = hitR (restR (res_main_v28 V0) 9) := by
  unfold res_main_v87
  rw [v83_eq]
  rfl

theorem v89_eq : res_main_v89 V0 = restR (res_main_v28 V0) 10 := by
  unfold res_main_v89
  rw [v87_eq, v83_eq]
  rfl

theorem v93_eq : res_main_v93 V0 = hitR (restR (res_main_v28 V0) 10) := by
  unfold res_main_v93
  rw [v89_eq]
  rfl

theorem v95_eq : res_main_v95 V0 = restR (res_main_v28 V0) 11 := by
  unfold res_main_v95
  rw [v93_eq, v89_eq]
  rfl

theorem v99_eq : res_main_v99 V0 = hitR (restR (res_main_v28 V0) 11) := by
  unfold res_main_v99
  rw [v95_eq]
  rfl

theorem v101_eq : res_main_v101 V0 = restR (res_main_v28 V0) 12 := by
  unfold res_main_v101
  rw [v99_eq, v95_eq]
  rfl

theorem v105_eq : res_main_v105 V0 = hitR (restR (res_main_v28 V0) 12) := by
  unfold res_main_v105
  rw [v101_eq]
  rfl

theorem v107_eq : res_main_v107 V0 = restR (res_main_v28 V0) 13 := by
  unfold res_main_v107
  rw [v105_eq, v101_eq]
  rfl

theorem v111_eq : res_main_v111 V0 = hitR (restR (res_main_v28 V0) 13) := by
  unfold res_main_v111
  rw [v107_eq]
  rfl

theorem v113_eq : res_main_v113 V0 = restR (res_main_v28 V0) 14 := by
  unfold res_main_v113
  rw [v111_eq, v107_eq]
  rfl

theorem v117_eq : res_main_v117 V0 = hitR (restR (res_main_v28 V0) 14) := by
  unfold res_main_v117
  rw [v113_eq]
  rfl

theorem v119_eq : res_main_v119 V0 = restR (res_main_v28 V0) 15 := by
  unfold res_main_v119
  rw [v117_eq, v113_eq]
  rfl

theorem v123_eq : res_main_v123 V0 = hitR (restR (res_main_v28 V0) 15) := by
  unfold res_main_v123
  rw [v119_eq]
  rfl

theorem rank_eq : select (res_main_v123 V0) (broadcastInDim S8x128x16384 ![] bcast_S_S8x128x16384 (constant S_ .f32 0x41700000#32)) (select (res_main_v117 V0) (broadcastInDim S8x128x16384 ![] bcast_S_S8x128x16384 (constant S_ .f32 0x41600000#32)) (select (res_main_v111 V0) (broadcastInDim S8x128x16384 ![] bcast_S_S8x128x16384 (constant S_ .f32 0x41500000#32)) (select (res_main_v105 V0) (broadcastInDim S8x128x16384 ![] bcast_S_S8x128x16384 (constant S_ .f32 0x41400000#32)) (select (res_main_v99 V0) (broadcastInDim S8x128x16384 ![] bcast_S_S8x128x16384 (constant S_ .f32 0x41300000#32)) (select (res_main_v93 V0) (broadcastInDim S8x128x16384 ![] bcast_S_S8x128x16384 (constant S_ .f32 0x41200000#32)) (select (res_main_v87 V0) (broadcastInDim S8x128x16384 ![] bcast_S_S8x128x16384 (constant S_ .f32 0x41100000#32)) (select (res_main_v81 V0) (broadcastInDim S8x128x16384 ![] bcast_S_S8x128x16384 (constant S_ .f32 0x41000000#32)) (select (res_main_v75 V0) (broadcastInDim S8x128x16384 ![] bcast_S_S8x128x16384 (constant S_ .f32 0x40E00000#32)) (select (res_main_v69 V0) (broadcastInDim S8x128x16384 ![] bcast_S_S8x128x16384 (constant S_ .f32 0x40C00000#32)) (select (res_main_v63 V0) (broadcastInDim S8x128x16384 ![] bcast_S_S8x128x16384 (constant S_ .f32 0x40A00000#32)) (select (res_main_v57 V0) (broadcastInDim S8x128x16384 ![] bcast_S_S8x128x16384 (constant S_ .f32 0x40800000#32)) (select (res_main_v51 V0) (broadcastInDim S8x128x16384 ![] bcast_S_S8x128x16384 (constant S_ .f32 0x40400000#32)) (select (res_main_v45 V0) (broadcastInDim S8x128x16384 ![] bcast_S_S8x128x16384 (constant S_ .f32 0x40000000#32)) (select (res_main_v39 V0) (broadcastInDim S8x128x16384 ![] bcast_S_S8x128x16384 (constant S_ .f32 0x3F800000#32)) (select (res_main_v33 V0) (broadcastInDim S8x128x16384 ![] bcast_S_S8x128x16384 (constant S_ .f32 0x00000000#32)) (broadcastInDim S8x128x16384 ![] bcast_S_S8x128x16384 (constant S_ .f32 0x41800000#32))))))))))))))))) = rankR (res_main_v28 V0) := by
  rw [v123_eq, v117_eq, v111_eq, v105_eq, v99_eq, v93_eq, v87_eq, v81_eq, v75_eq, v69_eq, v63_eq, v57_eq, v51_eq, v45_eq, v39_eq, v33_eq]
  rfl

theorem expo_eq : Host.exp (subf (shapeCast _ (extractStridedSlice S8x1x128x16384 ![0, 1, 0, 0] (res_main_v26 V0) slices_S8x2x128x16384_S8x1x128x16384_0_1_0_0) shapeCasts_S8x1x128x16384_S8x128x16384) (broadcastInDim S8x128x16384 ![0, 1, 2] bcast_S8x1x16384_S8x128x16384_0_1_2 (broadcastInDim S8x1x16384 ![0, 2] bcast_S8x16384_S8x1x16384_0_2 (Host.reduce FloatOps.maximumf (shapeCast _ (extractStridedSlice S8x1x128x16384 ![0, 1, 0, 0] (res_main_v26 V0) slices_S8x2x128x16384_S8x1x128x16384_0_1_0_0) shapeCasts_S8x1x128x16384_S8x128x16384) (constant S_ .f32 0xFF800000#32) reducesTo_S8x128x16384_S8x16384_d1 h_S_)))) = expoR (half1 (scoresT (rowsT (in0 V0) (in1 V0) (in2 V0)) (in3 V0) (in4 V0))) := rfl

end Run

end Cert.PeerSelectRefIdeal.Value

end
-- ==== Proof.SelectClaims.lean ====
module

public import proofs.«01_k».proof.Defs
public import proofs.«01_k».proof.Proof.SelectValue
public import proofs.«01_k».proof.Proof.SelectRef
public import proofs.«01_k».proof.Proof.PeerSelectFrame
public import proofs.«01_k».proof.Proof.PeerSelectIdealFrame

/-!
# The claims about the selection of the experts
-/

@[expose] public section

set_option maxRecDepth 65536

noncomputable section

open Idealize.ShloMosaic Idealize.ShloMosaic.TcCoe Idealize.SL.Sem
open Idealize.ShloMosaic.StableHlo

namespace Cert.PeerSelectClaims

attribute [local irreducible] Cert.Select.rank Cert.Select.expo Cert.Select.score Cert.Select.modded2

theorem frame_p : Cert.quiescent_PeerSelect (hPeerSelect := Cert.PeerSelect.Gen.facts) := fun m ρ _ => Cert.PeerSelect.Gen.frame m ρ

theorem frame_pi : Cert.quiescent_PeerSelectIdeal (hPeerSelectIdeal := Cert.PeerSelectIdeal.Gen.facts) := fun m ρ _ => Cert.PeerSelectIdeal.Gen.frame m ρ

theorem frame_ri : Cert.quiescent_PeerSelectRefIdeal (hPeerSelectRefIdeal := Cert.PeerSelectRefIdeal.Gen.facts) := fun m ρ _ =>
  (θ_run Cert.PeerSelectRefIdeal.defs _ _).mono (fun r h => ⟨fun c => (h c).2.2.2, sem_eq_zero_of_no_sems (by decide) r.2⟩)
    (Cert.PeerSelectRefIdeal.Value.run (F := Ideal) m ρ)

theorem algebraic : Cert.algebraic_PeerSelectIdeal_PeerSelectRefIdeal (hPeerSelectIdeal := Cert.PeerSelectIdeal.Gen.facts)
    (hPeerSelectRefIdeal := Cert.PeerSelectRefIdeal.Gen.facts) := fun m ρ m' ρ' _ hag =>
  ⟨fun c => Cert.PeerSelectIdeal.Value.result6 m c, fun c => Cert.PeerSelectIdeal.Value.result7 m c, fun c => Cert.PeerSelectIdeal.Value.result10 m c,
    (θ_run Cert.PeerSelectIdeal.defs _ _).mono (fun r h c => ⟨(h c).1.trans (Cert.PeerSelectIdeal.Value.final6 m c), (h c).2.1.trans (Cert.PeerSelectIdeal.Value.final7 m c), (h c).2.2.1.trans (Cert.PeerSelectIdeal.Value.final10 m c), (h c).2.2.2⟩)
      (Cert.PeerSelectIdeal.Value.run_blocks m ρ),
    (θ_run Cert.PeerSelectRefIdeal.defs _ _).mono (fun r h c => ⟨(h c).1.trans (by
        obtain ⟨h0, h1, h2, h3, h4⟩ := hag c
        refine (Cert.PeerSelectRefIdeal.Value.rows_arr (m' ((c.tc : Thread Cert.PeerSelectRefIdeal.nD Cert.PeerSelectRefIdeal.τ).loc Cert.PeerSelectRefIdeal.main_arg0)) (m' ((c.tc : Thread Cert.PeerSelectRefIdeal.nD Cert.PeerSelectRefIdeal.τ).loc Cert.PeerSelectRefIdeal.main_arg1)) (m' ((c.tc : Thread Cert.PeerSelectRefIdeal.nD Cert.PeerSelectRefIdeal.τ).loc Cert.PeerSelectRefIdeal.main_arg2))).trans ?_
        rw [h0, h1, h2]),
      (h c).2.1.trans (by
        obtain ⟨h0, h1, h2, h3, h4⟩ := hag c
        refine (Cert.PeerSelectRefIdeal.Value.rank_eq (launchContents m' c)).trans ((Cert.PeerSelectRefIdeal.Value.rank_arr (m' ((c.tc : Thread Cert.PeerSelectRefIdeal.nD Cert.PeerSelectRefIdeal.τ).loc Cert.PeerSelectRefIdeal.main_arg0)) (m' ((c.tc : Thread Cert.PeerSelectRefIdeal.nD Cert.PeerSelectRefIdeal.τ).loc Cert.PeerSelectRefIdeal.main_arg1)) (m' ((c.tc : Thread Cert.PeerSelectRefIdeal.nD Cert.PeerSelectRefIdeal.τ).loc Cert.PeerSelectRefIdeal.main_arg2)) (m' ((c.tc : Thread Cert.PeerSelectRefIdeal.nD Cert.PeerSelectRefIdeal.τ).loc Cert.PeerSelectRefIdeal.main_arg3)) (m' ((c.tc : Thread Cert.PeerSelectRefIdeal.nD Cert.PeerSelectRefIdeal.τ).loc Cert.PeerSelectRefIdeal.main_arg4))).trans ?_)
        rw [h0, h1, h2, h3, h4]),
      (h c).2.2.1.trans (by
        obtain ⟨h0, h1, h2, h3, h4⟩ := hag c
        refine (Cert.PeerSelectRefIdeal.Value.expo_eq (launchContents m' c)).trans ((Cert.PeerSelectRefIdeal.Value.expo_arr (m' ((c.tc : Thread Cert.PeerSelectRefIdeal.nD Cert.PeerSelectRefIdeal.τ).loc Cert.PeerSelectRefIdeal.main_arg0)) (m' ((c.tc : Thread Cert.PeerSelectRefIdeal.nD Cert.PeerSelectRefIdeal.τ).loc Cert.PeerSelectRefIdeal.main_arg1)) (m' ((c.tc : Thread Cert.PeerSelectRefIdeal.nD Cert.PeerSelectRefIdeal.τ).loc Cert.PeerSelectRefIdeal.main_arg2)) (m' ((c.tc : Thread Cert.PeerSelectRefIdeal.nD Cert.PeerSelectRefIdeal.τ).loc Cert.PeerSelectRefIdeal.main_arg3)) (m' ((c.tc : Thread Cert.PeerSelectRefIdeal.nD Cert.PeerSelectRefIdeal.τ).loc Cert.PeerSelectRefIdeal.main_arg4))).trans ?_)
        rw [h0, h1, h2, h3, h4]),
      (h c).2.2.2⟩)
      (Cert.PeerSelectRefIdeal.Value.run (F := Ideal) m' ρ')⟩

end Cert.PeerSelectClaims

end
-- ==== Proof.lean ====
/- The claims: the attention over the prompt and the calls around it. -/
module

public import proofs.«01_k».proof.Defs
public import proofs.«01_k».proof.Proof.AttnClaims
public import proofs.«01_k».proof.Proof.LinClaims
public import proofs.«01_k».proof.Proof.ConvClaims
public import proofs.«01_k».proof.Proof.PeerClaims
public import proofs.«01_k».proof.Proof.NormClaims
public import proofs.«01_k».proof.Proof.SelectClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ConvIn
public import proofs.«01_k».proof.Proof.Gen.ConvIn.Frame
public import proofs.«01_k».proof.Proof.Gen.ConvInIdeal
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.QProj
public import proofs.«01_k».proof.Proof.Gen.QProj.Frame
public import proofs.«01_k».proof.Proof.Gen.QProjIdeal
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.ConvPrompt
public import proofs.«01_k».proof.Proof.Gen.ConvPrompt.Frame
public import proofs.«01_k».proof.Proof.Gen.ConvPromptIdeal
public import proofs.«01_k».proof.Proof.Gen.ConvPromptIdeal.Frame
public import proofs.«01_k».proof.Proof.Gen.ConvPromptIdeal.Value
public import proofs.«01_k».proof.Proof.Gen.ConvPromptRefIdeal
public import proofs.«01_k».proof.Proof.Gen.ConvPromptRefIdeal.Run
public import proofs.«01_k».proof.Proof.Gen.PeerDense
public import proofs.«01_k».proof.Proof.Gen.PeerDense.Frame
public import proofs.«01_k».proof.Proof.Gen.PeerDenseIdeal
public import proofs.«01_k».proof.Proof.Gen.PeerDenseIdeal.Frame
public import proofs.«01_k».proof.Proof.Gen.PeerDenseIdeal.Value
public import proofs.«01_k».proof.Proof.Gen.PeerDenseRefIdeal
public import proofs.«01_k».proof.Proof.Gen.PeerDenseRefIdeal.Run
public import proofs.«01_k».proof.Proof.Gen.PeerSelect
public import proofs.«01_k».proof.Proof.Gen.PeerSelectIdeal
public import proofs.«01_k».proof.Proof.Gen.PeerSelectRefIdeal
public import proofs.«01_k».proof.Proof.Gen.PeerSelectRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.FinalNorm
public import proofs.«01_k».proof.Proof.Gen.FinalNorm.Frame
public import proofs.«01_k».proof.Proof.Gen.FinalNormIdeal
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run

@[expose] public section

noncomputable section

namespace Cert.Proof

theorem claim : Cert.Claim := ⟨Cert.Kernel.Gen.facts,
  Cert.KernelIdeal.Gen.facts,
  Cert.ReferenceIdeal.Gen.facts,
  Cert.ConvIn.Gen.facts,
  Cert.ConvInIdeal.Gen.facts,
  Cert.ConvInRefIdeal.Gen.facts,
  Cert.QProj.Gen.facts,
  Cert.QProjIdeal.Gen.facts,
  Cert.QProjRefIdeal.Gen.facts,
  Cert.KvProj.Gen.facts,
  Cert.KvProjIdeal.Gen.facts,
  Cert.KvProjRefIdeal.Gen.facts,
  Cert.OutProj.Gen.facts,
  Cert.OutProjIdeal.Gen.facts,
  Cert.OutProjRefIdeal.Gen.facts,
  Cert.ConvPrompt.Gen.facts,
  Cert.ConvPromptIdeal.Gen.facts,
  Cert.ConvPromptRefIdeal.Gen.facts,
  Cert.PeerDense.Gen.facts,
  Cert.PeerDenseIdeal.Gen.facts,
  Cert.PeerDenseRefIdeal.Gen.facts,
  Cert.PeerSelect.Gen.facts,
  Cert.PeerSelectIdeal.Gen.facts,
  Cert.PeerSelectRefIdeal.Gen.facts,
  Cert.Ada.Gen.facts,
  Cert.AdaIdeal.Gen.facts,
  Cert.AdaRefIdeal.Gen.facts,
  Cert.FinalNorm.Gen.facts,
  Cert.FinalNormIdeal.Gen.facts,
  Cert.FinalNormRefIdeal.Gen.facts,
  Cert.AttnClaims.frame_p,
  Cert.AttnClaims.frame_pi,
  Cert.AttnClaims.frame_ri,
  Cert.ConvInClaims.frame_p,
  Cert.ConvInClaims.frame_pi,
  Cert.ConvInClaims.frame_ri,
  Cert.QProjClaims.frame_p,
  Cert.QProjClaims.frame_pi,
  Cert.QProjClaims.frame_ri,
  Cert.KvProjClaims.frame_p,
  Cert.KvProjClaims.frame_pi,
  Cert.KvProjClaims.frame_ri,
  Cert.OutProjClaims.frame_p,
  Cert.OutProjClaims.frame_pi,
  Cert.OutProjClaims.frame_ri,
  Cert.ConvPromptClaims.frame_p,
  Cert.ConvPromptClaims.frame_pi,
  Cert.ConvPromptClaims.frame_ri,
  Cert.PeerDenseClaims.frame_p,
  Cert.PeerDenseClaims.frame_pi,
  Cert.PeerDenseClaims.frame_ri,
  Cert.PeerSelectClaims.frame_p,
  Cert.PeerSelectClaims.frame_pi,
  Cert.PeerSelectClaims.frame_ri,
  Cert.AdaClaims.frame_p,
  Cert.AdaClaims.frame_pi,
  Cert.AdaClaims.frame_ri,
  Cert.FinalNormClaims.frame_p,
  Cert.FinalNormClaims.frame_pi,
  Cert.FinalNormClaims.frame_ri,
  trivial,
  Cert.AttnClaims.algebraic,
  trivial,
  Cert.ConvInClaims.algebraic,
  trivial,
  Cert.QProjClaims.algebraic,
  trivial,
  Cert.KvProjClaims.algebraic,
  trivial,
  Cert.OutProjClaims.algebraic,
  trivial,
  Cert.ConvPromptClaims.algebraic,
  trivial,
  Cert.PeerDenseClaims.algebraic,
  trivial,
  Cert.PeerSelectClaims.algebraic,
  trivial,
  Cert.AdaClaims.algebraic,
  trivial,
  Cert.FinalNormClaims.algebraic⟩

end Cert.Proof

end
